-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .bf16) (main_arg1 : FVec F S1024x1024 .bf16) (main_arg2 : FVec F S1x1024x32x128 .bf16) (main_arg3 : FVec F S1x1024x32x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x1024x32x128 .f32 := (extf .f32 · bitsLt_bf16_f32) main_arg2
  let main_v12 : FVec F S1x1024x32x128 .f32 := Host.absf main_v11
  let main_cst_2 : FVec F S_ .f32 := constant S_ .f32 0x7F800000#32
  let main_v13 : FVec F S1x1024x32x128 .f32 := broadcastInDim S1x1024x32x128 ![] bcast_S_S1x1024x32x128 main_cst_2
  let main_v14 : IVec S1x1024x32x128 1 := cmpf .olt main_v12 main_v13
  let main_c_3 : IVec S_ 1 := constantI S_ 1 1#1
  let main_v15 : IVec S_ 1 := (fun x v => Host.reduce IntOp.andi x v reducesTo_S1x1024x32x128_S_d0_1_2_3 h_S_) main_v14 main_c_3
  let main_v16 : IVec S_ 1 := andi main_v10 main_v15
  main_v16
-- ==== Pre_scores_finite_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .bf16) (main_arg1 : FVec F S1024x4096 .bf16) (main_arg2 : FVec F S1x4096x32x128 .bf16) (main_arg3 : FVec F S1x4096x32x128 .bf16) (main_arg4 : FVec F S4096x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1x4096x32x128 .f32 := (extf .f32 · bitsLt_bf16_f32) main_arg2
  let main_v12 : FVec F S1x4096x32x128 .f32 := Host.absf main_v11
  let main_cst_2 : FVec F S_ .f32 := constant S_ .f32 0x7F800000#32
  let main_v13 : FVec F S1x4096x32x128 .f32 := broadcastInDim S1x4096x32x128 ![] bcast_S_S1x4096x32x128 main_cst_2
  let main_v14 : IVec S1x4096x32x128 1 := cmpf .olt main_v12 main_v13
  let main_c_3 : IVec S_ 1 := constantI S_ 1 1#1
  let main_v15 : IVec S_ 1 := (fun x v => Host.reduce IntOp.andi x v reducesTo_S1x4096x32x128_S_d0_1_2_3 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S1024x8x128 : Shape := ⟨3, ![1024, 8, 128]⟩
abbrev S128x8x128 : Shape := ⟨3, ![128, 8, 128]⟩
abbrev S2x1024x8x128 : Shape := ⟨4, ![2, 1024, 8, 128]⟩
abbrev S4x32x1024 : Shape := ⟨3, ![4, 32, 1024]⟩
abbrev S4x32x8x128 : Shape := ⟨4, ![4, 32, 8, 128]⟩
abbrev S4x32x8 : Shape := ⟨3, ![4, 32, 8]⟩
abbrev S3x32x8x128 : Shape := ⟨4, ![3, 32, 8, 128]⟩
abbrev S3x32x8 : Shape := ⟨3, ![3, 32, 8]⟩
abbrev S3x256x1024 : Shape := ⟨3, ![3, 256, 1024]⟩
abbrev S4 : Shape := ⟨1, ![4]⟩
abbrev S3 : Shape := ⟨1, ![3]⟩
abbrev S6 : Shape := ⟨1, ![6]⟩
abbrev S2 : Shape := ⟨1, ![2]⟩
abbrev S1 : Shape := ⟨1, ![1]⟩
abbrev S_ : Shape := ⟨0, ![]⟩
abbrev S1x1024x8x128 : Shape := ⟨4, ![1, 1024, 8, 128]⟩
abbrev S512x8x128 : Shape := ⟨3, ![512, 8, 128]⟩
abbrev S1x512x8x128 : Shape := ⟨4, ![1, 512, 8, 128]⟩
abbrev S1x128x8x128 : Shape := ⟨4, ![1, 128, 8, 128]⟩
abbrev S32x1024 : Shape := ⟨2, ![32, 1024]⟩
abbrev S1x32x1024 : Shape := ⟨3, ![1, 32, 1024]⟩
abbrev S32x128 : Shape := ⟨2, ![32, 128]⟩
abbrev S1x1024x1x128 : Shape := ⟨4, ![1, 1024, 1, 128]⟩
abbrev S1024x128 : Shape := ⟨2, ![1024, 128]⟩
abbrev S32 : Shape := ⟨1, ![32]⟩
abbrev S32x1 : Shape := ⟨2, ![32, 1]⟩
abbrev S32x1x128 : Shape := ⟨3, ![32, 1, 128]⟩
abbrev S32x8x128 : Shape := ⟨3, ![32, 8, 128]⟩
abbrev S1x32x8x128 : Shape := ⟨4, ![1, 32, 8, 128]⟩
abbrev S32x8 : Shape := ⟨2, ![32, 8]⟩
abbrev S1x32x8 : Shape := ⟨3, ![1, 32, 8]⟩
abbrev S1024 : Shape := ⟨1, ![1024]⟩
abbrev S1024x512 : Shape := ⟨2, ![1024, 512]⟩
abbrev S512x1x128 : Shape := ⟨3, ![512, 1, 128]⟩
abbrev S512x128 : Shape := ⟨2, ![512, 128]⟩
abbrev S128x128 : Shape := ⟨2, ![128, 128]⟩
abbrev S128x1x128 : Shape := ⟨3, ![128, 1, 128]⟩
abbrev S128 : Shape := ⟨1, ![128]⟩
abbrev S864 : Shape := ⟨1, ![864]⟩
abbrev S864x128 : Shape := ⟨2, ![864, 128]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 6
  | .vmem => 17
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x32x128, .bf16⟩
  | .hbm, ⟨3, _⟩ => ⟨S1x1024x32x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1024x8x128, .bf16⟩
  | .local _ .vmem, ⟨5, _⟩ => ⟨S1024x8x128, .bf16⟩
  | .local _ .vmem, ⟨6, _⟩ => ⟨S128x8x128, .bf16⟩
  | .local _ .vmem, ⟨7, _⟩ => ⟨S128x8x128, .bf16⟩
  | .local _ .vmem, ⟨8, _⟩ => ⟨S2x1024x8x128, .bf16⟩
  | .local _ .vmem, ⟨9, _⟩ => ⟨S2x1024x8x128, .bf16⟩
  | .local _ .vmem, ⟨10, _⟩ => ⟨S4x32x1024, .bf16⟩
  | .local _ .vmem, ⟨11, _⟩ => ⟨S4x32x8x128, .f32⟩
  | .local _ .vmem, ⟨12, _⟩ => ⟨S4x32x8, .f32⟩
  | .local _ .vmem, ⟨13, _⟩ => ⟨S3x32x8x128, .f32⟩
  | .local _ .vmem, ⟨14, _⟩ => ⟨S3x32x8, .f32⟩
  | .local _ .vmem, ⟨15, _⟩ => ⟨S1024x1024, .bf16⟩
  | .local _ .vmem, ⟨16, _⟩ => ⟨S3x256x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v16 : BitVec 1 := Scalar.cmpi .eq v2 c0_i32_13
  let v17 : BitVec 32 := Scalar.extui v16
  let c0_i32_14 : BitVec 32 := 0#32
  let v18 : BitVec 1 := Scalar.cmpi .ne v17 c0_i32_14
  v18

def k0_dev4 : Nat :=
  let c0_i32_1342 : BitVec 32 := 0#32
  let c1_i32_1340 : BitVec 32 := 1#32
  let c1_i32_1341 : BitVec 32 := 1#32
  let v1560 : BitVec 32 := Scalar.muli c1_i32_1340 c1_i32_1341
  let v1561 : BitVec 32 := Scalar.addi c0_i32_1342 v1560
  v1561.toNat
def k0_dev5 : Nat :=
  let c0_i32_1354 : BitVec 32 := 0#32
  let c1_i32_1352 : BitVec 32 := 1#32
  let c1_i32_1353 : BitVec 32 := 1#32
  let v1569 : BitVec 32 := Scalar.muli c1_i32_1352 c1_i32_1353
  let v1570 : BitVec 32 := Scalar.addi c0_i32_1354 v1569
  v1570.toNat
def k0_dev6 : Nat :=
  let c0_i32_1366 : BitVec 32 := 0#32
  let c1_i32_1364 : BitVec 32 := 1#32
  let c1_i32_1365 : BitVec 32 := 1#32
  let v1578 : BitVec 32 := Scalar.muli c1_i32_1364 c1_i32_1365
  let v1579 : BitVec 32 := Scalar.addi c0_i32_1366 v1578
  v1579.toNat
def k0_dev7 : Nat :=
  let c0_i32_1378 : BitVec 32 := 0#32
  let c1_i32_1376 : BitVec 32 := 1#32
  let c1_i32_1377 : BitVec 32 := 1#32
  let v1587 : BitVec 32 := Scalar.muli c1_i32_1376 c1_i32_1377
  let v1588 : BitVec 32 := Scalar.addi c0_i32_1378 v1587
  v1588.toNat
def k0_dev8 : Nat :=
  let c0_i32_1390 : BitVec 32 := 0#32
  let c2_i32_1388 : BitVec 32 := 2#32
  let c1_i32_1389 : BitVec 32 := 1#32
  let v1596 : BitVec 32 := Scalar.muli c2_i32_1388 c1_i32_1389
  let v1597 : BitVec 32 := Scalar.addi c0_i32_1390 v1596
  v1597.toNat
def k0_dev9 : Nat :=
  let c0_i32_1402 : BitVec 32 := 0#32
  let c2_i32_1400 : BitVec 32 := 2#32
  let c1_i32_1401 : BitVec 32 := 1#32
  let v1605 : BitVec 32 := Scalar.muli c2_i32_1400 c1_i32_1401
  let v1606 : BitVec 32 := Scalar.addi c0_i32_1402 v1605
  v1606.toNat
def k0_dev10 : Nat :=
  let c0_i32_1414 : BitVec 32 := 0#32
  let c2_i32_1412 : BitVec 32 := 2#32
  let c1_i32_1413 : BitVec 32 := 1#32
  let v1614 : BitVec 32 := Scalar.muli c2_i32_1412 c1_i32_1413
  let v1615 : BitVec 32 := Scalar.addi c0_i32_1414 v1614
  v1615.toNat
def k0_dev11 : Nat :=
  let c0_i32_1426 : BitVec 32 := 0#32
  let c2_i32_1424 : BitVec 32 := 2#32
  let c1_i32_1425 : BitVec 32 := 1#32
  let v1623 : BitVec 32 := Scalar.muli c2_i32_1424 c1_i32_1425
  let v1624 : BitVec 32 := Scalar.addi c0_i32_1426 v1623
  v1624.toNat
def k0_dev12 : Nat :=
  let c0_i32_1438 : BitVec 32 := 0#32
  let c3_i32_1436 : BitVec 32 := 3#32
  let c1_i32_1437 : BitVec 32 := 1#32
  let v1632 : BitVec 32 := Scalar.muli c3_i32_1436 c1_i32_1437
  let v1633 : BitVec 32 := Scalar.addi c0_i32_1438 v1632
  v1633.toNat
def k0_dev13 : Nat :=
  let c0_i32_1450 : BitVec 32 := 0#32
  let c3_i32_1448 : BitVec 32 := 3#32
  let c1_i32_1449 : BitVec 32 := 1#32
  let v1641 : BitVec 32 := Scalar.muli c3_i32_1448 c1_i32_1449
  let v1642 : BitVec 32 := Scalar.addi c0_i32_1450 v1641
  v1642.toNat
def k0_dev14 : Nat :=
  let c0_i32_1461 : BitVec 32 := 0#32
  let c3_i32_1459 : BitVec 32 := 3#32
  let c1_i32_1460 : BitVec 32 := 1#32
  let v1650 : BitVec 32 := Scalar.muli c3_i32_1459 c1_i32_1460
  let v1651 : BitVec 32 := Scalar.addi c0_i32_1461 v1650
  v1651.toNat
def k0_dev15 : Nat :=
  let c0_i32_1473 : BitVec 32 := 0#32
  let c3_i32_1471 : BitVec 32 := 3#32
  let c1_i32_1472 : BitVec 32 := 1#32
  let v1659 : BitVec 32 := Scalar.muli c3_i32_1471 c1_i32_1472
  let v1660 : BitVec 32 := Scalar.addi c0_i32_1473 v1659
  v1660.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 1 := Scalar.cmpi .eq v2 c1_i32_15
  let v20 : BitVec 32 := Scalar.extui v19
  let c0_i32_16 : BitVec 32 := 0#32
  let v21 : BitVec 1 := Scalar.cmpi .ne v20 c0_i32_16
  v21

def k0_dev16 : Nat :=
  let c0_i32_1342 : BitVec 32 := 0#32
  let c2_i32_1340 : BitVec 32 := 2#32
  let c1_i32_1341 : BitVec 32 := 1#32
  let v1560 : BitVec 32 := Scalar.muli c2_i32_1340 c1_i32_1341
  let v1561 : BitVec 32 := Scalar.addi c0_i32_1342 v1560
  v1561.toNat
def k0_dev17 : Nat :=
  let c0_i32_1351 : BitVec 32 := 0#32
  let c2_i32_1349 : BitVec 32 := 2#32
  let c1_i32_1350 : BitVec 32 := 1#32
  let v1568 : BitVec 32 := Scalar.muli c2_i32_1349 c1_i32_1350
  let v1569 : BitVec 32 := Scalar.addi c0_i32_1351 v1568
  v1569.toNat
def k0_dev18 : Nat :=
  let c0_i32_1360 : BitVec 32 := 0#32
  let c3_i32_1358 : BitVec 32 := 3#32
  let c1_i32_1359 : BitVec 32 := 1#32
  let v1576 : BitVec 32 := Scalar.muli c3_i32_1358 c1_i32_1359
  let v1577 : BitVec 32 := Scalar.addi c0_i32_1360 v1576
  v1577.toNat
def k0_dev19 : Nat :=
  let c0_i32_1369 : BitVec 32 := 0#32
  let c3_i32_1367 : BitVec 32 := 3#32
  let c1_i32_1368 : BitVec 32 := 1#32
  let v1584 : BitVec 32 := Scalar.muli c3_i32_1367 c1_i32_1368
  let v1585 : BitVec 32 := Scalar.addi c0_i32_1369 v1584
  v1585.toNat
def k0_dev20 : Nat :=
  let c0_i32_1378 : BitVec 32 := 0#32
  let c0_i32_1376 : BitVec 32 := 0#32
  let c1_i32_1377 : BitVec 32 := 1#32
  let v1592 : BitVec 32 := Scalar.muli c0_i32_1376 c1_i32_1377
  let v1593 : BitVec 32 := Scalar.addi c0_i32_1378 v1592
  v1593.toNat
def k0_dev21 : Nat :=
  let c0_i32_1387 : BitVec 32 := 0#32
  let c0_i32_1385 : BitVec 32 := 0#32
  let c1_i32_1386 : BitVec 32 := 1#32
  let v1600 : BitVec 32 := Scalar.muli c0_i32_1385 c1_i32_1386
  let v1601 : BitVec 32 := Scalar.addi c0_i32_1387 v1600
  v1601.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : Index := Scalar.indexCast v2
  let c0_22 : Index := 0#32
  let c0_23 : Index := 0#32
  ![v32.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_30 : BitVec 32 := 0#32
  let c0_i32_31 : BitVec 32 := 0#32
  ![v2.toNat, 0, 0]
def k0_dev22 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v36 : BitVec 32 := Scalar.addi v2 c1_i32_24
  let c4_i32_25 : BitVec 32 := 4#32
  let v37 : BitVec 32 := Scalar.remsi v36 c4_i32_25
  let c1_i32_28 : BitVec 32 := 1#32
  let v38 : BitVec 32 := Scalar.muli v37 c1_i32_28
  let v39 : BitVec 32 := Scalar.addi c0_i32_29 v38
  v39.toNat
def k0_dev23 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v48 : BitVec 32 := Scalar.addi v2 c2_i32_34
  let c4_i32_35 : BitVec 32 := 4#32
  let v49 : BitVec 32 := Scalar.remsi v48 c4_i32_35
  let c1_i32_38 : BitVec 32 := 1#32
  let v50 : BitVec 32 := Scalar.muli v49 c1_i32_38
  let v51 : BitVec 32 := Scalar.addi c0_i32_39 v50
  v51.toNat
def k0_dev24 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_44 : BitVec 32 := 3#32
  let v60 : BitVec 32 := Scalar.addi v2 c3_i32_44
  let c4_i32_45 : BitVec 32 := 4#32
  let v61 : BitVec 32 := Scalar.remsi v60 c4_i32_45
  let c1_i32_48 : BitVec 32 := 1#32
  let v62 : BitVec 32 := Scalar.muli v61 c1_i32_48
  let v63 : BitVec 32 := Scalar.addi c0_i32_49 v62
  v63.toNat
def k0_off3 (d0 : Dev nD) (c3_i32_89 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v96 : BitVec 32 := Scalar.addi v2 c3_i32_89
  let c4_i32_90 : BitVec 32 := 4#32
  let v97 : BitVec 32 := Scalar.remsi v96 c4_i32_90
  let c0_i32_95 : BitVec 32 := 0#32
  let c0_i32_96 : BitVec 32 := 0#32
  ![v97.toNat, 0, 0]
def k0_off4 (d0 : Dev nD) (c1_i32_610 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v622 : BitVec 32 := Scalar.addi v2 c1_i32_610
  let c4_i32_611 : BitVec 32 := 4#32
  let v623 : BitVec 32 := Scalar.remsi v622 c4_i32_611
  let c0_i32_620 : BitVec 32 := 0#32
  let c0_i32_621 : BitVec 32 := 0#32
  let c0_i32_622 : BitVec 32 := 0#32
  ![v623.toNat, 0, 0, 0]
def k0_dev25 (d0 : Dev nD) : Nat :=
  let c0_i32_616 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_610 : BitVec 32 := 1#32
  let v622 : BitVec 32 := Scalar.addi v2 c1_i32_610
  let c4_i32_611 : BitVec 32 := 4#32
  let v623 : BitVec 32 := Scalar.remsi v622 c4_i32_611
  let c1_i32_615 : BitVec 32 := 1#32
  let v624 : BitVec 32 := Scalar.muli v623 c1_i32_615
  let v625 : BitVec 32 := Scalar.addi c0_i32_616 v624
  v625.toNat
def k0_off5 (d0 : Dev nD) (c1_i32_610 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v622 : BitVec 32 := Scalar.addi v2 c1_i32_610
  let c4_i32_611 : BitVec 32 := 4#32
  let v623 : BitVec 32 := Scalar.remsi v622 c4_i32_611
  let c0_i32_630 : BitVec 32 := 0#32
  let c0_i32_631 : BitVec 32 := 0#32
  ![v623.toNat, 0, 0]
def k0_dev26 (d0 : Dev nD) : Nat :=
  let c0_i32_627 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_610 : BitVec 32 := 1#32
  let v622 : BitVec 32 := Scalar.addi v2 c1_i32_610
  let c4_i32_611 : BitVec 32 := 4#32
  let v623 : BitVec 32 := Scalar.remsi v622 c4_i32_611
  let c1_i32_626 : BitVec 32 := 1#32
  let v634 : BitVec 32 := Scalar.muli v623 c1_i32_626
  let v635 : BitVec 32 := Scalar.addi c0_i32_627 v634
  v635.toNat
def k0_dev27 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_632 : BitVec 32 := 2#32
  let v644 : BitVec 32 := Scalar.addi v2 c2_i32_632
  let c4_i32_633 : BitVec 32 := 4#32
  let v645 : BitVec 32 := Scalar.remsi v644 c4_i32_633
  let c1_i32_637 : BitVec 32 := 1#32
  let v646 : BitVec 32 := Scalar.muli v645 c1_i32_637
  let v647 : BitVec 32 := Scalar.addi c0_i32_638 v646
  v647.toNat
def k0_dev28 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_632 : BitVec 32 := 2#32
  let v644 : BitVec 32 := Scalar.addi v2 c2_i32_632
  let c4_i32_633 : BitVec 32 := 4#32
  let v645 : BitVec 32 := Scalar.remsi v644 c4_i32_633
  let c1_i32_648 : BitVec 32 := 1#32
  let v656 : BitVec 32 := Scalar.muli v645 c1_i32_648
  let v657 : BitVec 32 := Scalar.addi c0_i32_649 v656
  v657.toNat
def k0_dev29 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_654 : BitVec 32 := 3#32
  let v666 : BitVec 32 := Scalar.addi v2 c3_i32_654
  let c4_i32_655 : BitVec 32 := 4#32
  let v667 : BitVec 32 := Scalar.remsi v666 c4_i32_655
  let c1_i32_659 : BitVec 32 := 1#32
  let v668 : BitVec 32 := Scalar.muli v667 c1_i32_659
  let v669 : BitVec 32 := Scalar.addi c0_i32_660 v668
  v669.toNat
def k0_dev30 (d0 : Dev nD) : Nat :=
  let c0_i32_671 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_654 : BitVec 32 := 3#32
  let v666 : BitVec 32 := Scalar.addi v2 c3_i32_654
  let c4_i32_655 : BitVec 32 := 4#32
  let v667 : BitVec 32 := Scalar.remsi v666 c4_i32_655
  let c1_i32_670 : BitVec 32 := 1#32
  let v678 : BitVec 32 := Scalar.muli v667 c1_i32_670
  let v679 : BitVec 32 := Scalar.addi c0_i32_671 v678
  v679.toNat
def k0_off6 (d0 : Dev nD) (c1_i32_1058 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1300 : BitVec 32 := Scalar.addi v2 c1_i32_1058
  let c4_i32_1059 : BitVec 32 := 4#32
  let v1301 : BitVec 32 := Scalar.remsi v1300 c4_i32_1059
  let c256_i32 : BitVec 32 := 256#32
  let v1302 : BitVec 32 := Scalar.muli v1301 c256_i32
  let c0_i32_1067 : BitVec 32 := 0#32
  ![v1302.toNat, 0]
def k0_dev31 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1058 : BitVec 32 := 1#32
  let v1300 : BitVec 32 := Scalar.addi v2 c1_i32_1058
  let c4_i32_1059 : BitVec 32 := 4#32
  let v1301 : BitVec 32 := Scalar.remsi v1300 c4_i32_1059
  let c1_i32_1063 : BitVec 32 := 1#32
  let v1303 : BitVec 32 := Scalar.muli v1301 c1_i32_1063
  let v1304 : BitVec 32 := Scalar.addi c0_i32_1064 v1303
  v1304.toNat
def k0_dev32 (d0 : Dev nD) : Nat :=
  let c0_i32_1075 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1068 : BitVec 32 := 2#32
  let v1312 : BitVec 32 := Scalar.addi v2 c2_i32_1068
  let c4_i32_1069 : BitVec 32 := 4#32
  let v1313 : BitVec 32 := Scalar.remsi v1312 c4_i32_1069
  let c1_i32_1074 : BitVec 32 := 1#32
  let v1315 : BitVec 32 := Scalar.muli v1313 c1_i32_1074
  let v1316 : BitVec 32 := Scalar.addi c0_i32_1075 v1315
  v1316.toNat
def k0_dev33 (d0 : Dev nD) : Nat :=
  let c0_i32_1086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1079 : BitVec 32 := 3#32
  let v1324 : BitVec 32 := Scalar.addi v2 c3_i32_1079
  let c4_i32_1080 : BitVec 32 := 4#32
  let v1325 : BitVec 32 := Scalar.remsi v1324 c4_i32_1080
  let c1_i32_1085 : BitVec 32 := 1#32
  let v1327 : BitVec 32 := Scalar.muli v1325 c1_i32_1085
  let v1328 : BitVec 32 := Scalar.addi c0_i32_1086 v1327
  v1328.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1120 : BitVec 32 := 256#32
  let v1360 : BitVec 32 := Scalar.muli v2 c256_i32_1120
  let v1361 : Index := Scalar.indexCast v1360
  let c0_1121 : Index := 0#32
  ![v1361.toNat, 0]
def k0_off8 (d0 : Dev nD) : Fin 3 → Nat :=
  let c0_1132 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1131 : BitVec 32 := 256#32
  let v1376 : BitVec 32 := Scalar.muli v2 c256_i32_1131
  let v1377 : Index := Scalar.indexCast v1376
  let c0_1133 : Index := 0#32
  ![0, v1377.toNat, 0]
def k0_off9 (d0 : Dev nD) : Fin 3 → Nat :=
  let c0_i32_1139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1137 : BitVec 32 := 256#32
  let v1384 : BitVec 32 := Scalar.muli v2 c256_i32_1137
  let c0_i32_1144 : BitVec 32 := 0#32
  ![0, v1384.toNat, 0]
def k0_dev34 (d0 : Dev nD) : Nat :=
  let c0_i32_1143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1134 : BitVec 32 := 1#32
  let v1381 : BitVec 32 := Scalar.addi v2 c1_i32_1134
  let c4_i32_1135 : BitVec 32 := 4#32
  let v1382 : BitVec 32 := Scalar.remsi v1381 c4_i32_1135
  let c1_i32_1142 : BitVec 32 := 1#32
  let v1385 : BitVec 32 := Scalar.muli v1382 c1_i32_1142
  let v1386 : BitVec 32 := Scalar.addi c0_i32_1143 v1385
  v1386.toNat
def k0_dev35 (d0 : Dev nD) : Nat :=
  let c0_i32_1155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1146 : BitVec 32 := 2#32
  let v1395 : BitVec 32 := Scalar.addi v2 c2_i32_1146
  let c4_i32_1147 : BitVec 32 := 4#32
  let v1396 : BitVec 32 := Scalar.remsi v1395 c4_i32_1147
  let c1_i32_1154 : BitVec 32 := 1#32
  let v1399 : BitVec 32 := Scalar.muli v1396 c1_i32_1154
  let v1400 : BitVec 32 := Scalar.addi c0_i32_1155 v1399
  v1400.toNat
def k0_dev36 (d0 : Dev nD) : Nat :=
  let c0_i32_1167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1158 : BitVec 32 := 3#32
  let v1409 : BitVec 32 := Scalar.addi v2 c3_i32_1158
  let c4_i32_1159 : BitVec 32 := 4#32
  let v1410 : BitVec 32 := Scalar.remsi v1409 c4_i32_1159
  let c1_i32_1166 : BitVec 32 := 1#32
  let v1413 : BitVec 32 := Scalar.muli v1410 c1_i32_1166
  let v1414 : BitVec 32 := Scalar.addi c0_i32_1167 v1413
  v1414.toNat
def k0_off10 (d0 : Dev nD) (c3_i32_1170 : BitVec 32) : Fin 3 → Nat :=
  let c0_i32_1175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1423 : BitVec 32 := Scalar.addi v2 c3_i32_1170
  let c4_i32_1171 : BitVec 32 := 4#32
  let v1424 : BitVec 32 := Scalar.remsi v1423 c4_i32_1171
  let c256_i32_1173 : BitVec 32 := 256#32
  let v1426 : BitVec 32 := Scalar.muli v1424 c256_i32_1173
  let c0_i32_1180 : BitVec 32 := 0#32
  ![0, v1426.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x4096x32x128, .bf16⟩
  | .hbm, ⟨3, _⟩ => ⟨S1x4096x32x128, .bf16⟩
  | .hbm, ⟨4, _⟩ => ⟨S4096x1024, .bf16⟩
  | .hbm, ⟨5, _⟩ => ⟨S1x1024x4096, .f32⟩
  | .hbm, ⟨6, _⟩ => ⟨S1x1024x4096, .bf16⟩
  | .hbm, ⟨7, _⟩ => ⟨S1x1024x32x128, .bf16⟩
  | .hbm, ⟨8, _⟩ => ⟨S1024, .i32⟩
  | .hbm, ⟨9, _⟩ => ⟨S1024x1, .i32⟩
  | .hbm, ⟨10, _⟩ => ⟨S4096, .i32⟩
  | .hbm, ⟨11, _⟩ => ⟨S1x4096, .i32⟩
  | .hbm, ⟨12, _⟩ => ⟨S1024x4096, .i32⟩
  | .hbm, ⟨13, _⟩ => ⟨S1024x4096, .i32⟩
  | .hbm, ⟨14, _⟩ => ⟨S1024x4096, .i32⟩
  | .hbm, ⟨15, _⟩ => ⟨S1024x4096, .i32⟩
  | .hbm, ⟨16, _⟩ => ⟨S_, .i32⟩
  | .hbm, ⟨17, _⟩ => ⟨S1024x4096, .i32⟩
  | .hbm, ⟨18, _⟩ => ⟨S1024x4096, .i1⟩
  | .hbm, ⟨19, _⟩ => ⟨S_, .i32⟩
  | .hbm, ⟨20, _⟩ => ⟨S1x4096, .i32⟩
  | .hbm, ⟨21, _⟩ => ⟨S1x4096, .i1⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S1024x4096, .i1⟩
  | .hbm, ⟨26, _⟩ => ⟨S1024x4096, .i1⟩
  | .hbm, ⟨27, _⟩ => ⟨S1024x4096, .i1⟩
  | .hbm, ⟨28, _⟩ => ⟨S1024x4096, .i1⟩
  | .hbm, ⟨29, _⟩ => ⟨S1x32x1024x4096, .f32⟩
  | .hbm, ⟨30, _⟩ => ⟨S1x32x1024x4096, .bf16⟩
  | .hbm, ⟨31, _⟩ => ⟨S1x32x1024x4096, .f32⟩
  | .hbm, ⟨32, _⟩ => ⟨S_, .f32⟩
  | .hbm, ⟨33, _⟩ => ⟨S1x32x1024x4096, .f32⟩
  | .hbm, ⟨34, _⟩ => ⟨S1x32x1024x4096, .f32⟩
  | .hbm, ⟨35, _⟩ => ⟨S1x1x1024x4096, .i1⟩
  | .hbm, ⟨36, _⟩ => ⟨S_, .f32⟩
  | .hbm, ⟨37, _⟩ => ⟨S_, .f32⟩
  | .hbm, ⟨38, _⟩ => ⟨S1x32x1024x4096, .i1⟩
  | .hbm, ⟨39, _⟩ => ⟨S1x32x1024x4096, .f32⟩
  | .hbm, ⟨40, _⟩ => ⟨S1x32x1024x4096, .f32⟩
  | .hbm, ⟨41, _⟩ => ⟨S_, .f32⟩
  | .hbm, ⟨42, _⟩ => ⟨S1x32x1024, .f32⟩
  | .hbm, ⟨43, _⟩ => ⟨S1x32x1024x1, .f32⟩
  | .hbm, ⟨44, _⟩ => ⟨S1x32x1024x4096, .f32⟩
  | .hbm, ⟨45, _⟩ => ⟨S1x32x1024x4096, .f32⟩
  | .hbm, ⟨46, _⟩ => ⟨S1x32x1024x4096, .f32⟩
  | .hbm, ⟨47, _⟩ => ⟨S_, .i1⟩
  | .hbm, ⟨48, _⟩ => ⟨S1024, .i1⟩
  | .hbm, ⟨49, _⟩ => ⟨S1x1x1024x1, .i1⟩
  | .hbm, ⟨50, _⟩ => ⟨S_, .f32⟩
  | .hbm, ⟨51, _⟩ => ⟨S1x32x1024, .f32⟩
  | .hbm, ⟨52, _⟩ => ⟨S1x32x1024x1, .f32⟩
  | .hbm, ⟨53, _⟩ => ⟨S_, .f32⟩
  | .hbm, ⟨54, _⟩ => ⟨S_, .f32⟩
  | .hbm, ⟨55, _⟩ => ⟨S1x32x1024x1, .i1⟩
  | .hbm, ⟨56, _⟩ => ⟨S1x32x1024x1, .f32⟩
  | .hbm, ⟨57, _⟩ => ⟨S1x32x1024x1, .f32⟩
  | .hbm, ⟨58, _⟩ => ⟨S1x32x1024x4096, .f32⟩
  | .hbm, ⟨59, _⟩ => ⟨S1x32x1024x4096, .f32⟩
  | .hbm, ⟨60, _⟩ => ⟨S1x1x1024x1, .i1⟩
  | .hbm, ⟨61, _⟩ => ⟨S_, .f32⟩
  | .hbm, ⟨62, _⟩ => ⟨S_, .f32⟩
  | .hbm, ⟨63, _⟩ => ⟨S1x32x1024x4096, .i1⟩
  | .hbm, ⟨64, _⟩ => ⟨S1x32x1024x4096, .f32⟩
  | .hbm, ⟨65, _⟩ => ⟨S1x32x1024x4096, .f32⟩
  | .hbm, ⟨66, _⟩ => ⟨S1x4096x32x128, .f32⟩
  | .hbm, ⟨67, _⟩ => ⟨S1x32x128x1024, .f32⟩
  | .hbm, ⟨68, _⟩ => ⟨S1x1024x32x128, .f32⟩
  | .hbm, ⟨69, _⟩ => ⟨S1x1024x4096, .f32⟩
  | .hbm, ⟨70, _⟩ => ⟨S4096x1024, .f32⟩
  | .hbm, ⟨71, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Vals.lean ====
/-
# The values the kernel computes, head by head

The kernel attends over two kinds of rows. The first 32 rows (the global rows) attend every key: each device works
out its own keys' share for all four devices' heads and the shares are summed by the heads' owner. The other rows
attend a window around themselves and the first 32 keys: their owner works them out from key chunk 0 and from the
first 128 keys of chunk 1. This file names those values as functions of the blocks the kernel loads.
-/
module

public import proofs.«01_k».proof.Proof.Gen.KernelIdeal
public import proofs.«01_k».proof.Proof.Gen.KernelIdeal.Skeleton

@[expose] public section

noncomputable section

namespace Cert.KernelIdeal.Pf

open Cert.KernelIdeal Cert.KernelIdeal.Gen
open Idealize.ShloMosaic

variable {F : FTy → Type} [FloatOps F] [Named F]

/-! ## The global rows: one device's keys, one owner's eight heads -/

theorem gq_ok (h : Fin 8) : S32x1024.Slices ![0, 128 * h.val] S32x128 := by revert h; decide
theorem lq_ok (h : Fin 8) : S1024x1024.Slices ![0, 128 * h.val] S1024x128 := by revert h; decide
theorem bq_ok (h : Fin 8) : S1024x1024.Slices ![896, 128 * h.val] S128x128 := by revert h; decide

/-- The exponentials of the scores of the 32 global rows against the 1024 keys `k`, at head `h` of the query block `q`. -/
def gP (q : Vec F S1x32x1024 .bf16) (h : Fin 8) (k : Vec F S1x1024x1x128 .bf16) : FVec F S32x1024 .f32 :=
  exp (matmul dot_S32x128_S1024x128_S32x1024_1_1_0_0_n_n none
    (extractStridedSlice S32x128 ![0, 128 * h.val] (shapeCast S32x1024 q shapeCasts_S1x32x1024_S32x1024) (gq_ok h))
    (shapeCast S1024x128 k shapeCasts_S1x1024x1x128_S1024x128) (constant S32x1024 .f32 0x00000000#32))

/-- The row sums of `gP`, as a column. -/
def gL (q : Vec F S1x32x1024 .bf16) (h : Fin 8) (k : Vec F S1x1024x1x128 .bf16) : FVec F S32x1 .f32 :=
  shapeCast S32x1 (multiReduction .add [1] S32 (gP q h k) 0x00000000#32 reduces_S32x1024_S32 (.inl rfl) rfl) shapeCasts_S32_S32x1

/-- `gP` times the values `v`. -/
def gA (q : Vec F S1x32x1024 .bf16) (h : Fin 8) (k v : Vec F S1x1024x1x128 .bf16) : FVec F S32x1x128 .f32 :=
  shapeCast S32x1x128 (matmul dot_S32x1024_S1024x128_S32x128_1_0_0_1_n_n none (truncf .bf16 (gP q h k) bitsLt_bf16_f32)
    (shapeCast S1024x128 v shapeCasts_S1x1024x1x128_S1024x128) (constant S32x128 .f32 0x00000000#32)) shapeCasts_S32x128_S32x1x128

/-- The eight heads' `gA`, as the block one device sends the heads' owner. -/
def grpA (q : Vec F S1x32x1024 .bf16) (k v : Fin 8 → Vec F S1x1024x1x128 .bf16) : FVec F S1x32x8x128 .f32 :=
  shapeCast S1x32x8x128 (concatenate S32x8x128 1
    [⟨S32x1x128, gA q 0 (k 0) (v 0)⟩, ⟨S32x1x128, gA q 1 (k 1) (v 1)⟩, ⟨S32x1x128, gA q 2 (k 2) (v 2)⟩, ⟨S32x1x128, gA q 3 (k 3) (v 3)⟩, ⟨S32x1x128, gA q 4 (k 4) (v 4)⟩, ⟨S32x1x128, gA q 5 (k 5) (v 5)⟩, ⟨S32x1x128, gA q 6 (k 6) (v 6)⟩, ⟨S32x1x128, gA q 7 (k 7) (v 7)⟩]
    concatenates_S32x1x128_S32x1x128_S32x1x128_S32x1x128_S32x1x128_S32x1x128_S32x1x128_S32x1x128_S32x8x128_d1) shapeCasts_S32x8x128_S1x32x8x128

/-- The eight heads' `gL`, as the block one device sends the heads' owner. -/
def grpL (q : Vec F S1x32x1024 .bf16) (k : Fin 8 → Vec F S1x1024x1x128 .bf16) : FVec F S1x32x8 .f32 :=
  shapeCast S1x32x8 (concatenate S32x8 1
    [⟨S32x1, gL q 0 (k 0)⟩, ⟨S32x1, gL q 1 (k 1)⟩, ⟨S32x1, gL q 2 (k 2)⟩, ⟨S32x1, gL q 3 (k 3)⟩, ⟨S32x1, gL q 4 (k 4)⟩, ⟨S32x1, gL q 5 (k 5)⟩, ⟨S32x1, gL q 6 (k 6)⟩, ⟨S32x1, gL q 7 (k 7)⟩]
    concatenates_S32x1_S32x1_S32x1_S32x1_S32x1_S32x1_S32x1_S32x1_S32x8_d1) shapeCasts_S32x8_S1x32x8

/-! ## The other rows: key chunk 0 in two halves, then the first keys of chunk 1 -/

/-- The exponentials of the masked scores of all 1024 rows against 512 keys `k`, at head `h` of the queries `q`. -/
def wP (q : FVec F S1024x1024 .bf16) (mask : FVec F S1024x512 .f32) (h : Fin 8) (k : Vec F S512x1x128 .bf16) : FVec F S1024x512 .f32 :=
  exp (addf (matmul dot_S1024x128_S512x128_S1024x512_1_1_0_0_n_n none (extractStridedSlice S1024x128 ![0, 128 * h.val] q (lq_ok h))
    (shapeCast S512x128 k shapeCasts_S512x1x128_S512x128) (constant S1024x512 .f32 0x00000000#32)) mask)

/-- A running sum of row sums, one half of the keys further. -/
def wL (q : FVec F S1024x1024 .bf16) (mask : FVec F S1024x512 .f32) (h : Fin 8) (k : Vec F S512x1x128 .bf16) (l : FVec F S1024 .f32) : FVec F S1024 .f32 :=
  addf l (multiReduction .add [1] S1024 (wP q mask h k) 0x00000000#32 reduces_S1024x512_S1024 (.inl rfl) rfl)

/-- A running weighted sum of values, one half of the keys further. -/
def wA (q : FVec F S1024x1024 .bf16) (mask : FVec F S1024x512 .f32) (h : Fin 8) (k v : Vec F S512x1x128 .bf16) (a : FVec F S1024x128 .f32) : FVec F S1024x128 .f32 :=
  addf a (matmul dot_S1024x512_S512x128_S1024x128_1_0_0_1_n_n none (truncf .bf16 (wP q mask h k) bitsLt_bf16_f32)
    (shapeCast S512x128 v shapeCasts_S512x1x128_S512x128) (constant S1024x128 .f32 0x00000000#32))

/-- The mask of key half 0, and of key half 1. -/
def mask0 : FVec F S1024x512 .f32 := k0_pay137 (F := F) k0_pay136
def mask1 : FVec F S1024x512 .f32 := k0_pay164 (F := F)

/-- Chunk 0's row sums at head `h`: both halves. -/
def winL (q : FVec F S1024x1024 .bf16) (k : Fin 2 → Fin 8 → Vec F S512x1x128 .bf16) (h : Fin 8) : FVec F S1024 .f32 :=
  wL q mask1 h (k 1 h) (wL q mask0 h (k 0 h) (broadcast S1024 (Scalar.ofBits .f32 0x00000000#32)))

/-- Chunk 0's weighted values at head `h`: both halves. -/
def winA (q : FVec F S1024x1024 .bf16) (k v : Fin 2 → Fin 8 → Vec F S512x1x128 .bf16) (h : Fin 8) : FVec F S1024x128 .f32 :=
  wA q mask1 h (k 1 h) (v 1 h) (wA q mask0 h (k 0 h) (v 0 h) (broadcast S1024x128 (Scalar.ofBits .f32 0x00000000#32)))

/-- The exponentials of the masked scores of the last 128 rows against the first 128 keys `k` of chunk 1. -/
def bP (q : FVec F S1024x1024 .bf16) (h : Fin 8) (k : Vec F S128x1x128 .bf16) : FVec F S128x128 .f32 :=
  exp (addf (matmul dot_S128x128_S128x128_S128x128_1_1_0_0_n_n none (extractStridedSlice S128x128 ![896, 128 * h.val] q (bq_ok h))
    (shapeCast S128x128 k shapeCasts_S128x1x128_S128x128) (constant S128x128 .f32 0x00000000#32)) (k0_pay192 (F := F)))

/-- The row sums of `bP`. -/
def bL (q : FVec F S1024x1024 .bf16) (h : Fin 8) (k : Vec F S128x1x128 .bf16) : FVec F S128 .f32 :=
  multiReduction .add [1] S128 (bP q h k) 0x00000000#32 reduces_S128x128_S128 (.inl rfl) rfl

/-- `bP` times the values `v`. -/
def bA (q : FVec F S1024x1024 .bf16) (h : Fin 8) (k v : Vec F S128x1x128 .bf16) : FVec F S128x128 .f32 :=
  matmul dot_S128x128_S128x128_S128x128_1_0_0_1_n_n none (truncf .bf16 (bP q h k) bitsLt_bf16_f32)
    (shapeCast S128x128 v shapeCasts_S128x1x128_S128x128) (constant S128x128 .f32 0x00000000#32)

/-! ## The global rows' sums over the four devices, and the context -/

/-- The four devices' weighted values: the three received, then the own one picked by a 0/1 factor. -/
def totA (w : BitVec 32) (r : Fin 3 → Vec F S1x32x8x128 .f32) (p : Fin 4 → Vec F S1x32x8x128 .f32) : FVec F S32x8x128 .f32 :=
  k0_pay225 (k0_pay222 w (k0_pay219 w (r 0) (r 1) (r 2) (p 0)) (p 1) (p 2)) (k0_pay224 (F := F) w) (p 3)

/-- The four devices' row sums, likewise. -/
def totL (w : BitVec 32) (r : Fin 3 → Vec F S1x32x8 .f32) (p : Fin 4 → Vec F S1x32x8 .f32) : FVec F S32x8 .f32 :=
  k0_pay226 (k0_pay223 w (k0_pay217 (r 0) (r 1) (r 2)) (k0_pay218 (F := F) w) (p 0) (p 1) (p 2)) (k0_pay224 (F := F) w) (p 3)

theorem tl_ok (h : Fin 8) : S32x8.Slices ![0, h.val] S32x1 := by revert h; decide
theorem ta_ok (h : Fin 8) : S32x8x128.Slices ![0, h.val, 0] S32x1x128 := by revert h; decide

/-- A head's row sums over all 1024 rows: the global rows, the rows within chunk 0, the rows reaching chunk 1. -/
def ctxL (tL : FVec F S32x8 .f32) (l : FVec F S1024 .f32) (b : FVec F S128 .f32) (h : Fin 8) : FVec F S1024 .f32 :=
  concatenate S1024 0 [⟨S32, shapeCast S32 (extractStridedSlice S32x1 ![0, h.val] tL (tl_ok h)) shapeCasts_S32x1_S32⟩,
    ⟨S864, extractStridedSlice S864 ![32] l slices_S1024_o32_S864⟩,
    ⟨S128, addf (extractStridedSlice S128 ![896] l slices_S1024_o896_S128) b⟩] concatenates_S32_S864_S128_S1024_d0

/-- A head's weighted values over all 1024 rows. -/
def ctxA (tA : FVec F S32x8x128 .f32) (a : FVec F S1024x128 .f32) (b : FVec F S128x128 .f32) (h : Fin 8) : FVec F S1024x128 .f32 :=
  concatenate S1024x128 0 [⟨S32x128, shapeCast S32x128 (extractStridedSlice S32x1x128 ![0, h.val, 0] tA (ta_ok h)) shapeCasts_S32x1x128_S32x128⟩,
    ⟨S864x128, extractStridedSlice S864x128 ![32, 0] a slices_S1024x128_o32_0_S864x128⟩,
    ⟨S128x128, addf (extractStridedSlice S128x128 ![896, 0] a slices_S1024x128_o896_0_S128x128) b⟩] concatenates_S32x128_S864x128_S128x128_S1024x128_d0

/-- A head's context: the weighted values over the row sums. -/
def ctx (l : FVec F S1024 .f32) (a : FVec F S1024x128 .f32) : FVec F S1024x128 .bf16 :=
  truncf .bf16 (divf a (broadcastTo S1024x128 (shapeCast S1024x1 l shapeCasts_S1024_S1024x1) broadcasts_S1024x1_S1024x128)) bitsLt_bf16_f32

/-- The heads' contexts side by side, times the output weights: one device's share of the result. -/
def proj (c : Fin 8 → FVec F S1024x128 .bf16) (wo : Vec F S1024x1024 .bf16) : FVec F S1024x1024 .bf16 :=
  shapeCast S1024x1024 (truncf .bf16 (matmul dot_S1024x1024_S1024x1024_S1024x1024_1_0_0_1_n_n none
    (concatenate S1024x1024 1 [⟨S1024x128, c 0⟩, ⟨S1024x128, c 1⟩, ⟨S1024x128, c 2⟩, ⟨S1024x128, c 3⟩, ⟨S1024x128, c 4⟩, ⟨S1024x128, c 5⟩, ⟨S1024x128, c 6⟩, ⟨S1024x128, c 7⟩]
      concatenates_S1024x128_S1024x128_S1024x128_S1024x128_S1024x128_S1024x128_S1024x128_S1024x128_S1024x1024_d1)
    (shapeCast S1024x1024 wo shapeCasts_S1024x1024_S1024x1024) (constant S1024x1024 .f32 0x00000000#32)) bitsLt_bf16_f32) shapeCasts_S1024x1024_S1024x1024

/-- One device's share of the result, from everything it loads. -/
def osBlk (w : BitVec 32) (q : FVec F S1024x1024 .bf16) (k v : Fin 2 → Fin 8 → Vec F S512x1x128 .bf16) (bk bv : Fin 8 → Vec F S128x1x128 .bf16)
    (ra : Fin 3 → Vec F S1x32x8x128 .f32) (rl : Fin 3 → Vec F S1x32x8 .f32) (pa : Fin 4 → Vec F S1x32x8x128 .f32) (pl : Fin 4 → Vec F S1x32x8 .f32)
    (wo : Vec F S1024x1024 .bf16) : FVec F S1024x1024 .bf16 :=
  proj (fun h => ctx (ctxL (totL w rl pl) (winL q k h) (bL q h (bk h)) h) (ctxA (totA w ra pa) (winA q k v h) (bA q h (bk h) (bv h)) h)) wo

end Cert.KernelIdeal.Pf

end
-- ==== Proof.Common.lean ====
/-
# The protocol of the four devices

Names for the buffers, the semaphores and the values that move between the devices, and the schedule of the
semaphores: for each semaphore of each device, who raises it, by how much, and which buffer elements, with which
contents, come with the raise.

Device `c` (of four) computes its queries, sends its 32 global query rows to the other three (`qs`/`qr`), computes
for each device `t` the global rows' sums over its own keys, sends them to `t` (`pas`/`par`, `pls`/`plr`), computes
its share of the result, sends each device its quarter of rows (`os`/`orv`), sums its own quarter and sends the sum to
everyone (`ags`/`agr`). Device 0 sends key chunk 0 (`ks`/`kr`, `vs`/`vr`, in halves) and device 1 the first 128 keys of
chunk 1 (`bks`/`bkr`, `bvs`/`bvr`), to each device the heads it owns. The barrier's raise by device `d` of device `c`
hands `c` the places in `d`'s memory that `c` will write.
-/
module

public import proofs.«01_k».proof.Proof.Vals
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Buffers -/

abbrev xM : Memref sig .tc .vmem S1x1024x1024 .bf16 := Memref.whole cc0_stg0_0
abbrev wqM : Memref sig .tc .vmem S1024x1024 .bf16 := Memref.whole cc0_stg1_0
abbrev kM : Memref sig .tc .hbm S1x1024x32x128 .bf16 := Memref.whole main_arg2
abbrev vM : Memref sig .tc .hbm S1x1024x32x128 .bf16 := Memref.whole main_arg3
abbrev woM : Memref sig .tc .vmem S1024x1024 .bf16 := Memref.whole cc0_stg2_0
abbrev outM : Memref sig .tc .vmem S1x1024x1024 .f32 := Memref.whole cc0_stg3_0
abbrev k0M : Memref sig .tc .vmem S1024x8x128 .bf16 := Memref.whole cc0_scratch0
abbrev v0M : Memref sig .tc .vmem S1024x8x128 .bf16 := Memref.whole cc0_scratch1
abbrev kbM : Memref sig .tc .vmem S128x8x128 .bf16 := Memref.whole cc0_scratch2
abbrev vbM : Memref sig .tc .vmem S128x8x128 .bf16 := Memref.whole cc0_scratch3
abbrev ksM : Memref sig .tc .vmem S2x1024x8x128 .bf16 := Memref.whole cc0_scratch4
abbrev vsM : Memref sig .tc .vmem S2x1024x8x128 .bf16 := Memref.whole cc0_scratch5
abbrev q32M : Memref sig .tc .vmem S4x32x1024 .bf16 := Memref.whole cc0_scratch6
abbrev paM : Memref sig .tc .vmem S4x32x8x128 .f32 := Memref.whole cc0_scratch7
abbrev plM : Memref sig .tc .vmem S4x32x8 .f32 := Memref.whole cc0_scratch8
abbrev raM : Memref sig .tc .vmem S3x32x8x128 .f32 := Memref.whole cc0_scratch9
abbrev rlM : Memref sig .tc .vmem S3x32x8 .f32 := Memref.whole cc0_scratch10
abbrev osM : Memref sig .tc .vmem S1024x1024 .bf16 := Memref.whole cc0_scratch11
abbrev obM : Memref sig .tc .vmem S3x256x1024 .bf16 := Memref.whole cc0_scratch12

/-- The elements of buffer `b` whose coordinate on axis `a` lies in the `t`-th run of `k`. -/
def slotSet (b : Ref sig .tc) (a : Fin b.ty.shape.rank) (k t : ℕ) : Finset b.ty.Idx := Finset.univ.filter fun i => (i a).val / k = t

/-- A rectangle full on every axis but one, of extent `k` there, is a `slotSet`. -/
theorem slot_rect (b : Ref sig .tc) (a : Fin b.ty.shape.rank) (k t : ℕ) (hk : 0 < k) (off size : Fin b.ty.shape.rank → ℕ)
    (inb : ∀ a, off a + size a ≤ b.ty.shape.size a) (ho : off a = k * t) (hs : size a = k)
    (h : ∀ a', a' ≠ a → off a' = 0 ∧ size a' = b.ty.shape.size a') :
    (Rect.unit (s := b.ty.shape) off size inb).set = slotSet b a k t := by
  ext i
  rw [Rect.mem_set_unit]
  unfold slotSet
  rw [Finset.mem_filter]
  constructor
  · intro hi
    refine ⟨Finset.mem_univ _, ?_⟩
    obtain ⟨h1, h2⟩ := hi a
    rw [ho] at h1 h2; rw [hs] at h2
    exact Nat.div_eq_of_lt_le (by rw [Nat.mul_comm]; exact h1) (by rw [Nat.add_mul, Nat.one_mul, Nat.mul_comm t]; exact h2)
  · rintro ⟨-, hi⟩ a'
    by_cases ha : a' = a
    · subst ha
      have h1 := Nat.div_mul_le_self (i a').val k
      have h2 := Nat.lt_div_mul_add (a := (i a').val) hk
      rw [hi] at h1 h2
      rw [ho, hs, Nat.mul_comm]
      exact ⟨h1, h2⟩
    · obtain ⟨h1, h2⟩ := h a' ha
      rw [h1, h2]
      exact ⟨Nat.zero_le _, by rw [Nat.zero_add]; exact (i a').isLt⟩

/-- A points-to of a device's buffer over a set of its elements. -/
abbrev pt (c : Dev nD) (b : Ref sig .tc) (S : Finset b.ty.Idx) (q : PosShare TreeShare) (f : b.ty.Contents (Elt F)) : sProp 𝕄 :=
  ((c : Thread nD τ).loc b) ↦[S]{q} f

/-- A whole buffer is its runs along an axis. -/
theorem pt_slots (c : Dev nD) (b : Ref sig .tc) (a : Fin b.ty.shape.rank) (k N : ℕ) (hN : ∀ i : b.ty.Idx, (i a).val / k < N)
    (q : PosShare TreeShare) (f : b.ty.Contents (Elt F)) :
    pt c b Finset.univ q f = bigSep Finset.univ (fun t : Fin N => pt c b (slotSet b a k t.val) q f) := by
  have hU : (Finset.univ : Finset b.ty.Idx) = Finset.univ.biUnion (fun t : Fin N => slotSet b a k t.val) := by
    ext i
    simp only [Finset.mem_univ, Finset.mem_biUnion, true_and, true_iff]
    exact ⟨⟨_, hN i⟩, by unfold slotSet; rw [Finset.mem_filter]; exact ⟨Finset.mem_univ _, rfl⟩⟩
  unfold pt
  rw [hU]
  refine pointsTo_biUnion Finset.univ _ (fun t ht u hu htu => ?_)
  rw [Finset.disjoint_left]
  intro i hi hj
  unfold slotSet at hi hj
  rw [Finset.mem_filter] at hi hj
  exact htu (Fin.ext (hi.2.symm.trans hj.2))

/-! ## Devices -/

/-- The device `j + 1` places after `c`, and the one `j + 1` places before it. -/
def nx (c : Dev nD) (j : ℕ) : Dev nD := ⟨(c.val + j + 1) % 4, Nat.mod_lt _ (by decide)⟩
def pv (c : Dev nD) (j : ℕ) : Dev nD := ⟨(c.val + 3 - j) % 4, Nat.mod_lt _ (by decide)⟩
/-- The `j` with `nx t j = c`. -/
def dist (c t : Dev nD) : ℕ := (c.val + 3 - t.val) % 4

theorem pv_nx (c : Dev nD) (j : Fin 3) : pv (nx c j.val) j.val = c := by revert c j; decide
theorem nx_pv (c : Dev nD) (j : Fin 3) : nx (pv c j.val) j.val = c := by revert c j; decide
theorem dist_nx (c : Dev nD) (j : Fin 3) : dist (nx c j.val) c = j.val := by revert c j; decide

/-- The kernel's word for the device's place. -/
abbrev wv (c : Dev nD) : BitVec 32 := Scalar.remsi (Scalar.divsi (Dev.word c) 1#32) 4#32

/-! ## The semaphores -/

/-- The DMA semaphores by what they count: `cp`, `kg`, `vg` local copies; each other pair a transfer's sent and
received counts. `stg` stands for the pipeline's own. -/
inductive CK
  | stg
  | cp (i : Fin 4) | kg (g : Fin 4) | vg (g : Fin 4)
  | qs (j : Fin 3) | qr (j : Fin 3)
  | ks (i : Fin 6) | vs (i : Fin 6) | kr (h : Fin 2) | vr (h : Fin 2)
  | bks (j : Fin 3) | bvs (j : Fin 3) | bkr | bvr
  | pas (j : Fin 3) | par (j : Fin 3) | pls (j : Fin 3) | plr (j : Fin 3)
  | os (j : Fin 3) | orv (j : Fin 3) | ags (j : Fin 3) | agr (j : Fin 3)
  deriving DecidableEq

namespace CK

/-- The semaphore's index. -/
def ix : CK → DmaSem sig
  | stg => (⟨0, by decide⟩ : Fin 70)
  | cp i => (⟨4 + i.val, by omega⟩ : Fin 70)
  | kg g => (⟨8 + g.val, by omega⟩ : Fin 70)
  | vg g => (⟨12 + g.val, by omega⟩ : Fin 70)
  | qs j => (⟨16 + j.val, by omega⟩ : Fin 70)
  | qr j => (⟨19 + j.val, by omega⟩ : Fin 70)
  | ks i => (⟨22 + i.val, by omega⟩ : Fin 70)
  | vs i => (⟨28 + i.val, by omega⟩ : Fin 70)
  | kr h => (⟨34 + h.val, by omega⟩ : Fin 70)
  | vr h => (⟨36 + h.val, by omega⟩ : Fin 70)
  | bks j => (⟨38 + j.val, by omega⟩ : Fin 70)
  | bvs j => (⟨41 + j.val, by omega⟩ : Fin 70)
  | bkr => (⟨44, by decide⟩ : Fin 70)
  | bvr => (⟨45, by decide⟩ : Fin 70)
  | pas j => (⟨46 + j.val, by omega⟩ : Fin 70)
  | par j => (⟨49 + j.val, by omega⟩ : Fin 70)
  | pls j => (⟨52 + j.val, by omega⟩ : Fin 70)
  | plr j => (⟨55 + j.val, by omega⟩ : Fin 70)
  | os j => (⟨58 + j.val, by omega⟩ : Fin 70)
  | orv j => (⟨61 + j.val, by omega⟩ : Fin 70)
  | ags j => (⟨64 + j.val, by omega⟩ : Fin 70)
  | agr j => (⟨67 + j.val, by omega⟩ : Fin 70)

/-- What the semaphore of an index counts. -/
def ofN (n : Fin 70) : CK :=
  if h : n.val < 4 then stg else if h : n.val < 8 then cp ⟨n.val - 4, by omega⟩
  else if h : n.val < 12 then kg ⟨n.val - 8, by omega⟩ else if h : n.val < 16 then vg ⟨n.val - 12, by omega⟩
  else if h : n.val < 19 then qs ⟨n.val - 16, by omega⟩ else if h : n.val < 22 then qr ⟨n.val - 19, by omega⟩
  else if h : n.val < 28 then ks ⟨n.val - 22, by omega⟩ else if h : n.val < 34 then vs ⟨n.val - 28, by omega⟩
  else if h : n.val < 36 then kr ⟨n.val - 34, by omega⟩ else if h : n.val < 38 then vr ⟨n.val - 36, by omega⟩
  else if h : n.val < 41 then bks ⟨n.val - 38, by omega⟩ else if h : n.val < 44 then bvs ⟨n.val - 41, by omega⟩
  else if h : n.val < 45 then bkr else if h : n.val < 46 then bvr
  else if h : n.val < 49 then pas ⟨n.val - 46, by omega⟩ else if h : n.val < 52 then par ⟨n.val - 49, by omega⟩
  else if h : n.val < 55 then pls ⟨n.val - 52, by omega⟩ else if h : n.val < 58 then plr ⟨n.val - 55, by omega⟩
  else if h : n.val < 61 then os ⟨n.val - 58, by omega⟩ else if h : n.val < 64 then orv ⟨n.val - 61, by omega⟩
  else if h : n.val < 67 then ags ⟨n.val - 64, by omega⟩ else agr ⟨n.val - 67, by omega⟩

theorem ofN_ix (k : CK) : ofN k.ix = k := by
  cases k with
  | stg => decide
  | bkr => decide
  | bvr => decide
  | _ j => revert j; decide

theorem ix_ofN (n : Fin 70) (h : 4 ≤ n.val) : (ofN n).ix = n := by revert n; decide

theorem ix_inj {k k' : CK} (h : k.ix = k'.ix) : k = k' := by rw [← ofN_ix k, ← ofN_ix k', h]

/-- Whether the semaphore is raised at all on device `c`. -/
def act (c : Dev nD) : CK → Bool
  | stg => false
  | cp i => if i.val < 2 then c.val == 0 else c.val == 1
  | ks _ => c.val == 0
  | vs _ => c.val == 0
  | kr _ => !(c.val == 0)
  | vr _ => !(c.val == 0)
  | bks _ => c.val == 1
  | bvs _ => c.val == 1
  | bkr => !(c.val == 1)
  | bvr => !(c.val == 1)
  | _ => true

/-- Whether another device raises it. -/
def rcv : CK → Bool
  | qr _ => true | kr _ => true | vr _ => true | bkr => true | bvr => true
  | par _ => true | plr _ => true | orv _ => true | agr _ => true
  | _ => false

/-- The order in which the semaphores are waited on. -/
def lev : CK → ℕ
  | qr _ => 2 | kr _ => 2 | vr _ => 2 | bkr => 2 | bvr => 2
  | par _ => 3 | plr _ => 3 | orv _ => 4 | agr _ => 5
  | _ => 0

/-- The amount one transfer raises it by. -/
def amt : CK → ℕ
  | stg => 1
  | cp i => match i with
    | ⟨0, _⟩ => k0M.view.dmaCredit
    | ⟨1, _⟩ => v0M.view.dmaCredit
    | ⟨2, _⟩ => kbM.view.dmaCredit
    | _ => vbM.view.dmaCredit
  | kg _ => ((ksM.slice (Rect.unit (s := S2x1024x8x128) ![0, 0, 0, 0] S1x1024x8x128.size inb_S2x1024x8x128_S1x1024x8x128_0_0_0_0) (fun _ => rfl)).squeeze S1024x8x128 squeezes_S1x1024x8x128_S1024x8x128).view.dmaCredit
  | vg _ => ((vsM.slice (Rect.unit (s := S2x1024x8x128) ![0, 0, 0, 0] S1x1024x8x128.size inb_S2x1024x8x128_S1x1024x8x128_0_0_0_0) (fun _ => rfl)).squeeze S1024x8x128 squeezes_S1x1024x8x128_S1024x8x128).view.dmaCredit
  | qs _ => ((q32M.slice (Rect.unit (s := S4x32x1024) ![0, 0, 0] S1x32x1024.size inb_S4x32x1024_S1x32x1024_0_0_0) (fun _ => rfl)).squeeze S32x1024 squeezes_S1x32x1024_S32x1024).view.dmaCredit
  | qr _ => ((q32M.slice (Rect.unit (s := S4x32x1024) ![0, 0, 0] S1x32x1024.size inb_S4x32x1024_S1x32x1024_0_0_0) (fun _ => rfl)).squeeze S32x1024 squeezes_S1x32x1024_S32x1024).view.dmaCredit
  | ks _ => (k0M.slice (Rect.unit (s := S1024x8x128) ![0, 0, 0] S512x8x128.size inb_S1024x8x128_S512x8x128_0_0_0) (fun _ => rfl)).view.dmaCredit
  | vs _ => (v0M.slice (Rect.unit (s := S1024x8x128) ![0, 0, 0] S512x8x128.size inb_S1024x8x128_S512x8x128_0_0_0) (fun _ => rfl)).view.dmaCredit
  | kr _ => (k0M.slice (Rect.unit (s := S1024x8x128) ![0, 0, 0] S512x8x128.size inb_S1024x8x128_S512x8x128_0_0_0) (fun _ => rfl)).view.dmaCredit
  | vr _ => (v0M.slice (Rect.unit (s := S1024x8x128) ![0, 0, 0] S512x8x128.size inb_S1024x8x128_S512x8x128_0_0_0) (fun _ => rfl)).view.dmaCredit
  | bks _ => kbM.view.dmaCredit
  | bvs _ => vbM.view.dmaCredit
  | bkr => kbM.view.dmaCredit
  | bvr => vbM.view.dmaCredit
  | pas _ => ((raM.slice (Rect.unit (s := S3x32x8x128) ![0, 0, 0, 0] S1x32x8x128.size inb_S3x32x8x128_S1x32x8x128_0_0_0_0) (fun _ => rfl)).squeeze S32x8x128 squeezes_S1x32x8x128_S32x8x128).view.dmaCredit
  | par _ => ((raM.slice (Rect.unit (s := S3x32x8x128) ![0, 0, 0, 0] S1x32x8x128.size inb_S3x32x8x128_S1x32x8x128_0_0_0_0) (fun _ => rfl)).squeeze S32x8x128 squeezes_S1x32x8x128_S32x8x128).view.dmaCredit
  | pls _ => ((rlM.slice (Rect.unit (s := S3x32x8) ![0, 0, 0] S1x32x8.size inb_S3x32x8_S1x32x8_0_0_0) (fun _ => rfl)).squeeze S32x8 squeezes_S1x32x8_S32x8).view.dmaCredit
  | plr _ => ((rlM.slice (Rect.unit (s := S3x32x8) ![0, 0, 0] S1x32x8.size inb_S3x32x8_S1x32x8_0_0_0) (fun _ => rfl)).squeeze S32x8 squeezes_S1x32x8_S32x8).view.dmaCredit
  | os _ => ((obM.slice (Rect.unit (s := S3x256x1024) ![0, 0, 0] S1x256x1024.size inb_S3x256x1024_S1x256x1024_0_0_0) (fun _ => rfl)).squeeze S256x1024 squeezes_S1x256x1024_S256x1024).view.dmaCredit
  | orv _ => ((obM.slice (Rect.unit (s := S3x256x1024) ![0, 0, 0] S1x256x1024.size inb_S3x256x1024_S1x256x1024_0_0_0) (fun _ => rfl)).squeeze S256x1024 squeezes_S1x256x1024_S256x1024).view.dmaCredit
  | ags _ => ((outM.slice (Rect.unit (s := S1x1024x1024) (k0_off9 (0 : Dev nD)) S1x256x1024.size (k0_off9_inb (0 : Dev nD))) (fun _ => rfl)).squeeze S256x1024 squeezes_S1x256x1024_S256x1024).view.dmaCredit
  | agr _ => ((outM.slice (Rect.unit (s := S1x1024x1024) (k0_off9 (0 : Dev nD)) S1x256x1024.size (k0_off9_inb (0 : Dev nD))) (fun _ => rfl)).squeeze S256x1024 squeezes_S1x256x1024_S256x1024).view.dmaCredit

theorem amt_pos (k : CK) : 0 < k.amt := by
  cases k with
  | stg => exact Nat.one_pos
  | cp i => obtain ⟨_ | _ | _ | n, h⟩ := i <;> exact View.dmaCredit_pos _ (by decide)
  | _ => exact View.dmaCredit_pos _ (by decide)

end CK

open CK

/-- Device `c`'s semaphore of kind `k`, and its barrier semaphore. -/
abbrev cell (c : Dev nD) (k : CK) : GSem nD τ sig := ((c : Thread nD τ), .dma k.ix)
abbrev bar (c : Dev nD) : GSem nD τ sig := ((c : Thread nD τ), .reg (sig.barrier 0 rfl))

/-! ## The contents -/

/-- The blocks of `x`, `Wq` and `Wo` the pipeline brings in. -/
def xst (c : Dev nD) : (cc0_stg0_0 : Ref sig .tc).ty.Contents (Elt F) :=
  (win0_0.blk (0 : Fin 1)).view.read (Elt F) ((s₀ m ρ).mem ((c : Thread nD τ).loc main_arg0))
def wqst (c : Dev nD) : (cc0_stg1_0 : Ref sig .tc).ty.Contents (Elt F) :=
  (win0_1.blk (0 : Fin 1)).view.read (Elt F) ((s₀ m ρ).mem ((c : Thread nD τ).loc main_arg1))
def wost (c : Dev nD) : (cc0_stg2_0 : Ref sig .tc).ty.Contents (Elt F) :=
  (win0_2.blk (0 : Fin 1)).view.read (Elt F) ((s₀ m ρ).mem ((c : Thread nD τ).loc main_arg4))
/-- Device `c`'s keys and values. -/
abbrev Kc (c : Dev nD) : (main_arg2 : Ref sig .tc).ty.Contents (Elt F) := m ((c : Thread nD τ).loc main_arg2)
abbrev Vc (c : Dev nD) : (main_arg3 : Ref sig .tc).ty.Contents (Elt F) := m ((c : Thread nD τ).loc main_arg3)

/-- Device `c`'s queries. -/
def Q (c : Dev nD) : FVec F S1024x1024 .bf16 := k0_pay2 (k0_pay1 (xst m ρ c)) (wqst m ρ c)

/-- Every device's 32 global query rows. -/
def Q32 : (cc0_scratch6 : Ref sig .tc).ty.Contents (Elt F) :=
  fun (i : S4x32x1024.Idx) => k0_pay3 (k0_pay1 (xst m ρ (i 0))) (wqst m ρ (i 0)) (ix3 0 (i 1) (i 2) : S1x32x1024.Idx)

theorem hd_lt (g : Fin 4) (h : Fin 8) : 8 * g.val + h.val < 32 := by omega
theorem row_lt (i : Fin 128) : i.val < 1024 := by omega

/-- The eight heads of group `g` of keys (values). -/
def heads (K : S1x1024x32x128.Idx → Elt F .bf16) (g : Fin 4) : S1024x8x128.Idx → Elt F .bf16 :=
  fun i => K (ix4 0 (i 0) ⟨8 * g.val + (i 1).val, hd_lt g (i 1)⟩ (i 2))

/-- Their first 128 rows. -/
def heads128 (K : S1x1024x32x128.Idx → Elt F .bf16) (g : Fin 4) : S128x8x128.Idx → Elt F .bf16 :=
  fun i => K (ix4 0 ⟨(i 0).val, row_lt (i 0)⟩ ⟨8 * g.val + (i 1).val, hd_lt g (i 1)⟩ (i 2))

def KS (c : Dev nD) (g : Fin 4) : (cc0_scratch4 : Ref sig .tc).ty.Contents (Elt F) := fun (i : S2x1024x8x128.Idx) => heads (Kc m c) g (ix3 (i 1) (i 2) (i 3))
def VS (c : Dev nD) (g : Fin 4) : (cc0_scratch5 : Ref sig .tc).ty.Contents (Elt F) := fun (i : S2x1024x8x128.Idx) => heads (Vc m c) g (ix3 (i 1) (i 2) (i 3))
def K0 (c : Dev nD) : (cc0_scratch0 : Ref sig .tc).ty.Contents (Elt F) := heads (Kc m (0 : Dev nD)) c
def V0 (c : Dev nD) : (cc0_scratch1 : Ref sig .tc).ty.Contents (Elt F) := heads (Vc m (0 : Dev nD)) c
def KB (c : Dev nD) : (cc0_scratch2 : Ref sig .tc).ty.Contents (Elt F) := heads128 (Kc m (1 : Dev nD)) c
def VB (c : Dev nD) : (cc0_scratch3 : Ref sig .tc).ty.Contents (Elt F) := heads128 (Vc m (1 : Dev nD)) c

theorem inb_q (g : Fin 4) : ∀ a, (![g.val, 0, 0] : Fin 3 → ℕ) a + S1x32x1024.size a ≤ S4x32x1024.size a := by revert g; decide
theorem inb_s (g : Fin 4) (h : Fin 8) : ∀ a, (![g.val % 2, 0, h.val, 0] : Fin 4 → ℕ) a + S1x1024x1x128.size a ≤ S2x1024x8x128.size a := by revert g h; decide
theorem inb_h (s : Fin 2) (h : Fin 8) : ∀ a, (![512 * s.val, h.val, 0] : Fin 3 → ℕ) a + S512x1x128.size a ≤ S1024x8x128.size a := by revert s h; decide
theorem inb_b (h : Fin 8) : ∀ a, (![0, h.val, 0] : Fin 3 → ℕ) a + S128x1x128.size a ≤ S128x8x128.size a := by revert h; decide
theorem inb_ra (j : Fin 3) : ∀ a, (![j.val, 0, 0, 0] : Fin 4 → ℕ) a + S1x32x8x128.size a ≤ S3x32x8x128.size a := by revert j; decide
theorem inb_rl (j : Fin 3) : ∀ a, (![j.val, 0, 0] : Fin 3 → ℕ) a + S1x32x8.size a ≤ S3x32x8.size a := by revert j; decide
theorem inb_pa (j : Fin 4) : ∀ a, (![j.val, 0, 0, 0] : Fin 4 → ℕ) a + S1x32x8x128.size a ≤ S4x32x8x128.size a := by revert j; decide
theorem inb_pl (j : Fin 4) : ∀ a, (![j.val, 0, 0] : Fin 3 → ℕ) a + S1x32x8.size a ≤ S4x32x8.size a := by revert j; decide
theorem inb_ob (j : Fin 3) : ∀ a, (![j.val, 0, 0] : Fin 3 → ℕ) a + S1x256x1024.size a ≤ S3x256x1024.size a := by revert j; decide

/-- What the kernel loads: owner `g`'s queries; a head of a key group, of a half of chunk 0, of the first keys of chunk 1. -/
def ldQ (g : Fin 4) : Vec F S1x32x1024 .bf16 := q32M.view.readAt (Elt F) (Rect.unit (s := S4x32x1024) ![g.val, 0, 0] S1x32x1024.size (inb_q g)).toLoadRect (Q32 m ρ)
def ldKS (c : Dev nD) (g : Fin 4) (h : Fin 8) : Vec F S1x1024x1x128 .bf16 := ksM.view.readAt (Elt F) (Rect.unit (s := S2x1024x8x128) ![g.val % 2, 0, h.val, 0] S1x1024x1x128.size (inb_s g h)).toLoadRect (KS m c g)
def ldVS (c : Dev nD) (g : Fin 4) (h : Fin 8) : Vec F S1x1024x1x128 .bf16 := vsM.view.readAt (Elt F) (Rect.unit (s := S2x1024x8x128) ![g.val % 2, 0, h.val, 0] S1x1024x1x128.size (inb_s g h)).toLoadRect (VS m c g)
def ldK0 (c : Dev nD) (s : Fin 2) (h : Fin 8) : Vec F S512x1x128 .bf16 := k0M.view.readAt (Elt F) (Rect.unit (s := S1024x8x128) ![512 * s.val, h.val, 0] S512x1x128.size (inb_h s h)).toLoadRect (K0 m c)
def ldV0 (c : Dev nD) (s : Fin 2) (h : Fin 8) : Vec F S512x1x128 .bf16 := v0M.view.readAt (Elt F) (Rect.unit (s := S1024x8x128) ![512 * s.val, h.val, 0] S512x1x128.size (inb_h s h)).toLoadRect (V0 m c)
def ldKB (c : Dev nD) (h : Fin 8) : Vec F S128x1x128 .bf16 := kbM.view.readAt (Elt F) (Rect.unit (s := S128x8x128) ![0, h.val, 0] S128x1x128.size (inb_b h)).toLoadRect (KB m c)
def ldVB (c : Dev nD) (h : Fin 8) : Vec F S128x1x128 .bf16 := vbM.view.readAt (Elt F) (Rect.unit (s := S128x8x128) ![0, h.val, 0] S128x1x128.size (inb_b h)).toLoadRect (VB m c)

/-- What device `c` works out of its keys for owner `g`: weighted values, row sums. -/
def PAblk (c : Dev nD) (g : Fin 4) : FVec F S1x32x8x128 .f32 := grpA (ldQ m ρ g) (ldKS m c g) (ldVS m c g)
def PLblk (c : Dev nD) (g : Fin 4) : FVec F S1x32x8 .f32 := grpL (ldQ m ρ g) (ldKS m c g)
def PA (c : Dev nD) : (cc0_scratch7 : Ref sig .tc).ty.Contents (Elt F) := fun (i : S4x32x8x128.Idx) => PAblk m ρ c (i 0) (ix4 0 (i 1) (i 2) (i 3) : S1x32x8x128.Idx)
def PL (c : Dev nD) : (cc0_scratch8 : Ref sig .tc).ty.Contents (Elt F) := fun (i : S4x32x8.Idx) => PLblk m ρ c (i 0) (ix3 0 (i 1) (i 2) : S1x32x8.Idx)

/-- What the others sent `c`. -/
def PRA (c : Dev nD) : (cc0_scratch9 : Ref sig .tc).ty.Contents (Elt F) := fun (i : S3x32x8x128.Idx) => PA m ρ (pv c (i 0).val) (ix4 c (i 1) (i 2) (i 3) : S4x32x8x128.Idx)
def PRL (c : Dev nD) : (cc0_scratch10 : Ref sig .tc).ty.Contents (Elt F) := fun (i : S3x32x8.Idx) => PL m ρ (pv c (i 0).val) (ix3 c (i 1) (i 2) : S4x32x8.Idx)

def ldRA (c : Dev nD) (j : Fin 3) : Vec F S1x32x8x128 .f32 := raM.view.readAt (Elt F) (Rect.unit (s := S3x32x8x128) ![j.val, 0, 0, 0] S1x32x8x128.size (inb_ra j)).toLoadRect (PRA m ρ c)
def ldRL (c : Dev nD) (j : Fin 3) : Vec F S1x32x8 .f32 := rlM.view.readAt (Elt F) (Rect.unit (s := S3x32x8) ![j.val, 0, 0] S1x32x8.size (inb_rl j)).toLoadRect (PRL m ρ c)
def ldPA (c : Dev nD) (g : Fin 4) : Vec F S1x32x8x128 .f32 := paM.view.readAt (Elt F) (Rect.unit (s := S4x32x8x128) ![g.val, 0, 0, 0] S1x32x8x128.size (inb_pa g)).toLoadRect (PA m ρ c)
def ldPL (c : Dev nD) (g : Fin 4) : Vec F S1x32x8 .f32 := plM.view.readAt (Elt F) (Rect.unit (s := S4x32x8) ![g.val, 0, 0] S1x32x8.size (inb_pl g)).toLoadRect (PL m ρ c)

/-- Device `c`'s share of the result, all rows. -/
def OS (c : Dev nD) : (cc0_scratch11 : Ref sig .tc).ty.Contents (Elt F) :=
  osBlk (wv c) (Q m ρ c) (ldK0 m c) (ldV0 m c) (ldKB m c) (ldVB m c) (ldRA m ρ c) (ldRL m ρ c) (ldPA m ρ c) (ldPL m ρ c) (wost m ρ c)

theorem quarter_lt (c : Dev nD) (i : Fin 256) : 256 * c.val + i.val < 1024 := by have := c.isLt; change c.val < 4 at this; omega

/-- The others' shares of `c`'s quarter of rows. -/
def OB (c : Dev nD) : (cc0_scratch12 : Ref sig .tc).ty.Contents (Elt F) := fun (i : S3x256x1024.Idx) => OS m ρ (pv c (i 0).val) (ix2 ⟨256 * c.val + (i 1).val, quarter_lt c (i 1)⟩ (i 2) : S1024x1024.Idx)

def ldOB (c : Dev nD) (j : Fin 3) : Vec F S1x256x1024 .bf16 := obM.view.readAt (Elt F) (Rect.unit (s := S3x256x1024) ![j.val, 0, 0] S1x256x1024.size (inb_ob j)).toLoadRect (OB m ρ c)
def ldOS (c : Dev nD) : Vec F S256x1024 .bf16 := osM.view.readAt (Elt F) (Rect.unit (s := S1024x1024) (k0_off7 c) S256x1024.size (k0_off7_inb c)).toLoadRect (OS m ρ c)

/-- Device `c`'s quarter of the result. -/
def outQ (c : Dev nD) : FVec F S1x256x1024 .f32 := k0_pay240 (k0_pay239 (ldOS m ρ c) (ldOB m ρ c 0)) (ldOB m ρ c 1) (ldOB m ρ c 2)

theorem q_lt (i : Fin 1024) : i.val / 256 < 4 := by omega
theorem r_lt (i : Fin 1024) : i.val % 256 < 256 := Nat.mod_lt _ (by decide)

/-- The result, the same on every device. -/
def OUT : (cc0_stg3_0 : Ref sig .tc).ty.Contents (Elt F) := fun (i : S1x1024x1024.Idx) => outQ m ρ (⟨(i 1).val / 256, q_lt (i 1)⟩ : Fin 4) (ix3 0 ⟨(i 1).val % 256, r_lt (i 1)⟩ (i 2) : S1x256x1024.Idx)

/-! ## The schedule -/

/-- The three shares of a buffer that is sent three times. -/
def shareR : Fin 3 → PosShare TreeShare
  | ⟨0, _⟩ => fullShare.right.left
  | ⟨1, _⟩ => fullShare.right.right.left
  | ⟨2, _⟩ => fullShare.right.right.right

/-- What device `c`'s semaphore of kind `k` hands `c` when raised. -/
def pay (c : Dev nD) : CK → sProp 𝕄
  | stg => iprop(emp)
  | cp i => match i with
    | ⟨0, _⟩ => pt c cc0_scratch0 Finset.univ fullShare (K0 m c)
    | ⟨1, _⟩ => pt c cc0_scratch1 Finset.univ fullShare (V0 m c)
    | ⟨2, _⟩ => pt c cc0_scratch2 Finset.univ fullShare (KB m c)
    | ⟨3, _⟩ => pt c cc0_scratch3 Finset.univ fullShare (VB m c)
  | kg g => pt c cc0_scratch4 (slotSet cc0_scratch4 (0 : Fin 4) 1 (g.val % 2)) fullShare (KS m c g)
  | vg g => pt c cc0_scratch5 (slotSet cc0_scratch5 (0 : Fin 4) 1 (g.val % 2)) fullShare (VS m c g)
  | qs j => pt c cc0_scratch6 (slotSet cc0_scratch6 (0 : Fin 3) 1 c.val) (shareR j) (Q32 m ρ)
  | qr j => pt c cc0_scratch6 (slotSet cc0_scratch6 (0 : Fin 3) 1 (pv c j.val).val) fullShare (Q32 m ρ)
  | ks _ => iprop(emp)
  | vs _ => iprop(emp)
  | kr h => pt c cc0_scratch0 (slotSet cc0_scratch0 (0 : Fin 3) 512 h.val) fullShare (K0 m c)
  | vr h => pt c cc0_scratch1 (slotSet cc0_scratch1 (0 : Fin 3) 512 h.val) fullShare (V0 m c)
  | bks _ => iprop(emp)
  | bvs _ => iprop(emp)
  | bkr => pt c cc0_scratch2 Finset.univ fullShare (KB m c)
  | bvr => pt c cc0_scratch3 Finset.univ fullShare (VB m c)
  | pas j => pt c cc0_scratch7 (slotSet cc0_scratch7 (0 : Fin 4) 1 (nx c j.val).val) fullShare.right (PA m ρ c)
  | par j => pt c cc0_scratch9 (slotSet cc0_scratch9 (0 : Fin 4) 1 j.val) fullShare (PRA m ρ c)
  | pls j => pt c cc0_scratch8 (slotSet cc0_scratch8 (0 : Fin 3) 1 (nx c j.val).val) fullShare.right (PL m ρ c)
  | plr j => pt c cc0_scratch10 (slotSet cc0_scratch10 (0 : Fin 3) 1 j.val) fullShare (PRL m ρ c)
  | os j => pt c cc0_scratch11 (slotSet cc0_scratch11 (0 : Fin 2) 256 (nx c j.val).val) fullShare.right (OS m ρ c)
  | orv j => pt c cc0_scratch12 (slotSet cc0_scratch12 (0 : Fin 3) 1 j.val) fullShare (OB m ρ c)
  | ags j => pt c cc0_stg3_0 (slotSet cc0_stg3_0 (1 : Fin 3) 256 c.val) (shareR j) (OUT m ρ)
  | agr j => pt c cc0_stg3_0 (slotSet cc0_stg3_0 (1 : Fin 3) 256 (pv c j.val).val) fullShare (OUT m ρ)

/-- Some contents of a set of elements of a buffer. -/
abbrev anyPt (c : Dev nD) (b : Ref sig .tc) (S : Finset b.ty.Idx) : sProp 𝕄 := iprop(∃ f, pt c b S fullShare f)

/-- What device `d`'s barrier signal hands device `t`: the places in `d`'s memory that `t` writes. -/
def Hand (d t : Dev nD) : sProp 𝕄 :=
  iprop(anyPt d cc0_scratch6 (slotSet cc0_scratch6 (0 : Fin 3) 1 t.val)
    ∗ anyPt d cc0_scratch9 (slotSet cc0_scratch9 (0 : Fin 4) 1 (dist d t))
    ∗ anyPt d cc0_scratch10 (slotSet cc0_scratch10 (0 : Fin 3) 1 (dist d t))
    ∗ anyPt d cc0_scratch12 (slotSet cc0_scratch12 (0 : Fin 3) 1 (dist d t))
    ∗ anyPt d cc0_stg3_0 (slotSet cc0_stg3_0 (1 : Fin 3) 256 t.val)
    ∗ (if t.val = 0 then iprop(anyPt d cc0_scratch0 Finset.univ ∗ anyPt d cc0_scratch1 Finset.univ) else iprop(emp))
    ∗ (if t.val = 1 then iprop(anyPt d cc0_scratch2 Finset.univ ∗ anyPt d cc0_scratch3 Finset.univ) else iprop(emp)))

/-- Each semaphore is raised in one round; a barrier once by each other device, a DMA semaphore by one transfer. -/
def Rd : Rounds.Schedule (GSem nD τ sig) (Dev nD) 𝕄 where
  duties g r := if r = 0 ∧ g.1.2 = .tc then (match g.2 with
    | .reg _ => Finset.univ.erase g.1.1
    | .dma n => if act g.1.1 (ofN n) then {0} else ∅) else ∅
  unitless _ := False
  amount g _ _ := match g.2 with
    | .reg _ => 1
    | .dma n => (ofN n).amt
  payload g _ d := match g.2 with
    | .reg _ => Hand d g.1.1
    | .dma n => pay m ρ g.1.1 (ofN n)
  amount_pos g r d _ := by
    split
    · exact Nat.one_pos
    · exact amt_pos _

omit [FloatOps F] [Named F] in
instance hand_storable (d t : Dev nD) : BI.Storable (upEmb : UEmb _ 𝕄) (Hand (F := F) d t) := by
  unfold Hand
  have h1 : BI.Storable (upEmb : UEmb _ 𝕄) (if t.val = 0 then iprop(anyPt (F := F) d cc0_scratch0 Finset.univ ∗ anyPt d cc0_scratch1 Finset.univ) else iprop(emp)) := by
    split <;> infer_instance
  have h2 : BI.Storable (upEmb : UEmb _ 𝕄) (if t.val = 1 then iprop(anyPt (F := F) d cc0_scratch2 Finset.univ ∗ anyPt d cc0_scratch3 Finset.univ) else iprop(emp)) := by
    split <;> infer_instance
  infer_instance

instance pay_storable (c : Dev nD) (k : CK) : BI.Storable (upEmb : UEmb _ 𝕄) (pay (F := F) m ρ c k) := by
  cases k with
  | cp i => obtain ⟨_ | _ | _ | _ | n, h⟩ := i <;> first | omega | (unfold pay; infer_instance)
  | _ => unfold pay; infer_instance

instance Rd_storable (g : GSem nD τ sig) (r : ℕ) (d : Dev nD) : BI.Storable (upEmb : UEmb _ 𝕄) ((Rd (F := F) m ρ).payload g r d) := by
  show BI.Storable upEmb (match g.2 with | .reg _ => Hand d g.1.1 | .dma n => pay m ρ g.1.1 (ofN n))
  split <;> infer_instance

section Tables
variable (c : Dev nD) (k : CK)

theorem duties_dma (h : act c k = true) : (Rd (F := F) m ρ).duties (cell c k) 0 = {0} := by
  show (if (0 : ℕ) = 0 ∧ (c : Thread nD τ).2 = .tc then (if act c (ofN k.ix) = true then ({0} : Finset (Dev nD)) else ∅) else ∅) = _
  rw [if_pos ⟨rfl, rfl⟩, ofN_ix, if_pos h]
theorem duties_dma_off (h : act c k = false) (r : ℕ) : (Rd (F := F) m ρ).duties (cell c k) r = ∅ := by
  show (if r = 0 ∧ (c : Thread nD τ).2 = .tc then (if act c (ofN k.ix) = true then ({0} : Finset (Dev nD)) else ∅) else ∅) = _
  rw [ofN_ix, h]; split <;> rfl
theorem duties_bar : (Rd (F := F) m ρ).duties (bar c) 0 = Finset.univ.erase c := by
  show (if (0 : ℕ) = 0 ∧ (c : Thread nD τ).2 = .tc then Finset.univ.erase c else ∅) = _
  exact if_pos ⟨rfl, rfl⟩
theorem duties_later (g : GSem nD τ sig) (r : ℕ) (h : 1 ≤ r) : (Rd (F := F) m ρ).duties g r = ∅ := by
  dsimp only [Rd]; exact if_neg fun h' => by omega
theorem amount_dma (d : Dev nD) : (Rd (F := F) m ρ).amount (cell c k) 0 d = k.amt := by
  show (ofN k.ix).amt = _; rw [ofN_ix]
theorem amount_bar (d : Dev nD) : (Rd (F := F) m ρ).amount (bar c) 0 d = 1 := rfl
theorem payload_dma (d : Dev nD) : (Rd (F := F) m ρ).payload (cell c k) 0 d = pay m ρ c k := by
  show pay m ρ c (ofN k.ix) = _; rw [ofN_ix]
theorem payload_bar (d : Dev nD) : (Rd (F := F) m ρ).payload (bar c) 0 d = Hand d c := rfl
theorem expect_dma (h : act c k = true) : (Rd (F := F) m ρ).expect (cell c k) 0 = k.amt := by
  unfold Schedule.expect Schedule.amountOf; rw [duties_dma m ρ c k h, Finset.sum_singleton, amount_dma]
theorem expect_bar : (Rd (F := F) m ρ).expect (bar c) 0 = 3 := by
  unfold Schedule.expect Schedule.amountOf
  rw [duties_bar, Finset.sum_congr rfl (fun d _ => amount_bar m ρ c d), Finset.sum_const, Finset.card_erase_of_mem (Finset.mem_univ _)]; rfl
theorem rest_dma (h : act c k = true) : bigSep ((Rd (F := F) m ρ).duties (cell c k) 0 \ ∅) (fun d => (Rd (F := F) m ρ).payload (cell c k) 0 d) = pay m ρ c k := by
  rw [Finset.sdiff_empty, duties_dma m ρ c k h, bigSep_singleton, payload_dma]

end Tables

end Cert.KernelIdeal.Pf

end
-- ==== Proof.Rules.lean ====
/-
# One rule per kind of step between devices

The persistent record of every semaphore's invariant, what a device still owes, and the rules for a transfer to another
device, a local copy, a wait, a barrier signal and the barrier wait, each stated once at a symbolic semaphore.
-/
module

public import proofs.«01_k».proof.Proof.Common
public import Idealize.ShloMosaic.Lib.SparseCore.ProtocolKit

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- The semaphores of the protocol, numbered: the barrier, then the DMA semaphores past the pipeline's four. -/
def osem (k : Fin 67) : SemLoc sig := if h : k.val = 0 then .reg (sig.barrier 0 rfl) else .dma (⟨k.val + 3, by omega⟩ : Fin 70)
abbrev gcell (p : Dev nD × Fin 67) : GSem nD τ sig := ((p.1 : Thread nD τ), osem p.2)

/-- The number of a DMA semaphore. -/
def no (k : CK) : Fin 67 := if h : k.ix.val < 4 then 0 else ⟨k.ix.val - 3, by have : k.ix.val < 70 := k.ix.isLt; omega⟩

theorem ix_ge (k : CK) (h : k ≠ stg) : 4 ≤ k.ix.val := by
  cases k with
  | stg => exact absurd rfl h
  | bkr => decide
  | bvr => decide
  | _ j => revert j; decide

theorem osem_no (k : CK) (h : k ≠ stg) : osem (no k) = .dma k.ix := by
  have h4 := ix_ge k h
  have h70 : k.ix.val < 70 := k.ix.isLt
  have e : no k = ⟨k.ix.val - 3, by omega⟩ := by unfold no; rw [dif_neg (by omega)]
  rw [e]
  unfold osem
  rw [dif_neg (show ¬ k.ix.val - 3 = 0 by omega)]
  exact congrArg SemLoc.dma (Fin.ext (show k.ix.val - 3 + 3 = k.ix.val by omega))

/-- Every semaphore's invariant, and that each has reached its round. -/
def recs : sProp 𝕄 :=
  iprop(∃ K : Dev nD × Fin 67 → ℕ, bigSep Finset.univ fun p : Dev nD × Fin 67 => iprop(cellInv ER (Rd m ρ) (K p) (gcell p) ∗ reached ER (gcell p) 0))

theorem rec_at (K : Dev nD × Fin 67 → ℕ) (p : Dev nD × Fin 67) :
    (bigSep Finset.univ fun p : Dev nD × Fin 67 => iprop(cellInv ER (Rd (F := F) m ρ) (K p) (gcell p) ∗ reached ER (gcell p) 0))
      ⊢ iprop(cellInv ER (Rd m ρ) (K p) (gcell p) ∗ reached ER (gcell p) 0) :=
  bigSep_elim (Finset.mem_univ p)

instance recs_persistent : BI.Persistent (recs (F := F) m ρ) := by unfold recs; infer_instance

theorem recs_dma (c : Dev nD) (k : CK) (h : k ≠ stg) :
    recs (F := F) m ρ ⊢ iprop(∃ κ : ℕ, cellInv ER (Rd m ρ) κ (cell c k) ∗ reached ER (cell c k) 0) := by
  unfold recs
  iintro ⟨%K, H⟩
  ihave H := (rec_at m ρ K (c, no k)) $$ H
  iexists K (c, no k)
  have e : gcell (c, no k) = cell c k := by unfold gcell; rw [osem_no k h]
  rw [e]
  iexact H

theorem recs_bar (c : Dev nD) :
    recs (F := F) m ρ ⊢ iprop(∃ κ : ℕ, cellInv ER (Rd m ρ) κ (bar c) ∗ reached ER (bar c) 0) := by
  unfold recs
  iintro ⟨%K, H⟩
  ihave H := (rec_at m ρ K (c, (0 : Fin 67))) $$ H
  iexists K (c, (0 : Fin 67))
  iexact H

/-! ## What a device owes -/

/-- The amount, the level and the semaphore of a debt: `none` is a barrier unit. -/
def dAmt : Option CK → ℕ | none => 1 | some k => k.amt
def dLev : Option CK → ℕ | none => 1 | some k => k.lev
def dCell (c : Dev nD) : Option CK → GSem nD τ sig | none => bar c | some k => cell c k

def tly : List (Dev nD × Option CK) → CellTallies nD τ sig Unit
  | [] => 0
  | p :: l => tly l + tallyAt (dCell p.1 p.2) () (dAmt p.2)

/-- Device `c` still owes the raises `l`, in that order. -/
def debt (c : Dev nD) (l : List (Dev nD × Option CK)) : sProp 𝕄 := iprop(∃ W, owes (c : Thread nD τ) (tly l) W)

def L (g : GSem nD τ sig) : Finset Unit := if g.1.2 = .tc then {()} else ∅
def lv (g : GSem nD τ sig) (_ : Unit) : ℕ := match g.2 with
  | .reg _ => 1
  | .dma n => (ofN n).lev

theorem L_of_ne (g : GSem nD τ sig) (h : g.1.2 ≠ .tc) : L g = ∅ := if_neg h
theorem L_tc (c : Dev nD) (sm : SemLoc sig) : L ((c : Thread nD τ), sm) = {()} := if_pos rfl
theorem lv_dCell (c : Dev nD) (o : Option CK) : lv (dCell c o) () = dLev o := by
  cases o with
  | none => rfl
  | some k => show (ofN k.ix).lev = k.lev; rw [ofN_ix]
theorem L_dCell (c : Dev nD) (o : Option CK) : L (dCell c o) = {()} := by cases o <;> exact if_pos rfl

theorem tly_pos {l : List (Dev nD × Option CK)} {g : GSem nD τ sig} {u : Unit} (h : 0 < tly l g u) : ∃ p ∈ l, g = dCell p.1 p.2 := by
  induction l with
  | nil => exact absurd h (Nat.lt_irrefl 0)
  | cons p l ih =>
    unfold tly at h
    rw [Pi.add_apply, Finsupp.add_apply, tallyAt_apply] at h
    by_cases hg : g = dCell p.1 p.2
    · exact ⟨p, List.mem_cons_self, hg⟩
    · rw [if_neg (fun h' => hg h'.1), Nat.add_zero] at h
      obtain ⟨p', hp', e⟩ := ih h
      exact ⟨p', List.mem_cons_of_mem _ hp', e⟩

/-- A device may wait on a semaphore below every semaphore it owes. -/
theorem mayWait_of (c : Dev nD) (sm : SemLoc sig) (n : ℕ) (hn : lv ((c : Thread nD τ), sm) () = n) (l : List (Dev nD × Option CK))
    (hl : (l.map Prod.snd).all (fun o => decide (n < dLev o)) = true) :
    (levAts L lv : sProp 𝕄) ⊢ MayWait (c : Thread nD τ) sm () (tly l) := by
  have hl' : ∀ p ∈ l, n < dLev p.2 := fun p hp => by
    have := List.all_eq_true.mp hl p.2 (List.mem_map_of_mem hp)
    exact of_decide_eq_true this
  refine MayOwe.of_cut (L := L) (lev := lv) n (fun p hp => by rw [Finset.mem_singleton.mp hp, L_tc]; exact Finset.mem_singleton_self _)
    (fun g u hg => ?_) (fun p hp => by rw [Finset.mem_singleton.mp hp]; exact hn.le) (fun g u hg => ?_)
  · obtain ⟨p, -, rfl⟩ := tly_pos hg
    rw [L_dCell]; exact Finset.mem_singleton_self _
  · obtain ⟨p, hp, rfl⟩ := tly_pos hg
    rw [show u = () from rfl, lv_dCell]; exact hl' p hp

/-! ## Tokens, credits, positions -/

abbrev tok (c : Dev nD) (k : CK) : sProp 𝕄 := dutyTok ER (cell c k) 0 (0 : Dev nD)
abbrev tokB (c d : Dev nD) : sProp 𝕄 := dutyTok ER (bar c) 0 d
abbrev crd (c : Dev nD) (k : CK) : sProp 𝕄 := cred (tallyAt (cell c k) () k.amt)
abbrev atp (c : Dev nD) (k : CK) : sProp 𝕄 := atPos ER (cell c k) 0 ∅ 0

theorem mem_duties (c : Dev nD) (k : CK) (h : act c k = true) : (0 : Dev nD) ∈ (Rd (F := F) m ρ).duties (cell c k) 0 := by
  rw [duties_dma m ρ c k h]; exact Finset.mem_singleton_self _

theorem ne_stg {c : Dev nD} {k : CK} (h : act c k = true) : k ≠ stg := fun e => by subst e; exact Bool.noConfusion h

/-! ## The rules -/

/-- A transfer to device `c'`: what is read and written goes into the two semaphores' payloads. -/
theorem send_gen (c c' : Dev nD) (k k' : CK) (l : List (Dev nD × Option CK)) {n : Dev nD} (hn : n = c')
    {sp sp' : Space} {s : Shape} {e : EltTy} {src : Memref sig .tc sp s e} {dst : Memref sig .tc sp' s e}
    {hsc : (show Memref sig (Dev.tc n : Thread nD τ).2.kind sp' s e from dst).view.ref.isScScratch = false} {sS sem : SemLoc sig} {hsrc : src.view.WordExact} {hdst : dst.view.WordExact}
    {hsem : DmaTarget.Typed sp sem (.remote (Dev.tc n : Thread nD τ) dst sS hsc)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c' : Thread nD τ))}
    (hs : sS = .dma k.ix) (hs' : sem = .dma k'.ix) (ha : act c k = true) (ha' : act c' k' = true)
    (hN : dst.view.amount sem = k'.amt) (hk : k.amt = k'.amt)
    (hp₁ : (src.view.loc (c : Thread nD τ) ↦[src.view.set]{q} fs) ⊢ pay m ρ c k)
    (hp₂ : (dst.view.loc (c' : Thread nD τ) ↦[dst.view.set]{fullShare} (dst.view.write (Elt F) fd (src.view.read (Elt F) fs) Finset.univ)) ⊢ pay m ρ c' k') :
    iprop(recs m ρ ∗ (src.view.loc (c : Thread nD τ) ↦[src.view.set]{q} fs) ∗ (dst.view.loc (c' : Thread nD τ) ↦[dst.view.set]{fullShare} fd)
        ∗ debt c ((c', some k') :: l) ∗ tok c k ∗ tok c' k')
      ⊢ iprop(((crd c k ∗ debt c l) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst sS hsc) sem hsrc hdst hsem) kk) Q) := by
  subst hn; subst hs; subst hs'
  iintro ⟨#HR, Hs, Hd, HO, Ht, Ht'⟩ Hk
  ihave H := (recs_dma m ρ c k (ne_stg ha)) $$ HR
  icases H with ⟨%κ, #Hi, #Hr⟩
  ihave H := (recs_dma m ρ n k' (ne_stg ha')) $$ HR
  icases H with ⟨%κ', #Hi', #Hr'⟩
  unfold debt
  icases HO with ⟨%W, HO⟩
  iapply (wp_send_pointsTo 𝒱₀ ER (Rd m ρ) (c : Thread nD τ) none (κ₁ := κ) (κ₂ := κ') (d₁ := (0 : Dev nD)) (d₂ := (0 : Dev nD)) (r₁ := 0) (r₂ := 0)
      (mem_duties m ρ c k ha) (mem_duties m ρ n k' ha') () () k'.amt hN ((amount_dma m ρ c k 0).trans hk) (amount_dma m ρ n k' 0) (tly l) rfl
      (hp₁.trans (by rw [payload_dma])) (hp₂.trans (by rw [payload_dma]))) $$ [Hs Hd HO Ht Ht']
  · iclose
  iintro ⟨Hc, HO⟩
  iapply Hk
  isplitl [Hc]
  · rw [← hk]; iexact Hc
  iexists W; iexact HO

/-- A local copy. -/
theorem copy_gen (c : Dev nD) (k : CK) {sp sp' : Space} {s : Shape} {e : EltTy} {src : Memref sig .tc sp s e} {dst : Memref sig .tc sp' s e}
    {sem : SemLoc sig} {hsrc : src.view.WordExact} {hdst : dst.view.WordExact} {hsem : DmaTarget.Typed (nD := nD) (τ := τ) sp sem (.here (p := (Proc.tc : Proc τ)) dst)}
    {α : Type} {Q : α → sProp 𝕄} {kk : PUnit → Prog (TpuEff nD τ sig (Elt F) Λ₀ .tc) α}
    {q : PosShare TreeShare} {fs : Buf (Elt F) (src.view.loc (c : Thread nD τ))} {fd : Buf (Elt F) (dst.view.loc (c : Thread nD τ))}
    (hs : sem = .dma k.ix) (ha : act c k = true) (hN : dst.view.amount sem = k.amt)
    (hp : (dst.view.loc (c : Thread nD τ) ↦[dst.view.set]{fullShare} (dst.view.write (Elt F) fd (src.view.read (Elt F) fs) Finset.univ)) ⊢ pay m ρ c k) :
    iprop(recs m ρ ∗ (src.view.loc (c : Thread nD τ) ↦[src.view.set]{q} fs) ∗ (dst.view.loc (c : Thread nD τ) ↦[dst.view.set]{fullShare} fd) ∗ tok c k)
      ⊢ iprop((crd c k -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) sem hsrc hdst hsem) kk) Q) := by
  subst hs
  iintro ⟨#HR, Hs, Hd, Ht⟩ Hk
  ihave H := (recs_dma m ρ c k (ne_stg ha)) $$ HR
  icases H with ⟨%κ, #Hi, #Hr⟩
  have hp' : iprop((dst.view.loc (c : Thread nD τ) ↦[dst.view.set]{fullShare} (dst.view.write (Elt F) fd (src.view.read (Elt F) fs) Finset.univ))
      ∗ (src.view.loc (c : Thread nD τ) ↦[src.view.set]{q} fs)) ⊢ (Rd m ρ).payload (cell c k) 0 0 := by
    rw [payload_dma]
    refine BIBase.Entails.trans ?_ hp
    iintro ⟨H, -⟩; iexact H
  iapply (wp_copy_pointsTo 𝒱₀ ER (Rd m ρ) (c : Thread nD τ) none (κ := κ) (d := (0 : Dev nD)) (r := 0) (q := q) (fs := fs) (fd := fd)
      (mem_duties m ρ c k ha) () k.amt hN (amount_dma m ρ c k 0) hp') $$ [Hs Hd Ht]
  · iclose
  iexact Hk

/-- A wait on a DMA semaphore: its payload, and the semaphore back at zero. -/
theorem wait_gen (c : Dev nD) (k : CK) (l : List (Dev nD × Option CK)) {sp sp' : Space} {s : Shape} {e : EltTy} {src : Memref sig .tc sp s e} {dst : Memref sig .tc sp' s e}
    {sem : DmaSem sig} {hsrc : src.view.WordExact} {hdst : dst.view.WordExact}
    {α : Type} {Q : α → sProp 𝕄} {kk : PUnit → Prog (TpuEff nD τ sig (Elt F) Λ₀ .tc) α}
    (hs : sem = k.ix) (ha : act c k = true) (hN : dst.view.dmaCredit = k.amt)
    (hl : (l.map Prod.snd).all (fun o => decide (k.lev < dLev o)) = true) :
    iprop(recs m ρ ∗ levAts L lv ∗ crd c k ∗ debt c l ∗ atp c k)
      ⊢ iprop(((debt c l ∗ semVal (cell c k) 0 ∗ pay m ρ c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hs
  iintro ⟨#HR, #HL, Hc, HO, Hat⟩ Hk
  ihave H := (recs_dma m ρ c k (ne_stg ha)) $$ HR
  icases H with ⟨%κ, #Hi, #Hr⟩
  unfold debt
  icases HO with ⟨%W, HO⟩
  iapply (wp_wait_rest_token 𝒱₀ ER (Rd m ρ) (c : Thread nD τ) none (κ := κ) (wpE_waitDma2_eq 𝒱₀ (c : Thread nD τ) none Set.univ) (Set.mem_univ _)
      (sm := .dma k.ix) (k' := dst.view.dmaCredit) () (O := tly l) (W := W) (R := 0) (m := 0) (T := ∅) (by rw [expect_dma m ρ c k ha, hN, Nat.zero_add])) $$ [Hc HO Hat]
  · isplit; · iexact Hi
    isplitl [Hc]; · rw [hN]; iexact Hc
    isplitl [HO]; · iexact HO
    isplitr [Hat]; swap; · iexact Hat
    iapply (mayWait_of c (.dma k.ix) k.lev (by show (ofN k.ix).lev = _; rw [ofN_ix]) l hl); iexact HL
  iintro ⟨HO, Hat, -, Hp⟩
  ihave Hp := (show _ ⊢ pay m ρ c k by rw [rest_dma m ρ c k ha]) $$ Hp
  ihave Hv := (cell_close ER (Rd m ρ) (Es := Set.univ) (Set.mem_univ κ) (fun h => h) (R := 1) (duties_later m ρ (cell c k))) $$ [Hat]
  · isplit; · iexact Hi
    iexact Hat
  imod Hv
  iapply Hk
  iframe
  iexists _; iexact HO

/-- A semaphore nothing raises is at zero. -/
theorem close_off (c : Dev nD) (k : CK) (hk : k ≠ stg) (h : act c k = false) : iprop(recs m ρ ∗ atp c k) ⊢ iprop(|={Set.univ}=> semVal (cell c k) 0 : sProp 𝕄) := by
  iintro ⟨#HR, Hat⟩
  ihave H := (recs_dma m ρ c k hk) $$ HR
  icases H with ⟨%κ, #Hi, #Hr⟩
  iapply (cell_close ER (Rd m ρ) (Es := Set.univ) (Set.mem_univ κ) (fun h => h) (R := 0) (fun r _ => duties_dma_off m ρ c k h r))
  isplit; · iexact Hi
  iexact Hat

/-- A barrier signal to device `c'`. -/
theorem signal_gen (c c' : Dev nD) (l : List (Dev nD × Option CK)) {n : Dev nD} (hn : n = c') (hne : c ≠ c') {k' : ℕ} (hk : k' = 1)
    {sem : Sem sig} (hs : sem = sig.barrier 0 rfl)
    {α : Type} {Q : α → sProp 𝕄} {kk : PUnit → Prog (TpuEff nD τ sig (Elt F) Λ₀ .tc) α} :
    iprop(recs m ρ ∗ debt c ((c', none) :: l) ∗ tokB c' c ∗ Hand c c')
      ⊢ iprop((debt c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) sem k') kk) Q) := by
  subst hn; subst hs; subst hk
  iintro ⟨#HR, HO, Ht, Hh⟩ Hk
  ihave H := (recs_bar m ρ n) $$ HR
  icases H with ⟨%κ, #Hi, #Hr⟩
  unfold debt
  icases HO with ⟨%W, HO⟩
  iapply (wp_signal 𝒱₀ ER (Rd m ρ) (c : Thread nD τ) none (κ := κ) (d := c) (r := 0) (dst := (n : Thread nD τ)) (sem := sig.barrier 0 rfl)
      (by rw [duties_bar]; exact Finset.mem_erase.mpr ⟨hne, Finset.mem_univ _⟩) (amount_bar m ρ n c) () (tly l) rfl) $$ [HO Ht Hh]
  · rw [payload_bar]
    iclose
  iintro HO
  iapply Hk
  iexists W; iexact HO

theorem erase_nx (c : Dev nD) : (Finset.univ.erase c : Finset (Dev nD)) = {nx c 0, nx c 1, nx c 2} := by revert c; decide
theorem nx_ne (c : Dev nD) : nx c 0 ≠ nx c 1 ∧ nx c 0 ≠ nx c 2 ∧ nx c 1 ≠ nx c 2 := by revert c; decide

/-- The barrier wait: every other device's places. -/
theorem barrier_gen (c : Dev nD) (l : List (Dev nD × Option CK)) {k' : ℕ} (hk : k' = 3) {sem : Sem sig} (hs : sem = sig.barrier 0 rfl)
    (hl : (l.map Prod.snd).all (fun o => decide (1 < dLev o)) = true)
    {α : Type} {Q : α → sProp 𝕄} {kk : PUnit → Prog (TpuEff nD τ sig (Elt F) Λ₀ .tc) α} :
    iprop(recs m ρ ∗ levAts L lv ∗ cred (tallyAt (bar c) () 3) ∗ debt c l ∗ atPos ER (bar c) 0 ∅ 0)
      ⊢ iprop(((debt c l ∗ semVal (bar c) 0 ∗ Hand (nx c 0) c ∗ Hand (nx c 1) c ∗ Hand (nx c 2) c) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem k') kk) Q) := by
  subst hs; subst hk
  iintro ⟨#HR, #HL, Hc, HO, Hat⟩ Hk
  ihave H := (recs_bar m ρ c) $$ HR
  icases H with ⟨%κ, #Hi, #Hr⟩
  unfold debt
  icases HO with ⟨%W, HO⟩
  iapply (wp_wait_rest_token 𝒱₀ ER (Rd m ρ) (c : Thread nD τ) none (κ := κ) (wpE_semWait_eq 𝒱₀ (c : Thread nD τ) none Set.univ) (Set.mem_univ _)
      (sm := .reg (sig.barrier 0 rfl)) (k' := 3) () (O := tly l) (W := W) (R := 0) (m := 0) (T := ∅) (by rw [expect_bar])) $$ [Hc HO Hat]
  · isplit; · iexact Hi
    isplitl [Hc]; · iexact Hc
    isplitl [HO]; · iexact HO
    isplitr [Hat]; swap; · iexact Hat
    iapply (mayWait_of c (.reg (sig.barrier 0 rfl)) 1 rfl l hl); iexact HL
  iintro ⟨HO, Hat, -, Hp⟩
  ihave Hp := (show _ ⊢ iprop(Hand (F := F) (nx c 0) c ∗ Hand (nx c 1) c ∗ Hand (nx c 2) c) by
    rw [Finset.sdiff_empty, duties_bar, erase_nx, bigSep_insert (by simp [nx_ne c]), bigSep_insert (by simp [nx_ne c]), bigSep_singleton]
    exact BIBase.Entails.rfl) $$ Hp
  ihave Hv := (cell_close ER (Rd m ρ) (Es := Set.univ) (Set.mem_univ κ) (fun h => h) (R := 1) (duties_later m ρ (bar c))) $$ [Hat]
  · isplit; · iexact Hi
    iexact Hat
  imod Hv
  iapply Hk
  iframe
  iexists _; iexact HO

end Cert.KernelIdeal.Pf

end
-- ==== Proof.Lands.lean ====
/-
# The landings

Each transfer's landing holds the contents the schedule promises: the elements it touches, and that the written
contents and the promised ones read the same there.
-/
module

public import proofs.«01_k».proof.Proof.Rules
public import Idealize.ShloMosaic.Lib.ValueLayout
public import Idealize.ShloMosaic.Lib.Pipeline.ValueKit.Geometry

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

theorem View.land {κ : Kind} {sp : Space} {s : Shape} {e : EltTy} (v : View sig κ sp s e) (fd G : v.ty.Contents (Elt F)) (w : s.Idx → Elt F e)
    (h : v.read (Elt F) G = w) : ∀ i ∈ v.set, v.write (Elt F) fd w Finset.univ i = G i := by
  intro i hi
  rw [← h, View.write_read_eq_piecewise]
  exact Finset.piecewise_eq_of_mem _ _ _ hi

/-- Written contents are the promised ones where both read the same. -/
theorem land_pt (c : Dev nD) {sp : Space} {s : Shape} {e : EltTy} (v : View sig .tc sp s e) (fd G : Buf (Elt F) (v.loc (c : Thread nD τ))) (w : s.Idx → Elt F e)
    (h : v.read (Elt F) G = w) (S : Finset v.ty.Idx) (hS : v.set = S) :
    (v.loc (c : Thread nD τ) ↦[v.set]{fullShare} (v.write (Elt F) fd w Finset.univ) : sProp 𝕄) ⊢ (v.loc (c : Thread nD τ) ↦[S]{fullShare} G) := by
  subst hS
  rw [pointsTo_congr (View.land v fd G w h)]

/-! ## Squeezed slices -/

theorem sq2 {a b : ℕ} (h : (⟨2, ![a, b]⟩ : Shape).numel = (⟨3, ![1, a, b]⟩ : Shape).numel) (x : (⟨2, ![a, b]⟩ : Shape).Idx) :
    Shape.reshapeEquiv h x = (ix3 (⟨0, Nat.one_pos⟩ : Fin 1) (x 0) (x 1) : (⟨3, ![1, a, b]⟩ : Shape).Idx) := by
  refine ((congrArg (Shape.reshapeEquiv h) (ValueIdx.eq_ix2 x)).trans (ValueIdx.reshapeEquiv_ix2_1ab h (x 0) (x 1))).trans ?_
  funext e; match e with | ⟨0, _⟩ => rfl | ⟨1, _⟩ => rfl | ⟨2, _⟩ => rfl

theorem sq3 {a b c : ℕ} (h : (⟨3, ![a, b, c]⟩ : Shape).numel = (⟨4, ![1, a, b, c]⟩ : Shape).numel) (x : (⟨3, ![a, b, c]⟩ : Shape).Idx) :
    Shape.reshapeEquiv h x = (ix4 (⟨0, Nat.one_pos⟩ : Fin 1) (x 0) (x 1) (x 2) : (⟨4, ![1, a, b, c]⟩ : Shape).Idx) := by
  refine ((congrArg (Shape.reshapeEquiv h) (ValueIdx.eq_ix3 x)).trans (ValueIdx.reshapeEquiv_ix3_1abc h (x 0) (x 1) (x 2))).trans ?_
  funext e; match e with | ⟨0, _⟩ => rfl | ⟨1, _⟩ => rfl | ⟨2, _⟩ => rfl | ⟨3, _⟩ => rfl

/-- The coordinates of an element of a slice with its leading axis dropped. -/
theorem emb_sq2 {A0 A1 A2 a b : ℕ} (off : Fin 3 → ℕ) (inb : ∀ e, off e + (![1, a, b] : Fin 3 → ℕ) e ≤ (⟨3, ![A0, A1, A2]⟩ : Shape).size e)
    (h : (⟨2, ![a, b]⟩ : Shape).numel = (⟨3, ![1, a, b]⟩ : Shape).numel) (x : (⟨2, ![a, b]⟩ : Shape).Idx) :
    (((Rect.unit (s := ⟨3, ![A0, A1, A2]⟩) off ![1, a, b] inb).emb (Shape.reshapeEquiv h x) 0 : Fin A0) : ℕ) = off 0
      ∧ (((Rect.unit (s := ⟨3, ![A0, A1, A2]⟩) off ![1, a, b] inb).emb (Shape.reshapeEquiv h x) 1 : Fin A1) : ℕ) = off 1 + (x 0 : Fin a)
      ∧ (((Rect.unit (s := ⟨3, ![A0, A1, A2]⟩) off ![1, a, b] inb).emb (Shape.reshapeEquiv h x) 2 : Fin A2) : ℕ) = off 2 + (x 1 : Fin b) := by
  rw [sq2]
  exact ⟨ValueKit.rect_emb_unit_val (s := ⟨3, ![A0, A1, A2]⟩) off ![1, a, b] inb (ix3 (⟨0, Nat.one_pos⟩ : Fin 1) (x 0) (x 1)) (0 : Fin 3), ValueKit.rect_emb_unit_val (s := ⟨3, ![A0, A1, A2]⟩) off ![1, a, b] inb (ix3 (⟨0, Nat.one_pos⟩ : Fin 1) (x 0) (x 1)) (1 : Fin 3), ValueKit.rect_emb_unit_val (s := ⟨3, ![A0, A1, A2]⟩) off ![1, a, b] inb (ix3 (⟨0, Nat.one_pos⟩ : Fin 1) (x 0) (x 1)) (2 : Fin 3)⟩

theorem emb_sq3 {A0 A1 A2 A3 a b c : ℕ} (off : Fin 4 → ℕ) (inb : ∀ e, off e + (![1, a, b, c] : Fin 4 → ℕ) e ≤ (⟨4, ![A0, A1, A2, A3]⟩ : Shape).size e)
    (h : (⟨3, ![a, b, c]⟩ : Shape).numel = (⟨4, ![1, a, b, c]⟩ : Shape).numel) (x : (⟨3, ![a, b, c]⟩ : Shape).Idx) :
    (((Rect.unit (s := ⟨4, ![A0, A1, A2, A3]⟩) off ![1, a, b, c] inb).emb (Shape.reshapeEquiv h x) 0 : Fin A0) : ℕ) = off 0
      ∧ (((Rect.unit (s := ⟨4, ![A0, A1, A2, A3]⟩) off ![1, a, b, c] inb).emb (Shape.reshapeEquiv h x) 1 : Fin A1) : ℕ) = off 1 + (x 0 : Fin a)
      ∧ (((Rect.unit (s := ⟨4, ![A0, A1, A2, A3]⟩) off ![1, a, b, c] inb).emb (Shape.reshapeEquiv h x) 2 : Fin A2) : ℕ) = off 2 + (x 1 : Fin b)
      ∧ (((Rect.unit (s := ⟨4, ![A0, A1, A2, A3]⟩) off ![1, a, b, c] inb).emb (Shape.reshapeEquiv h x) 3 : Fin A3) : ℕ) = off 3 + (x 2 : Fin c) := by
  rw [sq3]
  exact ⟨ValueKit.rect_emb_unit_val (s := ⟨4, ![A0, A1, A2, A3]⟩) off ![1, a, b, c] inb (ix4 (⟨0, Nat.one_pos⟩ : Fin 1) (x 0) (x 1) (x 2)) (0 : Fin 4), ValueKit.rect_emb_unit_val (s := ⟨4, ![A0, A1, A2, A3]⟩) off ![1, a, b, c] inb (ix4 (⟨0, Nat.one_pos⟩ : Fin 1) (x 0) (x 1) (x 2)) (1 : Fin 4), ValueKit.rect_emb_unit_val (s := ⟨4, ![A0, A1, A2, A3]⟩) off ![1, a, b, c] inb (ix4 (⟨0, Nat.one_pos⟩ : Fin 1) (x 0) (x 1) (x 2)) (2 : Fin 4),
    ValueKit.rect_emb_unit_val (s := ⟨4, ![A0, A1, A2, A3]⟩) off ![1, a, b, c] inb (ix4 (⟨0, Nat.one_pos⟩ : Fin 1) (x 0) (x 1) (x 2)) (3 : Fin 4)⟩

/-! ## The slices that move, by their offsets -/

abbrev q32S (off) (h) := (q32M.slice (Rect.unit (s := S4x32x1024) off S1x32x1024.size h) (fun _ => rfl)).squeeze S32x1024 squeezes_S1x32x1024_S32x1024
abbrev paS (off) (h) := (paM.slice (Rect.unit (s := S4x32x8x128) off S1x32x8x128.size h) (fun _ => rfl)).squeeze S32x8x128 squeezes_S1x32x8x128_S32x8x128
abbrev plS (off) (h) := (plM.slice (Rect.unit (s := S4x32x8) off S1x32x8.size h) (fun _ => rfl)).squeeze S32x8 squeezes_S1x32x8_S32x8
abbrev raS (off) (h) := (raM.slice (Rect.unit (s := S3x32x8x128) off S1x32x8x128.size h) (fun _ => rfl)).squeeze S32x8x128 squeezes_S1x32x8x128_S32x8x128
abbrev rlS (off) (h) := (rlM.slice (Rect.unit (s := S3x32x8) off S1x32x8.size h) (fun _ => rfl)).squeeze S32x8 squeezes_S1x32x8_S32x8
abbrev osS (off) (h) := osM.slice (Rect.unit (s := S1024x1024) off S256x1024.size h) (fun _ => rfl)
abbrev obS (off) (h) := (obM.slice (Rect.unit (s := S3x256x1024) off S1x256x1024.size h) (fun _ => rfl)).squeeze S256x1024 squeezes_S1x256x1024_S256x1024
abbrev outS (off) (h) := (outM.slice (Rect.unit (s := S1x1024x1024) off S1x256x1024.size h) (fun _ => rfl)).squeeze S256x1024 squeezes_S1x256x1024_S256x1024
abbrev ksS (off) (h) := (ksM.slice (Rect.unit (s := S2x1024x8x128) off S1x1024x8x128.size h) (fun _ => rfl)).squeeze S1024x8x128 squeezes_S1x1024x8x128_S1024x8x128
abbrev vsS (off) (h) := (vsM.slice (Rect.unit (s := S2x1024x8x128) off S1x1024x8x128.size h) (fun _ => rfl)).squeeze S1024x8x128 squeezes_S1x1024x8x128_S1024x8x128
abbrev kgS (off) (h) := (kM.slice (Rect.unit (s := S1x1024x32x128) off S1x1024x8x128.size h) (fun _ => rfl)).squeeze S1024x8x128 squeezes_S1x1024x8x128_S1024x8x128
abbrev vgS (off) (h) := (vM.slice (Rect.unit (s := S1x1024x32x128) off S1x1024x8x128.size h) (fun _ => rfl)).squeeze S1024x8x128 squeezes_S1x1024x8x128_S1024x8x128
abbrev khS (off) (h) := (kM.slice (Rect.unit (s := S1x1024x32x128) off S1x512x8x128.size h) (fun _ => rfl)).squeeze S512x8x128 squeezes_S1x512x8x128_S512x8x128
abbrev vhS (off) (h) := (vM.slice (Rect.unit (s := S1x1024x32x128) off S1x512x8x128.size h) (fun _ => rfl)).squeeze S512x8x128 squeezes_S1x512x8x128_S512x8x128
abbrev kbS (off) (h) := (kM.slice (Rect.unit (s := S1x1024x32x128) off S1x128x8x128.size h) (fun _ => rfl)).squeeze S128x8x128 squeezes_S1x128x8x128_S128x8x128
abbrev vbS (off) (h) := (vM.slice (Rect.unit (s := S1x1024x32x128) off S1x128x8x128.size h) (fun _ => rfl)).squeeze S128x8x128 squeezes_S1x128x8x128_S128x8x128
abbrev k0S (off) (h) := k0M.slice (Rect.unit (s := S1024x8x128) off S512x8x128.size h) (fun _ => rfl)
abbrev v0S (off) (h) := v0M.slice (Rect.unit (s := S1024x8x128) off S512x8x128.size h) (fun _ => rfl)

/-! ## Their elements -/

theorem ax3 {P : Fin 3 → Prop} (h0 : P 0) (h1 : P 1) (h2 : P 2) : ∀ a, P a := fun a => match a with | ⟨0, _⟩ => h0 | ⟨1, _⟩ => h1 | ⟨2, _⟩ => h2
theorem ax4 {P : Fin 4 → Prop} (h0 : P 0) (h1 : P 1) (h2 : P 2) (h3 : P 3) : ∀ a, P a := fun a => match a with | ⟨0, _⟩ => h0 | ⟨1, _⟩ => h1 | ⟨2, _⟩ => h2 | ⟨3, _⟩ => h3

theorem set_q32S (t : ℕ) (off h) (ho : off = ![t, 0, 0]) : (q32S off h).view.set = slotSet cc0_scratch6 (0 : Fin 3) 1 t := by
  subst ho
  rw [Memref.set_view_squeeze]
  refine (View.set_slice_whole _ _).trans ?_
  exact slot_rect cc0_scratch6 (0 : Fin 3) 1 t (by decide) _ _ _ (Nat.one_mul t).symm rfl (ax3 (fun h => absurd rfl h) (fun _ => ⟨rfl, rfl⟩) (fun _ => ⟨rfl, rfl⟩))
theorem set_paS (t : ℕ) (off h) (ho : off = ![t, 0, 0, 0]) : (paS off h).view.set = slotSet cc0_scratch7 (0 : Fin 4) 1 t := by
  subst ho
  rw [Memref.set_view_squeeze]
  refine (View.set_slice_whole _ _).trans ?_
  exact slot_rect cc0_scratch7 (0 : Fin 4) 1 t (by decide) _ _ _ (Nat.one_mul t).symm rfl (ax4 (fun h => absurd rfl h) (fun _ => ⟨rfl, rfl⟩) (fun _ => ⟨rfl, rfl⟩) (fun _ => ⟨rfl, rfl⟩))
theorem set_plS (t : ℕ) (off h) (ho : off = ![t, 0, 0]) : (plS off h).view.set = slotSet cc0_scratch8 (0 : Fin 3) 1 t := by
  subst ho
  rw [Memref.set_view_squeeze]
  refine (View.set_slice_whole _ _).trans ?_
  exact slot_rect cc0_scratch8 (0 : Fin 3) 1 t (by decide) _ _ _ (Nat.one_mul t).symm rfl (ax3 (fun h => absurd rfl h) (fun _ => ⟨rfl, rfl⟩) (fun _ => ⟨rfl, rfl⟩))
theorem set_raS (t : ℕ) (off h) (ho : off = ![t, 0, 0, 0]) : (raS off h).view.set = slotSet cc0_scratch9 (0 : Fin 4) 1 t := by
  subst ho
  rw [Memref.set_view_squeeze]
  refine (View.set_slice_whole _ _).trans ?_
  exact slot_rect cc0_scratch9 (0 : Fin 4) 1 t (by decide) _ _ _ (Nat.one_mul t).symm rfl (ax4 (fun h => absurd rfl h) (fun _ => ⟨rfl, rfl⟩) (fun _ => ⟨rfl, rfl⟩) (fun _ => ⟨rfl, rfl⟩))
theorem set_rlS (t : ℕ) (off h) (ho : off = ![t, 0, 0]) : (rlS off h).view.set = slotSet cc0_scratch10 (0 : Fin 3) 1 t := by
  subst ho
  rw [Memref.set_view_squeeze]
  refine (View.set_slice_whole _ _).trans ?_
  exact slot_rect cc0_scratch10 (0 : Fin 3) 1 t (by decide) _ _ _ (Nat.one_mul t).symm rfl (ax3 (fun h => absurd rfl h) (fun _ => ⟨rfl, rfl⟩) (fun _ => ⟨rfl, rfl⟩))
theorem set_obS (t : ℕ) (off h) (ho : off = ![t, 0, 0]) : (obS off h).view.set = slotSet cc0_scratch12 (0 : Fin 3) 1 t := by
  subst ho
  rw [Memref.set_view_squeeze]
  refine (View.set_slice_whole _ _).trans ?_
  exact slot_rect cc0_scratch12 (0 : Fin 3) 1 t (by decide) _ _ _ (Nat.one_mul t).symm rfl (ax3 (fun h => absurd rfl h) (fun _ => ⟨rfl, rfl⟩) (fun _ => ⟨rfl, rfl⟩))
theorem set_outS (t : ℕ) (off h) (ho : off = ![0, 256 * t, 0]) : (outS off h).view.set = slotSet cc0_stg3_0 (1 : Fin 3) 256 t := by
  subst ho
  rw [Memref.set_view_squeeze]
  refine (View.set_slice_whole _ _).trans ?_
  exact slot_rect cc0_stg3_0 (1 : Fin 3) 256 t (by decide) _ _ _ rfl rfl (ax3 (fun _ => ⟨rfl, rfl⟩) (fun h => absurd rfl h) (fun _ => ⟨rfl, rfl⟩))
theorem set_ksS (t : ℕ) (off h) (ho : off = ![t, 0, 0, 0]) : (ksS off h).view.set = slotSet cc0_scratch4 (0 : Fin 4) 1 t := by
  subst ho
  rw [Memref.set_view_squeeze]
  refine (View.set_slice_whole _ _).trans ?_
  exact slot_rect cc0_scratch4 (0 : Fin 4) 1 t (by decide) _ _ _ (Nat.one_mul t).symm rfl (ax4 (fun h => absurd rfl h) (fun _ => ⟨rfl, rfl⟩) (fun _ => ⟨rfl, rfl⟩) (fun _ => ⟨rfl, rfl⟩))
theorem set_vsS (t : ℕ) (off h) (ho : off = ![t, 0, 0, 0]) : (vsS off h).view.set = slotSet cc0_scratch5 (0 : Fin 4) 1 t := by
  subst ho
  rw [Memref.set_view_squeeze]
  refine (View.set_slice_whole _ _).trans ?_
  exact slot_rect cc0_scratch5 (0 : Fin 4) 1 t (by decide) _ _ _ (Nat.one_mul t).symm rfl (ax4 (fun h => absurd rfl h) (fun _ => ⟨rfl, rfl⟩) (fun _ => ⟨rfl, rfl⟩) (fun _ => ⟨rfl, rfl⟩))
theorem set_osS (t : ℕ) (off h) (ho : off = ![256 * t, 0]) : (osS off h).view.set = slotSet cc0_scratch11 (0 : Fin 2) 256 t := by
  subst ho
  skip
  refine (View.set_slice_whole _ _).trans ?_
  exact slot_rect cc0_scratch11 (0 : Fin 2) 256 t (by decide) _ _ _ rfl rfl (fun a => match a with | ⟨0, _⟩ => fun h => absurd rfl h | ⟨1, _⟩ => fun _ => ⟨rfl, rfl⟩)
theorem set_k0S (t : ℕ) (off h) (ho : off = ![512 * t, 0, 0]) : (k0S off h).view.set = slotSet cc0_scratch0 (0 : Fin 3) 512 t := by
  subst ho
  skip
  refine (View.set_slice_whole _ _).trans ?_
  exact slot_rect cc0_scratch0 (0 : Fin 3) 512 t (by decide) _ _ _ rfl rfl (ax3 (fun h => absurd rfl h) (fun _ => ⟨rfl, rfl⟩) (fun _ => ⟨rfl, rfl⟩))
theorem set_v0S (t : ℕ) (off h) (ho : off = ![512 * t, 0, 0]) : (v0S off h).view.set = slotSet cc0_scratch1 (0 : Fin 3) 512 t := by
  subst ho
  skip
  refine (View.set_slice_whole _ _).trans ?_
  exact slot_rect cc0_scratch1 (0 : Fin 3) 512 t (by decide) _ _ _ rfl rfl (ax3 (fun h => absurd rfl h) (fun _ => ⟨rfl, rfl⟩) (fun _ => ⟨rfl, rfl⟩))

/-! ## What is written is what is promised -/

theorem PRA_eq (c : Dev nD) (j : Fin 3) (i : S3x32x8x128.Idx) (i' : S4x32x8x128.Idx) (h0 : (i 0 : Fin 3).val = j.val) (h0' : (i' 0 : Fin 4).val = (nx c j.val).val)
    (h1 : (i 1 : Fin 32).val = (i' 1 : Fin 32).val) (h2 : (i 2 : Fin 8).val = (i' 2 : Fin 8).val) (h3 : (i 3 : Fin 128).val = (i' 3 : Fin 128).val) :
    PRA m ρ (nx c j.val) i = PA m ρ c i' := by
  show PA m ρ (pv (nx c j.val) (i 0 : Fin 3).val) (ix4 (nx c j.val) (i 1) (i 2) (i 3)) = _
  rw [h0, pv_nx]
  congr 1
  exact funext (ax4 (Fin.ext h0'.symm) (Fin.ext h1) (Fin.ext h2) (Fin.ext h3))

theorem PRL_eq (c : Dev nD) (j : Fin 3) (i : S3x32x8.Idx) (i' : S4x32x8.Idx) (h0 : (i 0 : Fin 3).val = j.val) (h0' : (i' 0 : Fin 4).val = (nx c j.val).val)
    (h1 : (i 1 : Fin 32).val = (i' 1 : Fin 32).val) (h2 : (i 2 : Fin 8).val = (i' 2 : Fin 8).val) :
    PRL m ρ (nx c j.val) i = PL m ρ c i' := by
  show PL m ρ (pv (nx c j.val) (i 0 : Fin 3).val) (ix3 (nx c j.val) (i 1) (i 2)) = _
  rw [h0, pv_nx]
  congr 1
  exact funext (ax3 (Fin.ext h0'.symm) (Fin.ext h1) (Fin.ext h2))

theorem OB_eq (c : Dev nD) (j : Fin 3) (i : S3x256x1024.Idx) (i' : S1024x1024.Idx) (h0 : (i 0 : Fin 3).val = j.val)
    (h1 : (i' 0 : Fin 1024).val = 256 * (nx c j.val).val + (i 1 : Fin 256).val) (h2 : (i 2 : Fin 1024).val = (i' 1 : Fin 1024).val) :
    OB m ρ (nx c j.val) i = OS m ρ c i' := by
  show OS m ρ (pv (nx c j.val) (i 0 : Fin 3).val) (ix2 ⟨256 * (nx c j.val).val + (i 1 : Fin 256).val, _⟩ (i 2)) = _
  rw [h0, pv_nx]
  congr 1
  funext a
  match a with
  | ⟨0, _⟩ => exact Fin.ext h1.symm
  | ⟨1, _⟩ => exact Fin.ext h2

theorem heads_eq (K : S1x1024x32x128.Idx → Elt F .bf16) (g : Fin 4) (i : S1024x8x128.Idx) (i' : S1x1024x32x128.Idx)
    (h1 : (i 0 : Fin 1024).val = (i' 1 : Fin 1024).val) (h2 : (i' 2 : Fin 32).val = 8 * g.val + (i 1 : Fin 8).val) (h3 : (i 2 : Fin 128).val = (i' 3 : Fin 128).val) :
    heads K g i = K i' := by
  unfold heads
  congr 1
  exact funext (ax4 (Subsingleton.elim (α := Fin 1) _ _) (Fin.ext h1) (Fin.ext h2.symm) (Fin.ext h3))

theorem heads128_eq (K : S1x1024x32x128.Idx → Elt F .bf16) (g : Fin 4) (i : S128x8x128.Idx) (i' : S1x1024x32x128.Idx)
    (h1 : (i 0 : Fin 128).val = (i' 1 : Fin 1024).val) (h2 : (i' 2 : Fin 32).val = 8 * g.val + (i 1 : Fin 8).val) (h3 : (i 2 : Fin 128).val = (i' 3 : Fin 128).val) :
    heads128 K g i = K i' := by
  unfold heads128
  congr 1
  exact funext (ax4 (Subsingleton.elim (α := Fin 1) _ _) (Fin.ext h1) (Fin.ext h2.symm) (Fin.ext h3))

theorem read_pa (c : Dev nD) (j : Fin 3) (off off' h h') (ho : off = ![(nx c j.val).val, 0, 0, 0]) (ho' : off' = ![j.val, 0, 0, 0]) :
    (raS off' h').view.read (Elt F) (PRA m ρ (nx c j.val)) = (paS off h).view.read (Elt F) (PA m ρ c) := by
  subst ho; subst ho'
  funext x
  obtain ⟨d0, d1, d2, d3⟩ := emb_sq3 (A0 := 3) (A1 := 32) (A2 := 8) (A3 := 128) (a := 32) (b := 8) (c := 128) ![j.val, 0, 0, 0] h' squeezes_S1x32x8x128_S32x8x128.numel_eq x
  obtain ⟨s0, s1, s2, s3⟩ := emb_sq3 (A0 := 4) (A1 := 32) (A2 := 8) (A3 := 128) (a := 32) (b := 8) (c := 128) ![(nx c j.val).val, 0, 0, 0] h squeezes_S1x32x8x128_S32x8x128.numel_eq x
  exact PRA_eq m ρ c j _ _ d0 s0 (d1.trans s1.symm) (d2.trans s2.symm) (d3.trans s3.symm)

theorem read_pl (c : Dev nD) (j : Fin 3) (off off' h h') (ho : off = ![(nx c j.val).val, 0, 0]) (ho' : off' = ![j.val, 0, 0]) :
    (rlS off' h').view.read (Elt F) (PRL m ρ (nx c j.val)) = (plS off h).view.read (Elt F) (PL m ρ c) := by
  subst ho; subst ho'
  funext x
  obtain ⟨d0, d1, d2⟩ := emb_sq2 (A0 := 3) (A1 := 32) (A2 := 8) (a := 32) (b := 8) ![j.val, 0, 0] h' squeezes_S1x32x8_S32x8.numel_eq x
  obtain ⟨s0, s1, s2⟩ := emb_sq2 (A0 := 4) (A1 := 32) (A2 := 8) (a := 32) (b := 8) ![(nx c j.val).val, 0, 0] h squeezes_S1x32x8_S32x8.numel_eq x
  exact PRL_eq m ρ c j _ _ d0 s0 (d1.trans s1.symm) (d2.trans s2.symm)

theorem read_o (c : Dev nD) (j : Fin 3) (off off' h h') (ho : off = ![256 * (nx c j.val).val, 0]) (ho' : off' = ![j.val, 0, 0]) :
    (obS off' h').view.read (Elt F) (OB m ρ (nx c j.val)) = (osS off h).view.read (Elt F) (OS m ρ c) := by
  subst ho; subst ho'
  funext x
  obtain ⟨d0, d1, d2⟩ := emb_sq2 (A0 := 3) (A1 := 256) (A2 := 1024) (a := 256) (b := 1024) ![j.val, 0, 0] h' squeezes_S1x256x1024_S256x1024.numel_eq x
  have s0 := ValueKit.rect_emb_unit_val (s := S1024x1024) ![256 * (nx c j.val).val, 0] S256x1024.size h x 0
  have s1 := ValueKit.rect_emb_unit_val (s := S1024x1024) ![256 * (nx c j.val).val, 0] S256x1024.size h x 1
  refine OB_eq m ρ c j _ _ d0 (s0.trans ?_) (d2.trans s1.symm)
  exact congrArg (256 * (nx c j.val).val + ·) ((Nat.zero_add _).symm.trans d1.symm)

theorem read_kg (c : Dev nD) (g : Fin 4) (off off' h h') (ho : off = ![0, 0, 8 * g.val, 0]) (ho' : off' = ![g.val % 2, 0, 0, 0]) :
    (ksS off' h').view.read (Elt F) (KS m c g) = (kgS off h).view.read (Elt F) (Kc m c) := by
  subst ho; subst ho'
  funext x
  obtain ⟨d0, d1, d2, d3⟩ := emb_sq3 (A0 := 2) (A1 := 1024) (A2 := 8) (A3 := 128) (a := 1024) (b := 8) (c := 128) ![g.val % 2, 0, 0, 0] h' squeezes_S1x1024x8x128_S1024x8x128.numel_eq x
  obtain ⟨s0, s1, s2, s3⟩ := emb_sq3 (A0 := 1) (A1 := 1024) (A2 := 32) (A3 := 128) (a := 1024) (b := 8) (c := 128) ![0, 0, 8 * g.val, 0] h squeezes_S1x1024x8x128_S1024x8x128.numel_eq x
  exact heads_eq (Kc m c) g _ _ (d1.trans s1.symm) (s2.trans (congrArg (8 * g.val + ·) ((Nat.zero_add _).symm.trans d2.symm))) (d3.trans s3.symm)

theorem read_vg (c : Dev nD) (g : Fin 4) (off off' h h') (ho : off = ![0, 0, 8 * g.val, 0]) (ho' : off' = ![g.val % 2, 0, 0, 0]) :
    (vsS off' h').view.read (Elt F) (VS m c g) = (vgS off h).view.read (Elt F) (Vc m c) := by
  subst ho; subst ho'
  funext x
  obtain ⟨d0, d1, d2, d3⟩ := emb_sq3 (A0 := 2) (A1 := 1024) (A2 := 8) (A3 := 128) (a := 1024) (b := 8) (c := 128) ![g.val % 2, 0, 0, 0] h' squeezes_S1x1024x8x128_S1024x8x128.numel_eq x
  obtain ⟨s0, s1, s2, s3⟩ := emb_sq3 (A0 := 1) (A1 := 1024) (A2 := 32) (A3 := 128) (a := 1024) (b := 8) (c := 128) ![0, 0, 8 * g.val, 0] h squeezes_S1x1024x8x128_S1024x8x128.numel_eq x
  exact heads_eq (Vc m c) g _ _ (d1.trans s1.symm) (s2.trans (congrArg (8 * g.val + ·) ((Nat.zero_add _).symm.trans d2.symm))) (d3.trans s3.symm)

/-- Eight heads of `K`, whole: what the copy into chunk 0's buffer reads. -/
theorem read_k0 (K : S1x1024x32x128.Idx → Elt F .bf16) (t : Fin 4) (off h) (ho : off = ![0, 0, 8 * t.val, 0]) :
    heads K t = (kgS off h).view.read (Elt F) K := by
  subst ho
  funext x
  obtain ⟨s0, s1, s2, s3⟩ := emb_sq3 (A0 := 1) (A1 := 1024) (A2 := 32) (A3 := 128) (a := 1024) (b := 8) (c := 128) ![0, 0, 8 * t.val, 0] h squeezes_S1x1024x8x128_S1024x8x128.numel_eq x
  exact heads_eq K t _ _ ((Nat.zero_add _).symm.trans s1.symm) s2 ((Nat.zero_add _).symm.trans s3.symm)

/-- Half a chunk: what the copies to the other devices read. -/
theorem read_kh (K : S1x1024x32x128.Idx → Elt F .bf16) (t : Fin 4) (s : Fin 2) (off off' h h') (ho : off = ![0, 512 * s.val, 8 * t.val, 0]) (ho' : off' = ![512 * s.val, 0, 0]) :
    (k0S off' h').view.read (Elt F) (heads K t) = (khS off h).view.read (Elt F) K := by
  subst ho; subst ho'
  funext x
  have d0 := ValueKit.rect_emb_unit_val (s := S1024x8x128) ![512 * s.val, 0, 0] S512x8x128.size h' x 0
  have d1 := ValueKit.rect_emb_unit_val (s := S1024x8x128) ![512 * s.val, 0, 0] S512x8x128.size h' x 1
  have d2 := ValueKit.rect_emb_unit_val (s := S1024x8x128) ![512 * s.val, 0, 0] S512x8x128.size h' x 2
  obtain ⟨s0, s1, s2, s3⟩ := emb_sq3 (A0 := 1) (A1 := 1024) (A2 := 32) (A3 := 128) (a := 512) (b := 8) (c := 128) ![0, 512 * s.val, 8 * t.val, 0] h squeezes_S1x512x8x128_S512x8x128.numel_eq x
  exact heads_eq K t _ _ (d0.trans s1.symm) (s2.trans (congrArg (8 * t.val + ·) ((Nat.zero_add _).symm.trans d1.symm))) (d2.trans s3.symm)

/-- The first 128 rows of eight heads. -/
theorem read_kb (K : S1x1024x32x128.Idx → Elt F .bf16) (t : Fin 4) (off h) (ho : off = ![0, 0, 8 * t.val, 0]) :
    heads128 K t = (kbS off h).view.read (Elt F) K := by
  subst ho
  funext x
  obtain ⟨s0, s1, s2, s3⟩ := emb_sq3 (A0 := 1) (A1 := 1024) (A2 := 32) (A3 := 128) (a := 128) (b := 8) (c := 128) ![0, 0, 8 * t.val, 0] h squeezes_S1x128x8x128_S128x8x128.numel_eq x
  exact heads128_eq K t _ _ ((Nat.zero_add _).symm.trans s1.symm) s2 ((Nat.zero_add _).symm.trans s3.symm)

end Cert.KernelIdeal.Pf

end
-- ==== Proof.Sends.lean ====
/-
# The transfers and copies of the kernel, one lemma per kind
-/
module

public import proofs.«01_k».proof.Proof.Lands

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-- A step of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Anything may be dropped. -/
theorem to_emp (P : sProp 𝕄) : P ⊢ iprop(emp) := by
  iintro -
  iempintro

/-- A buffer held whole at some share. -/
abbrev anyQ (c : Dev nD) (b : Ref sig .tc) (f : b.ty.Contents (Elt F)) : sProp 𝕄 := iprop(∃ q, pt c b Finset.univ q f)

/-- A share of some elements of it, and still some share of the whole. -/
theorem anyQ_take (c : Dev nD) (b : Ref sig .tc) (f : b.ty.Contents (Elt F)) (S : Finset b.ty.Idx) :
    anyQ c b f ⊢ iprop((∃ q, pt c b S q f) ∗ anyQ c b f) := by
  iintro ⟨%q, H⟩
  ihave H := (show pt c b Finset.univ q f ⊢ iprop(pt c b Finset.univ q.left f ∗ pt c b Finset.univ q.right f) from
    (pointsTo_share (PosShare.mem_left_op_right q)).mp) $$ H
  icases H with ⟨H1, H2⟩
  isplitl [H1]
  · iexists q.left
    ihave H := (show pt c b Finset.univ q.left f ⊢ _ from (pointsTo_split_subset (Finset.subset_univ S)).mp) $$ H1
    icases H with ⟨H, -⟩
    iexact H
  · iexists q.right; iexact H2

/-- Device `c`'s global query rows to the device `j + 1` places on. -/
theorem send_q {α : Type} {Q : α → sProp 𝕄} {kk : PUnit → Prog (TpuEff nD τ sig (Elt F) Λ₀ .tc) α} (c : Dev nD) (j : Fin 3) (l : List (Dev nD × Option CK)) {n : Dev nD} (hn : n = nx c j.val) {off h off' h'} (ho : off = ![c.val, 0, 0]) (ho' : off' = ![c.val, 0, 0])
    {hsc} {sS sem : SemLoc sig} {hsrc hdst} {hsem} (hs : sS = .dma (qs j).ix) (hs' : sem = .dma (qr j).ix) :
    iprop(recs m ρ ∗ pt c cc0_scratch6 (slotSet cc0_scratch6 (0 : Fin 3) 1 c.val) (shareR j) (Q32 m ρ) ∗ anyPt (nx c j.val) cc0_scratch6 (slotSet cc0_scratch6 (0 : Fin 3) 1 c.val) ∗ debt c ((nx c j.val, some (qr j)) :: l) ∗ tok c (qs j) ∗ tok (nx c j.val) (qr j))
      ⊢ iprop(((crd c (qs j) ∗ debt c l) -∗ WP c (kk ⟨⟩) Q)
          -∗ WP c (.op (.enqueueDma (q32S off h) (.remote (Dev.tc n : Thread nD τ) (q32S off' h') sS hsc) sem hsrc hdst hsem) kk) Q) := by
  subst hn; subst hs; subst hs'
  have eS : (q32S off h).view.set = slotSet cc0_scratch6 (0 : Fin 3) 1 c.val := set_q32S _ off h ho
  have eD : (q32S off' h').view.set = slotSet cc0_scratch6 (0 : Fin 3) 1 c.val := set_q32S _ off' h' ho'
  iintro ⟨#HR, Hs, ⟨%fd, Hd⟩, HO, Ht, Ht'⟩
  iapply (send_gen m ρ c (nx c j.val) (qs j) (qr j) l rfl (src := q32S off h) (dst := q32S off' h') (q := shareR j) (fs := Q32 m ρ) (fd := fd)
    rfl rfl rfl rfl rfl rfl (by rw [eS]; exact BIBase.Entails.rfl) (by
      refine land_pt (nx c j.val) (q32S off' h').view fd (Q32 m ρ) _ (by subst ho; subst ho'; rfl) _ ?_
      rw [pv_nx]; exact eD)) $$ [Hs Hd HO Ht Ht']
  rw [eS, eD]
  iclose

/-- The weighted values worked out for the device `j + 1` places on. -/
theorem send_pa {α : Type} {Q : α → sProp 𝕄} {kk : PUnit → Prog (TpuEff nD τ sig (Elt F) Λ₀ .tc) α} (c : Dev nD) (j : Fin 3) (l : List (Dev nD × Option CK)) {n : Dev nD} (hn : n = nx c j.val) {off h off' h'} (ho : off = ![(nx c j.val).val, 0, 0, 0]) (ho' : off' = ![j.val, 0, 0, 0])
    {hsc} {sS sem : SemLoc sig} {hsrc hdst} {hsem} (hs : sS = .dma (pas j).ix) (hs' : sem = .dma (par j).ix) :
    iprop(recs m ρ ∗ pt c cc0_scratch7 (slotSet cc0_scratch7 (0 : Fin 4) 1 (nx c j.val).val) (fullShare.right) (PA m ρ c) ∗ anyPt (nx c j.val) cc0_scratch9 (slotSet cc0_scratch9 (0 : Fin 4) 1 j.val) ∗ debt c ((nx c j.val, some (par j)) :: l) ∗ tok c (pas j) ∗ tok (nx c j.val) (par j))
      ⊢ iprop(((crd c (pas j) ∗ debt c l) -∗ WP c (kk ⟨⟩) Q)
          -∗ WP c (.op (.enqueueDma (paS off h) (.remote (Dev.tc n : Thread nD τ) (raS off' h') sS hsc) sem hsrc hdst hsem) kk) Q) := by
  subst hn; subst hs; subst hs'
  have eS : (paS off h).view.set = slotSet cc0_scratch7 (0 : Fin 4) 1 (nx c j.val).val := set_paS _ off h ho
  have eD : (raS off' h').view.set = slotSet cc0_scratch9 (0 : Fin 4) 1 j.val := set_raS _ off' h' ho'
  iintro ⟨#HR, Hs, ⟨%fd, Hd⟩, HO, Ht, Ht'⟩
  iapply (send_gen m ρ c (nx c j.val) (pas j) (par j) l rfl (src := paS off h) (dst := raS off' h') (q := fullShare.right) (fs := PA m ρ c) (fd := fd)
    rfl rfl rfl rfl rfl rfl (by rw [eS]; exact BIBase.Entails.rfl) (by
      refine land_pt (nx c j.val) (raS off' h').view fd (PRA m ρ (nx c j.val)) _ (read_pa m ρ c j off off' h h' ho ho') _ ?_
      exact eD)) $$ [Hs Hd HO Ht Ht']
  rw [eS, eD]
  iclose

/-- The row sums worked out for the device `j + 1` places on. -/
theorem send_pl {α : Type} {Q : α → sProp 𝕄} {kk : PUnit → Prog (TpuEff nD τ sig (Elt F) Λ₀ .tc) α} (c : Dev nD) (j : Fin 3) (l : List (Dev nD × Option CK)) {n : Dev nD} (hn : n = nx c j.val) {off h off' h'} (ho : off = ![(nx c j.val).val, 0, 0]) (ho' : off' = ![j.val, 0, 0])
    {hsc} {sS sem : SemLoc sig} {hsrc hdst} {hsem} (hs : sS = .dma (pls j).ix) (hs' : sem = .dma (plr j).ix) :
    iprop(recs m ρ ∗ pt c cc0_scratch8 (slotSet cc0_scratch8 (0 : Fin 3) 1 (nx c j.val).val) (fullShare.right) (PL m ρ c) ∗ anyPt (nx c j.val) cc0_scratch10 (slotSet cc0_scratch10 (0 : Fin 3) 1 j.val) ∗ debt c ((nx c j.val, some (plr j)) :: l) ∗ tok c (pls j) ∗ tok (nx c j.val) (plr j))
      ⊢ iprop(((crd c (pls j) ∗ debt c l) -∗ WP c (kk ⟨⟩) Q)
          -∗ WP c (.op (.enqueueDma (plS off h) (.remote (Dev.tc n : Thread nD τ) (rlS off' h') sS hsc) sem hsrc hdst hsem) kk) Q) := by
  subst hn; subst hs; subst hs'
  have eS : (plS off h).view.set = slotSet cc0_scratch8 (0 : Fin 3) 1 (nx c j.val).val := set_plS _ off h ho
  have eD : (rlS off' h').view.set = slotSet cc0_scratch10 (0 : Fin 3) 1 j.val := set_rlS _ off' h' ho'
  iintro ⟨#HR, Hs, ⟨%fd, Hd⟩, HO, Ht, Ht'⟩
  iapply (send_gen m ρ c (nx c j.val) (pls j) (plr j) l rfl (src := plS off h) (dst := rlS off' h') (q := fullShare.right) (fs := PL m ρ c) (fd := fd)
    rfl rfl rfl rfl rfl rfl (by rw [eS]; exact BIBase.Entails.rfl) (by
      refine land_pt (nx c j.val) (rlS off' h').view fd (PRL m ρ (nx c j.val)) _ (read_pl m ρ c j off off' h h' ho ho') _ ?_
      exact eD)) $$ [Hs Hd HO Ht Ht']
  rw [eS, eD]
  iclose

/-- The share of the result's rows that the device `j + 1` places on sums. -/
theorem send_o {α : Type} {Q : α → sProp 𝕄} {kk : PUnit → Prog (TpuEff nD τ sig (Elt F) Λ₀ .tc) α} (c : Dev nD) (j : Fin 3) (l : List (Dev nD × Option CK)) {n : Dev nD} (hn : n = nx c j.val) {off h off' h'} (ho : off = ![256 * (nx c j.val).val, 0]) (ho' : off' = ![j.val, 0, 0])
    {hsc} {sS sem : SemLoc sig} {hsrc hdst} {hsem} (hs : sS = .dma (os j).ix) (hs' : sem = .dma (orv j).ix) :
    iprop(recs m ρ ∗ pt c cc0_scratch11 (slotSet cc0_scratch11 (0 : Fin 2) 256 (nx c j.val).val) (fullShare.right) (OS m ρ c) ∗ anyPt (nx c j.val) cc0_scratch12 (slotSet cc0_scratch12 (0 : Fin 3) 1 j.val) ∗ debt c ((nx c j.val, some (orv j)) :: l) ∗ tok c (os j) ∗ tok (nx c j.val) (orv j))
      ⊢ iprop(((crd c (os j) ∗ debt c l) -∗ WP c (kk ⟨⟩) Q)
          -∗ WP c (.op (.enqueueDma (osS off h) (.remote (Dev.tc n : Thread nD τ) (obS off' h') sS hsc) sem hsrc hdst hsem) kk) Q) := by
  subst hn; subst hs; subst hs'
  have eS : (osS off h).view.set = slotSet cc0_scratch11 (0 : Fin 2) 256 (nx c j.val).val := set_osS _ off h ho
  have eD : (obS off' h').view.set = slotSet cc0_scratch12 (0 : Fin 3) 1 j.val := set_obS _ off' h' ho'
  iintro ⟨#HR, Hs, ⟨%fd, Hd⟩, HO, Ht, Ht'⟩
  iapply (send_gen m ρ c (nx c j.val) (os j) (orv j) l rfl (src := osS off h) (dst := obS off' h') (q := fullShare.right) (fs := OS m ρ c) (fd := fd)
    rfl rfl rfl rfl rfl rfl (by rw [eS]; exact BIBase.Entails.rfl) (by
      refine land_pt (nx c j.val) (obS off' h').view fd (OB m ρ (nx c j.val)) _ (read_o m ρ c j off off' h h' ho ho') _ ?_
      exact eD)) $$ [Hs Hd HO Ht Ht']
  rw [eS, eD]
  iclose

/-- The summed quarter to the device `j + 1` places on. -/
theorem send_ag {α : Type} {Q : α → sProp 𝕄} {kk : PUnit → Prog (TpuEff nD τ sig (Elt F) Λ₀ .tc) α} (c : Dev nD) (j : Fin 3) (l : List (Dev nD × Option CK)) {n : Dev nD} (hn : n = nx c j.val) {off h off' h'} (ho : off = ![0, 256 * c.val, 0]) (ho' : off' = ![0, 256 * c.val, 0])
    {hsc} {sS sem : SemLoc sig} {hsrc hdst} {hsem} (hs : sS = .dma (ags j).ix) (hs' : sem = .dma (agr j).ix) :
    iprop(recs m ρ ∗ pt c cc0_stg3_0 (slotSet cc0_stg3_0 (1 : Fin 3) 256 c.val) (shareR j) (OUT m ρ) ∗ anyPt (nx c j.val) cc0_stg3_0 (slotSet cc0_stg3_0 (1 : Fin 3) 256 c.val) ∗ debt c ((nx c j.val, some (agr j)) :: l) ∗ tok c (ags j) ∗ tok (nx c j.val) (agr j))
      ⊢ iprop(((crd c (ags j) ∗ debt c l) -∗ WP c (kk ⟨⟩) Q)
          -∗ WP c (.op (.enqueueDma (outS off h) (.remote (Dev.tc n : Thread nD τ) (outS off' h') sS hsc) sem hsrc hdst hsem) kk) Q) := by
  subst hn; subst hs; subst hs'
  have eS : (outS off h).view.set = slotSet cc0_stg3_0 (1 : Fin 3) 256 c.val := set_outS _ off h ho
  have eD : (outS off' h').view.set = slotSet cc0_stg3_0 (1 : Fin 3) 256 c.val := set_outS _ off' h' ho'
  iintro ⟨#HR, Hs, ⟨%fd, Hd⟩, HO, Ht, Ht'⟩
  iapply (send_gen m ρ c (nx c j.val) (ags j) (agr j) l rfl (src := outS off h) (dst := outS off' h') (q := shareR j) (fs := OUT m ρ) (fd := fd)
    rfl rfl rfl rfl rfl rfl (by rw [eS]; exact BIBase.Entails.rfl) (by
      refine land_pt (nx c j.val) (outS off' h').view fd (OUT m ρ) _ (by subst ho; subst ho'; rfl) _ ?_
      rw [pv_nx]; exact eD)) $$ [Hs Hd HO Ht Ht']
  rw [eS, eD]
  iclose

/-- Half a chunk of device 0's keys to device `t`, which owns the heads. -/
theorem send_k {α : Type} {Q : α → sProp 𝕄} {kk : PUnit → Prog (TpuEff nD τ sig (Elt F) Λ₀ .tc) α} (c : Dev nD) (hc : c = (0 : Dev nD)) (t : Dev nD) (s : Fin 2) (i : Fin 6) (ht : t.val ≠ 0) (l : List (Dev nD × Option CK)) {n : Dev nD} (hn : n = t) {off h off' h'} (ho : off = ![0, 512 * s.val, 8 * t.val, 0]) (ho' : off' = ![512 * s.val, 0, 0])
    {hsc} {sS sem : SemLoc sig} {hsrc hdst} {hsem} (hs : sS = .dma (ks i).ix) (hs' : sem = .dma (kr s).ix) :
    iprop(recs m ρ ∗ anyQ c main_arg2 (Kc m c) ∗ anyPt t cc0_scratch0 (slotSet cc0_scratch0 (0 : Fin 3) 512 s.val) ∗ debt c ((t, some (kr s)) :: l) ∗ tok c (ks i) ∗ tok t (kr s))
      ⊢ iprop(((crd c (ks i) ∗ debt c l ∗ anyQ c main_arg2 (Kc m c)) -∗ WP c (kk ⟨⟩) Q)
          -∗ WP c (.op (.enqueueDma (khS off h) (.remote (Dev.tc n : Thread nD τ) (k0S off' h') sS hsc) sem hsrc hdst hsem) kk) Q) := by
  subst hn; subst hs; subst hs'; subst hc
  have eD : (k0S off' h').view.set = slotSet cc0_scratch0 (0 : Fin 3) 512 s.val := set_k0S _ off' h' ho'
  iintro ⟨#HR, Hs, ⟨%fd, Hd⟩, HO, Ht, Ht'⟩ Hk
  ihave Hs := (anyQ_take _ main_arg2 _ (khS off h).view.set) $$ Hs
  icases Hs with ⟨⟨%q, Hs⟩, HK⟩
  iapply (send_gen m ρ _ n (ks i) (kr s) l rfl (src := khS off h) (dst := k0S off' h') (q := q) (fs := Kc m (0 : Dev nD)) (fd := fd)
    rfl rfl rfl (by simp only [act, Bool.not_eq_true', beq_eq_false_iff_ne]; exact ht) rfl rfl (to_emp _) (by
      refine land_pt n (k0S off' h').view fd (K0 m n) _ (read_kh (Kc m (0 : Dev nD)) n s off off' h h' ho ho') _ eD)) $$ [Hs Hd HO Ht Ht']
  · rw [eD]
    iclose
  iintro ⟨H1, H2⟩
  iapply Hk
  iclose

/-- Half a chunk of device 0's values to device `t`, which owns the heads. -/
theorem send_v {α : Type} {Q : α → sProp 𝕄} {kk : PUnit → Prog (TpuEff nD τ sig (Elt F) Λ₀ .tc) α} (c : Dev nD) (hc : c = (0 : Dev nD)) (t : Dev nD) (s : Fin 2) (i : Fin 6) (ht : t.val ≠ 0) (l : List (Dev nD × Option CK)) {n : Dev nD} (hn : n = t) {off h off' h'} (ho : off = ![0, 512 * s.val, 8 * t.val, 0]) (ho' : off' = ![512 * s.val, 0, 0])
    {hsc} {sS sem : SemLoc sig} {hsrc hdst} {hsem} (hs : sS = .dma (vs i).ix) (hs' : sem = .dma (vr s).ix) :
    iprop(recs m ρ ∗ anyQ c main_arg3 (Vc m c) ∗ anyPt t cc0_scratch1 (slotSet cc0_scratch1 (0 : Fin 3) 512 s.val) ∗ debt c ((t, some (vr s)) :: l) ∗ tok c (vs i) ∗ tok t (vr s))
      ⊢ iprop(((crd c (vs i) ∗ debt c l ∗ anyQ c main_arg3 (Vc m c)) -∗ WP c (kk ⟨⟩) Q)
          -∗ WP c (.op (.enqueueDma (vhS off h) (.remote (Dev.tc n : Thread nD τ) (v0S off' h') sS hsc) sem hsrc hdst hsem) kk) Q) := by
  subst hn; subst hs; subst hs'; subst hc
  have eD : (v0S off' h').view.set = slotSet cc0_scratch1 (0 : Fin 3) 512 s.val := set_v0S _ off' h' ho'
  iintro ⟨#HR, Hs, ⟨%fd, Hd⟩, HO, Ht, Ht'⟩ Hk
  ihave Hs := (anyQ_take _ main_arg3 _ (vhS off h).view.set) $$ Hs
  icases Hs with ⟨⟨%q, Hs⟩, HK⟩
  iapply (send_gen m ρ _ n (vs i) (vr s) l rfl (src := vhS off h) (dst := v0S off' h') (q := q) (fs := Vc m (0 : Dev nD)) (fd := fd)
    rfl rfl rfl (by simp only [act, Bool.not_eq_true', beq_eq_false_iff_ne]; exact ht) rfl rfl (to_emp _) (by
      refine land_pt n (v0S off' h').view fd (V0 m n) _ (read_kh (Vc m (0 : Dev nD)) n s off off' h h' ho ho') _ eD)) $$ [Hs Hd HO Ht Ht']
  · rw [eD]
    iclose
  iintro ⟨H1, H2⟩
  iapply Hk
  iclose

/-- The first 128 rows of device 1's keys to device `t`. -/
theorem send_kb {α : Type} {Q : α → sProp 𝕄} {kk : PUnit → Prog (TpuEff nD τ sig (Elt F) Λ₀ .tc) α} (c : Dev nD) (hc : c = (1 : Dev nD)) (t : Dev nD) (j : Fin 3) (ht : t.val ≠ 1) (l : List (Dev nD × Option CK)) {n : Dev nD} (hn : n = t) {off h} (ho : off = ![0, 0, 8 * t.val, 0])
    {hsc} {sS sem : SemLoc sig} {hsrc hdst} {hsem} (hs : sS = .dma (bks j).ix) (hs' : sem = .dma (bkr).ix) :
    iprop(recs m ρ ∗ anyQ c main_arg2 (Kc m c) ∗ anyPt t cc0_scratch2 (Finset.univ) ∗ debt c ((t, some (bkr)) :: l) ∗ tok c (bks j) ∗ tok t (bkr))
      ⊢ iprop(((crd c (bks j) ∗ debt c l ∗ anyQ c main_arg2 (Kc m c)) -∗ WP c (kk ⟨⟩) Q)
          -∗ WP c (.op (.enqueueDma (kbS off h) (.remote (Dev.tc n : Thread nD τ) (kbM) sS hsc) sem hsrc hdst hsem) kk) Q) := by
  subst hn; subst hs; subst hs'; subst hc
  have eD : (kbM).view.set = Finset.univ := View.set_whole _
  iintro ⟨#HR, Hs, ⟨%fd, Hd⟩, HO, Ht, Ht'⟩ Hk
  ihave Hs := (anyQ_take _ main_arg2 _ (kbS off h).view.set) $$ Hs
  icases Hs with ⟨⟨%q, Hs⟩, HK⟩
  iapply (send_gen m ρ _ n (bks j) (bkr) l rfl (src := kbS off h) (dst := kbM) (q := q) (fs := Kc m (1 : Dev nD)) (fd := fd)
    rfl rfl rfl (by simp only [act, Bool.not_eq_true', beq_eq_false_iff_ne]; exact ht) rfl rfl (to_emp _) (by
      refine land_pt n (kbM).view fd (KB m n) _ ((View.read_whole _ _).trans (read_kb (Kc m (1 : Dev nD)) n off h ho)) _ eD)) $$ [Hs Hd HO Ht Ht']
  · rw [eD]
    iclose
  iintro ⟨H1, H2⟩
  iapply Hk
  iclose

/-- The first 128 rows of device 1's values to device `t`. -/
theorem send_vb {α : Type} {Q : α → sProp 𝕄} {kk : PUnit → Prog (TpuEff nD τ sig (Elt F) Λ₀ .tc) α} (c : Dev nD) (hc : c = (1 : Dev nD)) (t : Dev nD) (j : Fin 3) (ht : t.val ≠ 1) (l : List (Dev nD × Option CK)) {n : Dev nD} (hn : n = t) {off h} (ho : off = ![0, 0, 8 * t.val, 0])
    {hsc} {sS sem : SemLoc sig} {hsrc hdst} {hsem} (hs : sS = .dma (bvs j).ix) (hs' : sem = .dma (bvr).ix) :
    iprop(recs m ρ ∗ anyQ c main_arg3 (Vc m c) ∗ anyPt t cc0_scratch3 (Finset.univ) ∗ debt c ((t, some (bvr)) :: l) ∗ tok c (bvs j) ∗ tok t (bvr))
      ⊢ iprop(((crd c (bvs j) ∗ debt c l ∗ anyQ c main_arg3 (Vc m c)) -∗ WP c (kk ⟨⟩) Q)
          -∗ WP c (.op (.enqueueDma (vbS off h) (.remote (Dev.tc n : Thread nD τ) (vbM) sS hsc) sem hsrc hdst hsem) kk) Q) := by
  subst hn; subst hs; subst hs'; subst hc
  have eD : (vbM).view.set = Finset.univ := View.set_whole _
  iintro ⟨#HR, Hs, ⟨%fd, Hd⟩, HO, Ht, Ht'⟩ Hk
  ihave Hs := (anyQ_take _ main_arg3 _ (vbS off h).view.set) $$ Hs
  icases Hs with ⟨⟨%q, Hs⟩, HK⟩
  iapply (send_gen m ρ _ n (bvs j) (bvr) l rfl (src := vbS off h) (dst := vbM) (q := q) (fs := Vc m (1 : Dev nD)) (fd := fd)
    rfl rfl rfl (by simp only [act, Bool.not_eq_true', beq_eq_false_iff_ne]; exact ht) rfl rfl (to_emp _) (by
      refine land_pt n (vbM).view fd (VB m n) _ ((View.read_whole _ _).trans (read_kb (Vc m (1 : Dev nD)) n off h ho)) _ eD)) $$ [Hs Hd HO Ht Ht']
  · rw [eD]
    iclose
  iintro ⟨H1, H2⟩
  iapply Hk
  iclose

/-- A group of eight heads of the keys into its staging slot. -/
theorem copy_kg {α : Type} {Q : α → sProp 𝕄} {kk : PUnit → Prog (TpuEff nD τ sig (Elt F) Λ₀ .tc) α} (c : Dev nD)  (g : Fin 4) {off h off' h'} (ho : off = ![0, 0, 8 * g.val, 0]) (ho' : off' = ![g.val % 2, 0, 0, 0]) {sem : SemLoc sig} {hsrc hdst} {hsem} (hs : sem = .dma (kg g).ix) :
    iprop(recs m ρ ∗ anyQ c main_arg2 (Kc m c) ∗ anyPt c cc0_scratch4 (slotSet cc0_scratch4 (0 : Fin 4) 1 (g.val % 2)) ∗ tok c (kg g))
      ⊢ iprop(((crd c (kg g) ∗ anyQ c main_arg2 (Kc m c)) -∗ WP c (kk ⟨⟩) Q)
          -∗ WP c (.op (.enqueueDma (kgS off h) (.here (ksS off' h')) sem hsrc hdst hsem) kk) Q) := by
  subst hs
  have eD : (ksS off' h').view.set = slotSet cc0_scratch4 (0 : Fin 4) 1 (g.val % 2) := set_ksS _ off' h' ho'
  iintro ⟨#HR, Hs, ⟨%fd, Hd⟩, Ht⟩ Hk
  ihave Hs := (anyQ_take _ main_arg2 _ (kgS off h).view.set) $$ Hs
  icases Hs with ⟨⟨%q, Hs⟩, HK⟩
  iapply (copy_gen m ρ _ (kg g) (src := kgS off h) (dst := ksS off' h') (q := q) (fs := Kc m c) (fd := fd) rfl rfl rfl (by
      refine land_pt _ (ksS off' h').view fd (KS m c g) _ (read_kg m c g off off' h h' ho ho') _ eD)) $$ [Hs Hd Ht]
  · rw [eD]
    iclose
  iintro H1
  iapply Hk
  iclose

/-- A group of eight heads of the values into its staging slot. -/
theorem copy_vg {α : Type} {Q : α → sProp 𝕄} {kk : PUnit → Prog (TpuEff nD τ sig (Elt F) Λ₀ .tc) α} (c : Dev nD)  (g : Fin 4) {off h off' h'} (ho : off = ![0, 0, 8 * g.val, 0]) (ho' : off' = ![g.val % 2, 0, 0, 0]) {sem : SemLoc sig} {hsrc hdst} {hsem} (hs : sem = .dma (vg g).ix) :
    iprop(recs m ρ ∗ anyQ c main_arg3 (Vc m c) ∗ anyPt c cc0_scratch5 (slotSet cc0_scratch5 (0 : Fin 4) 1 (g.val % 2)) ∗ tok c (vg g))
      ⊢ iprop(((crd c (vg g) ∗ anyQ c main_arg3 (Vc m c)) -∗ WP c (kk ⟨⟩) Q)
          -∗ WP c (.op (.enqueueDma (vgS off h) (.here (vsS off' h')) sem hsrc hdst hsem) kk) Q) := by
  subst hs
  have eD : (vsS off' h').view.set = slotSet cc0_scratch5 (0 : Fin 4) 1 (g.val % 2) := set_vsS _ off' h' ho'
  iintro ⟨#HR, Hs, ⟨%fd, Hd⟩, Ht⟩ Hk
  ihave Hs := (anyQ_take _ main_arg3 _ (vgS off h).view.set) $$ Hs
  icases Hs with ⟨⟨%q, Hs⟩, HK⟩
  iapply (copy_gen m ρ _ (vg g) (src := vgS off h) (dst := vsS off' h') (q := q) (fs := Vc m c) (fd := fd) rfl rfl rfl (by
      refine land_pt _ (vsS off' h').view fd (VS m c g) _ (read_vg m c g off off' h h' ho ho') _ eD)) $$ [Hs Hd Ht]
  · rw [eD]
    iclose
  iintro H1
  iapply Hk
  iclose

/-- Device 0's own heads of its keys into chunk 0's buffer. -/
theorem copy_k0 {α : Type} {Q : α → sProp 𝕄} {kk : PUnit → Prog (TpuEff nD τ sig (Elt F) Λ₀ .tc) α} (c : Dev nD) (hc : c = (0 : Dev nD))  {off h} (ho : off = ![0, 0, 0, 0]) {sem : SemLoc sig} {hsrc hdst} {hsem} (hs : sem = .dma (cp 0).ix) :
    iprop(recs m ρ ∗ anyQ c main_arg2 (Kc m c) ∗ anyPt c cc0_scratch0 (Finset.univ) ∗ tok c (cp 0))
      ⊢ iprop(((crd c (cp 0) ∗ anyQ c main_arg2 (Kc m c)) -∗ WP c (kk ⟨⟩) Q)
          -∗ WP c (.op (.enqueueDma (kgS off h) (.here (k0M)) sem hsrc hdst hsem) kk) Q) := by
  subst hs; subst hc
  have eD : (k0M).view.set = Finset.univ := View.set_whole _
  iintro ⟨#HR, Hs, ⟨%fd, Hd⟩, Ht⟩ Hk
  ihave Hs := (anyQ_take _ main_arg2 _ (kgS off h).view.set) $$ Hs
  icases Hs with ⟨⟨%q, Hs⟩, HK⟩
  iapply (copy_gen m ρ _ (cp 0) (src := kgS off h) (dst := k0M) (q := q) (fs := Kc m (0 : Dev nD)) (fd := fd) rfl rfl rfl (by
      refine land_pt _ (k0M).view fd (K0 m (0 : Dev nD)) _ ((View.read_whole _ _).trans (read_k0 (Kc m (0 : Dev nD)) (0 : Fin 4) off h ho)) _ eD)) $$ [Hs Hd Ht]
  · rw [eD]
    iclose
  iintro H1
  iapply Hk
  iclose

/-- Device 0's own heads of its values into chunk 0's buffer. -/
theorem copy_v0 {α : Type} {Q : α → sProp 𝕄} {kk : PUnit → Prog (TpuEff nD τ sig (Elt F) Λ₀ .tc) α} (c : Dev nD) (hc : c = (0 : Dev nD))  {off h} (ho : off = ![0, 0, 0, 0]) {sem : SemLoc sig} {hsrc hdst} {hsem} (hs : sem = .dma (cp 1).ix) :
    iprop(recs m ρ ∗ anyQ c main_arg3 (Vc m c) ∗ anyPt c cc0_scratch1 (Finset.univ) ∗ tok c (cp 1))
      ⊢ iprop(((crd c (cp 1) ∗ anyQ c main_arg3 (Vc m c)) -∗ WP c (kk ⟨⟩) Q)
          -∗ WP c (.op (.enqueueDma (vgS off h) (.here (v0M)) sem hsrc hdst hsem) kk) Q) := by
  subst hs; subst hc
  have eD : (v0M).view.set = Finset.univ := View.set_whole _
  iintro ⟨#HR, Hs, ⟨%fd, Hd⟩, Ht⟩ Hk
  ihave Hs := (anyQ_take _ main_arg3 _ (vgS off h).view.set) $$ Hs
  icases Hs with ⟨⟨%q, Hs⟩, HK⟩
  iapply (copy_gen m ρ _ (cp 1) (src := vgS off h) (dst := v0M) (q := q) (fs := Vc m (0 : Dev nD)) (fd := fd) rfl rfl rfl (by
      refine land_pt _ (v0M).view fd (V0 m (0 : Dev nD)) _ ((View.read_whole _ _).trans (read_k0 (Vc m (0 : Dev nD)) (0 : Fin 4) off h ho)) _ eD)) $$ [Hs Hd Ht]
  · rw [eD]
    iclose
  iintro H1
  iapply Hk
  iclose

/-- The first 128 rows of device 1's own heads of its keys. -/
theorem copy_kb {α : Type} {Q : α → sProp 𝕄} {kk : PUnit → Prog (TpuEff nD τ sig (Elt F) Λ₀ .tc) α} (c : Dev nD) (hc : c = (1 : Dev nD))  {off h} (ho : off = ![0, 0, 8, 0]) {sem : SemLoc sig} {hsrc hdst} {hsem} (hs : sem = .dma (cp 2).ix) :
    iprop(recs m ρ ∗ anyQ c main_arg2 (Kc m c) ∗ anyPt c cc0_scratch2 (Finset.univ) ∗ tok c (cp 2))
      ⊢ iprop(((crd c (cp 2) ∗ anyQ c main_arg2 (Kc m c)) -∗ WP c (kk ⟨⟩) Q)
          -∗ WP c (.op (.enqueueDma (kbS off h) (.here (kbM)) sem hsrc hdst hsem) kk) Q) := by
  subst hs; subst hc
  have eD : (kbM).view.set = Finset.univ := View.set_whole _
  iintro ⟨#HR, Hs, ⟨%fd, Hd⟩, Ht⟩ Hk
  ihave Hs := (anyQ_take _ main_arg2 _ (kbS off h).view.set) $$ Hs
  icases Hs with ⟨⟨%q, Hs⟩, HK⟩
  iapply (copy_gen m ρ _ (cp 2) (src := kbS off h) (dst := kbM) (q := q) (fs := Kc m (1 : Dev nD)) (fd := fd) rfl rfl rfl (by
      refine land_pt _ (kbM).view fd (KB m (1 : Dev nD)) _ ((View.read_whole _ _).trans (read_kb (Kc m (1 : Dev nD)) (1 : Fin 4) off h ho)) _ eD)) $$ [Hs Hd Ht]
  · rw [eD]
    iclose
  iintro H1
  iapply Hk
  iclose

/-- The first 128 rows of device 1's own heads of its values. -/
theorem copy_vb {α : Type} {Q : α → sProp 𝕄} {kk : PUnit → Prog (TpuEff nD τ sig (Elt F) Λ₀ .tc) α} (c : Dev nD) (hc : c = (1 : Dev nD))  {off h} (ho : off = ![0, 0, 8, 0]) {sem : SemLoc sig} {hsrc hdst} {hsem} (hs : sem = .dma (cp 3).ix) :
    iprop(recs m ρ ∗ anyQ c main_arg3 (Vc m c) ∗ anyPt c cc0_scratch3 (Finset.univ) ∗ tok c (cp 3))
      ⊢ iprop(((crd c (cp 3) ∗ anyQ c main_arg3 (Vc m c)) -∗ WP c (kk ⟨⟩) Q)
          -∗ WP c (.op (.enqueueDma (vbS off h) (.here (vbM)) sem hsrc hdst hsem) kk) Q) := by
  subst hs; subst hc
  have eD : (vbM).view.set = Finset.univ := View.set_whole _
  iintro ⟨#HR, Hs, ⟨%fd, Hd⟩, Ht⟩ Hk
  ihave Hs := (anyQ_take _ main_arg3 _ (vbS off h).view.set) $$ Hs
  icases Hs with ⟨⟨%q, Hs⟩, HK⟩
  iapply (copy_gen m ρ _ (cp 3) (src := vbS off h) (dst := vbM) (q := q) (fs := Vc m (1 : Dev nD)) (fd := fd) rfl rfl rfl (by
      refine land_pt _ (vbM).view fd (VB m (1 : Dev nD)) _ ((View.read_whole _ _).trans (read_kb (Vc m (1 : Dev nD)) (1 : Fin 4) off h ho)) _ eD)) $$ [Hs Hd Ht]
  · rw [eD]
    iclose
  iintro H1
  iapply Hk
  iclose

end Cert.KernelIdeal.Pf

end
-- ==== Proof.Loads.lean ====
/-
# The loads and stores of the kernel, by what they hold, and the kernel's parts on its own buffers
-/
module

public import proofs.«01_k».proof.Proof.Sends

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-- A part of the kernel, on the buffers and the semaphores the kernel is called with. -/
abbrev call {β : Type _} (f : ∀ (arg0 : Memref sig .tc .vmem S1x1024x1024 .bf16), arg0.IsWhole → ∀ (arg1 : Memref sig .tc .vmem S1024x1024 .bf16), arg1.IsWhole → ∀ (arg2 : Memref sig .tc .hbm S1x1024x32x128 .bf16), arg2.IsWhole → ∀ (arg3 : Memref sig .tc .hbm S1x1024x32x128 .bf16), arg3.IsWhole → ∀ (arg4 : Memref sig .tc .vmem S1024x1024 .bf16), arg4.IsWhole → ∀ (arg5 : Memref sig .tc .vmem S1x1024x1024 .f32), arg5.IsWhole → ∀ (arg6 : Memref sig .tc .vmem S1024x8x128 .bf16), arg6.IsWhole → ∀ (arg7 : Memref sig .tc .vmem S1024x8x128 .bf16), arg7.IsWhole → ∀ (arg8 : Memref sig .tc .vmem S128x8x128 .bf16), arg8.IsWhole → ∀ (arg9 : Memref sig .tc .vmem S128x8x128 .bf16), arg9.IsWhole → ∀ (arg10 : Memref sig .tc .vmem S2x1024x8x128 .bf16), arg10.IsWhole → ∀ (arg11 : Memref sig .tc .vmem S2x1024x8x128 .bf16), arg11.IsWhole → ∀ (arg12 : Memref sig .tc .vmem S4x32x1024 .bf16), arg12.IsWhole → ∀ (arg13 : Memref sig .tc .vmem S4x32x8x128 .f32), arg13.IsWhole → ∀ (arg14 : Memref sig .tc .vmem S4x32x8 .f32), arg14.IsWhole → ∀ (arg15 : Memref sig .tc .vmem S3x32x8x128 .f32), arg15.IsWhole → ∀ (arg16 : Memref sig .tc .vmem S3x32x8 .f32), arg16.IsWhole → ∀ (arg17 : Memref sig .tc .vmem S1024x1024 .bf16), arg17.IsWhole → ∀ (arg18 : Memref sig .tc .vmem S3x256x1024 .bf16), arg18.IsWhole → DmaSems sig S4 → DmaSems sig S4 → DmaSems sig S4 → DmaSems sig S3 → DmaSems sig S3 → DmaSems sig S6 → DmaSems sig S6 → DmaSems sig S2 → DmaSems sig S2 → DmaSems sig S3 → DmaSems sig S3 → DmaSems sig S1 → DmaSems sig S1 → DmaSems sig S3 → DmaSems sig S3 → DmaSems sig S3 → DmaSems sig S3 → DmaSems sig S3 → DmaSems sig S3 → DmaSems sig S3 → DmaSems sig S3 → β) : β :=
  f (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33

/-- An owner's query rows. -/
theorem ld_q {α : Type} {Q : α → sProp 𝕄} (c : Dev nD) (g : Fin 4) (q : PosShare TreeShare) {kk : _ → Prog (TpuEff nD τ sig (Elt F) Λ₀ .tc) α} {off inb hl} (ho : off = ![g.val, 0, 0]) :
    pt c cc0_scratch6 Finset.univ q (Q32 m ρ)
      ⊢ iprop((pt c cc0_scratch6 Finset.univ q (Q32 m ρ) -∗ WP c (kk (ldQ m ρ g)) Q)
          -∗ WP c (.op (.load q32M (Rect.unit (s := S4x32x1024) off S1x32x1024.size inb).toLoadRect hl) kk) Q) := by
  subst ho
  exact wp_load 𝒱₀ (c : Thread nD τ) none Set.univ (m := q32M) (Finset.subset_univ _)

/-- A head of half of chunk 0. -/
theorem ld_k0 {α : Type} {Q : α → sProp 𝕄} (c : Dev nD) (s : Fin 2) (h : Fin 8) (q : PosShare TreeShare) {kk : _ → Prog (TpuEff nD τ sig (Elt F) Λ₀ .tc) α} {off inb hl} (ho : off = ![512 * s.val, h.val, 0]) :
    pt c cc0_scratch0 Finset.univ q (K0 m c)
      ⊢ iprop((pt c cc0_scratch0 Finset.univ q (K0 m c) -∗ WP c (kk (ldK0 m c s h)) Q)
          -∗ WP c (.op (.load k0M (Rect.unit (s := S1024x8x128) off S512x1x128.size inb).toLoadRect hl) kk) Q) := by
  subst ho
  exact wp_load 𝒱₀ (c : Thread nD τ) none Set.univ (m := k0M) (Finset.subset_univ _)

/-- A head of half of chunk 0. -/
theorem ld_v0 {α : Type} {Q : α → sProp 𝕄} (c : Dev nD) (s : Fin 2) (h : Fin 8) (q : PosShare TreeShare) {kk : _ → Prog (TpuEff nD τ sig (Elt F) Λ₀ .tc) α} {off inb hl} (ho : off = ![512 * s.val, h.val, 0]) :
    pt c cc0_scratch1 Finset.univ q (V0 m c)
      ⊢ iprop((pt c cc0_scratch1 Finset.univ q (V0 m c) -∗ WP c (kk (ldV0 m c s h)) Q)
          -∗ WP c (.op (.load v0M (Rect.unit (s := S1024x8x128) off S512x1x128.size inb).toLoadRect hl) kk) Q) := by
  subst ho
  exact wp_load 𝒱₀ (c : Thread nD τ) none Set.univ (m := v0M) (Finset.subset_univ _)

/-- A head of the first keys of chunk 1. -/
theorem ld_kb {α : Type} {Q : α → sProp 𝕄} (c : Dev nD) (h : Fin 8) (q : PosShare TreeShare) {kk : _ → Prog (TpuEff nD τ sig (Elt F) Λ₀ .tc) α} {off inb hl} (ho : off = ![0, h.val, 0]) :
    pt c cc0_scratch2 Finset.univ q (KB m c)
      ⊢ iprop((pt c cc0_scratch2 Finset.univ q (KB m c) -∗ WP c (kk (ldKB m c h)) Q)
          -∗ WP c (.op (.load kbM (Rect.unit (s := S128x8x128) off S128x1x128.size inb).toLoadRect hl) kk) Q) := by
  subst ho
  exact wp_load 𝒱₀ (c : Thread nD τ) none Set.univ (m := kbM) (Finset.subset_univ _)

/-- A head of the first keys of chunk 1. -/
theorem ld_vb {α : Type} {Q : α → sProp 𝕄} (c : Dev nD) (h : Fin 8) (q : PosShare TreeShare) {kk : _ → Prog (TpuEff nD τ sig (Elt F) Λ₀ .tc) α} {off inb hl} (ho : off = ![0, h.val, 0]) :
    pt c cc0_scratch3 Finset.univ q (VB m c)
      ⊢ iprop((pt c cc0_scratch3 Finset.univ q (VB m c) -∗ WP c (kk (ldVB m c h)) Q)
          -∗ WP c (.op (.load vbM (Rect.unit (s := S128x8x128) off S128x1x128.size inb).toLoadRect hl) kk) Q) := by
  subst ho
  exact wp_load 𝒱₀ (c : Thread nD τ) none Set.univ (m := vbM) (Finset.subset_univ _)

/-- Received weighted values. -/
theorem ld_ra {α : Type} {Q : α → sProp 𝕄} (c : Dev nD) (j : Fin 3) (q : PosShare TreeShare) {kk : _ → Prog (TpuEff nD τ sig (Elt F) Λ₀ .tc) α} {off inb hl} (ho : off = ![j.val, 0, 0, 0]) :
    pt c cc0_scratch9 Finset.univ q (PRA m ρ c)
      ⊢ iprop((pt c cc0_scratch9 Finset.univ q (PRA m ρ c) -∗ WP c (kk (ldRA m ρ c j)) Q)
          -∗ WP c (.op (.load raM (Rect.unit (s := S3x32x8x128) off S1x32x8x128.size inb).toLoadRect hl) kk) Q) := by
  subst ho
  exact wp_load 𝒱₀ (c : Thread nD τ) none Set.univ (m := raM) (Finset.subset_univ _)

/-- Received row sums. -/
theorem ld_rl {α : Type} {Q : α → sProp 𝕄} (c : Dev nD) (j : Fin 3) (q : PosShare TreeShare) {kk : _ → Prog (TpuEff nD τ sig (Elt F) Λ₀ .tc) α} {off inb hl} (ho : off = ![j.val, 0, 0]) :
    pt c cc0_scratch10 Finset.univ q (PRL m ρ c)
      ⊢ iprop((pt c cc0_scratch10 Finset.univ q (PRL m ρ c) -∗ WP c (kk (ldRL m ρ c j)) Q)
          -∗ WP c (.op (.load rlM (Rect.unit (s := S3x32x8) off S1x32x8.size inb).toLoadRect hl) kk) Q) := by
  subst ho
  exact wp_load 𝒱₀ (c : Thread nD τ) none Set.univ (m := rlM) (Finset.subset_univ _)

/-- Own weighted values. -/
theorem ld_pa {α : Type} {Q : α → sProp 𝕄} (c : Dev nD) (g : Fin 4) (q : PosShare TreeShare) {kk : _ → Prog (TpuEff nD τ sig (Elt F) Λ₀ .tc) α} {off inb hl} (ho : off = ![g.val, 0, 0, 0]) :
    pt c cc0_scratch7 Finset.univ q (PA m ρ c)
      ⊢ iprop((pt c cc0_scratch7 Finset.univ q (PA m ρ c) -∗ WP c (kk (ldPA m ρ c g)) Q)
          -∗ WP c (.op (.load paM (Rect.unit (s := S4x32x8x128) off S1x32x8x128.size inb).toLoadRect hl) kk) Q) := by
  subst ho
  exact wp_load 𝒱₀ (c : Thread nD τ) none Set.univ (m := paM) (Finset.subset_univ _)

/-- Own row sums. -/
theorem ld_pl {α : Type} {Q : α → sProp 𝕄} (c : Dev nD) (g : Fin 4) (q : PosShare TreeShare) {kk : _ → Prog (TpuEff nD τ sig (Elt F) Λ₀ .tc) α} {off inb hl} (ho : off = ![g.val, 0, 0]) :
    pt c cc0_scratch8 Finset.univ q (PL m ρ c)
      ⊢ iprop((pt c cc0_scratch8 Finset.univ q (PL m ρ c) -∗ WP c (kk (ldPL m ρ c g)) Q)
          -∗ WP c (.op (.load plM (Rect.unit (s := S4x32x8) off S1x32x8.size inb).toLoadRect hl) kk) Q) := by
  subst ho
  exact wp_load 𝒱₀ (c : Thread nD τ) none Set.univ (m := plM) (Finset.subset_univ _)

/-- Another device's share of the own quarter. -/
theorem ld_ob {α : Type} {Q : α → sProp 𝕄} (c : Dev nD) (j : Fin 3) (q : PosShare TreeShare) {kk : _ → Prog (TpuEff nD τ sig (Elt F) Λ₀ .tc) α} {off inb hl} (ho : off = ![j.val, 0, 0]) :
    pt c cc0_scratch12 Finset.univ q (OB m ρ c)
      ⊢ iprop((pt c cc0_scratch12 Finset.univ q (OB m ρ c) -∗ WP c (kk (ldOB m ρ c j)) Q)
          -∗ WP c (.op (.load obM (Rect.unit (s := S3x256x1024) off S1x256x1024.size inb).toLoadRect hl) kk) Q) := by
  subst ho
  exact wp_load 𝒱₀ (c : Thread nD τ) none Set.univ (m := obM) (Finset.subset_univ _)

/-- The own share of the own quarter. -/
theorem ld_os {α : Type} {Q : α → sProp 𝕄} (c : Dev nD) (q : PosShare TreeShare) {kk : _ → Prog (TpuEff nD τ sig (Elt F) Λ₀ .tc) α} {off inb hl} (ho : off = k0_off7 c) :
    pt c cc0_scratch11 Finset.univ q (OS m ρ c)
      ⊢ iprop((pt c cc0_scratch11 Finset.univ q (OS m ρ c) -∗ WP c (kk (ldOS m ρ c)) Q)
          -∗ WP c (.op (.load osM (Rect.unit (s := S1024x1024) off S256x1024.size inb).toLoadRect hl) kk) Q) := by
  subst ho
  exact wp_load 𝒱₀ (c : Thread nD τ) none Set.univ (m := osM) (Finset.subset_univ _)

/-- The input rows. -/
theorem ld_x {α : Type} {Q : α → sProp 𝕄} (c : Dev nD) (q : PosShare TreeShare) (f : S1x1024x1024.Idx → Elt F .bf16) {kk : _ → Prog (TpuEff nD τ sig (Elt F) Λ₀ .tc) α} {off inb hl} (ho : off = ![0, 0, 0]) :
    pt c cc0_stg0_0 Finset.univ q f
      ⊢ iprop((pt c cc0_stg0_0 Finset.univ q f -∗ WP c (kk f) Q)
          -∗ WP c (.op (.load xM (Rect.unit (s := S1x1024x1024) off S1x1024x1024.size inb).toLoadRect hl) kk) Q) := by
  have e := Memref.readAt_unit_zero (Elt F) cc0_stg0_0 (ho.trans (funext (ax3 rfl rfl rfl))) inb f
  iintro H Hk
  iapply (wp_load 𝒱₀ (c : Thread nD τ) none Set.univ (m := xM) (f := f) (Finset.subset_univ _)) $$ H
  iintro H
  rw [show xM.view.readAt (Elt F) (Rect.unit (s := S1x1024x1024) off S1x1024x1024.size inb).toLoadRect f = f from e]
  iapply Hk $$ H

/-- The query weights. -/
theorem ld_wq {α : Type} {Q : α → sProp 𝕄} (c : Dev nD) (q : PosShare TreeShare) (f : S1024x1024.Idx → Elt F .bf16) {kk : _ → Prog (TpuEff nD τ sig (Elt F) Λ₀ .tc) α} {off inb hl} (ho : off = ![0, 0]) :
    pt c cc0_stg1_0 Finset.univ q f
      ⊢ iprop((pt c cc0_stg1_0 Finset.univ q f -∗ WP c (kk f) Q)
          -∗ WP c (.op (.load wqM (Rect.unit (s := S1024x1024) off S1024x1024.size inb).toLoadRect hl) kk) Q) := by
  have e := Memref.readAt_unit_zero (Elt F) cc0_stg1_0 (ho.trans (funext fun a => match a with | ⟨0, _⟩ => rfl | ⟨1, _⟩ => rfl)) inb f
  iintro H Hk
  iapply (wp_load 𝒱₀ (c : Thread nD τ) none Set.univ (m := wqM) (f := f) (Finset.subset_univ _)) $$ H
  iintro H
  rw [show wqM.view.readAt (Elt F) (Rect.unit (s := S1024x1024) off S1024x1024.size inb).toLoadRect f = f from e]
  iapply Hk $$ H

/-- The output weights. -/
theorem ld_wo {α : Type} {Q : α → sProp 𝕄} (c : Dev nD) (q : PosShare TreeShare) (f : S1024x1024.Idx → Elt F .bf16) {kk : _ → Prog (TpuEff nD τ sig (Elt F) Λ₀ .tc) α} {off inb hl} (ho : off = ![0, 0]) :
    pt c cc0_stg2_0 Finset.univ q f
      ⊢ iprop((pt c cc0_stg2_0 Finset.univ q f -∗ WP c (kk f) Q)
          -∗ WP c (.op (.load woM (Rect.unit (s := S1024x1024) off S1024x1024.size inb).toLoadRect hl) kk) Q) := by
  have e := Memref.readAt_unit_zero (Elt F) cc0_stg2_0 (ho.trans (funext fun a => match a with | ⟨0, _⟩ => rfl | ⟨1, _⟩ => rfl)) inb f
  iintro H Hk
  iapply (wp_load 𝒱₀ (c : Thread nD τ) none Set.univ (m := woM) (f := f) (Finset.subset_univ _)) $$ H
  iintro H
  rw [show woM.view.readAt (Elt F) (Rect.unit (s := S1024x1024) off S1024x1024.size inb).toLoadRect f = f from e]
  iapply Hk $$ H

/-- A head of a staged group. -/
theorem ld_ks {α : Type} {Q : α → sProp 𝕄} (c : Dev nD) (g : Fin 4) (h : Fin 8) {kk : _ → Prog (TpuEff nD τ sig (Elt F) Λ₀ .tc) α} {off inb hl} (ho : off = ![g.val % 2, 0, h.val, 0]) :
    pt c cc0_scratch4 (slotSet cc0_scratch4 (0 : Fin 4) 1 (g.val % 2)) fullShare (KS m c g)
      ⊢ iprop((pt c cc0_scratch4 (slotSet cc0_scratch4 (0 : Fin 4) 1 (g.val % 2)) fullShare (KS m c g) -∗ WP c (kk (ldKS m c g h)) Q)
          -∗ WP c (.op (.load ksM (Rect.unit (s := S2x1024x8x128) off S1x1024x1x128.size inb).toLoadRect hl) kk) Q) := by
  subst ho
  refine wp_load 𝒱₀ (c : Thread nD τ) none Set.univ (m := ksM) ?_
  intro i hi
  have hi' : i ∈ (Rect.unit (s := S2x1024x8x128) ![g.val % 2, 0, h.val, 0] S1x1024x1x128.size inb).set := by
    have h := (View.set_slice_whole (cc0_scratch4 : Ref sig .tc) (Rect.unit (s := S2x1024x8x128) ![g.val % 2, 0, h.val, 0] S1x1024x1x128.size inb)).le
    rw [View.set_slice] at h
    exact h hi
  rw [Rect.mem_set_unit] at hi'
  have h0 := hi' (0 : Fin 4)
  refine Finset.mem_filter.mpr ⟨Finset.mem_univ _, ?_⟩
  rw [Nat.div_one]
  have h1 : g.val % 2 ≤ (i (0 : Fin 4)).val := h0.1
  have h2 : (i (0 : Fin 4)).val < g.val % 2 + 1 := h0.2
  omega

/-- A head of a staged group. -/
theorem ld_vs {α : Type} {Q : α → sProp 𝕄} (c : Dev nD) (g : Fin 4) (h : Fin 8) {kk : _ → Prog (TpuEff nD τ sig (Elt F) Λ₀ .tc) α} {off inb hl} (ho : off = ![g.val % 2, 0, h.val, 0]) :
    pt c cc0_scratch5 (slotSet cc0_scratch5 (0 : Fin 4) 1 (g.val % 2)) fullShare (VS m c g)
      ⊢ iprop((pt c cc0_scratch5 (slotSet cc0_scratch5 (0 : Fin 4) 1 (g.val % 2)) fullShare (VS m c g) -∗ WP c (kk (ldVS m c g h)) Q)
          -∗ WP c (.op (.load vsM (Rect.unit (s := S2x1024x8x128) off S1x1024x1x128.size inb).toLoadRect hl) kk) Q) := by
  subst ho
  refine wp_load 𝒱₀ (c : Thread nD τ) none Set.univ (m := vsM) ?_
  intro i hi
  have hi' : i ∈ (Rect.unit (s := S2x1024x8x128) ![g.val % 2, 0, h.val, 0] S1x1024x1x128.size inb).set := by
    have h := (View.set_slice_whole (cc0_scratch5 : Ref sig .tc) (Rect.unit (s := S2x1024x8x128) ![g.val % 2, 0, h.val, 0] S1x1024x1x128.size inb)).le
    rw [View.set_slice] at h
    exact h hi
  rw [Rect.mem_set_unit] at hi'
  have h0 := hi' (0 : Fin 4)
  refine Finset.mem_filter.mpr ⟨Finset.mem_univ _, ?_⟩
  rw [Nat.div_one]
  have h1 : g.val % 2 ≤ (i (0 : Fin 4)).val := h0.1
  have h2 : (i (0 : Fin 4)).val < g.val % 2 + 1 := h0.2
  omega

/-! ## What the stores write over -/

theorem acc_q (t : ℕ) (off inb) (ho : off = ![t, 0, 0]) : (q32M.access (Rect.unit (s := S4x32x1024) off S1x32x1024.size inb)).set = slotSet cc0_scratch6 (0 : Fin 3) 1 t := by
  subst ho
  refine (View.set_slice_whole _ _).trans ?_
  exact slot_rect cc0_scratch6 (0 : Fin 3) 1 t (by decide) _ _ _ ((Nat.one_mul t).symm) rfl (ax3 (fun h => absurd rfl h) (fun _ => ⟨rfl, rfl⟩) (fun _ => ⟨rfl, rfl⟩))

theorem acc_pa (t : ℕ) (off inb) (ho : off = ![t, 0, 0, 0]) : (paM.access (Rect.unit (s := S4x32x8x128) off S1x32x8x128.size inb)).set = slotSet cc0_scratch7 (0 : Fin 4) 1 t := by
  subst ho
  refine (View.set_slice_whole _ _).trans ?_
  exact slot_rect cc0_scratch7 (0 : Fin 4) 1 t (by decide) _ _ _ ((Nat.one_mul t).symm) rfl (ax4 (fun h => absurd rfl h) (fun _ => ⟨rfl, rfl⟩) (fun _ => ⟨rfl, rfl⟩) (fun _ => ⟨rfl, rfl⟩))

theorem acc_pl (t : ℕ) (off inb) (ho : off = ![t, 0, 0]) : (plM.access (Rect.unit (s := S4x32x8) off S1x32x8.size inb)).set = slotSet cc0_scratch8 (0 : Fin 3) 1 t := by
  subst ho
  refine (View.set_slice_whole _ _).trans ?_
  exact slot_rect cc0_scratch8 (0 : Fin 3) 1 t (by decide) _ _ _ ((Nat.one_mul t).symm) rfl (ax3 (fun h => absurd rfl h) (fun _ => ⟨rfl, rfl⟩) (fun _ => ⟨rfl, rfl⟩))

theorem acc_out (t : ℕ) (off inb) (ho : off = ![0, 256 * t, 0]) : (outM.access (Rect.unit (s := S1x1024x1024) off S1x256x1024.size inb)).set = slotSet cc0_stg3_0 (1 : Fin 3) 256 t := by
  subst ho
  refine (View.set_slice_whole _ _).trans ?_
  exact slot_rect cc0_stg3_0 (1 : Fin 3) 256 t (by decide) _ _ _ (rfl) rfl (ax3 (fun _ => ⟨rfl, rfl⟩) (fun h => absurd rfl h) (fun _ => ⟨rfl, rfl⟩))

theorem one_ext (a b : Fin 1) : a = b := Subsingleton.elim a b

theorem Q32_eq (c : Dev nD) (i : S4x32x1024.Idx) (j : S1x32x1024.Idx) (h0 : (i 0 : Fin 4).val = c.val) (h1 : (i 1 : Fin 32).val = (j 1 : Fin 32).val) (h2 : (i 2 : Fin 1024).val = (j 2 : Fin 1024).val) :
    Q32 m ρ i = k0_pay3 (k0_pay1 (xst m ρ c)) (wqst m ρ c) j := by
  have e : (i 0 : Fin 4) = c := Fin.ext h0
  show k0_pay3 (k0_pay1 (xst m ρ (i 0 : Fin 4))) (wqst m ρ (i 0 : Fin 4)) (ix3 0 (i 1) (i 2)) = _
  rw [e]
  exact congrArg _ (funext (ax3 (one_ext _ _) (Fin.ext h1) (Fin.ext h2)))

theorem PA_eq (c : Dev nD) (g : Fin 4) (i : S4x32x8x128.Idx) (j : S1x32x8x128.Idx) (h0 : (i 0 : Fin 4).val = g.val) (h1 : (i 1 : Fin 32).val = (j 1 : Fin 32).val) (h2 : (i 2 : Fin 8).val = (j 2 : Fin 8).val)
    (h3 : (i 3 : Fin 128).val = (j 3 : Fin 128).val) : PA m ρ c i = PAblk m ρ c g j := by
  have e : (i 0 : Fin 4) = g := Fin.ext h0
  show PAblk m ρ c (i 0 : Fin 4) (ix4 0 (i 1) (i 2) (i 3)) = _
  rw [e]
  exact congrArg _ (funext (ax4 (one_ext _ _) (Fin.ext h1) (Fin.ext h2) (Fin.ext h3)))

theorem PL_eq (c : Dev nD) (g : Fin 4) (i : S4x32x8.Idx) (j : S1x32x8.Idx) (h0 : (i 0 : Fin 4).val = g.val) (h1 : (i 1 : Fin 32).val = (j 1 : Fin 32).val) (h2 : (i 2 : Fin 8).val = (j 2 : Fin 8).val) :
    PL m ρ c i = PLblk m ρ c g j := by
  have e : (i 0 : Fin 4) = g := Fin.ext h0
  show PLblk m ρ c (i 0 : Fin 4) (ix3 0 (i 1) (i 2)) = _
  rw [e]
  exact congrArg _ (funext (ax3 (one_ext _ _) (Fin.ext h1) (Fin.ext h2)))

theorem OUT_eq (c : Dev nD) (i : S1x1024x1024.Idx) (j : S1x256x1024.Idx) (h1 : (i 1 : Fin 1024).val = 256 * c.val + (j 1 : Fin 256).val) (h2 : (i 2 : Fin 1024).val = (j 2 : Fin 1024).val) :
    OUT m ρ i = outQ m ρ c j := by
  have hj := (j 1 : Fin 256).isLt
  have e : (⟨(i 1 : Fin 1024).val / 256, q_lt (i 1)⟩ : Fin 4) = c := Fin.ext (by show (i 1 : Fin 1024).val / 256 = c.val; rw [h1, Nat.mul_add_div (by decide), Nat.div_eq_of_lt (show (j 1 : Fin 256).val < 256 from hj), Nat.add_zero])
  have e' : (i 1 : Fin 1024).val % 256 = (j 1 : Fin 256).val := by rw [h1, Nat.mul_add_mod, Nat.mod_eq_of_lt (show (j 1 : Fin 256).val < 256 from hj)]
  show outQ m ρ (⟨(i 1 : Fin 1024).val / 256, q_lt (i 1)⟩ : Fin 4) (ix3 0 ⟨(i 1 : Fin 1024).val % 256, r_lt (i 1)⟩ (i 2)) = _
  rw [e]
  exact congrArg _ (funext (ax3 (one_ext _ _) (Fin.ext e') (Fin.ext h2)))

/-- A load whose value nothing uses. -/
theorem dd_q {α : Type} {Q : α → sProp 𝕄} (c : Dev nD) (t : ℕ) (f : S4x32x1024.Idx → Elt F .bf16) {p : Prog (TpuEff nD τ sig (Elt F) Λ₀ .tc) α} {off inb hl} (ho : off = ![t, 0, 0]) :
    pt c cc0_scratch6 (slotSet cc0_scratch6 (0 : Fin 3) 1 t) fullShare f
      ⊢ iprop((pt c cc0_scratch6 (slotSet cc0_scratch6 (0 : Fin 3) 1 t) fullShare f -∗ WP c p Q)
          -∗ WP c (.op (.load q32M (Rect.unit (s := S4x32x1024) off S1x32x1024.size inb).toLoadRect hl) (fun _ => p)) Q) := by
  iintro H Hk
  iapply (wp_load 𝒱₀ (c : Thread nD τ) none Set.univ (m := q32M) (r := (Rect.unit (s := S4x32x1024) off S1x32x1024.size inb).toLoadRect) (S := slotSet cc0_scratch6 (0 : Fin 3) 1 t) (f := f) (by
    have h := ((acc_q t off inb ho)).le
    rwa [View.set_slice] at h)) $$ H
  iintro H
  iapply Hk $$ H

/-- A load whose value nothing uses. -/
theorem dd_pa {α : Type} {Q : α → sProp 𝕄} (c : Dev nD) (t : ℕ) (f : S4x32x8x128.Idx → Elt F .f32) {p : Prog (TpuEff nD τ sig (Elt F) Λ₀ .tc) α} {off inb hl} (ho : off = ![t, 0, 0, 0]) :
    pt c cc0_scratch7 (slotSet cc0_scratch7 (0 : Fin 4) 1 t) fullShare f
      ⊢ iprop((pt c cc0_scratch7 (slotSet cc0_scratch7 (0 : Fin 4) 1 t) fullShare f -∗ WP c p Q)
          -∗ WP c (.op (.load paM (Rect.unit (s := S4x32x8x128) off S1x32x8x128.size inb).toLoadRect hl) (fun _ => p)) Q) := by
  iintro H Hk
  iapply (wp_load 𝒱₀ (c : Thread nD τ) none Set.univ (m := paM) (r := (Rect.unit (s := S4x32x8x128) off S1x32x8x128.size inb).toLoadRect) (S := slotSet cc0_scratch7 (0 : Fin 4) 1 t) (f := f) (by
    have h := ((acc_pa t off inb ho)).le
    rwa [View.set_slice] at h)) $$ H
  iintro H
  iapply Hk $$ H

/-- A load whose value nothing uses. -/
theorem dd_pl {α : Type} {Q : α → sProp 𝕄} (c : Dev nD) (t : ℕ) (f : S4x32x8.Idx → Elt F .f32) {p : Prog (TpuEff nD τ sig (Elt F) Λ₀ .tc) α} {off inb hl} (ho : off = ![t, 0, 0]) :
    pt c cc0_scratch8 (slotSet cc0_scratch8 (0 : Fin 3) 1 t) fullShare f
      ⊢ iprop((pt c cc0_scratch8 (slotSet cc0_scratch8 (0 : Fin 3) 1 t) fullShare f -∗ WP c p Q)
          -∗ WP c (.op (.load plM (Rect.unit (s := S4x32x8) off S1x32x8.size inb).toLoadRect hl) (fun _ => p)) Q) := by
  iintro H Hk
  iapply (wp_load 𝒱₀ (c : Thread nD τ) none Set.univ (m := plM) (r := (Rect.unit (s := S4x32x8) off S1x32x8.size inb).toLoadRect) (S := slotSet cc0_scratch8 (0 : Fin 3) 1 t) (f := f) (by
    have h := ((acc_pl t off inb ho)).le
    rwa [View.set_slice] at h)) $$ H
  iintro H
  iapply Hk $$ H

/-- A load whose value nothing uses. -/
theorem dd_out {α : Type} {Q : α → sProp 𝕄} (c : Dev nD) (t : ℕ) (f : S1x1024x1024.Idx → Elt F .f32) {p : Prog (TpuEff nD τ sig (Elt F) Λ₀ .tc) α} {off inb hl} (ho : off = ![0, 256 * t, 0]) :
    pt c cc0_stg3_0 (slotSet cc0_stg3_0 (1 : Fin 3) 256 t) fullShare f
      ⊢ iprop((pt c cc0_stg3_0 (slotSet cc0_stg3_0 (1 : Fin 3) 256 t) fullShare f -∗ WP c p Q)
          -∗ WP c (.op (.load outM (Rect.unit (s := S1x1024x1024) off S1x256x1024.size inb).toLoadRect hl) (fun _ => p)) Q) := by
  iintro H Hk
  iapply (wp_load 𝒱₀ (c : Thread nD τ) none Set.univ (m := outM) (r := (Rect.unit (s := S1x1024x1024) off S1x256x1024.size inb).toLoadRect) (S := slotSet cc0_stg3_0 (1 : Fin 3) 256 t) (f := f) (by
    have h := ((acc_out t off inb ho)).le
    rwa [View.set_slice] at h)) $$ H
  iintro H
  iapply Hk $$ H

/-- A load whose value nothing uses. -/
theorem dd_os {α : Type} {Q : α → sProp 𝕄} (c : Dev nD)  (f : S1024x1024.Idx → Elt F .bf16) {p : Prog (TpuEff nD τ sig (Elt F) Λ₀ .tc) α} {off inb hl} :
    pt c cc0_scratch11 (Finset.univ) fullShare f
      ⊢ iprop((pt c cc0_scratch11 (Finset.univ) fullShare f -∗ WP c p Q)
          -∗ WP c (.op (.load osM (Rect.unit (s := S1024x1024) off S1024x1024.size inb).toLoadRect hl) (fun _ => p)) Q) := by
  exact wp_load 𝒱₀ (c : Thread nD τ) none Set.univ (m := osM) (k := fun _ => p) (Finset.subset_univ _)

/-- The own query rows. -/
theorem st_q {α : Type} {Q : α → sProp 𝕄} (c : Dev nD)  (f : S4x32x1024.Idx → Elt F .bf16) {kk : _ → Prog (TpuEff nD τ sig (Elt F) Λ₀ .tc) α} {off inb w} {hx hm} (ho : off = ![c.val, 0, 0]) (hw : w = k0_pay3 (k0_pay1 (xst m ρ c)) (wqst m ρ c)) :
    pt c cc0_scratch6 (slotSet cc0_scratch6 (0 : Fin 3) 1 c.val) fullShare f
      ⊢ iprop((pt c cc0_scratch6 (slotSet cc0_scratch6 (0 : Fin 3) 1 c.val) fullShare (Q32 m ρ) -∗ WP c (kk ⟨⟩) Q)
          -∗ WP c (.op (.store q32M (Rect.unit (s := S4x32x1024) off S1x32x1024.size inb) w Finset.univ hx hm) kk) Q) := by
  subst hw
  have hs := (acc_q c.val off inb ho)
  have hr : (q32M.access (Rect.unit (s := S4x32x1024) off S1x32x1024.size inb)).read (Elt F) (Q32 m ρ) = k0_pay3 (k0_pay1 (xst m ρ c)) (wqst m ρ c) := by
    subst ho
    funext j
    have e0 := ValueKit.rect_emb_unit_val (s := S4x32x1024) ![c.val, 0, 0] S1x32x1024.size inb j (0 : Fin 3)
    have e1 := ValueKit.rect_emb_unit_val (s := S4x32x1024) ![c.val, 0, 0] S1x32x1024.size inb j (1 : Fin 3)
    have e2 := ValueKit.rect_emb_unit_val (s := S4x32x1024) ![c.val, 0, 0] S1x32x1024.size inb j (2 : Fin 3)
    exact Q32_eq m ρ c _ j (e0.trans (Nat.add_eq_left.mpr (Nat.lt_one_iff.mp (j 0).isLt))) (e1.trans (Nat.zero_add _)) (e2.trans (Nat.zero_add _))
  rw [← hs]
  iintro H Hk
  iapply (wp_store 𝒱₀ (c : Thread nD τ) none Set.univ (m := q32M) (r := Rect.unit (s := S4x32x1024) off S1x32x1024.size inb) (Mk := Finset.univ) (S := (q32M.access (Rect.unit (s := S4x32x1024) off S1x32x1024.size inb)).set) (f := f) (Finset.Subset.refl _)) $$ H
  iintro H
  iapply Hk
  ihave H := (land_pt c (q32M.access (Rect.unit (s := S4x32x1024) off S1x32x1024.size inb)) f (Q32 m ρ) _ hr _ rfl) $$ H
  iexact H

/-- The weighted values for owner `g`. -/
theorem st_pa {α : Type} {Q : α → sProp 𝕄} (c : Dev nD) (g : Fin 4) (f : S4x32x8x128.Idx → Elt F .f32) {kk : _ → Prog (TpuEff nD τ sig (Elt F) Λ₀ .tc) α} {off inb w} {hx hm} (ho : off = ![g.val, 0, 0, 0]) (hw : w = PAblk m ρ c g) :
    pt c cc0_scratch7 (slotSet cc0_scratch7 (0 : Fin 4) 1 g.val) fullShare f
      ⊢ iprop((pt c cc0_scratch7 (slotSet cc0_scratch7 (0 : Fin 4) 1 g.val) fullShare (PA m ρ c) -∗ WP c (kk ⟨⟩) Q)
          -∗ WP c (.op (.store paM (Rect.unit (s := S4x32x8x128) off S1x32x8x128.size inb) w Finset.univ hx hm) kk) Q) := by
  subst hw
  have hs := (acc_pa g.val off inb ho)
  have hr : (paM.access (Rect.unit (s := S4x32x8x128) off S1x32x8x128.size inb)).read (Elt F) (PA m ρ c) = PAblk m ρ c g := by
    subst ho
    funext j
    have e0 := ValueKit.rect_emb_unit_val (s := S4x32x8x128) ![g.val, 0, 0, 0] S1x32x8x128.size inb j (0 : Fin 4)
    have e1 := ValueKit.rect_emb_unit_val (s := S4x32x8x128) ![g.val, 0, 0, 0] S1x32x8x128.size inb j (1 : Fin 4)
    have e2 := ValueKit.rect_emb_unit_val (s := S4x32x8x128) ![g.val, 0, 0, 0] S1x32x8x128.size inb j (2 : Fin 4)
    have e3 := ValueKit.rect_emb_unit_val (s := S4x32x8x128) ![g.val, 0, 0, 0] S1x32x8x128.size inb j (3 : Fin 4)
    exact PA_eq m ρ c g _ j (e0.trans (Nat.add_eq_left.mpr (Nat.lt_one_iff.mp (j 0).isLt))) (e1.trans (Nat.zero_add _)) (e2.trans (Nat.zero_add _)) (e3.trans (Nat.zero_add _))
  rw [← hs]
  iintro H Hk
  iapply (wp_store 𝒱₀ (c : Thread nD τ) none Set.univ (m := paM) (r := Rect.unit (s := S4x32x8x128) off S1x32x8x128.size inb) (Mk := Finset.univ) (S := (paM.access (Rect.unit (s := S4x32x8x128) off S1x32x8x128.size inb)).set) (f := f) (Finset.Subset.refl _)) $$ H
  iintro H
  iapply Hk
  ihave H := (land_pt c (paM.access (Rect.unit (s := S4x32x8x128) off S1x32x8x128.size inb)) f (PA m ρ c) _ hr _ rfl) $$ H
  iexact H

/-- The row sums for owner `g`. -/
theorem st_pl {α : Type} {Q : α → sProp 𝕄} (c : Dev nD) (g : Fin 4) (f : S4x32x8.Idx → Elt F .f32) {kk : _ → Prog (TpuEff nD τ sig (Elt F) Λ₀ .tc) α} {off inb w} {hx hm} (ho : off = ![g.val, 0, 0]) (hw : w = PLblk m ρ c g) :
    pt c cc0_scratch8 (slotSet cc0_scratch8 (0 : Fin 3) 1 g.val) fullShare f
      ⊢ iprop((pt c cc0_scratch8 (slotSet cc0_scratch8 (0 : Fin 3) 1 g.val) fullShare (PL m ρ c) -∗ WP c (kk ⟨⟩) Q)
          -∗ WP c (.op (.store plM (Rect.unit (s := S4x32x8) off S1x32x8.size inb) w Finset.univ hx hm) kk) Q) := by
  subst hw
  have hs := (acc_pl g.val off inb ho)
  have hr : (plM.access (Rect.unit (s := S4x32x8) off S1x32x8.size inb)).read (Elt F) (PL m ρ c) = PLblk m ρ c g := by
    subst ho
    funext j
    have e0 := ValueKit.rect_emb_unit_val (s := S4x32x8) ![g.val, 0, 0] S1x32x8.size inb j (0 : Fin 3)
    have e1 := ValueKit.rect_emb_unit_val (s := S4x32x8) ![g.val, 0, 0] S1x32x8.size inb j (1 : Fin 3)
    have e2 := ValueKit.rect_emb_unit_val (s := S4x32x8) ![g.val, 0, 0] S1x32x8.size inb j (2 : Fin 3)
    exact PL_eq m ρ c g _ j (e0.trans (Nat.add_eq_left.mpr (Nat.lt_one_iff.mp (j 0).isLt))) (e1.trans (Nat.zero_add _)) (e2.trans (Nat.zero_add _))
  rw [← hs]
  iintro H Hk
  iapply (wp_store 𝒱₀ (c : Thread nD τ) none Set.univ (m := plM) (r := Rect.unit (s := S4x32x8) off S1x32x8.size inb) (Mk := Finset.univ) (S := (plM.access (Rect.unit (s := S4x32x8) off S1x32x8.size inb)).set) (f := f) (Finset.Subset.refl _)) $$ H
  iintro H
  iapply Hk
  ihave H := (land_pt c (plM.access (Rect.unit (s := S4x32x8) off S1x32x8.size inb)) f (PL m ρ c) _ hr _ rfl) $$ H
  iexact H

/-- The own quarter of the result. -/
theorem st_out {α : Type} {Q : α → sProp 𝕄} (c : Dev nD)  (f : S1x1024x1024.Idx → Elt F .f32) {kk : _ → Prog (TpuEff nD τ sig (Elt F) Λ₀ .tc) α} {off inb w} {hx hm} (ho : off = ![0, 256 * c.val, 0]) (hw : w = outQ m ρ c) :
    pt c cc0_stg3_0 (slotSet cc0_stg3_0 (1 : Fin 3) 256 c.val) fullShare f
      ⊢ iprop((pt c cc0_stg3_0 (slotSet cc0_stg3_0 (1 : Fin 3) 256 c.val) fullShare (OUT m ρ) -∗ WP c (kk ⟨⟩) Q)
          -∗ WP c (.op (.store outM (Rect.unit (s := S1x1024x1024) off S1x256x1024.size inb) w Finset.univ hx hm) kk) Q) := by
  subst hw
  have hs := (acc_out c.val off inb ho)
  have hr : (outM.access (Rect.unit (s := S1x1024x1024) off S1x256x1024.size inb)).read (Elt F) (OUT m ρ) = outQ m ρ c := by
    subst ho
    funext j
    have e0 := ValueKit.rect_emb_unit_val (s := S1x1024x1024) ![0, 256 * c.val, 0] S1x256x1024.size inb j (0 : Fin 3)
    have e1 := ValueKit.rect_emb_unit_val (s := S1x1024x1024) ![0, 256 * c.val, 0] S1x256x1024.size inb j (1 : Fin 3)
    have e2 := ValueKit.rect_emb_unit_val (s := S1x1024x1024) ![0, 256 * c.val, 0] S1x256x1024.size inb j (2 : Fin 3)
    exact OUT_eq m ρ c _ j e1 (e2.trans (Nat.zero_add _))
  rw [← hs]
  iintro H Hk
  iapply (wp_store 𝒱₀ (c : Thread nD τ) none Set.univ (m := outM) (r := Rect.unit (s := S1x1024x1024) off S1x256x1024.size inb) (Mk := Finset.univ) (S := (outM.access (Rect.unit (s := S1x1024x1024) off S1x256x1024.size inb)).set) (f := f) (Finset.Subset.refl _)) $$ H
  iintro H
  iapply Hk
  ihave H := (land_pt c (outM.access (Rect.unit (s := S1x1024x1024) off S1x256x1024.size inb)) f (OUT m ρ) _ hr _ rfl) $$ H
  iexact H

/-- The own share of the result, all rows. -/
theorem st_os {α : Type} {Q : α → sProp 𝕄} (c : Dev nD) (f : S1024x1024.Idx → Elt F .bf16) {kk : _ → Prog (TpuEff nD τ sig (Elt F) Λ₀ .tc) α} {off inb w} {hx hm} (ho : off = ![0, 0]) (hw : w = OS m ρ c) :
    pt c cc0_scratch11 Finset.univ fullShare f
      ⊢ iprop((pt c cc0_scratch11 Finset.univ fullShare (OS m ρ c) -∗ WP c (kk ⟨⟩) Q)
          -∗ WP c (.op (.store osM (Rect.unit (s := S1024x1024) off S1024x1024.size inb) w Finset.univ hx hm) kk) Q) := by
  subst hw
  have e := Memref.write_access_unit_zero_univ (Elt F) cc0_scratch11 (ho.trans (funext fun a => match a with | ⟨0, _⟩ => rfl | ⟨1, _⟩ => rfl)) inb f (OS m ρ c)
  iintro H Hk
  iapply (wp_store 𝒱₀ (c : Thread nD τ) none Set.univ (m := osM) (r := Rect.unit (s := S1024x1024) off S1024x1024.size inb) (w := OS m ρ c) (Mk := Finset.univ) (f := f) (Finset.subset_univ _)) $$ H
  iintro H
  rw [show (osM.access (Rect.unit (s := S1024x1024) off S1024x1024.size inb)).write (Elt F) f (OS m ρ c) Finset.univ = OS m ρ c from e]
  iapply Hk $$ H

end Cert.KernelIdeal.Pf

end
-- ==== Proof.Res.lean ====
/-
# The buffers' pieces, cut and joined
-/
module

public import proofs.«01_k».proof.Proof.Loads

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-- A finished program keeps its promise. -/
theorem WP_ret {α : Type} {Φ : α → sProp 𝕄} (c : Dev nD) (a : α) : Φ a ⊢ WP c (Prog.ret a) Φ := by
  unfold WP
  rw [wp_ret]
  exact fupd_intro (PROP := sProp 𝕄)

/-- One part after another. -/
theorem WP_bind {α β : Type} {Φ : β → sProp 𝕄} (c : Dev nD) (p : Prog (TpuEff nD τ sig (Elt F) Λ₀ .tc) α) (k : α → Prog (TpuEff nD τ sig (Elt F) Λ₀ .tc) β) :
    WP c p (fun a => WP c (k a) Φ) ⊢ WP c (p >>= k) Φ := by
  unfold WP
  rw [wp_bind]

/-- A wait on a DMA semaphore takes what the transfer left there. -/
theorem wait_w (c : Dev nD) (k : CK) (l : List (Dev nD × Option CK)) (P : sProp 𝕄) {sp sp' : Space} {s : Shape} {e : EltTy} {src : Memref sig .tc sp s e} {dst : Memref sig .tc sp' s e}
    {sem : DmaSem sig} {hsrc : src.view.WordExact} {hdst : dst.view.WordExact}
    {α : Type} {Q : α → sProp 𝕄} {kk : PUnit → Prog (TpuEff nD τ sig (Elt F) Λ₀ .tc) α}
    (hP : pay m ρ c k = P) (hs : sem = k.ix) (ha : act c k = true) (hN : ∀ d : Memref sig .tc sp' s e, d.view.dmaCredit = k.amt)
    (hl : (l.map Prod.snd).all (fun o => decide (k.lev < dLev o)) = true) :
    iprop(recs m ρ ∗ levAts L lv ∗ crd c k ∗ debt c l ∗ atp c k)
      ⊢ iprop(((debt c l ∗ semVal (cell c k) 0 ∗ P) -∗ WP c (kk ⟨⟩) Q)
          -∗ WP c (.op (.waitDma2 sem src dst hsrc hdst) kk) Q) := by
  subst hP
  exact wait_gen m ρ c k l hs ha (hN dst) hl

/-- A buffer's elements in four shares: one to keep, one for each of three transfers. -/
theorem share4 (c : Dev nD) (b : Ref sig .tc) (S : Finset b.ty.Idx) (f : b.ty.Contents (Elt F)) :
    (pt c b S fullShare f : sProp 𝕄) ⊣⊢ iprop(pt c b S fullShare.left f ∗ pt c b S (shareR 0) f ∗ pt c b S (shareR 1) f ∗ pt c b S (shareR 2) f) := by
  refine (pointsTo_share (PosShare.mem_left_op_right fullShare)).trans (sep_congr_right ?_)
  refine (pointsTo_share (PosShare.mem_left_op_right fullShare.right)).trans (sep_congr_right ?_)
  exact pointsTo_share (PosShare.mem_left_op_right fullShare.right.right)

/-- A buffer's elements in two shares. -/
theorem share2 (c : Dev nD) (b : Ref sig .tc) (S : Finset b.ty.Idx) (f : b.ty.Contents (Elt F)) :
    (pt c b S fullShare f : sProp 𝕄) ⊣⊢ iprop(pt c b S fullShare.left f ∗ pt c b S fullShare.right f) :=
  pointsTo_share (PosShare.mem_left_op_right fullShare)

theorem bigSep_two (Φ : Fin 2 → sProp 𝕄) : bigSep Finset.univ Φ ⊣⊢ iprop(Φ 0 ∗ Φ 1) := by
  rw [bigSep_univ_eq_bigSepL [0, 1] (by decide) (by decide) Φ]
  exact .rfl

theorem bigSep_three (Φ : Fin 3 → sProp 𝕄) : bigSep Finset.univ Φ ⊣⊢ iprop(Φ 0 ∗ Φ 1 ∗ Φ 2) := by
  rw [bigSep_univ_eq_bigSepL [0, 1, 2] (by decide) (by decide) Φ]
  exact .rfl

theorem bigSep_four (Φ : Fin 4 → sProp 𝕄) : bigSep Finset.univ Φ ⊣⊢ iprop(Φ 0 ∗ Φ 1 ∗ Φ 2 ∗ Φ 3) := by
  rw [bigSep_univ_eq_bigSepL [0, 1, 2, 3] (by decide) (by decide) Φ]
  exact .rfl

/-- The four devices, read from device `c` on. -/
theorem bigSep_nx (c : Dev nD) (Φ : Dev nD → sProp 𝕄) :
    bigSep Finset.univ Φ ⊣⊢ iprop(Φ c ∗ Φ (nx c (0 : Fin 3).val) ∗ Φ (nx c (1 : Fin 3).val) ∗ Φ (nx c (2 : Fin 3).val)) := by
  rw [bigSep_univ_eq_bigSepL [c, nx c (0 : Fin 3).val, nx c (1 : Fin 3).val, nx c (2 : Fin 3).val] (by revert c; decide) (by revert c; decide) Φ]
  exact .rfl

/-- The four devices, read from device `c` backwards. -/
theorem bigSep_pv (c : Dev nD) (Φ : Dev nD → sProp 𝕄) :
    bigSep Finset.univ Φ ⊣⊢ iprop(Φ c ∗ Φ (pv c (0 : Fin 3).val) ∗ Φ (pv c (1 : Fin 3).val) ∗ Φ (pv c (2 : Fin 3).val)) := by
  rw [bigSep_univ_eq_bigSepL [c, pv c (0 : Fin 3).val, pv c (1 : Fin 3).val, pv c (2 : Fin 3).val] (by revert c; decide) (by revert c; decide) Φ]
  exact .rfl

/-! The pieces of the buffers with their contents. -/

abbrev q32P (c d : Dev nD) (q : PosShare TreeShare) : sProp 𝕄 := pt c cc0_scratch6 (slotSet cc0_scratch6 (0 : Fin 3) 1 d.val) q (Q32 m ρ)
abbrev q32W (c : Dev nD) (q : PosShare TreeShare) : sProp 𝕄 := pt c cc0_scratch6 Finset.univ q (Q32 m ρ)
abbrev paP (c : Dev nD) (t : ℕ) (q : PosShare TreeShare) : sProp 𝕄 := pt c cc0_scratch7 (slotSet cc0_scratch7 (0 : Fin 4) 1 t) q (PA m ρ c)
abbrev paW (c : Dev nD) (q : PosShare TreeShare) : sProp 𝕄 := pt c cc0_scratch7 Finset.univ q (PA m ρ c)
abbrev plP (c : Dev nD) (t : ℕ) (q : PosShare TreeShare) : sProp 𝕄 := pt c cc0_scratch8 (slotSet cc0_scratch8 (0 : Fin 3) 1 t) q (PL m ρ c)
abbrev plW (c : Dev nD) (q : PosShare TreeShare) : sProp 𝕄 := pt c cc0_scratch8 Finset.univ q (PL m ρ c)
abbrev raP (c : Dev nD) (t : ℕ) : sProp 𝕄 := pt c cc0_scratch9 (slotSet cc0_scratch9 (0 : Fin 4) 1 t) fullShare (PRA m ρ c)
abbrev raW (c : Dev nD) : sProp 𝕄 := pt c cc0_scratch9 Finset.univ fullShare (PRA m ρ c)
abbrev rlP (c : Dev nD) (t : ℕ) : sProp 𝕄 := pt c cc0_scratch10 (slotSet cc0_scratch10 (0 : Fin 3) 1 t) fullShare (PRL m ρ c)
abbrev rlW (c : Dev nD) : sProp 𝕄 := pt c cc0_scratch10 Finset.univ fullShare (PRL m ρ c)
abbrev osP (c d : Dev nD) (q : PosShare TreeShare) : sProp 𝕄 := pt c cc0_scratch11 (slotSet cc0_scratch11 (0 : Fin 2) 256 d.val) q (OS m ρ c)
abbrev osW (c : Dev nD) (q : PosShare TreeShare) : sProp 𝕄 := pt c cc0_scratch11 Finset.univ q (OS m ρ c)
abbrev obP (c : Dev nD) (t : ℕ) : sProp 𝕄 := pt c cc0_scratch12 (slotSet cc0_scratch12 (0 : Fin 3) 1 t) fullShare (OB m ρ c)
abbrev obW (c : Dev nD) : sProp 𝕄 := pt c cc0_scratch12 Finset.univ fullShare (OB m ρ c)
abbrev outP (c d : Dev nD) (q : PosShare TreeShare) : sProp 𝕄 := pt c cc0_stg3_0 (slotSet cc0_stg3_0 (1 : Fin 3) 256 d.val) q (OUT m ρ)
abbrev outW (c : Dev nD) : sProp 𝕄 := pt c cc0_stg3_0 Finset.univ fullShare (OUT m ρ)
abbrev ksP (c : Dev nD) (g : Fin 4) : sProp 𝕄 := pt c cc0_scratch4 (slotSet cc0_scratch4 (0 : Fin 4) 1 (g.val % 2)) fullShare (KS m c g)
abbrev vsP (c : Dev nD) (g : Fin 4) : sProp 𝕄 := pt c cc0_scratch5 (slotSet cc0_scratch5 (0 : Fin 4) 1 (g.val % 2)) fullShare (VS m c g)
abbrev k0W (c : Dev nD) : sProp 𝕄 := pt c cc0_scratch0 Finset.univ fullShare (K0 m c)
abbrev v0W (c : Dev nD) : sProp 𝕄 := pt c cc0_scratch1 Finset.univ fullShare (V0 m c)
abbrev kbW (c : Dev nD) : sProp 𝕄 := pt c cc0_scratch2 Finset.univ fullShare (KB m c)
abbrev vbW (c : Dev nD) : sProp 𝕄 := pt c cc0_scratch3 Finset.univ fullShare (VB m c)

/-! The same pieces with some contents. -/

abbrev q32A (c d : Dev nD) : sProp 𝕄 := anyPt c cc0_scratch6 (slotSet cc0_scratch6 (0 : Fin 3) 1 d.val)
abbrev paA (c : Dev nD) (t : ℕ) : sProp 𝕄 := anyPt c cc0_scratch7 (slotSet cc0_scratch7 (0 : Fin 4) 1 t)
abbrev plA (c : Dev nD) (t : ℕ) : sProp 𝕄 := anyPt c cc0_scratch8 (slotSet cc0_scratch8 (0 : Fin 3) 1 t)
abbrev raA (c : Dev nD) (t : ℕ) : sProp 𝕄 := anyPt c cc0_scratch9 (slotSet cc0_scratch9 (0 : Fin 4) 1 t)
abbrev rlA (c : Dev nD) (t : ℕ) : sProp 𝕄 := anyPt c cc0_scratch10 (slotSet cc0_scratch10 (0 : Fin 3) 1 t)
abbrev osA (c : Dev nD) : sProp 𝕄 := anyPt c cc0_scratch11 Finset.univ
abbrev obA (c : Dev nD) (t : ℕ) : sProp 𝕄 := anyPt c cc0_scratch12 (slotSet cc0_scratch12 (0 : Fin 3) 1 t)
abbrev outA (c d : Dev nD) : sProp 𝕄 := anyPt c cc0_stg3_0 (slotSet cc0_stg3_0 (1 : Fin 3) 256 d.val)
abbrev ksA (c : Dev nD) (g : Fin 4) : sProp 𝕄 := anyPt c cc0_scratch4 (slotSet cc0_scratch4 (0 : Fin 4) 1 (g.val % 2))
abbrev vsA (c : Dev nD) (g : Fin 4) : sProp 𝕄 := anyPt c cc0_scratch5 (slotSet cc0_scratch5 (0 : Fin 4) 1 (g.val % 2))
abbrev hK (c : Dev nD) : sProp 𝕄 := anyQ c main_arg2 (Kc m c)
abbrev hV (c : Dev nD) : sProp 𝕄 := anyQ c main_arg3 (Vc m c)
abbrev sv (c : Dev nD) (k : CK) : sProp 𝕄 := semVal (cell c k) 0

/-! Buffers whole and by places. -/

/-- A buffer cut by the four devices' places, read from `c` on. -/
theorem cut_nx (c : Dev nD) (b : Ref sig .tc) (a : Fin b.ty.shape.rank) (k : ℕ) (hN : ∀ i : b.ty.Idx, (i a).val / k < 4) (q : PosShare TreeShare) (f : b.ty.Contents (Elt F)) :
    (pt c b Finset.univ q f : sProp 𝕄) ⊣⊢ iprop(pt c b (slotSet b a k c.val) q f ∗ pt c b (slotSet b a k (nx c (0 : Fin 3).val).val) q f ∗ pt c b (slotSet b a k (nx c (1 : Fin 3).val).val) q f ∗ pt c b (slotSet b a k (nx c (2 : Fin 3).val).val) q f) := by
  rw [pt_slots c b a k 4 hN q f]
  exact bigSep_nx c (fun t => pt c b (slotSet b a k t.val) q f)

/-- A buffer cut by the four devices' places, read from `c` backwards. -/
theorem cut_pv (c : Dev nD) (b : Ref sig .tc) (a : Fin b.ty.shape.rank) (k : ℕ) (hN : ∀ i : b.ty.Idx, (i a).val / k < 4) (q : PosShare TreeShare) (f : b.ty.Contents (Elt F)) :
    (pt c b Finset.univ q f : sProp 𝕄) ⊣⊢ iprop(pt c b (slotSet b a k c.val) q f ∗ pt c b (slotSet b a k (pv c (0 : Fin 3).val).val) q f ∗ pt c b (slotSet b a k (pv c (1 : Fin 3).val).val) q f ∗ pt c b (slotSet b a k (pv c (2 : Fin 3).val).val) q f) := by
  rw [pt_slots c b a k 4 hN q f]
  exact bigSep_pv c (fun t => pt c b (slotSet b a k t.val) q f)

theorem cut_two (c : Dev nD) (b : Ref sig .tc) (a : Fin b.ty.shape.rank) (k : ℕ) (hN : ∀ i : b.ty.Idx, (i a).val / k < 2) (q : PosShare TreeShare) (f : b.ty.Contents (Elt F)) :
    (pt c b Finset.univ q f : sProp 𝕄) ⊣⊢ iprop(pt c b (slotSet b a k (0 : Fin 2).val) q f ∗ pt c b (slotSet b a k (1 : Fin 2).val) q f) := by
  rw [pt_slots c b a k 2 hN q f]
  exact bigSep_two (fun t => pt c b (slotSet b a k t.val) q f)

theorem cut_three (c : Dev nD) (b : Ref sig .tc) (a : Fin b.ty.shape.rank) (k : ℕ) (hN : ∀ i : b.ty.Idx, (i a).val / k < 3) (q : PosShare TreeShare) (f : b.ty.Contents (Elt F)) :
    (pt c b Finset.univ q f : sProp 𝕄) ⊣⊢ iprop(pt c b (slotSet b a k (0 : Fin 3).val) q f ∗ pt c b (slotSet b a k (1 : Fin 3).val) q f ∗ pt c b (slotSet b a k (2 : Fin 3).val) q f) := by
  rw [pt_slots c b a k 3 hN q f]
  exact bigSep_three (fun t => pt c b (slotSet b a k t.val) q f)

theorem cut_four (c : Dev nD) (b : Ref sig .tc) (a : Fin b.ty.shape.rank) (k : ℕ) (hN : ∀ i : b.ty.Idx, (i a).val / k < 4) (q : PosShare TreeShare) (f : b.ty.Contents (Elt F)) :
    (pt c b Finset.univ q f : sProp 𝕄) ⊣⊢ iprop(pt c b (slotSet b a k (0 : Fin 4).val) q f ∗ pt c b (slotSet b a k (1 : Fin 4).val) q f ∗ pt c b (slotSet b a k (2 : Fin 4).val) q f ∗ pt c b (slotSet b a k (3 : Fin 4).val) q f) := by
  rw [pt_slots c b a k 4 hN q f]
  exact bigSep_four (fun t => pt c b (slotSet b a k t.val) q f)

theorem lt_q32 (i : cc0_scratch6.ty.Idx) : (i (0 : Fin 3)).val / 1 < 4 := by
  have : (i (0 : Fin 3)).val < 4 := (i (0 : Fin 3)).isLt
  omega

theorem lt_pa (i : cc0_scratch7.ty.Idx) : (i (0 : Fin 4)).val / 1 < 4 := by
  have : (i (0 : Fin 4)).val < 4 := (i (0 : Fin 4)).isLt
  omega

theorem lt_pl (i : cc0_scratch8.ty.Idx) : (i (0 : Fin 3)).val / 1 < 4 := by
  have : (i (0 : Fin 3)).val < 4 := (i (0 : Fin 3)).isLt
  omega

theorem lt_ra (i : cc0_scratch9.ty.Idx) : (i (0 : Fin 4)).val / 1 < 3 := by
  have : (i (0 : Fin 4)).val < 3 := (i (0 : Fin 4)).isLt
  omega

theorem lt_rl (i : cc0_scratch10.ty.Idx) : (i (0 : Fin 3)).val / 1 < 3 := by
  have : (i (0 : Fin 3)).val < 3 := (i (0 : Fin 3)).isLt
  omega

theorem lt_os (i : cc0_scratch11.ty.Idx) : (i (0 : Fin 2)).val / 256 < 4 := by
  have : (i (0 : Fin 2)).val < 1024 := (i (0 : Fin 2)).isLt
  omega

theorem lt_ob (i : cc0_scratch12.ty.Idx) : (i (0 : Fin 3)).val / 1 < 3 := by
  have : (i (0 : Fin 3)).val < 3 := (i (0 : Fin 3)).isLt
  omega

theorem lt_out (i : cc0_stg3_0.ty.Idx) : (i (1 : Fin 3)).val / 256 < 4 := by
  have : (i (1 : Fin 3)).val < 1024 := (i (1 : Fin 3)).isLt
  omega

theorem lt_ks (i : cc0_scratch4.ty.Idx) : (i (0 : Fin 4)).val / 1 < 2 := by
  have : (i (0 : Fin 4)).val < 2 := (i (0 : Fin 4)).isLt
  omega

theorem lt_vs (i : cc0_scratch5.ty.Idx) : (i (0 : Fin 4)).val / 1 < 2 := by
  have : (i (0 : Fin 4)).val < 2 := (i (0 : Fin 4)).isLt
  omega

theorem lt_k0 (i : cc0_scratch0.ty.Idx) : (i (0 : Fin 3)).val / 512 < 2 := by
  have : (i (0 : Fin 3)).val < 1024 := (i (0 : Fin 3)).isLt
  omega

theorem lt_v0 (i : cc0_scratch1.ty.Idx) : (i (0 : Fin 3)).val / 512 < 2 := by
  have : (i (0 : Fin 3)).val < 1024 := (i (0 : Fin 3)).isLt
  omega

/-- The queries of all devices, collected: the halves kept make the whole. -/
theorem join_q32 (c : Dev nD) :
    iprop(q32P m ρ c c fullShare.left ∗ q32P m ρ c (pv c (0 : Fin 3).val) fullShare ∗ q32P m ρ c (pv c (1 : Fin 3).val) fullShare ∗ q32P m ρ c (pv c (2 : Fin 3).val) fullShare)
      ⊢ iprop(q32W m ρ c fullShare.left ∗ q32P m ρ c (pv c (0 : Fin 3).val) fullShare.right ∗ q32P m ρ c (pv c (1 : Fin 3).val) fullShare.right ∗ q32P m ρ c (pv c (2 : Fin 3).val) fullShare.right) := by
  iintro ⟨H, H0, H1, H2⟩
  ihave H0 := (share2 c cc0_scratch6 _ _).mp $$ H0
  ihave H1 := (share2 c cc0_scratch6 _ _).mp $$ H1
  ihave H2 := (share2 c cc0_scratch6 _ _).mp $$ H2
  icases H0 with ⟨H0, G0⟩
  icases H1 with ⟨H1, G1⟩
  icases H2 with ⟨H2, G2⟩
  ihave H := (cut_pv c cc0_scratch6 (0 : Fin 3) 1 lt_q32 fullShare.left (Q32 m ρ)).mpr $$ [H H0 H1 H2]
  · iclose
  iclose

/-- The partial sums of this device's heads: one half is kept whole, the other goes out by places. -/
theorem cut_pa (c : Dev nD) :
    iprop(paP m ρ c (0 : Fin 4).val fullShare ∗ paP m ρ c (1 : Fin 4).val fullShare ∗ paP m ρ c (2 : Fin 4).val fullShare ∗ paP m ρ c (3 : Fin 4).val fullShare)
      ⊢ iprop(paW m ρ c fullShare.left ∗ paP m ρ c c.val fullShare.right ∗ paP m ρ c (nx c (0 : Fin 3).val).val fullShare.right ∗ paP m ρ c (nx c (1 : Fin 3).val).val fullShare.right ∗ paP m ρ c (nx c (2 : Fin 3).val).val fullShare.right) := by
  iintro H
  ihave H := (cut_four c cc0_scratch7 (0 : Fin 4) 1 lt_pa fullShare (PA m ρ c)).mpr $$ H
  ihave H := (share2 c cc0_scratch7 _ _).mp $$ H
  icases H with ⟨HL, HR⟩
  ihave HR := (cut_nx c cc0_scratch7 (0 : Fin 4) 1 lt_pa fullShare.right (PA m ρ c)).mp $$ HR
  iclose

theorem cut_pl (c : Dev nD) :
    iprop(plP m ρ c (0 : Fin 4).val fullShare ∗ plP m ρ c (1 : Fin 4).val fullShare ∗ plP m ρ c (2 : Fin 4).val fullShare ∗ plP m ρ c (3 : Fin 4).val fullShare)
      ⊢ iprop(plW m ρ c fullShare.left ∗ plP m ρ c c.val fullShare.right ∗ plP m ρ c (nx c (0 : Fin 3).val).val fullShare.right ∗ plP m ρ c (nx c (1 : Fin 3).val).val fullShare.right ∗ plP m ρ c (nx c (2 : Fin 3).val).val fullShare.right) := by
  iintro H
  ihave H := (cut_four c cc0_scratch8 (0 : Fin 3) 1 lt_pl fullShare (PL m ρ c)).mpr $$ H
  ihave H := (share2 c cc0_scratch8 _ _).mp $$ H
  icases H with ⟨HL, HR⟩
  ihave HR := (cut_nx c cc0_scratch8 (0 : Fin 3) 1 lt_pl fullShare.right (PL m ρ c)).mp $$ HR
  iclose

/-- The partial outputs: one half is kept whole, the other goes out by places. -/
theorem cut_os (c : Dev nD) :
    osW m ρ c fullShare
      ⊢ iprop(osW m ρ c fullShare.left ∗ osP m ρ c c fullShare.right ∗ osP m ρ c (nx c (0 : Fin 3).val) fullShare.right ∗ osP m ρ c (nx c (1 : Fin 3).val) fullShare.right ∗ osP m ρ c (nx c (2 : Fin 3).val) fullShare.right) := by
  iintro H
  ihave H := (share2 c cc0_scratch11 _ _).mp $$ H
  icases H with ⟨HL, HR⟩
  ihave HR := (cut_nx c cc0_scratch11 (0 : Fin 2) 256 lt_os fullShare.right (OS m ρ c)).mp $$ HR
  iclose

theorem join_ra (c : Dev nD) : iprop(raP m ρ c (0 : Fin 3).val ∗ raP m ρ c (1 : Fin 3).val ∗ raP m ρ c (2 : Fin 3).val) ⊢ raW m ρ c :=
  (cut_three c cc0_scratch9 (0 : Fin 4) 1 lt_ra fullShare (PRA m ρ c)).mpr

theorem join_rl (c : Dev nD) : iprop(rlP m ρ c (0 : Fin 3).val ∗ rlP m ρ c (1 : Fin 3).val ∗ rlP m ρ c (2 : Fin 3).val) ⊢ rlW m ρ c :=
  (cut_three c cc0_scratch10 (0 : Fin 3) 1 lt_rl fullShare (PRL m ρ c)).mpr

theorem join_ob (c : Dev nD) : iprop(obP m ρ c (0 : Fin 3).val ∗ obP m ρ c (1 : Fin 3).val ∗ obP m ρ c (2 : Fin 3).val) ⊢ obW m ρ c :=
  (cut_three c cc0_scratch12 (0 : Fin 3) 1 lt_ob fullShare (OB m ρ c)).mpr

/-- A staged piece, its contents forgotten. -/
theorem ksP_any (c : Dev nD) (g g' : Fin 4) (h : g.val % 2 = g'.val % 2) : ksP m c g ⊢ ksA c g' := by
  unfold ksP ksA
  rw [h]
  iintro H
  iexists _
  iexact H

theorem vsP_any (c : Dev nD) (g g' : Fin 4) (h : g.val % 2 = g'.val % 2) : vsP m c g ⊢ vsA c g' := by
  unfold vsP vsA
  rw [h]
  iintro H
  iexists _
  iexact H

/-- A piece, its contents forgotten. -/
theorem any_of (c : Dev nD) (b : Ref sig .tc) (S : Finset b.ty.Idx) (f : b.ty.Contents (Elt F)) : (pt c b S fullShare f : sProp 𝕄) ⊢ anyPt c b S := by
  iintro H
  iexists f
  iexact H

end Cert.KernelIdeal.Pf
-- ==== Proof.Cases.lean ====
/-
# What only some devices do
-/
module

public import proofs.«01_k».proof.Proof.Res

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The pieces that only device 0, or only device 1, sends or receives. -/

abbrev k0A (c : Dev nD) (s : Fin 2) : sProp 𝕄 := anyPt c cc0_scratch0 (slotSet cc0_scratch0 (0 : Fin 3) 512 s.val)
abbrev v0A (c : Dev nD) (s : Fin 2) : sProp 𝕄 := anyPt c cc0_scratch1 (slotSet cc0_scratch1 (0 : Fin 3) 512 s.val)
abbrev k0P (c : Dev nD) (s : Fin 2) : sProp 𝕄 := pt c cc0_scratch0 (slotSet cc0_scratch0 (0 : Fin 3) 512 s.val) fullShare (K0 m c)
abbrev v0P (c : Dev nD) (s : Fin 2) : sProp 𝕄 := pt c cc0_scratch1 (slotSet cc0_scratch1 (0 : Fin 3) 512 s.val) fullShare (V0 m c)
abbrev k0U (c : Dev nD) : sProp 𝕄 := anyPt c cc0_scratch0 Finset.univ
abbrev v0U (c : Dev nD) : sProp 𝕄 := anyPt c cc0_scratch1 Finset.univ
abbrev kbU (c : Dev nD) : sProp 𝕄 := anyPt c cc0_scratch2 Finset.univ
abbrev vbU (c : Dev nD) : sProp 𝕄 := anyPt c cc0_scratch3 Finset.univ

/-- What device 0 alone holds at the start: its own chunk-0 buffers, and the rights of its copies and transfers. -/
def TA (c : Dev nD) : sProp 𝕄 := if c.val = 0 then iprop(k0U c ∗ v0U c ∗ tok c (cp (0 : Fin 4)) ∗ tok c (cp (1 : Fin 4))
    ∗ (tok c (ks (0 : Fin 6)) ∗ tok (1 : Dev nD) (kr (0 : Fin 2))) ∗ (tok c (vs (0 : Fin 6)) ∗ tok (1 : Dev nD) (vr (0 : Fin 2)))
    ∗ (tok c (ks (1 : Fin 6)) ∗ tok (1 : Dev nD) (kr (1 : Fin 2))) ∗ (tok c (vs (1 : Fin 6)) ∗ tok (1 : Dev nD) (vr (1 : Fin 2)))
    ∗ (tok c (ks (2 : Fin 6)) ∗ tok (2 : Dev nD) (kr (0 : Fin 2))) ∗ (tok c (vs (2 : Fin 6)) ∗ tok (2 : Dev nD) (vr (0 : Fin 2)))
    ∗ (tok c (ks (3 : Fin 6)) ∗ tok (2 : Dev nD) (kr (1 : Fin 2))) ∗ (tok c (vs (3 : Fin 6)) ∗ tok (2 : Dev nD) (vr (1 : Fin 2)))
    ∗ (tok c (ks (4 : Fin 6)) ∗ tok (3 : Dev nD) (kr (0 : Fin 2))) ∗ (tok c (vs (4 : Fin 6)) ∗ tok (3 : Dev nD) (vr (0 : Fin 2)))
    ∗ (tok c (ks (5 : Fin 6)) ∗ tok (3 : Dev nD) (kr (1 : Fin 2))) ∗ (tok c (vs (5 : Fin 6)) ∗ tok (3 : Dev nD) (vr (1 : Fin 2)))) else iprop(emp)

/-- What device 1 alone holds at the start. -/
def TB (c : Dev nD) : sProp 𝕄 := if c.val = 1 then iprop(kbU c ∗ vbU c ∗ tok c (cp (2 : Fin 4)) ∗ tok c (cp (3 : Fin 4))
    ∗ (tok c (bks (0 : Fin 3)) ∗ tok (2 : Dev nD) bkr) ∗ (tok c (bvs (0 : Fin 3)) ∗ tok (2 : Dev nD) bvr)
    ∗ (tok c (bks (1 : Fin 3)) ∗ tok (3 : Dev nD) bkr) ∗ (tok c (bvs (1 : Fin 3)) ∗ tok (3 : Dev nD) bvr)
    ∗ (tok c (bks (2 : Fin 3)) ∗ tok (0 : Dev nD) bkr) ∗ (tok c (bvs (2 : Fin 3)) ∗ tok (0 : Dev nD) bvr)) else iprop(emp)

/-- The credits of device 0's copies, and of device 1's. -/
def BA (c : Dev nD) : sProp 𝕄 := if c.val = 0 then iprop(crd c (cp (0 : Fin 4)) ∗ crd c (cp (1 : Fin 4))) else iprop(emp)
def BB (c : Dev nD) : sProp 𝕄 := if c.val = 1 then iprop(crd c (cp (2 : Fin 4)) ∗ crd c (cp (3 : Fin 4))) else iprop(emp)

/-- The credits of device 0's transfers, and of device 1's. -/
def BC (c : Dev nD) : sProp 𝕄 := if c.val = 0 then iprop(
    crd c (ks (0 : Fin 6)) ∗ crd c (vs (0 : Fin 6)) ∗ crd c (ks (1 : Fin 6)) ∗ crd c (vs (1 : Fin 6)) ∗ crd c (ks (2 : Fin 6)) ∗ crd c (vs (2 : Fin 6))
    ∗ crd c (ks (3 : Fin 6)) ∗ crd c (vs (3 : Fin 6)) ∗ crd c (ks (4 : Fin 6)) ∗ crd c (vs (4 : Fin 6)) ∗ crd c (ks (5 : Fin 6)) ∗ crd c (vs (5 : Fin 6))) else iprop(emp)
def BD (c : Dev nD) : sProp 𝕄 := if c.val = 1 then iprop(
    crd c (bks (0 : Fin 3)) ∗ crd c (bvs (0 : Fin 3)) ∗ crd c (bks (1 : Fin 3)) ∗ crd c (bvs (1 : Fin 3)) ∗ crd c (bks (2 : Fin 3)) ∗ crd c (bvs (2 : Fin 3))) else iprop(emp)

/-- The credits for what comes from device 0, and from device 1. -/
def RA0 (c : Dev nD) : sProp 𝕄 := if c.val = 0 then iprop(emp) else iprop(crd c (kr (0 : Fin 2)) ∗ crd c (vr (0 : Fin 2)) ∗ crd c (kr (1 : Fin 2)) ∗ crd c (vr (1 : Fin 2)))
def RB1 (c : Dev nD) : sProp 𝕄 := if c.val = 1 then iprop(emp) else iprop(crd c bkr ∗ crd c bvr)

/-- The places device 0 may write elsewhere, and device 1. -/
def HK (c : Dev nD) (j : Fin 3) : sProp 𝕄 := if c.val = 0 then iprop(k0U (nx c j.val) ∗ v0U (nx c j.val)) else iprop(emp)
def HB (c : Dev nD) (j : Fin 3) : sProp 𝕄 := if c.val = 1 then iprop(kbU (nx c j.val) ∗ vbU (nx c j.val)) else iprop(emp)

/-- The transfers owed after the conditional ones, in order. -/
abbrev LQ (c : Dev nD) : List (Dev nD × Option CK) :=
  [(nx c (0 : Fin 3).val, some (qr (0 : Fin 3))), (nx c (1 : Fin 3).val, some (qr (1 : Fin 3))), (nx c (2 : Fin 3).val, some (qr (2 : Fin 3))),
   (nx c (0 : Fin 3).val, some (par (0 : Fin 3))), (nx c (0 : Fin 3).val, some (plr (0 : Fin 3))), (nx c (1 : Fin 3).val, some (par (1 : Fin 3))),
   (nx c (1 : Fin 3).val, some (plr (1 : Fin 3))), (nx c (2 : Fin 3).val, some (par (2 : Fin 3))), (nx c (2 : Fin 3).val, some (plr (2 : Fin 3))),
   (nx c (0 : Fin 3).val, some (orv (0 : Fin 3))), (nx c (1 : Fin 3).val, some (orv (1 : Fin 3))), (nx c (2 : Fin 3).val, some (orv (2 : Fin 3))),
   (nx c (0 : Fin 3).val, some (agr (0 : Fin 3))), (nx c (1 : Fin 3).val, some (agr (1 : Fin 3))), (nx c (2 : Fin 3).val, some (agr (2 : Fin 3)))]

/-- Device 0's, then; device 1's. -/
abbrev LK (l : List (Dev nD × Option CK)) : List (Dev nD × Option CK) :=
  (1, some (kr (0 : Fin 2))) :: (1, some (vr (0 : Fin 2))) :: (1, some (kr (1 : Fin 2))) :: (1, some (vr (1 : Fin 2)))
    :: (2, some (kr (0 : Fin 2))) :: (2, some (vr (0 : Fin 2))) :: (2, some (kr (1 : Fin 2))) :: (2, some (vr (1 : Fin 2)))
    :: (3, some (kr (0 : Fin 2))) :: (3, some (vr (0 : Fin 2))) :: (3, some (kr (1 : Fin 2))) :: (3, some (vr (1 : Fin 2))) :: l
abbrev LB (l : List (Dev nD × Option CK)) : List (Dev nD × Option CK) :=
  (2, some bkr) :: (2, some bvr) :: (3, some bkr) :: (3, some bvr) :: (0, some bkr) :: (0, some bvr) :: l

/-- All a device owes at the start, in the order in which it pays. -/
def DX (c : Dev nD) : List (Dev nD × Option CK) := if c.val = 0 then LK (LQ c) else if c.val = 1 then LB (LQ c) else LQ c
def D0 (c : Dev nD) : List (Dev nD × Option CK) := (nx c (0 : Fin 3).val, none) :: (nx c (1 : Fin 3).val, none) :: (nx c (2 : Fin 3).val, none) :: DX c

theorem DX_lev (c : Dev nD) : ((DX c).map Prod.snd).all (fun o => decide (1 < dLev o)) = true := by revert c; decide

theorem val0 {c : Dev nD} (h : c ≠ 0) : ¬ c.val = 0 := fun e => h (Fin.ext e)
theorem val1 {c : Dev nD} (h : c ≠ 1) : ¬ c.val = 1 := fun e => h (Fin.ext e)
theorem is0 {c : Dev nD} (h : c = 0) : c.val = 0 := congrArg Fin.val h
theorem is1 {c : Dev nD} (h : c = 1) : c.val = 1 := congrArg Fin.val h

theorem act_0 {c : Dev nD} (h : c ≠ 0) : (∀ s, act c (kr s) = true) ∧ (∀ s, act c (vr s) = true) ∧ act c (cp (0 : Fin 4)) = false ∧ act c (cp (1 : Fin 4)) = false ∧ (∀ i, act c (ks i) = false) ∧ (∀ i, act c (vs i) = false) := by
  revert c; decide
theorem act_1 {c : Dev nD} (h : c ≠ 1) : act c bkr = true ∧ act c bvr = true ∧ act c (cp (2 : Fin 4)) = false ∧ act c (cp (3 : Fin 4)) = false ∧ (∀ i, act c (bks i) = false) ∧ (∀ i, act c (bvs i) = false) := by
  revert c; decide

/-- A semaphore nothing raises is at zero at the end. -/
theorem close_w {α : Type} {p : Prog (TpuEff nD τ sig (Elt F) Λ₀ .tc) α} {Q : α → sProp 𝕄} (c : Dev nD) (k : CK) (hk : k ≠ stg) (h : act c k = false) :
    iprop(recs m ρ ∗ atp c k) ⊢ iprop((sv c k -∗ WP c p Q) -∗ WP c p Q) := by
  iintro ⟨#HR, Ha⟩ Hk
  ihave H := (close_off m ρ c k hk h) $$ [Ha]
  · iclose
  unfold WP
  iapply (fupd_wp _ _ _ _)
  imod H
  imodintro
  iapply Hk $$ H

theorem nx_ne' (c : Dev nD) (j : Fin 3) : nx c j.val ≠ c := by revert c j; decide

theorem signal_w (c : Dev nD) (j : Fin 3) (l : List (Dev nD × Option CK)) {n : Dev nD} (hn : n = nx c j.val) {k' : ℕ} (hk : k' = 1) {sem : Sem sig} (hs : sem = sig.barrier 0 rfl)
    {α : Type} {Q : α → sProp 𝕄} {kk : PUnit → Prog (TpuEff nD τ sig (Elt F) Λ₀ .tc) α} :
    iprop(recs m ρ ∗ debt c ((nx c j.val, none) :: l) ∗ tokB (nx c j.val) c ∗ Hand c (nx c j.val))
      ⊢ iprop((debt c l -∗ WP c (kk ⟨⟩) Q) -∗ WP c (.op (.semSignal (Dev.tc n : Thread nD τ) sem k') kk) Q) :=
  signal_gen m ρ c (nx c j.val) l hn (Ne.symm (nx_ne' c j)) hk hs

theorem barrier_w (c : Dev nD) (l : List (Dev nD × Option CK)) {k' : ℕ} (hk : k' = 3) {sem : Sem sig} (hs : sem = sig.barrier 0 rfl)
    (hl : (l.map Prod.snd).all (fun o => decide (1 < dLev o)) = true)
    {α : Type} {Q : α → sProp 𝕄} {kk : PUnit → Prog (TpuEff nD τ sig (Elt F) Λ₀ .tc) α} :
    iprop(recs m ρ ∗ levAts L lv ∗ cred (tallyAt (bar c) () 3) ∗ debt c l ∗ atPos ER (bar c) 0 ∅ 0)
      ⊢ iprop(((debt c l ∗ semVal (bar c) 0 ∗ Hand (nx c (0 : Fin 3).val) c ∗ Hand (nx c (1 : Fin 3).val) c ∗ Hand (nx c (2 : Fin 3).val) c) -∗ WP c (kk ⟨⟩) Q)
          -∗ WP c (.op (.semWait sem k') kk) Q) :=
  barrier_gen m ρ c l hk hs hl

/-- What a neighbour's signal hands over, piece by piece. -/
theorem hand_take (c : Dev nD) (j : Fin 3) :
    (Hand (nx c j.val) c : sProp 𝕄) ⊢ iprop(q32A (nx c j.val) c ∗ raA (nx c j.val) j.val ∗ rlA (nx c j.val) j.val ∗ obA (nx c j.val) j.val ∗ outA (nx c j.val) c ∗ HK c j ∗ HB c j) := by
  unfold Hand HK HB
  rw [dist_nx c j]

/-- A chunk-0 buffer in its two halves, some contents. -/
theorem halves_k0 (t : Dev nD) : (k0U t : sProp 𝕄) ⊢ iprop(k0A t (0 : Fin 2) ∗ k0A t (1 : Fin 2)) := by
  iintro ⟨%f, H⟩
  ihave H := (cut_two t cc0_scratch0 (0 : Fin 3) 512 lt_k0 fullShare f).mp $$ H
  icases H with ⟨H, H'⟩
  isplitl [H]
  · iexists f; iexact H
  · iexists f; iexact H'

theorem halves_v0 (t : Dev nD) : (v0U t : sProp 𝕄) ⊢ iprop(v0A t (0 : Fin 2) ∗ v0A t (1 : Fin 2)) := by
  iintro ⟨%f, H⟩
  ihave H := (cut_two t cc0_scratch1 (0 : Fin 3) 512 lt_v0 fullShare f).mp $$ H
  icases H with ⟨H, H'⟩
  isplitl [H]
  · iexists f; iexact H
  · iexists f; iexact H'

theorem HK_0 (c : Dev nD) (hc : c = 0) (j : Fin 3) (t : Dev nD) (ht : (j.val + 1) % 4 = t.val) : (HK c j : sProp 𝕄) ⊢ iprop(k0A t (0 : Fin 2) ∗ k0A t (1 : Fin 2) ∗ v0A t (0 : Fin 2) ∗ v0A t (1 : Fin 2)) := by
  subst hc
  have e : nx (0 : Dev nD) j.val = t := Fin.ext (by rw [← ht]; unfold nx; show (0 + j.val + 1) % 4 = _; omega)
  unfold HK
  rw [if_pos (show ((0 : Dev nD)).val = 0 from rfl), e]
  iintro ⟨H, H'⟩
  ihave H := (halves_k0 t) $$ H
  ihave H' := (halves_v0 t) $$ H'
  icases H with ⟨Ha, Hb⟩
  icases H' with ⟨Hc, Hd⟩
  isplitl [Ha]; · iexact Ha
  isplitl [Hb]; · iexact Hb
  isplitl [Hc]; · iexact Hc
  iexact Hd

theorem HB_1 (c : Dev nD) (hc : c = 1) (j : Fin 3) (t : Dev nD) (ht : (j.val + 2) % 4 = t.val) : (HB c j : sProp 𝕄) ⊢ iprop(kbU t ∗ vbU t) := by
  subst hc
  have e : nx (1 : Dev nD) j.val = t := Fin.ext (by rw [← ht]; unfold nx; show (1 + j.val + 1) % 4 = _; omega)
  unfold HB
  rw [if_pos (show ((1 : Dev nD)).val = 1 from rfl), e]

theorem join_k0 (c : Dev nD) : iprop(k0P m c (0 : Fin 2) ∗ k0P m c (1 : Fin 2)) ⊢ k0W m c :=
  (cut_two c cc0_scratch0 (0 : Fin 3) 512 lt_k0 fullShare (K0 m c)).mpr
theorem join_v0 (c : Dev nD) : iprop(v0P m c (0 : Fin 2) ∗ v0P m c (1 : Fin 2)) ⊢ v0W m c :=
  (cut_two c cc0_scratch1 (0 : Fin 3) 512 lt_v0 fullShare (V0 m c)).mpr

theorem DX_0 (c : Dev nD) (h : c.val = 0) : DX c = LK (LQ c) := if_pos h
theorem DX_1 (c : Dev nD) (h : c.val = 1) : DX c = LB (LQ c) := by
  unfold DX
  rw [if_neg (by rw [h]; decide), if_pos h]
theorem DX_n (c : Dev nD) (h : ¬ c.val = 0) (h' : ¬ c.val = 1) : DX c = LQ c := by
  unfold DX
  rw [if_neg h, if_neg h']

theorem cond1_pos {c : Dev nD} (h : c = 0) : k0_cond1 c = 1#1 := by subst h; rfl
theorem cond1_neg {c : Dev nD} (h : c ≠ 0) : ¬ k0_cond1 c = 1#1 := by revert c; decide
theorem cond2_pos {c : Dev nD} (h : c = 1) : k0_cond2 c = 1#1 := by subst h; rfl
theorem cond2_neg {c : Dev nD} (h : c ≠ 1) : ¬ k0_cond2 c = 1#1 := by revert c; decide
theorem eq_pos {c : Dev nD} {n : Fin 4} (h : c = n) : Scalar.cmpi .ne (Scalar.extui (Scalar.cmpi .eq (wv c) (BitVec.ofNat 32 n.val)) : BitVec 32) 0#32 = 1#1 := by subst h; revert c; decide
theorem eq_neg {c : Dev nD} {n : Fin 4} (h : c ≠ n) : ¬ Scalar.cmpi .ne (Scalar.extui (Scalar.cmpi .eq (wv c) (BitVec.ofNat 32 n.val)) : BitVec 32) 0#32 = 1#1 := by revert c n; decide
theorem ne_pos {c : Dev nD} {n : Fin 4} (h : c ≠ n) : Scalar.cmpi .ne (Scalar.extui (Scalar.cmpi .ne (wv c) (BitVec.ofNat 32 n.val)) : BitVec 32) 0#32 = 1#1 := by revert c n; decide
theorem ne_neg {c : Dev nD} {n : Fin 4} (h : c = n) : ¬ Scalar.cmpi .ne (Scalar.extui (Scalar.cmpi .ne (wv c) (BitVec.ofNat 32 n.val)) : BitVec 32) 0#32 = 1#1 := by subst h; revert c; decide

end Cert.KernelIdeal.Pf
-- ==== Proof.CaseParts.lean ====
/-
# The parts of the body only some devices run
-/
module

public import proofs.«01_k».proof.Proof.Cases

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The parts of the body under a condition on the device: what each takes and leaves. -/

theorem part1_ok (c : Dev nD) (l : List (Dev nD × Option CK)) {k0_h1 : k0_cond1 c = 1#1} (hc : c = 0)  {Φ : (PUnit) → sProp 𝕄} :
    iprop(recs m ρ ∗ levAts L lv ∗ debt c (((1 : Dev nD), some (kr (0 : Fin 2))) :: l) ∗ hK m c ∗ k0U c ∗ tok c (cp (0 : Fin 4)) ∗ hV m c ∗ v0U c ∗ tok c (cp (1 : Fin 4)) ∗ k0A (1 : Dev nD) (0 : Fin 2) ∗ tok c (ks (0 : Fin 6)) ∗ tok (1 : Dev nD) (kr (0 : Fin 2)))
      ⊢ iprop(((debt c l ∗ crd c (cp (0 : Fin 4)) ∗ crd c (cp (1 : Fin 4)) ∗ hV m c ∗ crd c (ks (0 : Fin 6)) ∗ hK m c) -∗ Φ (⟨⟩))
          -∗ WP c (call k0_part1 c k0_h1) Φ) := by
  rw [k0_part1_eq_skeleton]
  unfold k0_part1_skel
  simp only [Prog.lift, Prog.bind_op, Prog.bind_ret, Prog.pure_eq_ret]
  iintro ⟨#HR, #HL, HO, H1, H2, H3, H6, H7, H8, H11, H12, H13⟩ Hk
  iapply (copy_k0 m ρ c hc rfl rfl) $$ [H1 H2 H3]
  · iclose
  iintro ⟨H4, H5⟩
  iapply (copy_v0 m ρ c hc rfl rfl) $$ [H6 H7 H8]
  · iclose
  iintro ⟨H9, H10⟩
  iapply (send_k m ρ c hc (1 : Dev nD) (0 : Fin 2) (0 : Fin 6) (by decide) (l) (Fin.ext k0_dev4_eq) rfl rfl rfl rfl) $$ [H5 H11 HO H12 H13]
  · iclose
  iintro ⟨H14, HO, H15⟩
  iapply (WP_ret c _)
  iapply Hk
  iclose

theorem part2_ok (c : Dev nD) (l : List (Dev nD × Option CK)) {k0_h1 : k0_cond1 c = 1#1} (hc : c = 0)  {Φ : (PUnit) → sProp 𝕄} :
    iprop(recs m ρ ∗ levAts L lv ∗ debt c (((1 : Dev nD), some (vr (0 : Fin 2))) :: ((1 : Dev nD), some (kr (1 : Fin 2))) :: ((1 : Dev nD), some (vr (1 : Fin 2))) :: l) ∗ hV m c ∗ v0A (1 : Dev nD) (0 : Fin 2) ∗ tok c (vs (0 : Fin 6)) ∗ tok (1 : Dev nD) (vr (0 : Fin 2)) ∗ hK m c ∗ k0A (1 : Dev nD) (1 : Fin 2) ∗ tok c (ks (1 : Fin 6)) ∗ tok (1 : Dev nD) (kr (1 : Fin 2)) ∗ v0A (1 : Dev nD) (1 : Fin 2) ∗ tok c (vs (1 : Fin 6)) ∗ tok (1 : Dev nD) (vr (1 : Fin 2)))
      ⊢ iprop(((debt c l ∗ crd c (vs (0 : Fin 6)) ∗ crd c (ks (1 : Fin 6)) ∗ hK m c ∗ crd c (vs (1 : Fin 6)) ∗ hV m c) -∗ Φ (⟨⟩))
          -∗ WP c (call k0_part2 c k0_h1) Φ) := by
  rw [k0_part2_eq_skeleton]
  unfold k0_part2_skel
  simp only [Prog.lift, Prog.bind_op, Prog.bind_ret, Prog.pure_eq_ret]
  iintro ⟨#HR, #HL, HO, H1, H2, H3, H4, H7, H8, H9, H10, H13, H14, H15⟩ Hk
  iapply (send_v m ρ c hc (1 : Dev nD) (0 : Fin 2) (0 : Fin 6) (by decide) (((1 : Dev nD), some (kr (1 : Fin 2))) :: ((1 : Dev nD), some (vr (1 : Fin 2))) :: l) (Fin.ext k0_dev5_eq) rfl rfl rfl rfl) $$ [H1 H2 HO H3 H4]
  · iclose
  iintro ⟨H5, HO, H6⟩
  iapply (send_k m ρ c hc (1 : Dev nD) (1 : Fin 2) (1 : Fin 6) (by decide) (((1 : Dev nD), some (vr (1 : Fin 2))) :: l) (Fin.ext k0_dev6_eq) rfl rfl rfl rfl) $$ [H7 H8 HO H9 H10]
  · iclose
  iintro ⟨H11, HO, H12⟩
  iapply (send_v m ρ c hc (1 : Dev nD) (1 : Fin 2) (1 : Fin 6) (by decide) (l) (Fin.ext k0_dev7_eq) rfl rfl rfl rfl) $$ [H6 H13 HO H14 H15]
  · iclose
  iintro ⟨H16, HO, H17⟩
  iapply (WP_ret c _)
  iapply Hk
  iclose

theorem part3_ok (c : Dev nD) (l : List (Dev nD × Option CK)) {k0_h1 : k0_cond1 c = 1#1} (hc : c = 0)  {Φ : (BitVec 32) → sProp 𝕄} :
    iprop(recs m ρ ∗ levAts L lv ∗ debt c (((2 : Dev nD), some (kr (0 : Fin 2))) :: ((2 : Dev nD), some (vr (0 : Fin 2))) :: ((2 : Dev nD), some (kr (1 : Fin 2))) :: l) ∗ hK m c ∗ k0A (2 : Dev nD) (0 : Fin 2) ∗ tok c (ks (2 : Fin 6)) ∗ tok (2 : Dev nD) (kr (0 : Fin 2)) ∗ hV m c ∗ v0A (2 : Dev nD) (0 : Fin 2) ∗ tok c (vs (2 : Fin 6)) ∗ tok (2 : Dev nD) (vr (0 : Fin 2)) ∗ k0A (2 : Dev nD) (1 : Fin 2) ∗ tok c (ks (3 : Fin 6)) ∗ tok (2 : Dev nD) (kr (1 : Fin 2)))
      ⊢ iprop(((debt c l ∗ crd c (ks (2 : Fin 6)) ∗ crd c (vs (2 : Fin 6)) ∗ hV m c ∗ crd c (ks (3 : Fin 6)) ∗ hK m c) -∗ Φ ((Scalar.muli 2#32 1#32)))
          -∗ WP c (call k0_part3 c k0_h1) Φ) := by
  rw [k0_part3_eq_skeleton]
  unfold k0_part3_skel
  simp only [Prog.lift, Prog.bind_op, Prog.bind_ret, Prog.pure_eq_ret]
  iintro ⟨#HR, #HL, HO, H1, H2, H3, H4, H7, H8, H9, H10, H13, H14, H15⟩ Hk
  iapply (send_k m ρ c hc (2 : Dev nD) (0 : Fin 2) (2 : Fin 6) (by decide) (((2 : Dev nD), some (vr (0 : Fin 2))) :: ((2 : Dev nD), some (kr (1 : Fin 2))) :: l) (Fin.ext k0_dev8_eq) rfl rfl rfl rfl) $$ [H1 H2 HO H3 H4]
  · iclose
  iintro ⟨H5, HO, H6⟩
  iapply (send_v m ρ c hc (2 : Dev nD) (0 : Fin 2) (2 : Fin 6) (by decide) (((2 : Dev nD), some (kr (1 : Fin 2))) :: l) (Fin.ext k0_dev9_eq) rfl rfl rfl rfl) $$ [H7 H8 HO H9 H10]
  · iclose
  iintro ⟨H11, HO, H12⟩
  iapply (send_k m ρ c hc (2 : Dev nD) (1 : Fin 2) (3 : Fin 6) (by decide) (l) (Fin.ext k0_dev10_eq) rfl rfl rfl rfl) $$ [H6 H13 HO H14 H15]
  · iclose
  iintro ⟨H16, HO, H17⟩
  iapply (WP_ret c _)
  iapply Hk
  iclose

theorem part4_ok (c : Dev nD) (l : List (Dev nD × Option CK)) {k0_h1 : k0_cond1 c = 1#1} {v1623 : BitVec 32} (hc : c = 0)  {Φ : (PUnit) → sProp 𝕄} :
    iprop(recs m ρ ∗ levAts L lv ∗ debt c (((2 : Dev nD), some (vr (1 : Fin 2))) :: ((3 : Dev nD), some (kr (0 : Fin 2))) :: ((3 : Dev nD), some (vr (0 : Fin 2))) :: l) ∗ hV m c ∗ v0A (2 : Dev nD) (1 : Fin 2) ∗ tok c (vs (3 : Fin 6)) ∗ tok (2 : Dev nD) (vr (1 : Fin 2)) ∗ hK m c ∗ k0A (3 : Dev nD) (0 : Fin 2) ∗ tok c (ks (4 : Fin 6)) ∗ tok (3 : Dev nD) (kr (0 : Fin 2)) ∗ v0A (3 : Dev nD) (0 : Fin 2) ∗ tok c (vs (4 : Fin 6)) ∗ tok (3 : Dev nD) (vr (0 : Fin 2)))
      ⊢ iprop(((debt c l ∗ crd c (vs (3 : Fin 6)) ∗ crd c (ks (4 : Fin 6)) ∗ hK m c ∗ crd c (vs (4 : Fin 6)) ∗ hV m c) -∗ Φ (⟨⟩))
          -∗ WP c (call k0_part4 c k0_h1 v1623) Φ) := by
  rw [k0_part4_eq_skeleton]
  unfold k0_part4_skel
  simp only [Prog.lift, Prog.bind_op, Prog.bind_ret, Prog.pure_eq_ret]
  iintro ⟨#HR, #HL, HO, H1, H2, H3, H4, H7, H8, H9, H10, H13, H14, H15⟩ Hk
  iapply (send_v m ρ c hc (2 : Dev nD) (1 : Fin 2) (3 : Fin 6) (by decide) (((3 : Dev nD), some (kr (0 : Fin 2))) :: ((3 : Dev nD), some (vr (0 : Fin 2))) :: l) (Fin.ext k0_dev11_eq) rfl rfl rfl rfl) $$ [H1 H2 HO H3 H4]
  · iclose
  iintro ⟨H5, HO, H6⟩
  iapply (send_k m ρ c hc (3 : Dev nD) (0 : Fin 2) (4 : Fin 6) (by decide) (((3 : Dev nD), some (vr (0 : Fin 2))) :: l) (Fin.ext k0_dev12_eq) rfl rfl rfl rfl) $$ [H7 H8 HO H9 H10]
  · iclose
  iintro ⟨H11, HO, H12⟩
  iapply (send_v m ρ c hc (3 : Dev nD) (0 : Fin 2) (4 : Fin 6) (by decide) (l) (Fin.ext k0_dev13_eq) rfl rfl rfl rfl) $$ [H6 H13 HO H14 H15]
  · iclose
  iintro ⟨H16, HO, H17⟩
  iapply (WP_ret c _)
  iapply Hk
  iclose

theorem part5_ok (c : Dev nD) (l : List (Dev nD × Option CK)) {k0_h2 : k0_cond2 c = 1#1} (hc : c = 1)  {Φ : (BitVec 32) → sProp 𝕄} :
    iprop(recs m ρ ∗ levAts L lv ∗ debt c (((2 : Dev nD), some bkr) :: ((2 : Dev nD), some bvr) :: l) ∗ hK m c ∗ kbU c ∗ tok c (cp (2 : Fin 4)) ∗ hV m c ∗ vbU c ∗ tok c (cp (3 : Fin 4)) ∗ kbU (2 : Dev nD) ∗ tok c (bks (0 : Fin 3)) ∗ tok (2 : Dev nD) bkr ∗ vbU (2 : Dev nD) ∗ tok c (bvs (0 : Fin 3)) ∗ tok (2 : Dev nD) bvr)
      ⊢ iprop(((debt c l ∗ crd c (cp (2 : Fin 4)) ∗ crd c (cp (3 : Fin 4)) ∗ crd c (bks (0 : Fin 3)) ∗ hK m c ∗ crd c (bvs (0 : Fin 3)) ∗ hV m c) -∗ Φ (3#32))
          -∗ WP c (call k0_part5 c k0_h2) Φ) := by
  rw [k0_part5_eq_skeleton]
  unfold k0_part5_skel
  simp only [Prog.lift, Prog.bind_op, Prog.bind_ret, Prog.pure_eq_ret]
  iintro ⟨#HR, #HL, HO, H1, H2, H3, H6, H7, H8, H11, H12, H13, H16, H17, H18⟩ Hk
  iapply (copy_kb m ρ c hc rfl rfl) $$ [H1 H2 H3]
  · iclose
  iintro ⟨H4, H5⟩
  iapply (copy_vb m ρ c hc rfl rfl) $$ [H6 H7 H8]
  · iclose
  iintro ⟨H9, H10⟩
  iapply (send_kb m ρ c hc (2 : Dev nD) (0 : Fin 3) (by decide) (((2 : Dev nD), some bvr) :: l) (Fin.ext k0_dev16_eq) rfl rfl rfl) $$ [H5 H11 HO H12 H13]
  · iclose
  iintro ⟨H14, HO, H15⟩
  iapply (send_vb m ρ c hc (2 : Dev nD) (0 : Fin 3) (by decide) (l) (Fin.ext k0_dev17_eq) rfl rfl rfl) $$ [H10 H16 HO H17 H18]
  · iclose
  iintro ⟨H19, HO, H20⟩
  iapply (WP_ret c _)
  iapply Hk
  iclose

theorem part6_ok (c : Dev nD) (l : List (Dev nD × Option CK)) {k0_h2 : k0_cond2 c = 1#1} {c3_i32_1358 : BitVec 32} (hc : c = 1)  {Φ : (PUnit) → sProp 𝕄} :
    iprop(recs m ρ ∗ levAts L lv ∗ debt c (((3 : Dev nD), some bkr) :: ((3 : Dev nD), some bvr) :: ((0 : Dev nD), some bkr) :: l) ∗ hK m c ∗ kbU (3 : Dev nD) ∗ tok c (bks (1 : Fin 3)) ∗ tok (3 : Dev nD) bkr ∗ hV m c ∗ vbU (3 : Dev nD) ∗ tok c (bvs (1 : Fin 3)) ∗ tok (3 : Dev nD) bvr ∗ kbU (0 : Dev nD) ∗ tok c (bks (2 : Fin 3)) ∗ tok (0 : Dev nD) bkr)
      ⊢ iprop(((debt c l ∗ crd c (bks (1 : Fin 3)) ∗ crd c (bvs (1 : Fin 3)) ∗ hV m c ∗ crd c (bks (2 : Fin 3)) ∗ hK m c) -∗ Φ (⟨⟩))
          -∗ WP c (call k0_part6 c k0_h2 c3_i32_1358) Φ) := by
  rw [k0_part6_eq_skeleton]
  unfold k0_part6_skel
  simp only [Prog.lift, Prog.bind_op, Prog.bind_ret, Prog.pure_eq_ret]
  iintro ⟨#HR, #HL, HO, H1, H2, H3, H4, H7, H8, H9, H10, H13, H14, H15⟩ Hk
  iapply (send_kb m ρ c hc (3 : Dev nD) (1 : Fin 3) (by decide) (((3 : Dev nD), some bvr) :: ((0 : Dev nD), some bkr) :: l) (Fin.ext k0_dev18_eq) rfl rfl rfl) $$ [H1 H2 HO H3 H4]
  · iclose
  iintro ⟨H5, HO, H6⟩
  iapply (send_vb m ρ c hc (3 : Dev nD) (1 : Fin 3) (by decide) (((0 : Dev nD), some bkr) :: l) (Fin.ext k0_dev19_eq) rfl rfl rfl) $$ [H7 H8 HO H9 H10]
  · iclose
  iintro ⟨H11, HO, H12⟩
  iapply (send_kb m ρ c hc (0 : Dev nD) (2 : Fin 3) (by decide) (l) (Fin.ext k0_dev20_eq) rfl rfl rfl) $$ [H6 H13 HO H14 H15]
  · iclose
  iintro ⟨H16, HO, H17⟩
  iapply (WP_ret c _)
  iapply Hk
  iclose

theorem part7_ok (c : Dev nD) (l : List (Dev nD × Option CK)) {v2 : BitVec 32} (hc : c ≠ 0) (hl0 : (((l) : List (Dev nD × Option CK)).map Prod.snd).all (fun o => decide (CK.lev (kr (0 : Fin 2)) < dLev o)) = true) (hl1 : (((l) : List (Dev nD × Option CK)).map Prod.snd).all (fun o => decide (CK.lev (vr (0 : Fin 2)) < dLev o)) = true) (hl2 : (((l) : List (Dev nD × Option CK)).map Prod.snd).all (fun o => decide (CK.lev (kr (1 : Fin 2)) < dLev o)) = true) {Φ : (PUnit) → sProp 𝕄} :
    iprop(recs m ρ ∗ levAts L lv ∗ debt c (l) ∗ crd c (kr (0 : Fin 2)) ∗ atp c (kr (0 : Fin 2)) ∗ crd c (vr (0 : Fin 2)) ∗ atp c (vr (0 : Fin 2)) ∗ crd c (kr (1 : Fin 2)) ∗ atp c (kr (1 : Fin 2)))
      ⊢ iprop(((debt c l ∗ sv c (kr (0 : Fin 2)) ∗ k0P m c (0 : Fin 2) ∗ sv c (vr (0 : Fin 2)) ∗ v0P m c (0 : Fin 2) ∗ sv c (kr (1 : Fin 2)) ∗ k0P m c (1 : Fin 2)) -∗ Φ (⟨⟩))
          -∗ WP c (call k0_part7 v2) Φ) := by
  rw [k0_part7_eq_skeleton]
  unfold k0_part7_skel
  simp only [Prog.lift, Prog.bind_op, Prog.bind_ret, Prog.pure_eq_ret]
  iintro ⟨#HR, #HL, HO, H1, H2, H5, H6, H9, H10⟩ Hk
  iapply (wait_w m ρ c (kr (0 : Fin 2)) (l) (k0P m c (0 : Fin 2)) rfl rfl ((act_0 hc).1 _) (fun _ => rfl) hl0) $$ [H1 HO H2]
  · iclose
  iintro ⟨HO, H3, H4⟩
  iapply (wait_w m ρ c (vr (0 : Fin 2)) (l) (v0P m c (0 : Fin 2)) rfl rfl ((act_0 hc).2.1 _) (fun _ => rfl) hl1) $$ [H5 HO H6]
  · iclose
  iintro ⟨HO, H7, H8⟩
  iapply (wait_w m ρ c (kr (1 : Fin 2)) (l) (k0P m c (1 : Fin 2)) rfl rfl ((act_0 hc).1 _) (fun _ => rfl) hl2) $$ [H9 HO H10]
  · iclose
  iintro ⟨HO, H11, H12⟩
  iapply (WP_ret c _)
  iapply Hk
  iclose

theorem part8_ok (c : Dev nD) (l : List (Dev nD × Option CK))  (hc : c = 0) (hl0 : (((l) : List (Dev nD × Option CK)).map Prod.snd).all (fun o => decide (CK.lev (ks (0 : Fin 6)) < dLev o)) = true) (hl1 : (((l) : List (Dev nD × Option CK)).map Prod.snd).all (fun o => decide (CK.lev (vs (0 : Fin 6)) < dLev o)) = true) (hl2 : (((l) : List (Dev nD × Option CK)).map Prod.snd).all (fun o => decide (CK.lev (ks (1 : Fin 6)) < dLev o)) = true) {Φ : (PUnit) → sProp 𝕄} :
    iprop(recs m ρ ∗ levAts L lv ∗ debt c (l) ∗ crd c (ks (0 : Fin 6)) ∗ atp c (ks (0 : Fin 6)) ∗ crd c (vs (0 : Fin 6)) ∗ atp c (vs (0 : Fin 6)) ∗ crd c (ks (1 : Fin 6)) ∗ atp c (ks (1 : Fin 6)))
      ⊢ iprop(((debt c l ∗ sv c (ks (0 : Fin 6)) ∗ sv c (vs (0 : Fin 6)) ∗ sv c (ks (1 : Fin 6))) -∗ Φ (⟨⟩))
          -∗ WP c (call k0_part8 ) Φ) := by
  rw [k0_part8_eq_skeleton]
  unfold k0_part8_skel
  simp only [Prog.lift, Prog.bind_op, Prog.bind_ret, Prog.pure_eq_ret]
  iintro ⟨#HR, #HL, HO, H1, H2, H4, H5, H7, H8⟩ Hk
  iapply (wait_w m ρ c (ks (0 : Fin 6)) (l) (iprop(emp)) rfl rfl (by subst hc; rfl) (fun _ => rfl) hl0) $$ [H1 HO H2]
  · iclose
  iintro ⟨HO, H3, -⟩
  iapply (wait_w m ρ c (vs (0 : Fin 6)) (l) (iprop(emp)) rfl rfl (by subst hc; rfl) (fun _ => rfl) hl1) $$ [H4 HO H5]
  · iclose
  iintro ⟨HO, H6, -⟩
  iapply (wait_w m ρ c (ks (1 : Fin 6)) (l) (iprop(emp)) rfl rfl (by subst hc; rfl) (fun _ => rfl) hl2) $$ [H7 HO H8]
  · iclose
  iintro ⟨HO, H9, -⟩
  iapply (WP_ret c _)
  iapply Hk
  iclose

theorem part9_ok (c : Dev nD) (l : List (Dev nD × Option CK))  (hc : c = 0) (hl0 : (((l) : List (Dev nD × Option CK)).map Prod.snd).all (fun o => decide (CK.lev (vs (1 : Fin 6)) < dLev o)) = true) (hl1 : (((l) : List (Dev nD × Option CK)).map Prod.snd).all (fun o => decide (CK.lev (ks (2 : Fin 6)) < dLev o)) = true) (hl2 : (((l) : List (Dev nD × Option CK)).map Prod.snd).all (fun o => decide (CK.lev (vs (2 : Fin 6)) < dLev o)) = true) (hl3 : (((l) : List (Dev nD × Option CK)).map Prod.snd).all (fun o => decide (CK.lev (ks (3 : Fin 6)) < dLev o)) = true) {Φ : (PUnit) → sProp 𝕄} :
    iprop(recs m ρ ∗ levAts L lv ∗ debt c (l) ∗ crd c (vs (1 : Fin 6)) ∗ atp c (vs (1 : Fin 6)) ∗ crd c (ks (2 : Fin 6)) ∗ atp c (ks (2 : Fin 6)) ∗ crd c (vs (2 : Fin 6)) ∗ atp c (vs (2 : Fin 6)) ∗ crd c (ks (3 : Fin 6)) ∗ atp c (ks (3 : Fin 6)))
      ⊢ iprop(((debt c l ∗ sv c (vs (1 : Fin 6)) ∗ sv c (ks (2 : Fin 6)) ∗ sv c (vs (2 : Fin 6)) ∗ sv c (ks (3 : Fin 6))) -∗ Φ (⟨⟩))
          -∗ WP c (call k0_part9 ) Φ) := by
  rw [k0_part9_eq_skeleton]
  unfold k0_part9_skel
  simp only [Prog.lift, Prog.bind_op, Prog.bind_ret, Prog.pure_eq_ret]
  iintro ⟨#HR, #HL, HO, H1, H2, H4, H5, H7, H8, H10, H11⟩ Hk
  iapply (wait_w m ρ c (vs (1 : Fin 6)) (l) (iprop(emp)) rfl rfl (by subst hc; rfl) (fun _ => rfl) hl0) $$ [H1 HO H2]
  · iclose
  iintro ⟨HO, H3, -⟩
  iapply (wait_w m ρ c (ks (2 : Fin 6)) (l) (iprop(emp)) rfl rfl (by subst hc; rfl) (fun _ => rfl) hl1) $$ [H4 HO H5]
  · iclose
  iintro ⟨HO, H6, -⟩
  iapply (wait_w m ρ c (vs (2 : Fin 6)) (l) (iprop(emp)) rfl rfl (by subst hc; rfl) (fun _ => rfl) hl2) $$ [H7 HO H8]
  · iclose
  iintro ⟨HO, H9, -⟩
  iapply (wait_w m ρ c (ks (3 : Fin 6)) (l) (iprop(emp)) rfl rfl (by subst hc; rfl) (fun _ => rfl) hl3) $$ [H10 HO H11]
  · iclose
  iintro ⟨HO, H12, -⟩
  iapply (WP_ret c _)
  iapply Hk
  iclose

theorem part10_ok (c : Dev nD) (l : List (Dev nD × Option CK))  (hc : c = 0) (hl0 : (((l) : List (Dev nD × Option CK)).map Prod.snd).all (fun o => decide (CK.lev (vs (3 : Fin 6)) < dLev o)) = true) (hl1 : (((l) : List (Dev nD × Option CK)).map Prod.snd).all (fun o => decide (CK.lev (ks (4 : Fin 6)) < dLev o)) = true) (hl2 : (((l) : List (Dev nD × Option CK)).map Prod.snd).all (fun o => decide (CK.lev (vs (4 : Fin 6)) < dLev o)) = true) {Φ : (PUnit) → sProp 𝕄} :
    iprop(recs m ρ ∗ levAts L lv ∗ debt c (l) ∗ crd c (vs (3 : Fin 6)) ∗ atp c (vs (3 : Fin 6)) ∗ crd c (ks (4 : Fin 6)) ∗ atp c (ks (4 : Fin 6)) ∗ crd c (vs (4 : Fin 6)) ∗ atp c (vs (4 : Fin 6)))
      ⊢ iprop(((debt c l ∗ sv c (vs (3 : Fin 6)) ∗ sv c (ks (4 : Fin 6)) ∗ sv c (vs (4 : Fin 6))) -∗ Φ (⟨⟩))
          -∗ WP c (call k0_part10 ) Φ) := by
  rw [k0_part10_eq_skeleton]
  unfold k0_part10_skel
  simp only [Prog.lift, Prog.bind_op, Prog.bind_ret, Prog.pure_eq_ret]
  iintro ⟨#HR, #HL, HO, H1, H2, H4, H5, H7, H8⟩ Hk
  iapply (wait_w m ρ c (vs (3 : Fin 6)) (l) (iprop(emp)) rfl rfl (by subst hc; rfl) (fun _ => rfl) hl0) $$ [H1 HO H2]
  · iclose
  iintro ⟨HO, H3, -⟩
  iapply (wait_w m ρ c (ks (4 : Fin 6)) (l) (iprop(emp)) rfl rfl (by subst hc; rfl) (fun _ => rfl) hl1) $$ [H4 HO H5]
  · iclose
  iintro ⟨HO, H6, -⟩
  iapply (wait_w m ρ c (vs (4 : Fin 6)) (l) (iprop(emp)) rfl rfl (by subst hc; rfl) (fun _ => rfl) hl2) $$ [H7 HO H8]
  · iclose
  iintro ⟨HO, H9, -⟩
  iapply (WP_ret c _)
  iapply Hk
  iclose

theorem part11_ok (c : Dev nD) (l : List (Dev nD × Option CK))  (hc : c = 1) (hl0 : (((l) : List (Dev nD × Option CK)).map Prod.snd).all (fun o => decide (CK.lev (bks (0 : Fin 3)) < dLev o)) = true) (hl1 : (((l) : List (Dev nD × Option CK)).map Prod.snd).all (fun o => decide (CK.lev (bvs (0 : Fin 3)) < dLev o)) = true) (hl2 : (((l) : List (Dev nD × Option CK)).map Prod.snd).all (fun o => decide (CK.lev (bks (1 : Fin 3)) < dLev o)) = true) (hl3 : (((l) : List (Dev nD × Option CK)).map Prod.snd).all (fun o => decide (CK.lev (bvs (1 : Fin 3)) < dLev o)) = true) {Φ : (PUnit) → sProp 𝕄} :
    iprop(recs m ρ ∗ levAts L lv ∗ debt c (l) ∗ crd c (bks (0 : Fin 3)) ∗ atp c (bks (0 : Fin 3)) ∗ crd c (bvs (0 : Fin 3)) ∗ atp c (bvs (0 : Fin 3)) ∗ crd c (bks (1 : Fin 3)) ∗ atp c (bks (1 : Fin 3)) ∗ crd c (bvs (1 : Fin 3)) ∗ atp c (bvs (1 : Fin 3)))
      ⊢ iprop(((debt c l ∗ sv c (bks (0 : Fin 3)) ∗ sv c (bvs (0 : Fin 3)) ∗ sv c (bks (1 : Fin 3)) ∗ sv c (bvs (1 : Fin 3))) -∗ Φ (⟨⟩))
          -∗ WP c (call k0_part11 ) Φ) := by
  rw [k0_part11_eq_skeleton]
  unfold k0_part11_skel
  simp only [Prog.lift, Prog.bind_op, Prog.bind_ret, Prog.pure_eq_ret]
  iintro ⟨#HR, #HL, HO, H1, H2, H4, H5, H7, H8, H10, H11⟩ Hk
  iapply (wait_w m ρ c (bks (0 : Fin 3)) (l) (iprop(emp)) rfl rfl (by subst hc; rfl) (fun _ => rfl) hl0) $$ [H1 HO H2]
  · iclose
  iintro ⟨HO, H3, -⟩
  iapply (wait_w m ρ c (bvs (0 : Fin 3)) (l) (iprop(emp)) rfl rfl (by subst hc; rfl) (fun _ => rfl) hl1) $$ [H4 HO H5]
  · iclose
  iintro ⟨HO, H6, -⟩
  iapply (wait_w m ρ c (bks (1 : Fin 3)) (l) (iprop(emp)) rfl rfl (by subst hc; rfl) (fun _ => rfl) hl2) $$ [H7 HO H8]
  · iclose
  iintro ⟨HO, H9, -⟩
  iapply (wait_w m ρ c (bvs (1 : Fin 3)) (l) (iprop(emp)) rfl rfl (by subst hc; rfl) (fun _ => rfl) hl3) $$ [H10 HO H11]
  · iclose
  iintro ⟨HO, H12, -⟩
  iapply (WP_ret c _)
  iapply Hk
  iclose

end Cert.KernelIdeal.Pf
-- ==== Proof.StartPart.lean ====
/-
# The first part of the body
-/
module

public import proofs.«01_k».proof.Proof.CaseParts

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The barrier, the transfers of devices 0 and 1, and the first reads. -/

theorem part12_ok (c : Dev nD) {Φ : (Σ' (d0 : Dev nD) (v2 : BitVec 32) (v23 : FVec F S1024x1024 .bf16), Vec F S1024x1024 .bf16) → sProp 𝕄} :
    iprop(recs m ρ ∗ levAts L lv ∗ cred (tallyAt (bar c) () 3) ∗ debt c (D0 c) ∗ atPos ER (bar c) 0 ∅ 0 ∗ tokB (nx c (0 : Fin 3).val) c ∗ tokB (nx c (1 : Fin 3).val) c ∗ tokB (nx c (2 : Fin 3).val) c ∗ Hand c (nx c (0 : Fin 3).val) ∗ Hand c (nx c (1 : Fin 3).val) ∗ Hand c (nx c (2 : Fin 3).val) ∗ TA c ∗ TB c ∗ hK m c ∗ hV m c ∗ pt c cc0_stg0_0 Finset.univ fullShare (xst m ρ c) ∗ pt c cc0_stg1_0 Finset.univ fullShare (wqst m ρ c))
      ⊢ iprop(((debt c (LQ c) ∗ semVal (bar c) 0 ∗ q32A (nx c (0 : Fin 3).val) c ∗ raA (nx c (0 : Fin 3).val) (0 : Fin 3).val ∗ rlA (nx c (0 : Fin 3).val) (0 : Fin 3).val ∗ obA (nx c (0 : Fin 3).val) (0 : Fin 3).val ∗ outA (nx c (0 : Fin 3).val) c ∗ q32A (nx c (1 : Fin 3).val) c ∗ raA (nx c (1 : Fin 3).val) (1 : Fin 3).val ∗ rlA (nx c (1 : Fin 3).val) (1 : Fin 3).val ∗ obA (nx c (1 : Fin 3).val) (1 : Fin 3).val ∗ outA (nx c (1 : Fin 3).val) c ∗ q32A (nx c (2 : Fin 3).val) c ∗ raA (nx c (2 : Fin 3).val) (2 : Fin 3).val ∗ rlA (nx c (2 : Fin 3).val) (2 : Fin 3).val ∗ obA (nx c (2 : Fin 3).val) (2 : Fin 3).val ∗ outA (nx c (2 : Fin 3).val) c ∗ BA c ∗ BB c ∗ BC c ∗ BD c ∗ hK m c ∗ hV m c ∗ pt c cc0_stg0_0 Finset.univ fullShare (xst m ρ c) ∗ pt c cc0_stg1_0 Finset.univ fullShare (wqst m ρ c)) -∗ Φ ⟨c, wv c, k0_pay1 (xst m ρ c), wqst m ρ c⟩)
          -∗ WP c (call k0_part12) Φ) := by
  rw [k0_part12_eq_skeleton]
  unfold k0_part12_skel D0
  simp only [WP, semSignalWord, semWaitWord, Prog.lift, Prog.bind_op, Prog.bind_ret, Prog.pure_eq_ret, wp_deviceId]
  iintro ⟨#HR, #HL, A0, HO, A2, A3, A4, A5, A6, A7, A8, A9, A10, A11, A12, A13, A14⟩ Hk
  iapply (signal_w m ρ c (0 : Fin 3) ((nx c (1 : Fin 3).val, none) :: (nx c (2 : Fin 3).val, none) :: DX c) (Fin.ext (k0_dev1_eq c)) rfl rfl) $$ [HO A3 A6]
  · iclose
  iintro HO
  iapply (signal_w m ρ c (1 : Fin 3) ((nx c (2 : Fin 3).val, none) :: DX c) (Fin.ext (k0_dev2_eq c)) rfl rfl) $$ [HO A4 A7]
  · iclose
  iintro HO
  iapply (signal_w m ρ c (2 : Fin 3) (DX c) (Fin.ext (k0_dev3_eq c)) rfl rfl) $$ [HO A5 A8]
  · iclose
  iintro HO
  iapply (barrier_w m ρ c (DX c) rfl rfl (DX_lev c)) $$ [A0 HO A2]
  · iclose
  iintro ⟨HO, Hbar, G0, G1, G2⟩
  ihave G0 := (hand_take c (0 : Fin 3)) $$ G0
  icases G0 with ⟨a0, b0, c0, d0, e0, x0, y0⟩
  ihave G1 := (hand_take c (1 : Fin 3)) $$ G1
  icases G1 with ⟨a1, b1, c1, d1, e1, x1, y1⟩
  ihave G2 := (hand_take c (2 : Fin 3)) $$ G2
  icases G2 with ⟨a2, b2, c2, d2, e2, x2, y2⟩
  by_cases hc : c = 0
  · have h1 : c ≠ 1 := by rw [hc]; decide
    simp only [TA, TB, BA, BB, BC, BD, if_pos (is0 hc), if_neg (val1 h1), DX_0 c (is0 hc), LK, LQ, dif_pos (cond1_pos hc), dif_neg (cond2_neg h1), Prog.bind_op, Prog.bind_ret, bind_assoc]
    icases A9 with ⟨K1, K2, K3, K4, ⟨K5, K6⟩, ⟨K7, K8⟩, ⟨K9, K10⟩, ⟨K11, K12⟩, ⟨K13, K14⟩, ⟨K15, K16⟩, ⟨K17, K18⟩, ⟨K19, K20⟩, ⟨K21, K22⟩, ⟨K23, K24⟩, ⟨K25, K26⟩, ⟨K27, K28⟩⟩
    ihave x0 := (HK_0 c hc (0 : Fin 3) (1 : Dev nD) (by decide)) $$ x0
    icases x0 with ⟨K29, K30, K31, K32⟩
    ihave x1 := (HK_0 c hc (1 : Fin 3) (2 : Dev nD) (by decide)) $$ x1
    icases x1 with ⟨K33, K34, K35, K36⟩
    ihave x2 := (HK_0 c hc (2 : Fin 3) (3 : Dev nD) (by decide)) $$ x2
    icases x2 with ⟨K37, K38, K39, K40⟩
    iapply (WP_bind c _ _)
    iapply (part1_ok m ρ c ([((1 : Dev nD), some (vr (0 : Fin 2))), ((1 : Dev nD), some (kr (1 : Fin 2))), ((1 : Dev nD), some (vr (1 : Fin 2))), ((2 : Dev nD), some (kr (0 : Fin 2))), ((2 : Dev nD), some (vr (0 : Fin 2))), ((2 : Dev nD), some (kr (1 : Fin 2))), ((2 : Dev nD), some (vr (1 : Fin 2))), ((3 : Dev nD), some (kr (0 : Fin 2))), ((3 : Dev nD), some (vr (0 : Fin 2))), ((3 : Dev nD), some (kr (1 : Fin 2))), ((3 : Dev nD), some (vr (1 : Fin 2))), (nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) hc  ) $$ [HO A11 K1 K3 A12 K2 K4 K29 K5 K6]
    · iclose
    iintro ⟨HO, K41, K42, K43, K44, K45⟩
    try dsimp only
    iapply (WP_bind c _ _)
    iapply (part2_ok m ρ c ([((2 : Dev nD), some (kr (0 : Fin 2))), ((2 : Dev nD), some (vr (0 : Fin 2))), ((2 : Dev nD), some (kr (1 : Fin 2))), ((2 : Dev nD), some (vr (1 : Fin 2))), ((3 : Dev nD), some (kr (0 : Fin 2))), ((3 : Dev nD), some (vr (0 : Fin 2))), ((3 : Dev nD), some (kr (1 : Fin 2))), ((3 : Dev nD), some (vr (1 : Fin 2))), (nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) hc  ) $$ [HO K43 K31 K7 K8 K45 K30 K9 K10 K32 K11 K12]
    · iclose
    iintro ⟨HO, K46, K47, K48, K49, K50⟩
    try dsimp only
    iapply (WP_bind c _ _)
    iapply (part3_ok m ρ c ([((2 : Dev nD), some (vr (1 : Fin 2))), ((3 : Dev nD), some (kr (0 : Fin 2))), ((3 : Dev nD), some (vr (0 : Fin 2))), ((3 : Dev nD), some (kr (1 : Fin 2))), ((3 : Dev nD), some (vr (1 : Fin 2))), (nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) hc  ) $$ [HO K48 K33 K13 K14 K50 K35 K15 K16 K34 K17 K18]
    · iclose
    iintro ⟨HO, K51, K52, K53, K54, K55⟩
    try dsimp only
    iapply (WP_bind c _ _)
    iapply (part4_ok m ρ c ([((3 : Dev nD), some (kr (1 : Fin 2))), ((3 : Dev nD), some (vr (1 : Fin 2))), (nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) hc  ) $$ [HO K53 K36 K19 K20 K55 K37 K21 K22 K39 K23 K24]
    · iclose
    iintro ⟨HO, K56, K57, K58, K59, K60⟩
    try dsimp only
    iapply (send_k m ρ c hc (3 : Dev nD) (1 : Fin 2) (5 : Fin 6) (by decide) ([((3 : Dev nD), some (vr (1 : Fin 2))), (nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) (Fin.ext k0_dev14_eq) rfl rfl rfl rfl) $$ [K58 K38 HO K25 K26]
    · iclose
    iintro ⟨K61, HO, K62⟩
    iapply (send_v m ρ c hc (3 : Dev nD) (1 : Fin 2) (5 : Fin 6) (by decide) ([(nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) (Fin.ext k0_dev15_eq) rfl rfl rfl rfl) $$ [K60 K40 HO K27 K28]
    · iclose
    iintro ⟨K63, HO, K64⟩
    iapply (ld_x c fullShare (xst m ρ c) rfl) $$ A13
    iintro A13
    iapply (ld_wq c fullShare (wqst m ρ c) rfl) $$ A14
    iintro A14
    iapply (WP_ret c _)
    iapply Hk
    iclose
  by_cases h : c = 1
  · have hc := h
    have h0 : c ≠ 0 := by rw [hc]; decide
    simp only [TA, TB, BA, BB, BC, BD, if_pos (is1 hc), if_neg (val0 h0), DX_1 c (is1 hc), LB, LQ, dif_pos (cond2_pos hc), dif_neg (cond1_neg h0), Prog.bind_op, Prog.bind_ret, bind_assoc]
    icases A10 with ⟨K1, K2, K3, K4, ⟨K5, K6⟩, ⟨K7, K8⟩, ⟨K9, K10⟩, ⟨K11, K12⟩, ⟨K13, K14⟩, ⟨K15, K16⟩⟩
    ihave y0 := (HB_1 c hc (0 : Fin 3) (2 : Dev nD) (by decide)) $$ y0
    icases y0 with ⟨K17, K18⟩
    ihave y1 := (HB_1 c hc (1 : Fin 3) (3 : Dev nD) (by decide)) $$ y1
    icases y1 with ⟨K19, K20⟩
    ihave y2 := (HB_1 c hc (2 : Fin 3) (0 : Dev nD) (by decide)) $$ y2
    icases y2 with ⟨K21, K22⟩
    iapply (WP_bind c _ _)
    iapply (part5_ok m ρ c ([((3 : Dev nD), some bkr), ((3 : Dev nD), some bvr), ((0 : Dev nD), some bkr), ((0 : Dev nD), some bvr), (nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) hc  ) $$ [HO A11 K1 K3 A12 K2 K4 K17 K5 K6 K18 K7 K8]
    · iclose
    iintro ⟨HO, K23, K24, K25, K26, K27, K28⟩
    try dsimp only
    iapply (WP_bind c _ _)
    iapply (part6_ok m ρ c ([((0 : Dev nD), some bvr), (nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) hc  ) $$ [HO K26 K19 K9 K10 K28 K20 K11 K12 K21 K13 K14]
    · iclose
    iintro ⟨HO, K29, K30, K31, K32, K33⟩
    try dsimp only
    iapply (send_vb m ρ c hc (0 : Dev nD) (2 : Fin 3) (by decide) ([(nx c (0 : Fin 3).val, some (qr (0 : Fin 3))), (nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) (Fin.ext k0_dev21_eq) rfl rfl rfl) $$ [K31 K22 HO K15 K16]
    · iclose
    iintro ⟨K34, HO, K35⟩
    iapply (ld_x c fullShare (xst m ρ c) rfl) $$ A13
    iintro A13
    iapply (ld_wq c fullShare (wqst m ρ c) rfl) $$ A14
    iintro A14
    iapply (WP_ret c _)
    iapply Hk
    iclose
  · have h0 := hc
    have h1 := h
    simp only [TA, TB, BA, BB, BC, BD, if_neg (val0 h0), if_neg (val1 h1), DX_n c (val0 h0) (val1 h1), LQ, dif_neg (cond1_neg h0), dif_neg (cond2_neg h1), Prog.bind_op, Prog.bind_ret, bind_assoc]
    iapply (ld_x c fullShare (xst m ρ c) rfl) $$ A13
    iintro A13
    iapply (ld_wq c fullShare (wqst m ρ c) rfl) $$ A14
    iintro A14
    iapply (WP_ret c _)
    iapply Hk
    iclose

end Cert.KernelIdeal.Pf
-- ==== Proof.QueryParts.lean ====
/-
# The queries and the first group of heads
-/
module

public import proofs.«01_k».proof.Proof.Res

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The parts of the body up to the first group of heads: what each takes and leaves. -/

theorem part13_ok (c : Dev nD) (l : List (Dev nD × Option CK)) {v2 : BitVec 32} {v23 : FVec F S1024x1024 .bf16} {v24 : Vec F S1024x1024 .bf16} (hw0 : (k0_pay3 v23 v24) = k0_pay3 (k0_pay1 (xst m ρ c)) (wqst m ρ c)) {Φ : (FVec F S1024x1024 .bf16) → sProp 𝕄} :
    iprop(recs m ρ ∗ levAts L lv ∗ debt c ((nx c (0 : Fin 3).val, some (qr (0 : Fin 3))) :: l) ∗ q32A c c ∗ q32A (nx c (0 : Fin 3).val) c ∗ tok c (qs (0 : Fin 3)) ∗ tok (nx c (0 : Fin 3).val) (qr (0 : Fin 3)))
      ⊢ iprop(((debt c l ∗ q32P m ρ c c fullShare.left ∗ q32P m ρ c c (shareR (1 : Fin 3)) ∗ q32P m ρ c c (shareR (2 : Fin 3)) ∗ crd c (qs (0 : Fin 3))) -∗ Φ ((k0_pay2 v23 v24)))
          -∗ WP c (call k0_part13 c v2 v23 v24) Φ) := by
  rw [k0_part13_eq_skeleton]
  unfold k0_part13_skel
  simp only [Prog.lift, Prog.bind_op, Prog.bind_ret, Prog.pure_eq_ret]
  iintro ⟨#HR, #HL, HO, ⟨%fH1, H1⟩, H6, H7, H8⟩ Hk
  iapply (dd_q c c.val fH1 (k0_off1_eq c)) $$ H1
  iintro H1
  iapply (st_q m ρ c fH1 (k0_off1_eq c) hw0) $$ H1
  iintro H1
  ihave H1 := ((share4 c cc0_scratch6 _ _).mp) $$ H1
  icases H1 with ⟨H2, H3, H4, H5⟩
  iapply (send_q m ρ c (0 : Fin 3) (l) (Fin.ext (k0_dev22_eq c)) (k0_off2_eq c) (k0_off2_eq c) rfl rfl) $$ [H3 H6 HO H7 H8]
  · iclose
  iintro ⟨H9, HO⟩
  iapply (WP_ret c _)
  iapply Hk
  iclose

theorem part14_ok (c : Dev nD) (l : List (Dev nD × Option CK)) {v2 : BitVec 32}  {Φ : (PUnit) → sProp 𝕄} :
    iprop(recs m ρ ∗ levAts L lv ∗ debt c ((nx c (1 : Fin 3).val, some (qr (1 : Fin 3))) :: (nx c (2 : Fin 3).val, some (qr (2 : Fin 3))) :: l) ∗ q32P m ρ c c (shareR (1 : Fin 3)) ∗ q32A (nx c (1 : Fin 3).val) c ∗ tok c (qs (1 : Fin 3)) ∗ tok (nx c (1 : Fin 3).val) (qr (1 : Fin 3)) ∗ q32P m ρ c c (shareR (2 : Fin 3)) ∗ q32A (nx c (2 : Fin 3).val) c ∗ tok c (qs (2 : Fin 3)) ∗ tok (nx c (2 : Fin 3).val) (qr (2 : Fin 3)) ∗ ksA c (0 : Fin 4) ∗ hK m c ∗ tok c (kg (0 : Fin 4)) ∗ vsA c (0 : Fin 4) ∗ hV m c ∗ tok c (vg (0 : Fin 4)))
      ⊢ iprop(((debt c l ∗ crd c (qs (1 : Fin 3)) ∗ crd c (qs (2 : Fin 3)) ∗ crd c (kg (0 : Fin 4)) ∗ hK m c ∗ crd c (vg (0 : Fin 4)) ∗ hV m c) -∗ Φ (⟨⟩))
          -∗ WP c (call k0_part14 c v2) Φ) := by
  rw [k0_part14_eq_skeleton]
  unfold k0_part14_skel
  simp only [Prog.lift, Prog.bind_op, Prog.bind_ret, Prog.pure_eq_ret]
  iintro ⟨#HR, #HL, HO, H1, H2, H3, H4, H6, H7, H8, H9, H11, H12, H13, H16, H17, H18⟩ Hk
  iapply (send_q m ρ c (1 : Fin 3) ((nx c (2 : Fin 3).val, some (qr (2 : Fin 3))) :: l) (Fin.ext (k0_dev23_eq c)) (k0_off2_eq c) (k0_off2_eq c) rfl rfl) $$ [H1 H2 HO H3 H4]
  · iclose
  iintro ⟨H5, HO⟩
  iapply (send_q m ρ c (2 : Fin 3) (l) (Fin.ext (k0_dev24_eq c)) (k0_off2_eq c) (k0_off2_eq c) rfl rfl) $$ [H6 H7 HO H8 H9]
  · iclose
  iintro ⟨H10, HO⟩
  iapply (copy_kg m ρ c (0 : Fin 4) rfl rfl rfl) $$ [H12 H11 H13]
  · iclose
  iintro ⟨H14, H15⟩
  iapply (copy_vg m ρ c (0 : Fin 4) rfl rfl rfl) $$ [H17 H16 H18]
  · iclose
  iintro ⟨H19, H20⟩
  iapply (WP_ret c _)
  iapply Hk
  iclose

theorem part15_ok (c : Dev nD) (l : List (Dev nD × Option CK)) {v2 : BitVec 32} (hl0 : (((l) : List (Dev nD × Option CK)).map Prod.snd).all (fun o => decide (CK.lev (qr (0 : Fin 3)) < dLev o)) = true) {Φ : (PUnit) → sProp 𝕄} :
    iprop(recs m ρ ∗ levAts L lv ∗ debt c (l) ∗ ksA c (1 : Fin 4) ∗ hK m c ∗ tok c (kg (1 : Fin 4)) ∗ vsA c (1 : Fin 4) ∗ hV m c ∗ tok c (vg (1 : Fin 4)) ∗ crd c (qr (0 : Fin 3)) ∗ atp c (qr (0 : Fin 3)))
      ⊢ iprop(((debt c l ∗ crd c (kg (1 : Fin 4)) ∗ hK m c ∗ crd c (vg (1 : Fin 4)) ∗ hV m c ∗ sv c (qr (0 : Fin 3)) ∗ q32P m ρ c (pv c (0 : Fin 3).val) fullShare) -∗ Φ (⟨⟩))
          -∗ WP c (call k0_part15 c v2) Φ) := by
  rw [k0_part15_eq_skeleton]
  unfold k0_part15_skel
  simp only [Prog.lift, Prog.bind_op, Prog.bind_ret, Prog.pure_eq_ret]
  iintro ⟨#HR, #HL, HO, H1, H2, H3, H6, H7, H8, H11, H12⟩ Hk
  iapply (copy_kg m ρ c (1 : Fin 4) rfl rfl rfl) $$ [H2 H1 H3]
  · iclose
  iintro ⟨H4, H5⟩
  iapply (copy_vg m ρ c (1 : Fin 4) rfl rfl rfl) $$ [H7 H6 H8]
  · iclose
  iintro ⟨H9, H10⟩
  iapply (wait_w m ρ c (qr (0 : Fin 3)) (l) (q32P m ρ c (pv c (0 : Fin 3).val) fullShare) rfl rfl rfl (fun _ => rfl) hl0) $$ [H11 HO H12]
  · iclose
  iintro ⟨HO, H13, H14⟩
  iapply (WP_ret c _)
  iapply Hk
  iclose

theorem part16_ok (c : Dev nD) (l : List (Dev nD × Option CK)) {v2 : BitVec 32} (hl0 : (((l) : List (Dev nD × Option CK)).map Prod.snd).all (fun o => decide (CK.lev (qr (1 : Fin 3)) < dLev o)) = true) (hl1 : (((l) : List (Dev nD × Option CK)).map Prod.snd).all (fun o => decide (CK.lev (qr (2 : Fin 3)) < dLev o)) = true) (hl2 : (((l) : List (Dev nD × Option CK)).map Prod.snd).all (fun o => decide (CK.lev (kg (0 : Fin 4)) < dLev o)) = true) {Φ : (PUnit) → sProp 𝕄} :
    iprop(recs m ρ ∗ levAts L lv ∗ debt c (l) ∗ crd c (qr (1 : Fin 3)) ∗ atp c (qr (1 : Fin 3)) ∗ crd c (qr (2 : Fin 3)) ∗ atp c (qr (2 : Fin 3)) ∗ crd c (kg (0 : Fin 4)) ∗ atp c (kg (0 : Fin 4)))
      ⊢ iprop(((debt c l ∗ sv c (qr (1 : Fin 3)) ∗ q32P m ρ c (pv c (1 : Fin 3).val) fullShare ∗ sv c (qr (2 : Fin 3)) ∗ q32P m ρ c (pv c (2 : Fin 3).val) fullShare ∗ sv c (kg (0 : Fin 4)) ∗ ksP m c (0 : Fin 4)) -∗ Φ (⟨⟩))
          -∗ WP c (call k0_part16 c v2) Φ) := by
  rw [k0_part16_eq_skeleton]
  unfold k0_part16_skel
  simp only [Prog.lift, Prog.bind_op, Prog.bind_ret, Prog.pure_eq_ret]
  iintro ⟨#HR, #HL, HO, H1, H2, H5, H6, H9, H10⟩ Hk
  iapply (wait_w m ρ c (qr (1 : Fin 3)) (l) (q32P m ρ c (pv c (1 : Fin 3).val) fullShare) rfl rfl rfl (fun _ => rfl) hl0) $$ [H1 HO H2]
  · iclose
  iintro ⟨HO, H3, H4⟩
  iapply (wait_w m ρ c (qr (2 : Fin 3)) (l) (q32P m ρ c (pv c (2 : Fin 3).val) fullShare) rfl rfl rfl (fun _ => rfl) hl1) $$ [H5 HO H6]
  · iclose
  iintro ⟨HO, H7, H8⟩
  iapply (wait_w m ρ c (kg (0 : Fin 4)) (l) (ksP m c (0 : Fin 4)) rfl rfl rfl (fun _ => rfl) hl2) $$ [H9 HO H10]
  · iclose
  iintro ⟨HO, H11, H12⟩
  iapply (WP_ret c _)
  iapply Hk
  iclose

theorem part17_ok (c : Dev nD) (l : List (Dev nD × Option CK))  (hl0 : (((l) : List (Dev nD × Option CK)).map Prod.snd).all (fun o => decide (CK.lev (vg (0 : Fin 4)) < dLev o)) = true) {Φ : (Σ' (v139 : FVec F S32x1024 .bf16) (v146 : FVec F S32x1 .f32) (v151 : FVec F S32x1x128 .f32) (v158 : FVec F S32x1 .f32) (v163 : FVec F S32x1x128 .f32), FVec F S32x128 .bf16) → sProp 𝕄} :
    iprop(recs m ρ ∗ levAts L lv ∗ debt c (l) ∗ crd c (vg (0 : Fin 4)) ∗ atp c (vg (0 : Fin 4)) ∗ q32W m ρ c fullShare.left ∗ ksP m c (0 : Fin 4))
      ⊢ iprop(((debt c l ∗ sv c (vg (0 : Fin 4)) ∗ vsP m c (0 : Fin 4) ∗ q32W m ρ c fullShare.left ∗ ksP m c (0 : Fin 4)) -∗ Φ (⟨k0_pay4 (ldQ m ρ (0 : Fin 4)), k0_pay6 (ldQ m ρ (0 : Fin 4)) (ldKS m c (0 : Fin 4) (0 : Fin 8)), k0_pay7 (ldQ m ρ (0 : Fin 4)) (ldKS m c (0 : Fin 4) (0 : Fin 8)) (ldVS m c (0 : Fin 4) (0 : Fin 8)), k0_pay9 (ldQ m ρ (0 : Fin 4)) (ldKS m c (0 : Fin 4) (1 : Fin 8)), k0_pay10 (ldQ m ρ (0 : Fin 4)) (ldKS m c (0 : Fin 4) (1 : Fin 8)) (ldVS m c (0 : Fin 4) (1 : Fin 8)), k0_pay11 (ldQ m ρ (0 : Fin 4))⟩))
          -∗ WP c (call k0_part17 ) Φ) := by
  rw [k0_part17_eq_skeleton]
  unfold k0_part17_skel
  simp only [Prog.lift, Prog.bind_op, Prog.bind_ret, Prog.pure_eq_ret]
  iintro ⟨#HR, #HL, HO, H1, H2, H5, H6⟩ Hk
  iapply (wait_w m ρ c (vg (0 : Fin 4)) (l) (vsP m c (0 : Fin 4)) rfl rfl rfl (fun _ => rfl) hl0) $$ [H1 HO H2]
  · iclose
  iintro ⟨HO, H3, H4⟩
  iapply (ld_q m ρ c (0 : Fin 4) fullShare.left rfl) $$ H5
  iintro H5
  iapply (ld_ks m c (0 : Fin 4) (0 : Fin 8) rfl) $$ H6
  iintro H6
  iapply (ld_vs m c (0 : Fin 4) (0 : Fin 8) rfl) $$ H4
  iintro H4
  iapply (ld_ks m c (0 : Fin 4) (1 : Fin 8) rfl) $$ H6
  iintro H6
  iapply (ld_vs m c (0 : Fin 4) (1 : Fin 8) rfl) $$ H4
  iintro H4
  iapply (WP_ret c _)
  iapply Hk
  iclose

theorem part18_ok (c : Dev nD) {v139 : FVec F S32x1024 .bf16} {v164 : FVec F S32x128 .bf16}  {Φ : (Σ' (v170 : FVec F S32x1 .f32) (v175 : FVec F S32x1x128 .f32) (v182 : FVec F S32x1 .f32) (v187 : FVec F S32x1x128 .f32) (v194 : FVec F S32x1 .f32) (v195 : FVec F S32x1024 .bf16), Vec F S1x1024x1x128 .bf16) → sProp 𝕄} :
    iprop(recs m ρ ∗ levAts L lv ∗ ksP m c (0 : Fin 4) ∗ vsP m c (0 : Fin 4))
      ⊢ iprop(((ksP m c (0 : Fin 4) ∗ vsP m c (0 : Fin 4)) -∗ Φ (⟨k0_pay13 v164 (ldKS m c (0 : Fin 4) (2 : Fin 8)), k0_pay14 v164 (ldKS m c (0 : Fin 4) (2 : Fin 8)) (ldVS m c (0 : Fin 4) (2 : Fin 8)), k0_pay16 v139 (ldKS m c (0 : Fin 4) (3 : Fin 8)), k0_pay17 v139 (ldKS m c (0 : Fin 4) (3 : Fin 8)) (ldVS m c (0 : Fin 4) (3 : Fin 8)), k0_pay19 v139 (ldKS m c (0 : Fin 4) (4 : Fin 8)), k0_pay20 v139 (ldKS m c (0 : Fin 4) (4 : Fin 8)), (ldVS m c (0 : Fin 4) (4 : Fin 8))⟩))
          -∗ WP c (call k0_part18 v139 v164) Φ) := by
  rw [k0_part18_eq_skeleton]
  unfold k0_part18_skel
  simp only [Prog.lift, Prog.bind_op, Prog.bind_ret, Prog.pure_eq_ret]
  iintro ⟨#HR, #HL, H1, H2⟩ Hk
  iapply (ld_ks m c (0 : Fin 4) (2 : Fin 8) rfl) $$ H1
  iintro H1
  iapply (ld_vs m c (0 : Fin 4) (2 : Fin 8) rfl) $$ H2
  iintro H2
  iapply (ld_ks m c (0 : Fin 4) (3 : Fin 8) rfl) $$ H1
  iintro H1
  iapply (ld_vs m c (0 : Fin 4) (3 : Fin 8) rfl) $$ H2
  iintro H2
  iapply (ld_ks m c (0 : Fin 4) (4 : Fin 8) rfl) $$ H1
  iintro H1
  iapply (ld_vs m c (0 : Fin 4) (4 : Fin 8) rfl) $$ H2
  iintro H2
  iapply (WP_ret c _)
  iapply Hk
  iclose

theorem part19_ok (c : Dev nD) {v139 : FVec F S32x1024 .bf16} {v195 : FVec F S32x1024 .bf16} {v196 : Vec F S1x1024x1x128 .bf16}  {Φ : (Σ' (v199 : FVec F S32x1x128 .f32) (v206 : FVec F S32x1 .f32) (v211 : FVec F S32x1x128 .f32) (v218 : FVec F S32x1 .f32) (v223 : FVec F S32x1x128 .f32), FVec F S32x1024 .f32) → sProp 𝕄} :
    iprop(recs m ρ ∗ levAts L lv ∗ ksP m c (0 : Fin 4) ∗ vsP m c (0 : Fin 4))
      ⊢ iprop(((ksP m c (0 : Fin 4) ∗ vsP m c (0 : Fin 4)) -∗ Φ (⟨k0_pay21 v195 v196, k0_pay23 v139 (ldKS m c (0 : Fin 4) (5 : Fin 8)), k0_pay24 v139 (ldKS m c (0 : Fin 4) (5 : Fin 8)) (ldVS m c (0 : Fin 4) (5 : Fin 8)), k0_pay26 v139 (ldKS m c (0 : Fin 4) (6 : Fin 8)), k0_pay27 v139 (ldKS m c (0 : Fin 4) (6 : Fin 8)) (ldVS m c (0 : Fin 4) (6 : Fin 8)), k0_pay28 v139 (ldKS m c (0 : Fin 4) (7 : Fin 8))⟩))
          -∗ WP c (call k0_part19 v139 v195 v196) Φ) := by
  rw [k0_part19_eq_skeleton]
  unfold k0_part19_skel
  simp only [Prog.lift, Prog.bind_op, Prog.bind_ret, Prog.pure_eq_ret]
  iintro ⟨#HR, #HL, H1, H2⟩ Hk
  iapply (ld_ks m c (0 : Fin 4) (5 : Fin 8) rfl) $$ H1
  iintro H1
  iapply (ld_vs m c (0 : Fin 4) (5 : Fin 8) rfl) $$ H2
  iintro H2
  iapply (ld_ks m c (0 : Fin 4) (6 : Fin 8) rfl) $$ H1
  iintro H1
  iapply (ld_vs m c (0 : Fin 4) (6 : Fin 8) rfl) $$ H2
  iintro H2
  iapply (ld_ks m c (0 : Fin 4) (7 : Fin 8) rfl) $$ H1
  iintro H1
  iapply (WP_ret c _)
  iapply Hk
  iclose

theorem part20_ok (c : Dev nD) {v146 : FVec F S32x1 .f32} {v151 : FVec F S32x1x128 .f32} {v158 : FVec F S32x1 .f32} {v163 : FVec F S32x1x128 .f32} {v170 : FVec F S32x1 .f32} {v175 : FVec F S32x1x128 .f32} {v182 : FVec F S32x1 .f32} {v187 : FVec F S32x1x128 .f32} {v194 : FVec F S32x1 .f32} {v199 : FVec F S32x1x128 .f32} {v206 : FVec F S32x1 .f32} {v211 : FVec F S32x1x128 .f32} {v218 : FVec F S32x1 .f32} {v223 : FVec F S32x1x128 .f32} {v228 : FVec F S32x1024 .f32} (hw0 : (k0_pay29 v151 v163 v175 v187 v199 v211 v223 v228 (ldVS m c (0 : Fin 4) (7 : Fin 8))) = PAblk m ρ c (0 : Fin 4)) {Φ : (FVec F S32x8 .f32) → sProp 𝕄} :
    iprop(recs m ρ ∗ levAts L lv ∗ vsP m c (0 : Fin 4) ∗ ksP m c (0 : Fin 4) ∗ hK m c ∗ tok c (kg (2 : Fin 4)) ∗ hV m c ∗ tok c (vg (2 : Fin 4)) ∗ paA c (0 : Fin 4).val ∗ plA c (0 : Fin 4).val)
      ⊢ iprop(((crd c (kg (2 : Fin 4)) ∗ hK m c ∗ crd c (vg (2 : Fin 4)) ∗ hV m c ∗ paP m ρ c (0 : Fin 4).val fullShare ∗ plA c (0 : Fin 4).val) -∗ Φ ((k0_pay30 v146 v158 v170 v182 v194 v206 v218 v228)))
          -∗ WP c (call k0_part20 v146 v151 v158 v163 v170 v175 v182 v187 v194 v199 v206 v211 v218 v223 v228) Φ) := by
  rw [k0_part20_eq_skeleton]
  unfold k0_part20_skel
  simp only [Prog.lift, Prog.bind_op, Prog.bind_ret, Prog.pure_eq_ret]
  iintro ⟨#HR, #HL, H1, H2, H3, H4, H7, H8, ⟨%fH11, H11⟩, ⟨%fH12, H12⟩⟩ Hk
  iapply (ld_vs m c (0 : Fin 4) (7 : Fin 8) rfl) $$ H1
  iintro H1
  ihave H2 := (ksP_any m c (0 : Fin 4) (2 : Fin 4) rfl) $$ H2
  iapply (copy_kg m ρ c (2 : Fin 4) rfl rfl rfl) $$ [H3 H2 H4]
  · iclose
  iintro ⟨H5, H6⟩
  ihave H1 := (vsP_any m c (0 : Fin 4) (2 : Fin 4) rfl) $$ H1
  iapply (copy_vg m ρ c (2 : Fin 4) rfl rfl rfl) $$ [H7 H1 H8]
  · iclose
  iintro ⟨H9, H10⟩
  iapply (dd_pa c (0 : Fin 4).val fH11 rfl) $$ H11
  iintro H11
  iapply (st_pa m ρ c (0 : Fin 4) fH11 rfl hw0) $$ H11
  iintro H11
  iapply (dd_pl c (0 : Fin 4).val fH12 rfl) $$ H12
  iintro H12
  ihave H12 := (any_of c _ _ fH12) $$ H12
  iapply (WP_ret c _)
  iapply Hk
  iclose

end Cert.KernelIdeal.Pf
-- ==== Proof.GroupParts.lean ====
/-
# The other groups of heads
-/
module

public import proofs.«01_k».proof.Proof.Res

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The parts of the body that work the other groups of heads, and the first transfers of partial sums. -/

theorem part21_ok (c : Dev nD) (l : List (Dev nD × Option CK)) {v252 : FVec F S32x8 .f32} (hl0 : (((l) : List (Dev nD × Option CK)).map Prod.snd).all (fun o => decide (CK.lev (kg (1 : Fin 4)) < dLev o)) = true) (hl1 : (((l) : List (Dev nD × Option CK)).map Prod.snd).all (fun o => decide (CK.lev (vg (1 : Fin 4)) < dLev o)) = true) (hw0 : (k0_pay31 v252) = PLblk m ρ c (0 : Fin 4)) {Φ : (Σ' (v269 : FVec F S32x1024 .bf16) (v276 : FVec F S32x1 .f32) (v277 : FVec F S32x1024 .bf16) (v279 : FVec F S1024x128 .bf16), FVec F S32x128 .f32) → sProp 𝕄} :
    iprop(recs m ρ ∗ levAts L lv ∗ debt c (l) ∗ plA c (0 : Fin 4).val ∗ crd c (kg (1 : Fin 4)) ∗ atp c (kg (1 : Fin 4)) ∗ crd c (vg (1 : Fin 4)) ∗ atp c (vg (1 : Fin 4)) ∗ q32W m ρ c fullShare.left)
      ⊢ iprop(((debt c l ∗ plP m ρ c (0 : Fin 4).val fullShare ∗ sv c (kg (1 : Fin 4)) ∗ ksP m c (1 : Fin 4) ∗ sv c (vg (1 : Fin 4)) ∗ vsP m c (1 : Fin 4) ∗ q32W m ρ c fullShare.left) -∗ Φ (⟨k0_pay32 (ldQ m ρ (1 : Fin 4)), k0_pay34 (ldQ m ρ (1 : Fin 4)) (ldKS m c (1 : Fin 4) (0 : Fin 8)), k0_pay35 (ldQ m ρ (1 : Fin 4)) (ldKS m c (1 : Fin 4) (0 : Fin 8)), k0_pay36 (ldVS m c (1 : Fin 4) (0 : Fin 8)), (constant S32x128 .f32 0x00000000#32)⟩))
          -∗ WP c (call k0_part21 v252) Φ) := by
  rw [k0_part21_eq_skeleton]
  unfold k0_part21_skel
  simp only [Prog.lift, Prog.bind_op, Prog.bind_ret, Prog.pure_eq_ret]
  iintro ⟨#HR, #HL, HO, ⟨%fH1, H1⟩, H2, H3, H6, H7, H10⟩ Hk
  iapply (st_pl m ρ c (0 : Fin 4) fH1 rfl hw0) $$ H1
  iintro H1
  iapply (wait_w m ρ c (kg (1 : Fin 4)) (l) (ksP m c (1 : Fin 4)) rfl rfl rfl (fun _ => rfl) hl0) $$ [H2 HO H3]
  · iclose
  iintro ⟨HO, H4, H5⟩
  iapply (wait_w m ρ c (vg (1 : Fin 4)) (l) (vsP m c (1 : Fin 4)) rfl rfl rfl (fun _ => rfl) hl1) $$ [H6 HO H7]
  · iclose
  iintro ⟨HO, H8, H9⟩
  iapply (ld_q m ρ c (1 : Fin 4) fullShare.left rfl) $$ H10
  iintro H10
  iapply (ld_ks m c (1 : Fin 4) (0 : Fin 8) rfl) $$ H5
  iintro H5
  iapply (ld_vs m c (1 : Fin 4) (0 : Fin 8) rfl) $$ H9
  iintro H9
  iapply (WP_ret c _)
  iapply Hk
  iclose

theorem part22_ok (c : Dev nD) {v269 : FVec F S32x1024 .bf16} {v277 : FVec F S32x1024 .bf16} {v279 : FVec F S1024x128 .bf16} {cst_276 : FVec F S32x128 .f32}  {Φ : (Σ' (v281 : FVec F S32x1x128 .f32) (v288 : FVec F S32x1 .f32) (v293 : FVec F S32x1x128 .f32) (v300 : FVec F S32x1 .f32) (v305 : FVec F S32x1x128 .f32) (v310 : FVec F S32x1024 .f32), FVec F S32 .f32) → sProp 𝕄} :
    iprop(recs m ρ ∗ levAts L lv ∗ ksP m c (1 : Fin 4) ∗ vsP m c (1 : Fin 4))
      ⊢ iprop(((ksP m c (1 : Fin 4) ∗ vsP m c (1 : Fin 4)) -∗ Φ (⟨k0_pay37 v277 v279 cst_276, k0_pay39 v269 (ldKS m c (1 : Fin 4) (1 : Fin 8)), k0_pay40 v269 (ldKS m c (1 : Fin 4) (1 : Fin 8)) (ldVS m c (1 : Fin 4) (1 : Fin 8)), k0_pay42 v269 (ldKS m c (1 : Fin 4) (2 : Fin 8)), k0_pay43 v269 (ldKS m c (1 : Fin 4) (2 : Fin 8)) (ldVS m c (1 : Fin 4) (2 : Fin 8)), k0_pay44 v269 (ldKS m c (1 : Fin 4) (3 : Fin 8)), k0_pay45 v269 (ldKS m c (1 : Fin 4) (3 : Fin 8))⟩))
          -∗ WP c (call k0_part22 v269 v277 v279 cst_276) Φ) := by
  rw [k0_part22_eq_skeleton]
  unfold k0_part22_skel
  simp only [Prog.lift, Prog.bind_op, Prog.bind_ret, Prog.pure_eq_ret]
  iintro ⟨#HR, #HL, H1, H2⟩ Hk
  iapply (ld_ks m c (1 : Fin 4) (1 : Fin 8) rfl) $$ H1
  iintro H1
  iapply (ld_vs m c (1 : Fin 4) (1 : Fin 8) rfl) $$ H2
  iintro H2
  iapply (ld_ks m c (1 : Fin 4) (2 : Fin 8) rfl) $$ H1
  iintro H1
  iapply (ld_vs m c (1 : Fin 4) (2 : Fin 8) rfl) $$ H2
  iintro H2
  iapply (ld_ks m c (1 : Fin 4) (3 : Fin 8) rfl) $$ H1
  iintro H1
  iapply (WP_ret c _)
  iapply Hk
  iclose

theorem part23_ok (c : Dev nD) {v269 : FVec F S32x1024 .bf16} {v310 : FVec F S32x1024 .f32} {v311 : FVec F S32 .f32}  {Φ : (Σ' (v312 : FVec F S32x1 .f32) (v317 : FVec F S32x1x128 .f32) (v324 : FVec F S32x1 .f32) (v329 : FVec F S32x1x128 .f32) (v336 : FVec F S32x1 .f32) (v341 : FVec F S32x1x128 .f32), FVec F S32x128 .bf16) → sProp 𝕄} :
    iprop(recs m ρ ∗ levAts L lv ∗ vsP m c (1 : Fin 4) ∗ ksP m c (1 : Fin 4))
      ⊢ iprop(((vsP m c (1 : Fin 4) ∗ ksP m c (1 : Fin 4)) -∗ Φ (⟨k0_pay46 v311, k0_pay47 v310 (ldVS m c (1 : Fin 4) (3 : Fin 8)), k0_pay49 v269 (ldKS m c (1 : Fin 4) (4 : Fin 8)), k0_pay50 v269 (ldKS m c (1 : Fin 4) (4 : Fin 8)) (ldVS m c (1 : Fin 4) (4 : Fin 8)), k0_pay52 v269 (ldKS m c (1 : Fin 4) (5 : Fin 8)), k0_pay53 v269 (ldKS m c (1 : Fin 4) (5 : Fin 8)) (ldVS m c (1 : Fin 4) (5 : Fin 8)), k0_pay54 v269⟩))
          -∗ WP c (call k0_part23 v269 v310 v311) Φ) := by
  rw [k0_part23_eq_skeleton]
  unfold k0_part23_skel
  simp only [Prog.lift, Prog.bind_op, Prog.bind_ret, Prog.pure_eq_ret]
  iintro ⟨#HR, #HL, H1, H2⟩ Hk
  iapply (ld_vs m c (1 : Fin 4) (3 : Fin 8) rfl) $$ H1
  iintro H1
  iapply (ld_ks m c (1 : Fin 4) (4 : Fin 8) rfl) $$ H2
  iintro H2
  iapply (ld_vs m c (1 : Fin 4) (4 : Fin 8) rfl) $$ H1
  iintro H1
  iapply (ld_ks m c (1 : Fin 4) (5 : Fin 8) rfl) $$ H2
  iintro H2
  iapply (ld_vs m c (1 : Fin 4) (5 : Fin 8) rfl) $$ H1
  iintro H1
  iapply (WP_ret c _)
  iapply Hk
  iclose

theorem part24_ok (c : Dev nD) {v269 : FVec F S32x1024 .bf16} {v342 : FVec F S32x128 .bf16}  {Φ : (Σ' (v348 : FVec F S32x1 .f32) (v353 : FVec F S32x1x128 .f32) (v360 : FVec F S32x1 .f32), FVec F S32x1x128 .f32) → sProp 𝕄} :
    iprop(recs m ρ ∗ levAts L lv ∗ ksP m c (1 : Fin 4) ∗ vsP m c (1 : Fin 4) ∗ hK m c ∗ tok c (kg (3 : Fin 4)))
      ⊢ iprop(((vsP m c (1 : Fin 4) ∗ crd c (kg (3 : Fin 4)) ∗ hK m c) -∗ Φ (⟨k0_pay56 v342 (ldKS m c (1 : Fin 4) (6 : Fin 8)), k0_pay57 v342 (ldKS m c (1 : Fin 4) (6 : Fin 8)) (ldVS m c (1 : Fin 4) (6 : Fin 8)), k0_pay59 v269 (ldKS m c (1 : Fin 4) (7 : Fin 8)), k0_pay60 v269 (ldKS m c (1 : Fin 4) (7 : Fin 8)) (ldVS m c (1 : Fin 4) (7 : Fin 8))⟩))
          -∗ WP c (call k0_part24 v269 v342) Φ) := by
  rw [k0_part24_eq_skeleton]
  unfold k0_part24_skel
  simp only [Prog.lift, Prog.bind_op, Prog.bind_ret, Prog.pure_eq_ret]
  iintro ⟨#HR, #HL, H1, H2, H3, H4⟩ Hk
  iapply (ld_ks m c (1 : Fin 4) (6 : Fin 8) rfl) $$ H1
  iintro H1
  iapply (ld_vs m c (1 : Fin 4) (6 : Fin 8) rfl) $$ H2
  iintro H2
  iapply (ld_ks m c (1 : Fin 4) (7 : Fin 8) rfl) $$ H1
  iintro H1
  iapply (ld_vs m c (1 : Fin 4) (7 : Fin 8) rfl) $$ H2
  iintro H2
  ihave H1 := (ksP_any m c (1 : Fin 4) (3 : Fin 4) rfl) $$ H1
  iapply (copy_kg m ρ c (3 : Fin 4) rfl rfl rfl) $$ [H3 H1 H4]
  · iclose
  iintro ⟨H5, H6⟩
  iapply (WP_ret c _)
  iapply Hk
  iclose

theorem part25_ok (c : Dev nD) (l : List (Dev nD × Option CK)) {v276 : FVec F S32x1 .f32} {v281 : FVec F S32x1x128 .f32} {v288 : FVec F S32x1 .f32} {v293 : FVec F S32x1x128 .f32} {v300 : FVec F S32x1 .f32} {v305 : FVec F S32x1x128 .f32} {v312 : FVec F S32x1 .f32} {v317 : FVec F S32x1x128 .f32} {v324 : FVec F S32x1 .f32} {v329 : FVec F S32x1x128 .f32} {v336 : FVec F S32x1 .f32} {v341 : FVec F S32x1x128 .f32} {v348 : FVec F S32x1 .f32} {v353 : FVec F S32x1x128 .f32} {v360 : FVec F S32x1 .f32} {v365 : FVec F S32x1x128 .f32} (hl0 : (((l) : List (Dev nD × Option CK)).map Prod.snd).all (fun o => decide (CK.lev (kg (2 : Fin 4)) < dLev o)) = true) (hw0 : (k0_pay61 v281 v293 v305 v317 v329 v341 v353 v365) = PAblk m ρ c (1 : Fin 4)) (hw1 : (k0_pay62 v276 v288 v300 v312 v324 v336 v348 v360) = PLblk m ρ c (1 : Fin 4)) {Φ : (PUnit) → sProp 𝕄} :
    iprop(recs m ρ ∗ levAts L lv ∗ debt c (l) ∗ vsP m c (1 : Fin 4) ∗ hV m c ∗ tok c (vg (3 : Fin 4)) ∗ paA c (1 : Fin 4).val ∗ plA c (1 : Fin 4).val ∗ crd c (kg (2 : Fin 4)) ∗ atp c (kg (2 : Fin 4)))
      ⊢ iprop(((debt c l ∗ crd c (vg (3 : Fin 4)) ∗ hV m c ∗ paP m ρ c (1 : Fin 4).val fullShare ∗ plP m ρ c (1 : Fin 4).val fullShare ∗ sv c (kg (2 : Fin 4)) ∗ ksP m c (2 : Fin 4)) -∗ Φ (⟨⟩))
          -∗ WP c (call k0_part25 v276 v281 v288 v293 v300 v305 v312 v317 v324 v329 v336 v341 v348 v353 v360 v365) Φ) := by
  rw [k0_part25_eq_skeleton]
  unfold k0_part25_skel
  simp only [Prog.lift, Prog.bind_op, Prog.bind_ret, Prog.pure_eq_ret]
  iintro ⟨#HR, #HL, HO, H1, H2, H3, ⟨%fH6, H6⟩, ⟨%fH7, H7⟩, H8, H9⟩ Hk
  ihave H1 := (vsP_any m c (1 : Fin 4) (3 : Fin 4) rfl) $$ H1
  iapply (copy_vg m ρ c (3 : Fin 4) rfl rfl rfl) $$ [H2 H1 H3]
  · iclose
  iintro ⟨H4, H5⟩
  iapply (dd_pa c (1 : Fin 4).val fH6 rfl) $$ H6
  iintro H6
  iapply (st_pa m ρ c (1 : Fin 4) fH6 rfl hw0) $$ H6
  iintro H6
  iapply (dd_pl c (1 : Fin 4).val fH7 rfl) $$ H7
  iintro H7
  iapply (st_pl m ρ c (1 : Fin 4) fH7 rfl hw1) $$ H7
  iintro H7
  iapply (wait_w m ρ c (kg (2 : Fin 4)) (l) (ksP m c (2 : Fin 4)) rfl rfl rfl (fun _ => rfl) hl0) $$ [H8 HO H9]
  · iclose
  iintro ⟨HO, H10, H11⟩
  iapply (WP_ret c _)
  iapply Hk
  iclose

theorem part26_ok (c : Dev nD) (l : List (Dev nD × Option CK))  (hl0 : (((l) : List (Dev nD × Option CK)).map Prod.snd).all (fun o => decide (CK.lev (vg (2 : Fin 4)) < dLev o)) = true) {Φ : (Σ' (v399 : FVec F S32x1024 .bf16) (v406 : FVec F S32x1 .f32) (v411 : FVec F S32x1x128 .f32) (v418 : FVec F S32x1 .f32) (v423 : FVec F S32x1x128 .f32), FVec F S32x128 .bf16) → sProp 𝕄} :
    iprop(recs m ρ ∗ levAts L lv ∗ debt c (l) ∗ crd c (vg (2 : Fin 4)) ∗ atp c (vg (2 : Fin 4)) ∗ q32W m ρ c fullShare.left ∗ ksP m c (2 : Fin 4))
      ⊢ iprop(((debt c l ∗ sv c (vg (2 : Fin 4)) ∗ vsP m c (2 : Fin 4) ∗ q32W m ρ c fullShare.left ∗ ksP m c (2 : Fin 4)) -∗ Φ (⟨k0_pay63 (ldQ m ρ (2 : Fin 4)), k0_pay65 (ldQ m ρ (2 : Fin 4)) (ldKS m c (2 : Fin 4) (0 : Fin 8)), k0_pay66 (ldQ m ρ (2 : Fin 4)) (ldKS m c (2 : Fin 4) (0 : Fin 8)) (ldVS m c (2 : Fin 4) (0 : Fin 8)), k0_pay68 (ldQ m ρ (2 : Fin 4)) (ldKS m c (2 : Fin 4) (1 : Fin 8)), k0_pay69 (ldQ m ρ (2 : Fin 4)) (ldKS m c (2 : Fin 4) (1 : Fin 8)) (ldVS m c (2 : Fin 4) (1 : Fin 8)), k0_pay70 (ldQ m ρ (2 : Fin 4))⟩))
          -∗ WP c (call k0_part26 ) Φ) := by
  rw [k0_part26_eq_skeleton]
  unfold k0_part26_skel
  simp only [Prog.lift, Prog.bind_op, Prog.bind_ret, Prog.pure_eq_ret]
  iintro ⟨#HR, #HL, HO, H1, H2, H5, H6⟩ Hk
  iapply (wait_w m ρ c (vg (2 : Fin 4)) (l) (vsP m c (2 : Fin 4)) rfl rfl rfl (fun _ => rfl) hl0) $$ [H1 HO H2]
  · iclose
  iintro ⟨HO, H3, H4⟩
  iapply (ld_q m ρ c (2 : Fin 4) fullShare.left rfl) $$ H5
  iintro H5
  iapply (ld_ks m c (2 : Fin 4) (0 : Fin 8) rfl) $$ H6
  iintro H6
  iapply (ld_vs m c (2 : Fin 4) (0 : Fin 8) rfl) $$ H4
  iintro H4
  iapply (ld_ks m c (2 : Fin 4) (1 : Fin 8) rfl) $$ H6
  iintro H6
  iapply (ld_vs m c (2 : Fin 4) (1 : Fin 8) rfl) $$ H4
  iintro H4
  iapply (WP_ret c _)
  iapply Hk
  iclose

theorem part27_ok (c : Dev nD) {v399 : FVec F S32x1024 .bf16} {v424 : FVec F S32x128 .bf16}  {Φ : (Σ' (v430 : FVec F S32x1 .f32) (v435 : FVec F S32x1x128 .f32) (v442 : FVec F S32x1 .f32) (v447 : FVec F S32x1x128 .f32) (v454 : FVec F S32x1 .f32) (v455 : FVec F S32x1024 .bf16), Vec F S1x1024x1x128 .bf16) → sProp 𝕄} :
    iprop(recs m ρ ∗ levAts L lv ∗ ksP m c (2 : Fin 4) ∗ vsP m c (2 : Fin 4))
      ⊢ iprop(((ksP m c (2 : Fin 4) ∗ vsP m c (2 : Fin 4)) -∗ Φ (⟨k0_pay72 v424 (ldKS m c (2 : Fin 4) (2 : Fin 8)), k0_pay73 v424 (ldKS m c (2 : Fin 4) (2 : Fin 8)) (ldVS m c (2 : Fin 4) (2 : Fin 8)), k0_pay75 v399 (ldKS m c (2 : Fin 4) (3 : Fin 8)), k0_pay76 v399 (ldKS m c (2 : Fin 4) (3 : Fin 8)) (ldVS m c (2 : Fin 4) (3 : Fin 8)), k0_pay78 v399 (ldKS m c (2 : Fin 4) (4 : Fin 8)), k0_pay79 v399 (ldKS m c (2 : Fin 4) (4 : Fin 8)), (ldVS m c (2 : Fin 4) (4 : Fin 8))⟩))
          -∗ WP c (call k0_part27 v399 v424) Φ) := by
  rw [k0_part27_eq_skeleton]
  unfold k0_part27_skel
  simp only [Prog.lift, Prog.bind_op, Prog.bind_ret, Prog.pure_eq_ret]
  iintro ⟨#HR, #HL, H1, H2⟩ Hk
  iapply (ld_ks m c (2 : Fin 4) (2 : Fin 8) rfl) $$ H1
  iintro H1
  iapply (ld_vs m c (2 : Fin 4) (2 : Fin 8) rfl) $$ H2
  iintro H2
  iapply (ld_ks m c (2 : Fin 4) (3 : Fin 8) rfl) $$ H1
  iintro H1
  iapply (ld_vs m c (2 : Fin 4) (3 : Fin 8) rfl) $$ H2
  iintro H2
  iapply (ld_ks m c (2 : Fin 4) (4 : Fin 8) rfl) $$ H1
  iintro H1
  iapply (ld_vs m c (2 : Fin 4) (4 : Fin 8) rfl) $$ H2
  iintro H2
  iapply (WP_ret c _)
  iapply Hk
  iclose

theorem part28_ok (c : Dev nD) {v399 : FVec F S32x1024 .bf16} {v455 : FVec F S32x1024 .bf16} {v456 : Vec F S1x1024x1x128 .bf16}  {Φ : (Σ' (v459 : FVec F S32x1x128 .f32) (v466 : FVec F S32x1 .f32) (v471 : FVec F S32x1x128 .f32) (v478 : FVec F S32x1 .f32) (v483 : FVec F S32x1x128 .f32), FVec F S32x1024 .f32) → sProp 𝕄} :
    iprop(recs m ρ ∗ levAts L lv ∗ ksP m c (2 : Fin 4) ∗ vsP m c (2 : Fin 4))
      ⊢ iprop(((ksP m c (2 : Fin 4) ∗ vsP m c (2 : Fin 4)) -∗ Φ (⟨k0_pay80 v455 v456, k0_pay82 v399 (ldKS m c (2 : Fin 4) (5 : Fin 8)), k0_pay83 v399 (ldKS m c (2 : Fin 4) (5 : Fin 8)) (ldVS m c (2 : Fin 4) (5 : Fin 8)), k0_pay85 v399 (ldKS m c (2 : Fin 4) (6 : Fin 8)), k0_pay86 v399 (ldKS m c (2 : Fin 4) (6 : Fin 8)) (ldVS m c (2 : Fin 4) (6 : Fin 8)), k0_pay87 v399 (ldKS m c (2 : Fin 4) (7 : Fin 8))⟩))
          -∗ WP c (call k0_part28 v399 v455 v456) Φ) := by
  rw [k0_part28_eq_skeleton]
  unfold k0_part28_skel
  simp only [Prog.lift, Prog.bind_op, Prog.bind_ret, Prog.pure_eq_ret]
  iintro ⟨#HR, #HL, H1, H2⟩ Hk
  iapply (ld_ks m c (2 : Fin 4) (5 : Fin 8) rfl) $$ H1
  iintro H1
  iapply (ld_vs m c (2 : Fin 4) (5 : Fin 8) rfl) $$ H2
  iintro H2
  iapply (ld_ks m c (2 : Fin 4) (6 : Fin 8) rfl) $$ H1
  iintro H1
  iapply (ld_vs m c (2 : Fin 4) (6 : Fin 8) rfl) $$ H2
  iintro H2
  iapply (ld_ks m c (2 : Fin 4) (7 : Fin 8) rfl) $$ H1
  iintro H1
  iapply (WP_ret c _)
  iapply Hk
  iclose

theorem part29_ok (c : Dev nD) (l : List (Dev nD × Option CK)) {v406 : FVec F S32x1 .f32} {v411 : FVec F S32x1x128 .f32} {v418 : FVec F S32x1 .f32} {v423 : FVec F S32x1x128 .f32} {v430 : FVec F S32x1 .f32} {v435 : FVec F S32x1x128 .f32} {v442 : FVec F S32x1 .f32} {v447 : FVec F S32x1x128 .f32} {v454 : FVec F S32x1 .f32} {v459 : FVec F S32x1x128 .f32} {v466 : FVec F S32x1 .f32} {v471 : FVec F S32x1x128 .f32} {v478 : FVec F S32x1 .f32} {v483 : FVec F S32x1x128 .f32} {v488 : FVec F S32x1024 .f32} (hl0 : (((l) : List (Dev nD × Option CK)).map Prod.snd).all (fun o => decide (CK.lev (kg (3 : Fin 4)) < dLev o)) = true) (hw0 : (k0_pay88 v411 v423 v435 v447 v459 v471 v483 v488 (ldVS m c (2 : Fin 4) (7 : Fin 8))) = PAblk m ρ c (2 : Fin 4)) (hw1 : (k0_pay89 v406 v418 v430 v442 v454 v466 v478 v488) = PLblk m ρ c (2 : Fin 4)) {Φ : (PUnit) → sProp 𝕄} :
    iprop(recs m ρ ∗ levAts L lv ∗ debt c (l) ∗ vsP m c (2 : Fin 4) ∗ paA c (2 : Fin 4).val ∗ plA c (2 : Fin 4).val ∗ crd c (kg (3 : Fin 4)) ∗ atp c (kg (3 : Fin 4)))
      ⊢ iprop(((debt c l ∗ vsP m c (2 : Fin 4) ∗ paP m ρ c (2 : Fin 4).val fullShare ∗ plP m ρ c (2 : Fin 4).val fullShare ∗ sv c (kg (3 : Fin 4)) ∗ ksP m c (3 : Fin 4)) -∗ Φ (⟨⟩))
          -∗ WP c (call k0_part29 v406 v411 v418 v423 v430 v435 v442 v447 v454 v459 v466 v471 v478 v483 v488) Φ) := by
  rw [k0_part29_eq_skeleton]
  unfold k0_part29_skel
  simp only [Prog.lift, Prog.bind_op, Prog.bind_ret, Prog.pure_eq_ret]
  iintro ⟨#HR, #HL, HO, H1, ⟨%fH2, H2⟩, ⟨%fH3, H3⟩, H4, H5⟩ Hk
  iapply (ld_vs m c (2 : Fin 4) (7 : Fin 8) rfl) $$ H1
  iintro H1
  iapply (dd_pa c (2 : Fin 4).val fH2 rfl) $$ H2
  iintro H2
  iapply (st_pa m ρ c (2 : Fin 4) fH2 rfl hw0) $$ H2
  iintro H2
  iapply (dd_pl c (2 : Fin 4).val fH3 rfl) $$ H3
  iintro H3
  iapply (st_pl m ρ c (2 : Fin 4) fH3 rfl hw1) $$ H3
  iintro H3
  iapply (wait_w m ρ c (kg (3 : Fin 4)) (l) (ksP m c (3 : Fin 4)) rfl rfl rfl (fun _ => rfl) hl0) $$ [H4 HO H5]
  · iclose
  iintro ⟨HO, H6, H7⟩
  iapply (WP_ret c _)
  iapply Hk
  iclose

theorem part30_ok (c : Dev nD) (l : List (Dev nD × Option CK))  (hl0 : (((l) : List (Dev nD × Option CK)).map Prod.snd).all (fun o => decide (CK.lev (vg (3 : Fin 4)) < dLev o)) = true) {Φ : (Σ' (v517 : FVec F S32x1024 .bf16) (v524 : FVec F S32x1 .f32) (v529 : FVec F S32x1x128 .f32) (v536 : FVec F S32x1 .f32) (v541 : FVec F S32x1x128 .f32) (v542 : FVec F S32x128 .bf16), FVec F S1024x128 .bf16) → sProp 𝕄} :
    iprop(recs m ρ ∗ levAts L lv ∗ debt c (l) ∗ crd c (vg (3 : Fin 4)) ∗ atp c (vg (3 : Fin 4)) ∗ q32W m ρ c fullShare.left ∗ ksP m c (3 : Fin 4))
      ⊢ iprop(((debt c l ∗ sv c (vg (3 : Fin 4)) ∗ vsP m c (3 : Fin 4) ∗ q32W m ρ c fullShare.left ∗ ksP m c (3 : Fin 4)) -∗ Φ (⟨k0_pay90 (ldQ m ρ (3 : Fin 4)), k0_pay92 (ldQ m ρ (3 : Fin 4)) (ldKS m c (3 : Fin 4) (0 : Fin 8)), k0_pay93 (ldQ m ρ (3 : Fin 4)) (ldKS m c (3 : Fin 4) (0 : Fin 8)) (ldVS m c (3 : Fin 4) (0 : Fin 8)), k0_pay95 (ldQ m ρ (3 : Fin 4)) (ldKS m c (3 : Fin 4) (1 : Fin 8)), k0_pay96 (ldQ m ρ (3 : Fin 4)) (ldKS m c (3 : Fin 4) (1 : Fin 8)) (ldVS m c (3 : Fin 4) (1 : Fin 8)), k0_pay97 (ldQ m ρ (3 : Fin 4)), k0_pay98 (ldKS m c (3 : Fin 4) (2 : Fin 8))⟩))
          -∗ WP c (call k0_part30 ) Φ) := by
  rw [k0_part30_eq_skeleton]
  unfold k0_part30_skel
  simp only [Prog.lift, Prog.bind_op, Prog.bind_ret, Prog.pure_eq_ret]
  iintro ⟨#HR, #HL, HO, H1, H2, H5, H6⟩ Hk
  iapply (wait_w m ρ c (vg (3 : Fin 4)) (l) (vsP m c (3 : Fin 4)) rfl rfl rfl (fun _ => rfl) hl0) $$ [H1 HO H2]
  · iclose
  iintro ⟨HO, H3, H4⟩
  iapply (ld_q m ρ c (3 : Fin 4) fullShare.left rfl) $$ H5
  iintro H5
  iapply (ld_ks m c (3 : Fin 4) (0 : Fin 8) rfl) $$ H6
  iintro H6
  iapply (ld_vs m c (3 : Fin 4) (0 : Fin 8) rfl) $$ H4
  iintro H4
  iapply (ld_ks m c (3 : Fin 4) (1 : Fin 8) rfl) $$ H6
  iintro H6
  iapply (ld_vs m c (3 : Fin 4) (1 : Fin 8) rfl) $$ H4
  iintro H4
  iapply (ld_ks m c (3 : Fin 4) (2 : Fin 8) rfl) $$ H6
  iintro H6
  iapply (WP_ret c _)
  iapply Hk
  iclose

theorem part31_ok (c : Dev nD) {v517 : FVec F S32x1024 .bf16} {v542 : FVec F S32x128 .bf16} {v544 : FVec F S1024x128 .bf16}  {Φ : (Σ' (v548 : FVec F S32x1 .f32) (v553 : FVec F S32x1x128 .f32) (v560 : FVec F S32x1 .f32) (v565 : FVec F S32x1x128 .f32) (v572 : FVec F S32x1 .f32) (v573 : FVec F S32x1024 .bf16) (v575 : FVec F S1024x128 .bf16), FVec F S32x128 .f32) → sProp 𝕄} :
    iprop(recs m ρ ∗ levAts L lv ∗ vsP m c (3 : Fin 4) ∗ ksP m c (3 : Fin 4))
      ⊢ iprop(((vsP m c (3 : Fin 4) ∗ ksP m c (3 : Fin 4)) -∗ Φ (⟨k0_pay100 v542 v544, k0_pay101 v542 v544 (ldVS m c (3 : Fin 4) (2 : Fin 8)), k0_pay103 v517 (ldKS m c (3 : Fin 4) (3 : Fin 8)), k0_pay104 v517 (ldKS m c (3 : Fin 4) (3 : Fin 8)) (ldVS m c (3 : Fin 4) (3 : Fin 8)), k0_pay106 v517 (ldKS m c (3 : Fin 4) (4 : Fin 8)), k0_pay107 v517 (ldKS m c (3 : Fin 4) (4 : Fin 8)), k0_pay108 (ldVS m c (3 : Fin 4) (4 : Fin 8)), (constant S32x128 .f32 0x00000000#32)⟩))
          -∗ WP c (call k0_part31 v517 v542 v544) Φ) := by
  rw [k0_part31_eq_skeleton]
  unfold k0_part31_skel
  simp only [Prog.lift, Prog.bind_op, Prog.bind_ret, Prog.pure_eq_ret]
  iintro ⟨#HR, #HL, H1, H2⟩ Hk
  iapply (ld_vs m c (3 : Fin 4) (2 : Fin 8) rfl) $$ H1
  iintro H1
  iapply (ld_ks m c (3 : Fin 4) (3 : Fin 8) rfl) $$ H2
  iintro H2
  iapply (ld_vs m c (3 : Fin 4) (3 : Fin 8) rfl) $$ H1
  iintro H1
  iapply (ld_ks m c (3 : Fin 4) (4 : Fin 8) rfl) $$ H2
  iintro H2
  iapply (ld_vs m c (3 : Fin 4) (4 : Fin 8) rfl) $$ H1
  iintro H1
  iapply (WP_ret c _)
  iapply Hk
  iclose

theorem part32_ok (c : Dev nD) {v517 : FVec F S32x1024 .bf16} {v573 : FVec F S32x1024 .bf16} {v575 : FVec F S1024x128 .bf16} {cst_569 : FVec F S32x128 .f32}  {Φ : (Σ' (v577 : FVec F S32x1x128 .f32) (v584 : FVec F S32x1 .f32) (v589 : FVec F S32x1x128 .f32) (v596 : FVec F S32x1 .f32) (v601 : FVec F S32x1x128 .f32) (v606 : FVec F S32x1024 .f32), FVec F S32 .f32) → sProp 𝕄} :
    iprop(recs m ρ ∗ levAts L lv ∗ ksP m c (3 : Fin 4) ∗ vsP m c (3 : Fin 4))
      ⊢ iprop(((ksP m c (3 : Fin 4) ∗ vsP m c (3 : Fin 4)) -∗ Φ (⟨k0_pay109 v573 v575 cst_569, k0_pay111 v517 (ldKS m c (3 : Fin 4) (5 : Fin 8)), k0_pay112 v517 (ldKS m c (3 : Fin 4) (5 : Fin 8)) (ldVS m c (3 : Fin 4) (5 : Fin 8)), k0_pay114 v517 (ldKS m c (3 : Fin 4) (6 : Fin 8)), k0_pay115 v517 (ldKS m c (3 : Fin 4) (6 : Fin 8)) (ldVS m c (3 : Fin 4) (6 : Fin 8)), k0_pay116 v517 (ldKS m c (3 : Fin 4) (7 : Fin 8)), k0_pay117 v517 (ldKS m c (3 : Fin 4) (7 : Fin 8))⟩))
          -∗ WP c (call k0_part32 v517 v573 v575 cst_569) Φ) := by
  rw [k0_part32_eq_skeleton]
  unfold k0_part32_skel
  simp only [Prog.lift, Prog.bind_op, Prog.bind_ret, Prog.pure_eq_ret]
  iintro ⟨#HR, #HL, H1, H2⟩ Hk
  iapply (ld_ks m c (3 : Fin 4) (5 : Fin 8) rfl) $$ H1
  iintro H1
  iapply (ld_vs m c (3 : Fin 4) (5 : Fin 8) rfl) $$ H2
  iintro H2
  iapply (ld_ks m c (3 : Fin 4) (6 : Fin 8) rfl) $$ H1
  iintro H1
  iapply (ld_vs m c (3 : Fin 4) (6 : Fin 8) rfl) $$ H2
  iintro H2
  iapply (ld_ks m c (3 : Fin 4) (7 : Fin 8) rfl) $$ H1
  iintro H1
  iapply (WP_ret c _)
  iapply Hk
  iclose

theorem part33_ok (c : Dev nD) (l : List (Dev nD × Option CK)) {v2 : BitVec 32} {v524 : FVec F S32x1 .f32} {v529 : FVec F S32x1x128 .f32} {v536 : FVec F S32x1 .f32} {v541 : FVec F S32x1x128 .f32} {v548 : FVec F S32x1 .f32} {v553 : FVec F S32x1x128 .f32} {v560 : FVec F S32x1 .f32} {v565 : FVec F S32x1x128 .f32} {v572 : FVec F S32x1 .f32} {v577 : FVec F S32x1x128 .f32} {v584 : FVec F S32x1 .f32} {v589 : FVec F S32x1x128 .f32} {v596 : FVec F S32x1 .f32} {v601 : FVec F S32x1x128 .f32} {v606 : FVec F S32x1024 .f32} {v607 : FVec F S32 .f32} (hw0 : (k0_pay118 v529 v541 v553 v565 v577 v589 v601 v606 (ldVS m c (3 : Fin 4) (7 : Fin 8))) = PAblk m ρ c (3 : Fin 4)) (hw1 : (k0_pay119 v524 v536 v548 v560 v572 v584 v596 v607) = PLblk m ρ c (3 : Fin 4)) {Φ : (Σ' (v634 : BitVec 32), BitVec 32) → sProp 𝕄} :
    iprop(recs m ρ ∗ levAts L lv ∗ debt c ((nx c (0 : Fin 3).val, some (par (0 : Fin 3))) :: l) ∗ vsP m c (3 : Fin 4) ∗ paA c (3 : Fin 4).val ∗ plA c (3 : Fin 4).val ∗ paP m ρ c (0 : Fin 4).val fullShare ∗ paP m ρ c (1 : Fin 4).val fullShare ∗ paP m ρ c (2 : Fin 4).val fullShare ∗ plP m ρ c (0 : Fin 4).val fullShare ∗ plP m ρ c (1 : Fin 4).val fullShare ∗ plP m ρ c (2 : Fin 4).val fullShare ∗ raA (nx c (0 : Fin 3).val) (0 : Fin 3).val ∗ tok c (pas (0 : Fin 3)) ∗ tok (nx c (0 : Fin 3).val) (par (0 : Fin 3)))
      ⊢ iprop(((debt c l ∗ vsP m c (3 : Fin 4) ∗ paW m ρ c fullShare.left ∗ paP m ρ c c.val fullShare.right ∗ paP m ρ c (nx c (1 : Fin 3).val).val fullShare.right ∗ paP m ρ c (nx c (2 : Fin 3).val).val fullShare.right ∗ plW m ρ c fullShare.left ∗ plP m ρ c c.val fullShare.right ∗ plP m ρ c (nx c (0 : Fin 3).val).val fullShare.right ∗ plP m ρ c (nx c (1 : Fin 3).val).val fullShare.right ∗ plP m ρ c (nx c (2 : Fin 3).val).val fullShare.right ∗ crd c (pas (0 : Fin 3))) -∗ Φ (⟨(Scalar.muli (Scalar.remsi (Scalar.addi v2 1#32) 4#32) 1#32), 0#32⟩))
          -∗ WP c (call k0_part33 c v2 v524 v529 v536 v541 v548 v553 v560 v565 v572 v577 v584 v589 v596 v601 v606 v607) Φ) := by
  rw [k0_part33_eq_skeleton]
  unfold k0_part33_skel
  simp only [Prog.lift, Prog.bind_op, Prog.bind_ret, Prog.pure_eq_ret]
  iintro ⟨#HR, #HL, HO, H1, ⟨%fH2, H2⟩, ⟨%fH3, H3⟩, H4, H5, H6, H13, H14, H15, H22, H23, H24⟩ Hk
  iapply (ld_vs m c (3 : Fin 4) (7 : Fin 8) rfl) $$ H1
  iintro H1
  iapply (dd_pa c (3 : Fin 4).val fH2 rfl) $$ H2
  iintro H2
  iapply (st_pa m ρ c (3 : Fin 4) fH2 rfl hw0) $$ H2
  iintro H2
  iapply (dd_pl c (3 : Fin 4).val fH3 rfl) $$ H3
  iintro H3
  iapply (st_pl m ρ c (3 : Fin 4) fH3 rfl hw1) $$ H3
  iintro H3
  ihave H7 := (cut_pa m ρ c) $$ [H4 H5 H6 H2]
  · iclose
  icases H7 with ⟨H8, H9, H10, H11, H12⟩
  ihave H16 := (cut_pl m ρ c) $$ [H13 H14 H15 H3]
  · iclose
  icases H16 with ⟨H17, H18, H19, H20, H21⟩
  iapply (send_pa m ρ c (0 : Fin 3) (l) (Fin.ext (k0_dev25_eq c)) (k0_off4_eq c (0 : Fin 3)) rfl rfl rfl) $$ [H10 H22 HO H23 H24]
  · iclose
  iintro ⟨H25, HO⟩
  iapply (WP_ret c _)
  iapply Hk
  iclose

theorem part34_ok (c : Dev nD) (l : List (Dev nD × Option CK)) {v2 : BitVec 32} {v634 : BitVec 32} {c0_i32_627 : BitVec 32}  {Φ : (PUnit) → sProp 𝕄} :
    iprop(recs m ρ ∗ levAts L lv ∗ debt c ((nx c (0 : Fin 3).val, some (plr (0 : Fin 3))) :: (nx c (1 : Fin 3).val, some (par (1 : Fin 3))) :: (nx c (1 : Fin 3).val, some (plr (1 : Fin 3))) :: l) ∗ plP m ρ c (nx c (0 : Fin 3).val).val fullShare.right ∗ rlA (nx c (0 : Fin 3).val) (0 : Fin 3).val ∗ tok c (pls (0 : Fin 3)) ∗ tok (nx c (0 : Fin 3).val) (plr (0 : Fin 3)) ∗ paP m ρ c (nx c (1 : Fin 3).val).val fullShare.right ∗ raA (nx c (1 : Fin 3).val) (1 : Fin 3).val ∗ tok c (pas (1 : Fin 3)) ∗ tok (nx c (1 : Fin 3).val) (par (1 : Fin 3)) ∗ plP m ρ c (nx c (1 : Fin 3).val).val fullShare.right ∗ rlA (nx c (1 : Fin 3).val) (1 : Fin 3).val ∗ tok c (pls (1 : Fin 3)) ∗ tok (nx c (1 : Fin 3).val) (plr (1 : Fin 3)))
      ⊢ iprop(((debt c l ∗ crd c (pls (0 : Fin 3)) ∗ crd c (pas (1 : Fin 3)) ∗ crd c (pls (1 : Fin 3))) -∗ Φ (⟨⟩))
          -∗ WP c (call k0_part34 c v2 v634 c0_i32_627) Φ) := by
  rw [k0_part34_eq_skeleton]
  unfold k0_part34_skel
  simp only [Prog.lift, Prog.bind_op, Prog.bind_ret, Prog.pure_eq_ret]
  iintro ⟨#HR, #HL, HO, H1, H2, H3, H4, H6, H7, H8, H9, H11, H12, H13, H14⟩ Hk
  iapply (send_pl m ρ c (0 : Fin 3) ((nx c (1 : Fin 3).val, some (par (1 : Fin 3))) :: (nx c (1 : Fin 3).val, some (plr (1 : Fin 3))) :: l) (Fin.ext (k0_dev26_eq c)) (k0_off5_eq c (0 : Fin 3)) rfl rfl rfl) $$ [H1 H2 HO H3 H4]
  · iclose
  iintro ⟨H5, HO⟩
  iapply (send_pa m ρ c (1 : Fin 3) ((nx c (1 : Fin 3).val, some (plr (1 : Fin 3))) :: l) (Fin.ext (k0_dev27_eq c)) (k0_off4_eq c (1 : Fin 3)) rfl rfl rfl) $$ [H6 H7 HO H8 H9]
  · iclose
  iintro ⟨H10, HO⟩
  iapply (send_pl m ρ c (1 : Fin 3) (l) (Fin.ext (k0_dev28_eq c)) (k0_off5_eq c (1 : Fin 3)) rfl rfl rfl) $$ [H11 H12 HO H13 H14]
  · iclose
  iintro ⟨H15, HO⟩
  iapply (WP_ret c _)
  iapply Hk
  iclose

end Cert.KernelIdeal.Pf
-- ==== Proof.MeetParts.lean ====
/-
# Where the shared keys have come
-/
module

public import proofs.«01_k».proof.Proof.CaseParts

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The two parts of the body after which every device holds chunk 0 and the boundary rows. -/

theorem eq0_pos {c : Dev nD} (h : c = 0) : Scalar.cmpi .ne (Scalar.extui (Scalar.cmpi .eq (wv c) 0#32) : BitVec 32) 0#32 = 1#1 := by subst h; rfl
theorem eq0_neg {c : Dev nD} (h : c ≠ 0) : ¬ Scalar.cmpi .ne (Scalar.extui (Scalar.cmpi .eq (wv c) 0#32) : BitVec 32) 0#32 = 1#1 := by revert c; decide
theorem ne0_pos {c : Dev nD} (h : c ≠ 0) : Scalar.cmpi .ne (Scalar.extui (Scalar.cmpi .ne (wv c) 0#32) : BitVec 32) 0#32 = 1#1 := by revert c; decide
theorem ne0_neg {c : Dev nD} (h : c = 0) : ¬ Scalar.cmpi .ne (Scalar.extui (Scalar.cmpi .ne (wv c) 0#32) : BitVec 32) 0#32 = 1#1 := by subst h; decide
theorem eq1_pos {c : Dev nD} (h : c = 1) : Scalar.cmpi .ne (Scalar.extui (Scalar.cmpi .eq (wv c) 1#32) : BitVec 32) 0#32 = 1#1 := by subst h; rfl
theorem eq1_neg {c : Dev nD} (h : c ≠ 1) : ¬ Scalar.cmpi .ne (Scalar.extui (Scalar.cmpi .eq (wv c) 1#32) : BitVec 32) 0#32 = 1#1 := by revert c; decide
theorem ne1_pos {c : Dev nD} (h : c ≠ 1) : Scalar.cmpi .ne (Scalar.extui (Scalar.cmpi .ne (wv c) 1#32) : BitVec 32) 0#32 = 1#1 := by revert c; decide
theorem ne1_neg {c : Dev nD} (h : c = 1) : ¬ Scalar.cmpi .ne (Scalar.extui (Scalar.cmpi .ne (wv c) 1#32) : BitVec 32) 0#32 = 1#1 := by subst h; decide

theorem part35_ok (c : Dev nD) (l : List (Dev nD × Option CK)) {v2 : BitVec 32} (hv : v2 = wv c) (hl0 : ((l : List (Dev nD × Option CK)).map Prod.snd).all (fun o => decide (CK.lev (cp (0 : Fin 4)) < dLev o)) = true) (hl1 : ((l : List (Dev nD × Option CK)).map Prod.snd).all (fun o => decide (CK.lev (kr (0 : Fin 2)) < dLev o)) = true) {Φ : BitVec 1 → sProp 𝕄} :
    iprop(recs m ρ ∗ levAts L lv ∗ debt c ((nx c (2 : Fin 3).val, some (par (2 : Fin 3))) :: (nx c (2 : Fin 3).val, some (plr (2 : Fin 3))) :: l) ∗ paP m ρ c (nx c (2 : Fin 3).val).val fullShare.right ∗ raA (nx c (2 : Fin 3).val) (2 : Fin 3).val ∗ tok c (pas (2 : Fin 3)) ∗ tok (nx c (2 : Fin 3).val) (par (2 : Fin 3)) ∗ plP m ρ c (nx c (2 : Fin 3).val).val fullShare.right ∗ rlA (nx c (2 : Fin 3).val) (2 : Fin 3).val ∗ tok c (pls (2 : Fin 3)) ∗ tok (nx c (2 : Fin 3).val) (plr (2 : Fin 3)) ∗ BA c ∗ RA0 c ∗ atp c (cp (0 : Fin 4)) ∗ atp c (cp (1 : Fin 4)) ∗ atp c (kr (0 : Fin 2)) ∗ atp c (vr (0 : Fin 2)) ∗ atp c (kr (1 : Fin 2)) ∗ atp c (vr (1 : Fin 2)))
      ⊢ iprop(((debt c l ∗ crd c (pas (2 : Fin 3)) ∗ crd c (pls (2 : Fin 3)) ∗ k0W m c ∗ v0W m c ∗ sv c (cp (0 : Fin 4)) ∗ sv c (cp (1 : Fin 4)) ∗ sv c (kr (0 : Fin 2)) ∗ sv c (vr (0 : Fin 2)) ∗ sv c (kr (1 : Fin 2)) ∗ sv c (vr (1 : Fin 2))) -∗ Φ (Scalar.cmpi .eq (wv c) 1#32))
          -∗ WP c (call k0_part35 c v2) Φ) := by
  subst hv
  rw [k0_part35_eq_skeleton]
  unfold k0_part35_skel
  simp only [Prog.lift, Prog.bind_op, Prog.bind_ret, Prog.pure_eq_ret]
  iintro ⟨#HR, #HL, HO, A0, A1, A2, A3, A4, A5, A6, A7, A8, A9, A10, A11, A12, A13, A14, A15⟩ Hk
  iapply (send_pa m ρ c (2 : Fin 3) ((nx c (2 : Fin 3).val, some (plr (2 : Fin 3))) :: l) (Fin.ext (k0_dev29_eq c)) (k0_off4_eq c (2 : Fin 3)) rfl rfl rfl) $$ [A0 A1 HO A2 A3]
  · iclose
  iintro ⟨S1, HO⟩
  iapply (send_pl m ρ c (2 : Fin 3) (l) (Fin.ext (k0_dev30_eq c)) (k0_off5_eq c (2 : Fin 3)) rfl rfl rfl) $$ [A4 A5 HO A6 A7]
  · iclose
  iintro ⟨S2, HO⟩
  by_cases hc : c = 0
  · have hl : ((l : List (Dev nD × Option CK)).map Prod.snd).all (fun o => decide (CK.lev (cp (0 : Fin 4)) < dLev o)) = true := hl0
    simp only [BA, RA0, if_pos (is0 hc), dif_pos (eq0_pos hc), dif_neg (ne0_neg hc), Prog.bind_op, Prog.bind_ret, bind_assoc]
    icases A8 with ⟨B1, B2⟩
    iapply (wait_w m ρ c (cp (0 : Fin 4)) (l) (k0W m c) rfl rfl (by subst hc; rfl) (fun _ => rfl) hl0) $$ [B1 HO A10]
    · iclose
    iintro ⟨HO, K1, K2⟩
    iapply (wait_w m ρ c (cp (1 : Fin 4)) (l) (v0W m c) rfl rfl (by subst hc; rfl) (fun _ => rfl) hl0) $$ [B2 HO A11]
    · iclose
    iintro ⟨HO, K3, K4⟩
    iapply (close_w m ρ c (kr (0 : Fin 2)) (by decide) (by subst hc; rfl)) $$ [A12]
    · iclose
    iintro K5
    iapply (close_w m ρ c (vr (0 : Fin 2)) (by decide) (by subst hc; rfl)) $$ [A13]
    · iclose
    iintro K6
    iapply (close_w m ρ c (kr (1 : Fin 2)) (by decide) (by subst hc; rfl)) $$ [A14]
    · iclose
    iintro K7
    iapply (close_w m ρ c (vr (1 : Fin 2)) (by decide) (by subst hc; rfl)) $$ [A15]
    · iclose
    iintro K8
    iapply (WP_ret c _)
    iapply Hk
    iclose
  · simp only [BA, RA0, if_neg (val0 hc), dif_neg (eq0_neg hc), dif_pos (ne0_pos hc), Prog.bind_op, Prog.bind_ret, bind_assoc]
    icases A9 with ⟨B1, B2, B3, B4⟩
    iapply (WP_bind c _ _)
    iapply (part7_ok m ρ c (l) hc hl1 hl1 hl1) $$ [HO B1 A12 B2 A13 B3 A14]
    · iclose
    iintro ⟨HO, K1, K2, K3, K4, K5, K6⟩
    iapply (wait_w m ρ c (vr (1 : Fin 2)) (l) (v0P m c (1 : Fin 2)) rfl rfl ((act_0 hc).2.1 _) (fun _ => rfl) hl1) $$ [B4 HO A15]
    · iclose
    iintro ⟨HO, K7, K8⟩
    ihave K9 := (join_k0 m c) $$ [K2 K6]
    · iclose
    irename K9 => K10
    ihave K11 := (join_v0 m c) $$ [K4 K8]
    · iclose
    irename K11 => K12
    iapply (close_w m ρ c (cp (0 : Fin 4)) (by decide) (act_0 hc).2.2.1) $$ [A10]
    · iclose
    iintro K13
    iapply (close_w m ρ c (cp (1 : Fin 4)) (by decide) (act_0 hc).2.2.2.1) $$ [A11]
    · iclose
    iintro K14
    iapply (WP_ret c _)
    iapply Hk
    iclose

theorem part36_ok (c : Dev nD) (l : List (Dev nD × Option CK)) {v2 : BitVec 32} {v694 : BitVec 1} (hv : v2 = wv c) (hv0 : v694 = Scalar.cmpi .eq (wv c) 1#32) (hl0 : ((l : List (Dev nD × Option CK)).map Prod.snd).all (fun o => decide (CK.lev (cp (2 : Fin 4)) < dLev o)) = true) (hl1 : ((l : List (Dev nD × Option CK)).map Prod.snd).all (fun o => decide (CK.lev bkr < dLev o)) = true) {Φ : (Σ' (v700 : FVec F S1024 .f32) (v701 : FVec F S1024 .f32) (v702 : FVec F S1024 .f32) (v703 : FVec F S1024 .f32) (v704 : FVec F S1024 .f32) (v705 : FVec F S1024 .f32) (v706 : FVec F S1024 .f32) (v707 : FVec F S1024 .f32) (v708 : FVec F S1024x128 .f32) (v709 : FVec F S1024x128 .f32) (v710 : FVec F S1024x128 .f32) (v711 : FVec F S1024x128 .f32) (v712 : FVec F S1024x128 .f32) (v713 : FVec F S1024x128 .f32) (v714 : FVec F S1024x128 .f32) (v715 : FVec F S1024x128 .f32), IVec S1024x512 1) → sProp 𝕄} :
    iprop(recs m ρ ∗ levAts L lv ∗ debt c l ∗ BB c ∗ RB1 c ∗ atp c (cp (2 : Fin 4)) ∗ atp c (cp (3 : Fin 4)) ∗ atp c bkr ∗ atp c bvr)
      ⊢ iprop(((debt c l ∗ kbW m c ∗ vbW m c ∗ sv c (cp (2 : Fin 4)) ∗ sv c (cp (3 : Fin 4)) ∗ sv c bkr ∗ sv c bvr) -∗ Φ (⟨k0_pay120 (F := F), k0_pay121 (F := F), k0_pay122 (F := F), k0_pay123 (F := F), k0_pay124 (F := F), k0_pay125 (F := F), k0_pay126 (F := F), k0_pay127 (F := F), k0_pay128 (F := F), k0_pay129 (F := F), k0_pay130 (F := F), k0_pay131 (F := F), k0_pay132 (F := F), k0_pay133 (F := F), k0_pay134 (F := F), k0_pay135 (F := F), k0_pay136⟩))
          -∗ WP c (call k0_part36 v2 v694) Φ) := by
  subst hv
  subst hv0
  rw [k0_part36_eq_skeleton]
  unfold k0_part36_skel
  simp only [call, Prog.lift, Prog.bind_op, Prog.bind_ret, Prog.pure_eq_ret]
  iintro ⟨#HR, #HL, HO, A0, A1, A2, A3, A4, A5⟩ Hk
  by_cases hc : c = 1
  · simp only [BB, RB1, if_pos (is1 hc), dif_pos (eq1_pos hc), dif_neg (ne1_neg hc), Prog.bind_op, Prog.bind_ret, bind_assoc]
    icases A0 with ⟨B1, B2⟩
    iapply (wait_w m ρ c (cp (2 : Fin 4)) (l) (kbW m c) rfl rfl (by subst hc; rfl) (fun _ => rfl) hl0) $$ [B1 HO A2]
    · iclose
    iintro ⟨HO, K1, K2⟩
    iapply (wait_w m ρ c (cp (3 : Fin 4)) (l) (vbW m c) rfl rfl (by subst hc; rfl) (fun _ => rfl) hl0) $$ [B2 HO A3]
    · iclose
    iintro ⟨HO, K3, K4⟩
    iapply (close_w m ρ c bkr (by decide) (by subst hc; rfl)) $$ [A4]
    · iclose
    iintro K5
    iapply (close_w m ρ c bvr (by decide) (by subst hc; rfl)) $$ [A5]
    · iclose
    iintro K6
    iapply (WP_ret c _)
    iapply Hk
    iclose
  · simp only [BB, RB1, if_neg (val1 hc), dif_neg (eq1_neg hc), dif_pos (ne1_pos hc), Prog.bind_op, Prog.bind_ret, bind_assoc]
    icases A1 with ⟨B1, B2⟩
    iapply (wait_w m ρ c bkr (l) (kbW m c) rfl rfl (act_1 hc).1 (fun _ => rfl) hl1) $$ [B1 HO A4]
    · iclose
    iintro ⟨HO, K1, K2⟩
    iapply (wait_w m ρ c bvr (l) (vbW m c) rfl rfl (act_1 hc).2.1 (fun _ => rfl) hl1) $$ [B2 HO A5]
    · iclose
    iintro ⟨HO, K3, K4⟩
    iapply (close_w m ρ c (cp (2 : Fin 4)) (by decide) (act_1 hc).2.2.1) $$ [A2]
    · iclose
    iintro K5
    iapply (close_w m ρ c (cp (3 : Fin 4)) (by decide) (act_1 hc).2.2.2.1) $$ [A3]
    · iclose
    iintro K6
    iapply (WP_ret c _)
    iapply Hk
    iclose

end Cert.KernelIdeal.Pf
-- ==== Proof.HeadParts.lean ====
/-
# The heads of chunk 0 and of the boundary
-/
module

public import proofs.«01_k».proof.Proof.Res

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The parts of the body that work the keys all devices share. -/

theorem part37_ok (c : Dev nD) {v29 : FVec F S1024x1024 .bf16} {v700 : FVec F S1024 .f32} {v701 : FVec F S1024 .f32} {v708 : FVec F S1024x128 .f32} {v709 : FVec F S1024x128 .f32} {v729 : IVec S1024x512 1}  {Φ : (Σ' (v732 : FVec F S1024x512 .f32) (v740 : FVec F S1024 .f32) (v745 : FVec F S1024x128 .f32) (v753 : FVec F S1024 .f32) (v758 : FVec F S1024x128 .f32), FVec F S1024x512 .f32) → sProp 𝕄} :
    iprop(recs m ρ ∗ levAts L lv ∗ k0W m c ∗ v0W m c)
      ⊢ iprop(((k0W m c ∗ v0W m c) -∗ Φ (⟨k0_pay137 (F := F) v729, k0_pay139 v29 v700 v729 (ldK0 m c (0 : Fin 2) (0 : Fin 8)), k0_pay140 v29 v708 v729 (ldK0 m c (0 : Fin 2) (0 : Fin 8)) (ldV0 m c (0 : Fin 2) (0 : Fin 8)), k0_pay142 v29 v701 v729 (ldK0 m c (0 : Fin 2) (1 : Fin 8)), k0_pay143 v29 v709 v729 (ldK0 m c (0 : Fin 2) (1 : Fin 8)) (ldV0 m c (0 : Fin 2) (1 : Fin 8)), k0_pay144 v29 v729 (ldK0 m c (0 : Fin 2) (2 : Fin 8))⟩))
          -∗ WP c (call k0_part37 v29 v700 v701 v708 v709 v729) Φ) := by
  rw [k0_part37_eq_skeleton]
  unfold k0_part37_skel
  simp only [Prog.lift, Prog.bind_op, Prog.bind_ret, Prog.pure_eq_ret]
  iintro ⟨#HR, #HL, H1, H2⟩ Hk
  iapply (ld_k0 m c (0 : Fin 2) (0 : Fin 8) fullShare rfl) $$ H1
  iintro H1
  iapply (ld_v0 m c (0 : Fin 2) (0 : Fin 8) fullShare rfl) $$ H2
  iintro H2
  iapply (ld_k0 m c (0 : Fin 2) (1 : Fin 8) fullShare rfl) $$ H1
  iintro H1
  iapply (ld_v0 m c (0 : Fin 2) (1 : Fin 8) fullShare rfl) $$ H2
  iintro H2
  iapply (ld_k0 m c (0 : Fin 2) (2 : Fin 8) fullShare rfl) $$ H1
  iintro H1
  iapply (WP_ret c _)
  iapply Hk
  iclose

theorem part38_ok (c : Dev nD) {v29 : FVec F S1024x1024 .bf16} {v702 : FVec F S1024 .f32} {v703 : FVec F S1024 .f32} {v704 : FVec F S1024 .f32} {v710 : FVec F S1024x128 .f32} {v711 : FVec F S1024x128 .f32} {v712 : FVec F S1024x128 .f32} {v732 : FVec F S1024x512 .f32} {v764 : FVec F S1024x512 .f32}  {Φ : (Σ' (v766 : FVec F S1024 .f32) (v771 : FVec F S1024x128 .f32) (v779 : FVec F S1024 .f32) (v784 : FVec F S1024x128 .f32) (v792 : FVec F S1024 .f32) (v797 : FVec F S1024x128 .f32) (v798 : FVec F S1024x128 .bf16), Vec F S512x1x128 .bf16) → sProp 𝕄} :
    iprop(recs m ρ ∗ levAts L lv ∗ v0W m c ∗ k0W m c)
      ⊢ iprop(((v0W m c ∗ k0W m c) -∗ Φ (⟨k0_pay145 v702 v764, k0_pay146 v710 v764 (ldV0 m c (0 : Fin 2) (2 : Fin 8)), k0_pay148 v29 v703 v732 (ldK0 m c (0 : Fin 2) (3 : Fin 8)), k0_pay149 v29 v711 v732 (ldK0 m c (0 : Fin 2) (3 : Fin 8)) (ldV0 m c (0 : Fin 2) (3 : Fin 8)), k0_pay151 v29 v704 v732 (ldK0 m c (0 : Fin 2) (4 : Fin 8)), k0_pay152 v29 v712 v732 (ldK0 m c (0 : Fin 2) (4 : Fin 8)) (ldV0 m c (0 : Fin 2) (4 : Fin 8)), k0_pay153 v29, (ldK0 m c (0 : Fin 2) (5 : Fin 8))⟩))
          -∗ WP c (call k0_part38 v29 v702 v703 v704 v710 v711 v712 v732 v764) Φ) := by
  rw [k0_part38_eq_skeleton]
  unfold k0_part38_skel
  simp only [Prog.lift, Prog.bind_op, Prog.bind_ret, Prog.pure_eq_ret]
  iintro ⟨#HR, #HL, H1, H2⟩ Hk
  iapply (ld_v0 m c (0 : Fin 2) (2 : Fin 8) fullShare rfl) $$ H1
  iintro H1
  iapply (ld_k0 m c (0 : Fin 2) (3 : Fin 8) fullShare rfl) $$ H2
  iintro H2
  iapply (ld_v0 m c (0 : Fin 2) (3 : Fin 8) fullShare rfl) $$ H1
  iintro H1
  iapply (ld_k0 m c (0 : Fin 2) (4 : Fin 8) fullShare rfl) $$ H2
  iintro H2
  iapply (ld_v0 m c (0 : Fin 2) (4 : Fin 8) fullShare rfl) $$ H1
  iintro H1
  iapply (ld_k0 m c (0 : Fin 2) (5 : Fin 8) fullShare rfl) $$ H2
  iintro H2
  iapply (WP_ret c _)
  iapply Hk
  iclose

theorem part39_ok (c : Dev nD) {v29 : FVec F S1024x1024 .bf16} {v705 : FVec F S1024 .f32} {v706 : FVec F S1024 .f32} {v707 : FVec F S1024 .f32} {v713 : FVec F S1024x128 .f32} {v714 : FVec F S1024x128 .f32} {v732 : FVec F S1024x512 .f32} {v798 : FVec F S1024x128 .bf16} {v799 : Vec F S512x1x128 .bf16}  {Φ : (Σ' (v805 : FVec F S1024 .f32) (v810 : FVec F S1024x128 .f32) (v818 : FVec F S1024 .f32) (v823 : FVec F S1024x128 .f32) (v831 : FVec F S1024 .f32), FVec F S1024x128 .f32) → sProp 𝕄} :
    iprop(recs m ρ ∗ levAts L lv ∗ v0W m c ∗ k0W m c)
      ⊢ iprop(((v0W m c ∗ k0W m c) -∗ Φ (⟨k0_pay155 v705 v732 v798 v799, k0_pay156 v713 v732 v798 v799 (ldV0 m c (0 : Fin 2) (5 : Fin 8)), k0_pay158 v29 v706 v732 (ldK0 m c (0 : Fin 2) (6 : Fin 8)), k0_pay159 v29 v714 v732 (ldK0 m c (0 : Fin 2) (6 : Fin 8)) (ldV0 m c (0 : Fin 2) (6 : Fin 8)), k0_pay161 v29 v707 v732 (ldK0 m c (0 : Fin 2) (7 : Fin 8)), k0_pay162 v29 v732 (ldK0 m c (0 : Fin 2) (7 : Fin 8)) (ldV0 m c (0 : Fin 2) (7 : Fin 8))⟩))
          -∗ WP c (call k0_part39 v29 v705 v706 v707 v713 v714 v732 v798 v799) Φ) := by
  rw [k0_part39_eq_skeleton]
  unfold k0_part39_skel
  simp only [Prog.lift, Prog.bind_op, Prog.bind_ret, Prog.pure_eq_ret]
  iintro ⟨#HR, #HL, H1, H2⟩ Hk
  iapply (ld_v0 m c (0 : Fin 2) (5 : Fin 8) fullShare rfl) $$ H1
  iintro H1
  iapply (ld_k0 m c (0 : Fin 2) (6 : Fin 8) fullShare rfl) $$ H2
  iintro H2
  iapply (ld_v0 m c (0 : Fin 2) (6 : Fin 8) fullShare rfl) $$ H1
  iintro H1
  iapply (ld_k0 m c (0 : Fin 2) (7 : Fin 8) fullShare rfl) $$ H2
  iintro H2
  iapply (ld_v0 m c (0 : Fin 2) (7 : Fin 8) fullShare rfl) $$ H1
  iintro H1
  iapply (WP_ret c _)
  iapply Hk
  iclose

theorem part40_ok (c : Dev nD) {v29 : FVec F S1024x1024 .bf16} {v715 : FVec F S1024x128 .f32} {v740 : FVec F S1024 .f32} {v745 : FVec F S1024x128 .f32} {v753 : FVec F S1024 .f32} {v835 : FVec F S1024x128 .f32}  {Φ : (Σ' (v836 : FVec F S1024x128 .f32) (v853 : FVec F S1024x512 .f32) (v861 : FVec F S1024 .f32) (v866 : FVec F S1024x128 .f32) (v874 : FVec F S1024 .f32), FVec F S1024x512 .bf16) → sProp 𝕄} :
    iprop(recs m ρ ∗ levAts L lv ∗ k0W m c ∗ v0W m c)
      ⊢ iprop(((k0W m c ∗ v0W m c) -∗ Φ (⟨k0_pay163 v715 v835, k0_pay164 (F := F), k0_pay166 v29 v740 (ldK0 m c (1 : Fin 2) (0 : Fin 8)), k0_pay167 v29 v745 (ldK0 m c (1 : Fin 2) (0 : Fin 8)) (ldV0 m c (1 : Fin 2) (0 : Fin 8)), k0_pay169 v29 v753 (ldK0 m c (1 : Fin 2) (1 : Fin 8)), k0_pay170 v29 (ldK0 m c (1 : Fin 2) (1 : Fin 8))⟩))
          -∗ WP c (call k0_part40 v29 v715 v740 v745 v753 v835) Φ) := by
  rw [k0_part40_eq_skeleton]
  unfold k0_part40_skel
  simp only [Prog.lift, Prog.bind_op, Prog.bind_ret, Prog.pure_eq_ret]
  iintro ⟨#HR, #HL, H1, H2⟩ Hk
  iapply (ld_k0 m c (1 : Fin 2) (0 : Fin 8) fullShare rfl) $$ H1
  iintro H1
  iapply (ld_v0 m c (1 : Fin 2) (0 : Fin 8) fullShare rfl) $$ H2
  iintro H2
  iapply (ld_k0 m c (1 : Fin 2) (1 : Fin 8) fullShare rfl) $$ H1
  iintro H1
  iapply (WP_ret c _)
  iapply Hk
  iclose

theorem part41_ok (c : Dev nD) {v29 : FVec F S1024x1024 .bf16} {v758 : FVec F S1024x128 .f32} {v766 : FVec F S1024 .f32} {v771 : FVec F S1024x128 .f32} {v779 : FVec F S1024 .f32} {v784 : FVec F S1024x128 .f32} {v853 : FVec F S1024x512 .f32} {v875 : FVec F S1024x512 .bf16}  {Φ : (Σ' (v879 : FVec F S1024x128 .f32) (v887 : FVec F S1024 .f32) (v892 : FVec F S1024x128 .f32) (v900 : FVec F S1024 .f32) (v905 : FVec F S1024x128 .f32), FVec F S1024x512 .f32) → sProp 𝕄} :
    iprop(recs m ρ ∗ levAts L lv ∗ v0W m c ∗ k0W m c)
      ⊢ iprop(((v0W m c ∗ k0W m c) -∗ Φ (⟨k0_pay171 v758 v875 (ldV0 m c (1 : Fin 2) (1 : Fin 8)), k0_pay173 v29 v766 v853 (ldK0 m c (1 : Fin 2) (2 : Fin 8)), k0_pay174 v29 v771 v853 (ldK0 m c (1 : Fin 2) (2 : Fin 8)) (ldV0 m c (1 : Fin 2) (2 : Fin 8)), k0_pay176 v29 v779 v853 (ldK0 m c (1 : Fin 2) (3 : Fin 8)), k0_pay177 v29 v784 v853 (ldK0 m c (1 : Fin 2) (3 : Fin 8)) (ldV0 m c (1 : Fin 2) (3 : Fin 8)), k0_pay178 v29 (ldK0 m c (1 : Fin 2) (4 : Fin 8))⟩))
          -∗ WP c (call k0_part41 v29 v758 v766 v771 v779 v784 v853 v875) Φ) := by
  rw [k0_part41_eq_skeleton]
  unfold k0_part41_skel
  simp only [Prog.lift, Prog.bind_op, Prog.bind_ret, Prog.pure_eq_ret]
  iintro ⟨#HR, #HL, H1, H2⟩ Hk
  iapply (ld_v0 m c (1 : Fin 2) (1 : Fin 8) fullShare rfl) $$ H1
  iintro H1
  iapply (ld_k0 m c (1 : Fin 2) (2 : Fin 8) fullShare rfl) $$ H2
  iintro H2
  iapply (ld_v0 m c (1 : Fin 2) (2 : Fin 8) fullShare rfl) $$ H1
  iintro H1
  iapply (ld_k0 m c (1 : Fin 2) (3 : Fin 8) fullShare rfl) $$ H2
  iintro H2
  iapply (ld_v0 m c (1 : Fin 2) (3 : Fin 8) fullShare rfl) $$ H1
  iintro H1
  iapply (ld_k0 m c (1 : Fin 2) (4 : Fin 8) fullShare rfl) $$ H2
  iintro H2
  iapply (WP_ret c _)
  iapply Hk
  iclose

theorem part42_ok (c : Dev nD) {v29 : FVec F S1024x1024 .bf16} {v792 : FVec F S1024 .f32} {v797 : FVec F S1024x128 .f32} {v805 : FVec F S1024 .f32} {v810 : FVec F S1024x128 .f32} {v818 : FVec F S1024 .f32} {v823 : FVec F S1024x128 .f32} {v853 : FVec F S1024x512 .f32} {v909 : FVec F S1024x512 .f32}  {Φ : (Σ' (v913 : FVec F S1024 .f32) (v918 : FVec F S1024x128 .f32) (v926 : FVec F S1024 .f32) (v931 : FVec F S1024x128 .f32) (v939 : FVec F S1024 .f32) (v944 : FVec F S1024x128 .f32), FVec F S1024x128 .bf16) → sProp 𝕄} :
    iprop(recs m ρ ∗ levAts L lv ∗ v0W m c ∗ k0W m c)
      ⊢ iprop(((v0W m c ∗ k0W m c) -∗ Φ (⟨k0_pay180 v792 v853 v909, k0_pay181 v797 v853 v909 (ldV0 m c (1 : Fin 2) (4 : Fin 8)), k0_pay183 v29 v805 v853 (ldK0 m c (1 : Fin 2) (5 : Fin 8)), k0_pay184 v29 v810 v853 (ldK0 m c (1 : Fin 2) (5 : Fin 8)) (ldV0 m c (1 : Fin 2) (5 : Fin 8)), k0_pay186 v29 v818 v853 (ldK0 m c (1 : Fin 2) (6 : Fin 8)), k0_pay187 v29 v823 v853 (ldK0 m c (1 : Fin 2) (6 : Fin 8)) (ldV0 m c (1 : Fin 2) (6 : Fin 8)), k0_pay188 v29⟩))
          -∗ WP c (call k0_part42 v29 v792 v797 v805 v810 v818 v823 v853 v909) Φ) := by
  rw [k0_part42_eq_skeleton]
  unfold k0_part42_skel
  simp only [Prog.lift, Prog.bind_op, Prog.bind_ret, Prog.pure_eq_ret]
  iintro ⟨#HR, #HL, H1, H2⟩ Hk
  iapply (ld_v0 m c (1 : Fin 2) (4 : Fin 8) fullShare rfl) $$ H1
  iintro H1
  iapply (ld_k0 m c (1 : Fin 2) (5 : Fin 8) fullShare rfl) $$ H2
  iintro H2
  iapply (ld_v0 m c (1 : Fin 2) (5 : Fin 8) fullShare rfl) $$ H1
  iintro H1
  iapply (ld_k0 m c (1 : Fin 2) (6 : Fin 8) fullShare rfl) $$ H2
  iintro H2
  iapply (ld_v0 m c (1 : Fin 2) (6 : Fin 8) fullShare rfl) $$ H1
  iintro H1
  iapply (WP_ret c _)
  iapply Hk
  iclose

theorem part43_ok (c : Dev nD) {v29 : FVec F S1024x1024 .bf16} {v831 : FVec F S1024 .f32} {v836 : FVec F S1024x128 .f32} {v853 : FVec F S1024x512 .f32} {v945 : FVec F S1024x128 .bf16}  {Φ : (Σ' (v952 : FVec F S1024 .f32) (v957 : FVec F S1024x128 .f32) (v963 : FVec F S128x128 .f32) (v970 : FVec F S128 .f32) (v974 : FVec F S128x128 .f32) (v980 : FVec F S128x128 .f32), FVec F S128 .f32) → sProp 𝕄} :
    iprop(recs m ρ ∗ levAts L lv ∗ k0W m c ∗ v0W m c ∗ kbW m c ∗ vbW m c)
      ⊢ iprop(((k0W m c ∗ v0W m c ∗ kbW m c ∗ vbW m c) -∗ Φ (⟨k0_pay190 v831 v853 v945 (ldK0 m c (1 : Fin 2) (7 : Fin 8)), k0_pay191 v836 v853 v945 (ldK0 m c (1 : Fin 2) (7 : Fin 8)) (ldV0 m c (1 : Fin 2) (7 : Fin 8)), k0_pay192 (F := F), k0_pay194 v29 (ldKB m c (0 : Fin 8)), k0_pay195 v29 (ldKB m c (0 : Fin 8)) (ldVB m c (0 : Fin 8)), k0_pay196 v29 (ldKB m c (1 : Fin 8)), k0_pay197 v29 (ldKB m c (1 : Fin 8))⟩))
          -∗ WP c (call k0_part43 v29 v831 v836 v853 v945) Φ) := by
  rw [k0_part43_eq_skeleton]
  unfold k0_part43_skel
  simp only [Prog.lift, Prog.bind_op, Prog.bind_ret, Prog.pure_eq_ret]
  iintro ⟨#HR, #HL, H1, H2, H3, H4⟩ Hk
  iapply (ld_k0 m c (1 : Fin 2) (7 : Fin 8) fullShare rfl) $$ H1
  iintro H1
  iapply (ld_v0 m c (1 : Fin 2) (7 : Fin 8) fullShare rfl) $$ H2
  iintro H2
  iapply (ld_kb m c (0 : Fin 8) fullShare rfl) $$ H3
  iintro H3
  iapply (ld_vb m c (0 : Fin 8) fullShare rfl) $$ H4
  iintro H4
  iapply (ld_kb m c (1 : Fin 8) fullShare rfl) $$ H3
  iintro H3
  iapply (WP_ret c _)
  iapply Hk
  iclose

theorem part44_ok (c : Dev nD) {v29 : FVec F S1024x1024 .bf16} {v963 : FVec F S128x128 .f32} {v980 : FVec F S128x128 .f32}  {Φ : (Σ' (v985 : FVec F S128x128 .f32) (v992 : FVec F S128 .f32) (v996 : FVec F S128x128 .f32) (v1003 : FVec F S128 .f32) (v1007 : FVec F S128x128 .f32) (v1013 : FVec F S128x128 .f32), FVec F S128 .f32) → sProp 𝕄} :
    iprop(recs m ρ ∗ levAts L lv ∗ vbW m c ∗ kbW m c)
      ⊢ iprop(((vbW m c ∗ kbW m c) -∗ Φ (⟨k0_pay198 v980 (ldVB m c (1 : Fin 8)), k0_pay200 v29 v963 (ldKB m c (2 : Fin 8)), k0_pay201 v29 v963 (ldKB m c (2 : Fin 8)) (ldVB m c (2 : Fin 8)), k0_pay203 v29 v963 (ldKB m c (3 : Fin 8)), k0_pay204 v29 v963 (ldKB m c (3 : Fin 8)) (ldVB m c (3 : Fin 8)), k0_pay205 v29 v963 (ldKB m c (4 : Fin 8)), k0_pay206 v29 v963 (ldKB m c (4 : Fin 8))⟩))
          -∗ WP c (call k0_part44 v29 v963 v980) Φ) := by
  rw [k0_part44_eq_skeleton]
  unfold k0_part44_skel
  simp only [Prog.lift, Prog.bind_op, Prog.bind_ret, Prog.pure_eq_ret]
  iintro ⟨#HR, #HL, H1, H2⟩ Hk
  iapply (ld_vb m c (1 : Fin 8) fullShare rfl) $$ H1
  iintro H1
  iapply (ld_kb m c (2 : Fin 8) fullShare rfl) $$ H2
  iintro H2
  iapply (ld_vb m c (2 : Fin 8) fullShare rfl) $$ H1
  iintro H1
  iapply (ld_kb m c (3 : Fin 8) fullShare rfl) $$ H2
  iintro H2
  iapply (ld_vb m c (3 : Fin 8) fullShare rfl) $$ H1
  iintro H1
  iapply (ld_kb m c (4 : Fin 8) fullShare rfl) $$ H2
  iintro H2
  iapply (WP_ret c _)
  iapply Hk
  iclose

theorem part45_ok (c : Dev nD) {v29 : FVec F S1024x1024 .bf16} {v963 : FVec F S128x128 .f32} {v1013 : FVec F S128x128 .f32}  {Φ : (Σ' (v1018 : FVec F S128x128 .f32) (v1025 : FVec F S128 .f32) (v1029 : FVec F S128x128 .f32) (v1036 : FVec F S128 .f32) (v1040 : FVec F S128x128 .f32) (v1046 : FVec F S128x128 .f32), FVec F S128 .f32) → sProp 𝕄} :
    iprop(recs m ρ ∗ levAts L lv ∗ vbW m c ∗ kbW m c)
      ⊢ iprop(((vbW m c ∗ kbW m c) -∗ Φ (⟨k0_pay207 v1013 (ldVB m c (4 : Fin 8)), k0_pay209 v29 v963 (ldKB m c (5 : Fin 8)), k0_pay210 v29 v963 (ldKB m c (5 : Fin 8)) (ldVB m c (5 : Fin 8)), k0_pay212 v29 v963 (ldKB m c (6 : Fin 8)), k0_pay213 v29 v963 (ldKB m c (6 : Fin 8)) (ldVB m c (6 : Fin 8)), k0_pay214 v29 v963 (ldKB m c (7 : Fin 8)), k0_pay215 v29 v963 (ldKB m c (7 : Fin 8))⟩))
          -∗ WP c (call k0_part45 v29 v963 v1013) Φ) := by
  rw [k0_part45_eq_skeleton]
  unfold k0_part45_skel
  simp only [Prog.lift, Prog.bind_op, Prog.bind_ret, Prog.pure_eq_ret]
  iintro ⟨#HR, #HL, H1, H2⟩ Hk
  iapply (ld_vb m c (4 : Fin 8) fullShare rfl) $$ H1
  iintro H1
  iapply (ld_kb m c (5 : Fin 8) fullShare rfl) $$ H2
  iintro H2
  iapply (ld_vb m c (5 : Fin 8) fullShare rfl) $$ H1
  iintro H1
  iapply (ld_kb m c (6 : Fin 8) fullShare rfl) $$ H2
  iintro H2
  iapply (ld_vb m c (6 : Fin 8) fullShare rfl) $$ H1
  iintro H1
  iapply (ld_kb m c (7 : Fin 8) fullShare rfl) $$ H2
  iintro H2
  iapply (WP_ret c _)
  iapply Hk
  iclose

theorem part46_ok (c : Dev nD) (l : List (Dev nD × Option CK)) {v2 : BitVec 32} {v1046 : FVec F S128x128 .f32} (hl0 : (((l) : List (Dev nD × Option CK)).map Prod.snd).all (fun o => decide (CK.lev (par (0 : Fin 3)) < dLev o)) = true) (hl1 : (((l) : List (Dev nD × Option CK)).map Prod.snd).all (fun o => decide (CK.lev (plr (0 : Fin 3)) < dLev o)) = true) {Φ : (FVec F S128x128 .f32) → sProp 𝕄} :
    iprop(recs m ρ ∗ levAts L lv ∗ debt c (l) ∗ vbW m c ∗ crd c (par (0 : Fin 3)) ∗ atp c (par (0 : Fin 3)) ∗ crd c (plr (0 : Fin 3)) ∗ atp c (plr (0 : Fin 3)))
      ⊢ iprop(((debt c l ∗ vbW m c ∗ sv c (par (0 : Fin 3)) ∗ raP m ρ c (0 : Fin 3).val ∗ sv c (plr (0 : Fin 3)) ∗ rlP m ρ c (0 : Fin 3).val) -∗ Φ ((k0_pay216 v1046 (ldVB m c (7 : Fin 8)))))
          -∗ WP c (call k0_part46 v2 v1046) Φ) := by
  rw [k0_part46_eq_skeleton]
  unfold k0_part46_skel
  simp only [Prog.lift, Prog.bind_op, Prog.bind_ret, Prog.pure_eq_ret]
  iintro ⟨#HR, #HL, HO, H1, H2, H3, H6, H7⟩ Hk
  iapply (ld_vb m c (7 : Fin 8) fullShare rfl) $$ H1
  iintro H1
  iapply (wait_w m ρ c (par (0 : Fin 3)) (l) (raP m ρ c (0 : Fin 3).val) rfl rfl rfl (fun _ => rfl) hl0) $$ [H2 HO H3]
  · iclose
  iintro ⟨HO, H4, H5⟩
  iapply (wait_w m ρ c (plr (0 : Fin 3)) (l) (rlP m ρ c (0 : Fin 3).val) rfl rfl rfl (fun _ => rfl) hl1) $$ [H6 HO H7]
  · iclose
  iintro ⟨HO, H8, H9⟩
  iapply (WP_ret c _)
  iapply Hk
  iclose

theorem part47_ok (c : Dev nD) (l : List (Dev nD × Option CK)) {v2 : BitVec 32} (hl0 : (((l) : List (Dev nD × Option CK)).map Prod.snd).all (fun o => decide (CK.lev (par (1 : Fin 3)) < dLev o)) = true) (hl1 : (((l) : List (Dev nD × Option CK)).map Prod.snd).all (fun o => decide (CK.lev (plr (1 : Fin 3)) < dLev o)) = true) (hl2 : (((l) : List (Dev nD × Option CK)).map Prod.snd).all (fun o => decide (CK.lev (par (2 : Fin 3)) < dLev o)) = true) {Φ : (PUnit) → sProp 𝕄} :
    iprop(recs m ρ ∗ levAts L lv ∗ debt c (l) ∗ crd c (par (1 : Fin 3)) ∗ atp c (par (1 : Fin 3)) ∗ crd c (plr (1 : Fin 3)) ∗ atp c (plr (1 : Fin 3)) ∗ crd c (par (2 : Fin 3)) ∗ atp c (par (2 : Fin 3)) ∗ raP m ρ c (0 : Fin 3).val)
      ⊢ iprop(((debt c l ∗ sv c (par (1 : Fin 3)) ∗ sv c (plr (1 : Fin 3)) ∗ rlP m ρ c (1 : Fin 3).val ∗ sv c (par (2 : Fin 3)) ∗ raW m ρ c) -∗ Φ (⟨⟩))
          -∗ WP c (call k0_part47 v2) Φ) := by
  rw [k0_part47_eq_skeleton]
  unfold k0_part47_skel
  simp only [Prog.lift, Prog.bind_op, Prog.bind_ret, Prog.pure_eq_ret]
  iintro ⟨#HR, #HL, HO, H1, H2, H5, H6, H9, H10, H13⟩ Hk
  iapply (wait_w m ρ c (par (1 : Fin 3)) (l) (raP m ρ c (1 : Fin 3).val) rfl rfl rfl (fun _ => rfl) hl0) $$ [H1 HO H2]
  · iclose
  iintro ⟨HO, H3, H4⟩
  iapply (wait_w m ρ c (plr (1 : Fin 3)) (l) (rlP m ρ c (1 : Fin 3).val) rfl rfl rfl (fun _ => rfl) hl1) $$ [H5 HO H6]
  · iclose
  iintro ⟨HO, H7, H8⟩
  iapply (wait_w m ρ c (par (2 : Fin 3)) (l) (raP m ρ c (2 : Fin 3).val) rfl rfl rfl (fun _ => rfl) hl2) $$ [H9 HO H10]
  · iclose
  iintro ⟨HO, H11, H12⟩
  ihave H14 := (join_ra m ρ c) $$ [H13 H4 H12]
  · iclose
  iapply (WP_ret c _)
  iapply Hk
  iclose

end Cert.KernelIdeal.Pf
-- ==== Proof.TailParts.lean ====
/-
# The merge, the projection, the exchange of outputs
-/
module

public import proofs.«01_k».proof.Proof.Res

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The parts of the body from the merge on. -/

theorem part48_ok (c : Dev nD) (l : List (Dev nD × Option CK)) {v2 : BitVec 32} (hl0 : (((l) : List (Dev nD × Option CK)).map Prod.snd).all (fun o => decide (CK.lev (plr (2 : Fin 3)) < dLev o)) = true) {Φ : (Σ' (v1115 : FVec F S32x8 .f32) (v1117 : F .f32), FVec F S32x8x128 .f32) → sProp 𝕄} :
    iprop(recs m ρ ∗ levAts L lv ∗ debt c (l) ∗ crd c (plr (2 : Fin 3)) ∗ atp c (plr (2 : Fin 3)) ∗ rlP m ρ c (0 : Fin 3).val ∗ rlP m ρ c (1 : Fin 3).val ∗ raW m ρ c ∗ paW m ρ c fullShare.left)
      ⊢ iprop(((debt c l ∗ sv c (plr (2 : Fin 3)) ∗ rlW m ρ c ∗ raW m ρ c ∗ paW m ρ c fullShare.left) -∗ Φ (⟨k0_pay217 (ldRL m ρ c (0 : Fin 3)) (ldRL m ρ c (1 : Fin 3)) (ldRL m ρ c (2 : Fin 3)), k0_pay218 (F := F) v2, k0_pay219 v2 (ldRA m ρ c (0 : Fin 3)) (ldRA m ρ c (1 : Fin 3)) (ldRA m ρ c (2 : Fin 3)) (ldPA m ρ c (0 : Fin 4))⟩))
          -∗ WP c (call k0_part48 v2) Φ) := by
  rw [k0_part48_eq_skeleton]
  unfold k0_part48_skel
  simp only [Prog.lift, Prog.bind_op, Prog.bind_ret, Prog.pure_eq_ret]
  iintro ⟨#HR, #HL, HO, H1, H2, H5, H6, H8, H9⟩ Hk
  iapply (wait_w m ρ c (plr (2 : Fin 3)) (l) (rlP m ρ c (2 : Fin 3).val) rfl rfl rfl (fun _ => rfl) hl0) $$ [H1 HO H2]
  · iclose
  iintro ⟨HO, H3, H4⟩
  ihave H7 := (join_rl m ρ c) $$ [H5 H6 H4]
  · iclose
  iapply (ld_ra m ρ c (0 : Fin 3) fullShare rfl) $$ H8
  iintro H8
  iapply (ld_ra m ρ c (1 : Fin 3) fullShare rfl) $$ H8
  iintro H8
  iapply (ld_ra m ρ c (2 : Fin 3) fullShare rfl) $$ H8
  iintro H8
  iapply (ld_rl m ρ c (0 : Fin 3) fullShare rfl) $$ H7
  iintro H7
  iapply (ld_rl m ρ c (1 : Fin 3) fullShare rfl) $$ H7
  iintro H7
  iapply (ld_rl m ρ c (2 : Fin 3) fullShare rfl) $$ H7
  iintro H7
  iapply (ld_pa m ρ c (0 : Fin 4) fullShare.left rfl) $$ H9
  iintro H9
  iapply (WP_ret c _)
  iapply Hk
  iclose

theorem part49_ok (c : Dev nD) {v2 : BitVec 32} {v1115 : FVec F S32x8 .f32} {v1117 : F .f32} {v1122 : FVec F S32x8x128 .f32}  {Φ : (Σ' (v1146 : FVec F S32x8x128 .f32) (v1151 : FVec F S32x8 .f32), F .f32) → sProp 𝕄} :
    iprop(recs m ρ ∗ levAts L lv ∗ plW m ρ c fullShare.left ∗ paW m ρ c fullShare.left)
      ⊢ iprop(((plW m ρ c fullShare.left ∗ paW m ρ c fullShare.left) -∗ Φ (⟨k0_pay222 v2 v1122 (ldPA m ρ c (1 : Fin 4)) (ldPA m ρ c (2 : Fin 4)), k0_pay223 v2 v1115 v1117 (ldPL m ρ c (0 : Fin 4)) (ldPL m ρ c (1 : Fin 4)) (ldPL m ρ c (2 : Fin 4)), k0_pay224 (F := F) v2⟩))
          -∗ WP c (call k0_part49 v2 v1115 v1117 v1122) Φ) := by
  rw [k0_part49_eq_skeleton]
  unfold k0_part49_skel
  simp only [Prog.lift, Prog.bind_op, Prog.bind_ret, Prog.pure_eq_ret]
  iintro ⟨#HR, #HL, H1, H2⟩ Hk
  iapply (ld_pl m ρ c (0 : Fin 4) fullShare.left rfl) $$ H1
  iintro H1
  iapply (ld_pa m ρ c (1 : Fin 4) fullShare.left rfl) $$ H2
  iintro H2
  iapply (ld_pl m ρ c (1 : Fin 4) fullShare.left rfl) $$ H1
  iintro H1
  iapply (ld_pa m ρ c (2 : Fin 4) fullShare.left rfl) $$ H2
  iintro H2
  iapply (ld_pl m ρ c (2 : Fin 4) fullShare.left rfl) $$ H1
  iintro H1
  iapply (WP_ret c _)
  iapply Hk
  iclose

theorem part50_ok (c : Dev nD) {v861 : FVec F S1024 .f32} {v866 : FVec F S1024x128 .f32} {v874 : FVec F S1024 .f32} {v879 : FVec F S1024x128 .f32} {v887 : FVec F S1024 .f32} {v892 : FVec F S1024x128 .f32} {v970 : FVec F S128 .f32} {v974 : FVec F S128x128 .f32} {v981 : FVec F S128 .f32} {v985 : FVec F S128x128 .f32} {v992 : FVec F S128 .f32} {v996 : FVec F S128x128 .f32} {v1146 : FVec F S32x8x128 .f32} {v1151 : FVec F S32x8 .f32} {v1153 : F .f32}  {Φ : (Σ' (v1158 : FVec F S32x8x128 .f32) (v1163 : FVec F S32x8 .f32) (v1179 : FVec F S1024x128 .bf16) (v1195 : FVec F S1024x128 .bf16), FVec F S1024x128 .f32) → sProp 𝕄} :
    iprop(recs m ρ ∗ levAts L lv ∗ paW m ρ c fullShare.left ∗ plW m ρ c fullShare.left)
      ⊢ iprop(((paW m ρ c fullShare.left ∗ plW m ρ c fullShare.left) -∗ Φ (⟨k0_pay225 v1146 v1153 (ldPA m ρ c (3 : Fin 4)), k0_pay226 v1151 v1153 (ldPL m ρ c (3 : Fin 4)), k0_pay227 v861 v866 v970 v974 v1146 v1151 v1153 (ldPA m ρ c (3 : Fin 4)) (ldPL m ρ c (3 : Fin 4)), k0_pay228 v874 v879 v981 v985 v1146 v1151 v1153 (ldPA m ρ c (3 : Fin 4)) (ldPL m ρ c (3 : Fin 4)), k0_pay229 v887 v892 v992 v996 v1146 v1151 v1153 (ldPA m ρ c (3 : Fin 4)) (ldPL m ρ c (3 : Fin 4))⟩))
          -∗ WP c (call k0_part50 v861 v866 v874 v879 v887 v892 v970 v974 v981 v985 v992 v996 v1146 v1151 v1153) Φ) := by
  rw [k0_part50_eq_skeleton]
  unfold k0_part50_skel
  simp only [Prog.lift, Prog.bind_op, Prog.bind_ret, Prog.pure_eq_ret]
  iintro ⟨#HR, #HL, H1, H2⟩ Hk
  iapply (ld_pa m ρ c (3 : Fin 4) fullShare.left rfl) $$ H1
  iintro H1
  iapply (ld_pl m ρ c (3 : Fin 4) fullShare.left rfl) $$ H2
  iintro H2
  iapply (WP_ret c _)
  iapply Hk
  iclose

theorem part51_ok (c : Dev nD) {v900 : FVec F S1024 .f32} {v905 : FVec F S1024x128 .f32} {v913 : FVec F S1024 .f32} {v918 : FVec F S1024x128 .f32} {v926 : FVec F S1024 .f32} {v931 : FVec F S1024x128 .f32} {v939 : FVec F S1024 .f32} {v944 : FVec F S1024x128 .f32} {v1003 : FVec F S128 .f32} {v1007 : FVec F S128x128 .f32} {v1014 : FVec F S128 .f32} {v1018 : FVec F S128x128 .f32} {v1025 : FVec F S128 .f32} {v1029 : FVec F S128x128 .f32} {v1036 : FVec F S128 .f32} {v1040 : FVec F S128x128 .f32} {v1158 : FVec F S32x8x128 .f32} {v1163 : FVec F S32x8 .f32} {v1210 : FVec F S1024x128 .f32}  {Φ : (Σ' (v1211 : FVec F S1024x128 .bf16) (v1227 : FVec F S1024x128 .bf16) (v1243 : FVec F S1024x128 .bf16) (v1259 : FVec F S1024x128 .bf16) (v1265 : FVec F S1024 .f32) (v1267 : FVec F S32x128 .f32) (v1268 : FVec F S864x128 .f32), FVec F S128x128 .f32) → sProp 𝕄} :
    iprop(recs m ρ ∗ levAts L lv)
      ⊢ iprop(((emp) -∗ Φ (⟨k0_pay230 v1210, k0_pay231 v900 v905 v1003 v1007 v1158 v1163, k0_pay232 v913 v918 v1014 v1018 v1158 v1163, k0_pay233 v926 v931 v1025 v1029 v1158 v1163, k0_pay234 v939 v1036 v1163, k0_pay235 v1158, k0_pay236 v944, k0_pay237 v944 v1040⟩))
          -∗ WP c (call k0_part51 v900 v905 v913 v918 v926 v931 v939 v944 v1003 v1007 v1014 v1018 v1025 v1029 v1036 v1040 v1158 v1163 v1210) Φ) := by
  rw [k0_part51_eq_skeleton]
  unfold k0_part51_skel
  simp only [Prog.lift, Prog.bind_op, Prog.bind_ret, Prog.pure_eq_ret]
  iintro ⟨#HR, #HL⟩ Hk
  iapply (WP_ret c _)
  iapply Hk
  iclose

theorem part52_ok (c : Dev nD) (l : List (Dev nD × Option CK)) {v2 : BitVec 32} {v952 : FVec F S1024 .f32} {v957 : FVec F S1024x128 .f32} {v1047 : FVec F S128 .f32} {v1051 : FVec F S128x128 .f32} {v1158 : FVec F S32x8x128 .f32} {v1163 : FVec F S32x8 .f32} {v1179 : FVec F S1024x128 .bf16} {v1195 : FVec F S1024x128 .bf16} {v1211 : FVec F S1024x128 .bf16} {v1227 : FVec F S1024x128 .bf16} {v1243 : FVec F S1024x128 .bf16} {v1259 : FVec F S1024x128 .bf16} {v1265 : FVec F S1024 .f32} {v1267 : FVec F S32x128 .f32} {v1268 : FVec F S864x128 .f32} {v1270 : FVec F S128x128 .f32} (hw0 : (k0_pay238 v952 v957 v1047 v1051 v1158 v1163 v1179 v1195 v1211 v1227 v1243 v1259 v1265 v1267 v1268 v1270 (wost m ρ c)) = OS m ρ c) {Φ : (BitVec 32) → sProp 𝕄} :
    iprop(recs m ρ ∗ levAts L lv ∗ debt c ((nx c (0 : Fin 3).val, some (orv (0 : Fin 3))) :: l) ∗ pt c cc0_stg2_0 Finset.univ fullShare (wost m ρ c) ∗ osA c ∗ obA (nx c (0 : Fin 3).val) (0 : Fin 3).val ∗ tok c (os (0 : Fin 3)) ∗ tok (nx c (0 : Fin 3).val) (orv (0 : Fin 3)))
      ⊢ iprop(((debt c l ∗ pt c cc0_stg2_0 Finset.univ fullShare (wost m ρ c) ∗ osW m ρ c fullShare.left ∗ osP m ρ c c fullShare.right ∗ osP m ρ c (nx c (1 : Fin 3).val) fullShare.right ∗ osP m ρ c (nx c (2 : Fin 3).val) fullShare.right ∗ crd c (os (0 : Fin 3))) -∗ Φ (2#32))
          -∗ WP c (call k0_part52 c v2 v952 v957 v1047 v1051 v1158 v1163 v1179 v1195 v1211 v1227 v1243 v1259 v1265 v1267 v1268 v1270) Φ) := by
  rw [k0_part52_eq_skeleton]
  unfold k0_part52_skel
  simp only [Prog.lift, Prog.bind_op, Prog.bind_ret, Prog.pure_eq_ret]
  iintro ⟨#HR, #HL, HO, H1, ⟨%fH2, H2⟩, H8, H9, H10⟩ Hk
  iapply (ld_wo c fullShare (wost m ρ c) rfl) $$ H1
  iintro H1
  iapply (dd_os c fH2 ) $$ H2
  iintro H2
  iapply (st_os m ρ c fH2 rfl hw0) $$ H2
  iintro H2
  ihave H2 := (cut_os m ρ c) $$ H2
  icases H2 with ⟨H3, H4, H5, H6, H7⟩
  iapply (send_o m ρ c (0 : Fin 3) (l) (Fin.ext (k0_dev31_eq c)) (k0_off6_eq c (0 : Fin 3)) rfl rfl rfl) $$ [H5 H8 HO H9 H10]
  · iclose
  iintro ⟨H11, HO⟩
  iapply (WP_ret c _)
  iapply Hk
  iclose

theorem part53_ok (c : Dev nD) (l : List (Dev nD × Option CK)) {v2 : BitVec 32} {c2_i32_1068 : BitVec 32}  {Φ : (PUnit) → sProp 𝕄} :
    iprop(recs m ρ ∗ levAts L lv ∗ debt c ((nx c (1 : Fin 3).val, some (orv (1 : Fin 3))) :: (nx c (2 : Fin 3).val, some (orv (2 : Fin 3))) :: l) ∗ osP m ρ c (nx c (1 : Fin 3).val) fullShare.right ∗ obA (nx c (1 : Fin 3).val) (1 : Fin 3).val ∗ tok c (os (1 : Fin 3)) ∗ tok (nx c (1 : Fin 3).val) (orv (1 : Fin 3)) ∗ osP m ρ c (nx c (2 : Fin 3).val) fullShare.right ∗ obA (nx c (2 : Fin 3).val) (2 : Fin 3).val ∗ tok c (os (2 : Fin 3)) ∗ tok (nx c (2 : Fin 3).val) (orv (2 : Fin 3)))
      ⊢ iprop(((debt c l ∗ crd c (os (1 : Fin 3)) ∗ crd c (os (2 : Fin 3))) -∗ Φ (⟨⟩))
          -∗ WP c (call k0_part53 c v2 c2_i32_1068) Φ) := by
  rw [k0_part53_eq_skeleton]
  unfold k0_part53_skel
  simp only [Prog.lift, Prog.bind_op, Prog.bind_ret, Prog.pure_eq_ret]
  iintro ⟨#HR, #HL, HO, H1, H2, H3, H4, H6, H7, H8, H9⟩ Hk
  iapply (send_o m ρ c (1 : Fin 3) ((nx c (2 : Fin 3).val, some (orv (2 : Fin 3))) :: l) (Fin.ext (k0_dev32_eq c)) (k0_off6_eq c (1 : Fin 3)) rfl rfl rfl) $$ [H1 H2 HO H3 H4]
  · iclose
  iintro ⟨H5, HO⟩
  iapply (send_o m ρ c (2 : Fin 3) (l) (Fin.ext (k0_dev33_eq c)) (k0_off6_eq c (2 : Fin 3)) rfl rfl rfl) $$ [H6 H7 HO H8 H9]
  · iclose
  iintro ⟨H10, HO⟩
  iapply (WP_ret c _)
  iapply Hk
  iclose

theorem part54_ok (c : Dev nD) (l : List (Dev nD × Option CK)) {v2 : BitVec 32} (hl0 : (((l) : List (Dev nD × Option CK)).map Prod.snd).all (fun o => decide (CK.lev (orv (0 : Fin 3)) < dLev o)) = true) (hl1 : (((l) : List (Dev nD × Option CK)).map Prod.snd).all (fun o => decide (CK.lev (orv (1 : Fin 3)) < dLev o)) = true) (hl2 : (((l) : List (Dev nD × Option CK)).map Prod.snd).all (fun o => decide (CK.lev (orv (2 : Fin 3)) < dLev o)) = true) {Φ : (FVec F S256x1024 .f32) → sProp 𝕄} :
    iprop(recs m ρ ∗ levAts L lv ∗ debt c (l) ∗ crd c (orv (0 : Fin 3)) ∗ atp c (orv (0 : Fin 3)) ∗ crd c (orv (1 : Fin 3)) ∗ atp c (orv (1 : Fin 3)) ∗ crd c (orv (2 : Fin 3)) ∗ atp c (orv (2 : Fin 3)) ∗ osW m ρ c fullShare.left)
      ⊢ iprop(((debt c l ∗ sv c (orv (0 : Fin 3)) ∗ sv c (orv (1 : Fin 3)) ∗ sv c (orv (2 : Fin 3)) ∗ obW m ρ c ∗ osW m ρ c fullShare.left) -∗ Φ ((k0_pay239 (ldOS m ρ c) (ldOB m ρ c (0 : Fin 3)))))
          -∗ WP c (call k0_part54 c v2) Φ) := by
  rw [k0_part54_eq_skeleton]
  unfold k0_part54_skel
  simp only [Prog.lift, Prog.bind_op, Prog.bind_ret, Prog.pure_eq_ret]
  iintro ⟨#HR, #HL, HO, H1, H2, H5, H6, H9, H10, H14⟩ Hk
  iapply (wait_w m ρ c (orv (0 : Fin 3)) (l) (obP m ρ c (0 : Fin 3).val) rfl rfl rfl (fun _ => rfl) hl0) $$ [H1 HO H2]
  · iclose
  iintro ⟨HO, H3, H4⟩
  iapply (wait_w m ρ c (orv (1 : Fin 3)) (l) (obP m ρ c (1 : Fin 3).val) rfl rfl rfl (fun _ => rfl) hl1) $$ [H5 HO H6]
  · iclose
  iintro ⟨HO, H7, H8⟩
  iapply (wait_w m ρ c (orv (2 : Fin 3)) (l) (obP m ρ c (2 : Fin 3).val) rfl rfl rfl (fun _ => rfl) hl2) $$ [H9 HO H10]
  · iclose
  iintro ⟨HO, H11, H12⟩
  ihave H13 := (join_ob m ρ c) $$ [H4 H8 H12]
  · iclose
  iapply (ld_os m ρ c fullShare.left rfl) $$ H14
  iintro H14
  iapply (ld_ob m ρ c (0 : Fin 3) fullShare rfl) $$ H13
  iintro H13
  iapply (WP_ret c _)
  iapply Hk
  iclose

theorem part55_ok (c : Dev nD) (l : List (Dev nD × Option CK)) {v2 : BitVec 32} {v1367 : FVec F S256x1024 .f32} (hw0 : (k0_pay240 v1367 (ldOB m ρ c (1 : Fin 3)) (ldOB m ρ c (2 : Fin 3))) = outQ m ρ c) {Φ : (Σ' (v1396 : BitVec 32), BitVec 32) → sProp 𝕄} :
    iprop(recs m ρ ∗ levAts L lv ∗ debt c ((nx c (0 : Fin 3).val, some (agr (0 : Fin 3))) :: l) ∗ obW m ρ c ∗ outA c c ∗ outA (nx c (0 : Fin 3).val) c ∗ tok c (ags (0 : Fin 3)) ∗ tok (nx c (0 : Fin 3).val) (agr (0 : Fin 3)))
      ⊢ iprop(((debt c l ∗ obW m ρ c ∗ outP m ρ c c fullShare.left ∗ outP m ρ c c (shareR (1 : Fin 3)) ∗ outP m ρ c c (shareR (2 : Fin 3)) ∗ crd c (ags (0 : Fin 3))) -∗ Φ (⟨(Scalar.remsi (Scalar.addi v2 2#32) 4#32), 1#32⟩))
          -∗ WP c (call k0_part55 c v2 v1367) Φ) := by
  rw [k0_part55_eq_skeleton]
  unfold k0_part55_skel
  simp only [Prog.lift, Prog.bind_op, Prog.bind_ret, Prog.pure_eq_ret]
  iintro ⟨#HR, #HL, HO, H1, ⟨%fH2, H2⟩, H7, H8, H9⟩ Hk
  iapply (ld_ob m ρ c (1 : Fin 3) fullShare rfl) $$ H1
  iintro H1
  iapply (ld_ob m ρ c (2 : Fin 3) fullShare rfl) $$ H1
  iintro H1
  iapply (dd_out c c.val fH2 (k0_off8_eq c)) $$ H2
  iintro H2
  iapply (st_out m ρ c fH2 (k0_off8_eq c) hw0) $$ H2
  iintro H2
  ihave H2 := ((share4 c cc0_stg3_0 _ _).mp) $$ H2
  icases H2 with ⟨H3, H4, H5, H6⟩
  iapply (send_ag m ρ c (0 : Fin 3) (l) (Fin.ext (k0_dev34_eq c)) (k0_off9_eq c) (k0_off9_eq c) rfl rfl) $$ [H4 H7 HO H8 H9]
  · iclose
  iintro ⟨H10, HO⟩
  iapply (WP_ret c _)
  iapply Hk
  iclose

theorem part56_ok (c : Dev nD) (l : List (Dev nD × Option CK)) {v2 : BitVec 32} {v1396 : BitVec 32} {c1_i32_1154 : BitVec 32}  {Φ : (PUnit) → sProp 𝕄} :
    iprop(recs m ρ ∗ levAts L lv ∗ debt c ((nx c (1 : Fin 3).val, some (agr (1 : Fin 3))) :: (nx c (2 : Fin 3).val, some (agr (2 : Fin 3))) :: l) ∗ outP m ρ c c (shareR (1 : Fin 3)) ∗ outA (nx c (1 : Fin 3).val) c ∗ tok c (ags (1 : Fin 3)) ∗ tok (nx c (1 : Fin 3).val) (agr (1 : Fin 3)) ∗ outP m ρ c c (shareR (2 : Fin 3)) ∗ outA (nx c (2 : Fin 3).val) c ∗ tok c (ags (2 : Fin 3)) ∗ tok (nx c (2 : Fin 3).val) (agr (2 : Fin 3)))
      ⊢ iprop(((debt c l ∗ crd c (ags (1 : Fin 3)) ∗ crd c (ags (2 : Fin 3))) -∗ Φ (⟨⟩))
          -∗ WP c (call k0_part56 c v2 v1396 c1_i32_1154) Φ) := by
  rw [k0_part56_eq_skeleton]
  unfold k0_part56_skel
  simp only [Prog.lift, Prog.bind_op, Prog.bind_ret, Prog.pure_eq_ret]
  iintro ⟨#HR, #HL, HO, H1, H2, H3, H4, H6, H7, H8, H9⟩ Hk
  iapply (send_ag m ρ c (1 : Fin 3) ((nx c (2 : Fin 3).val, some (agr (2 : Fin 3))) :: l) (Fin.ext (k0_dev35_eq c)) (k0_off9_eq c) (k0_off9_eq c) rfl rfl) $$ [H1 H2 HO H3 H4]
  · iclose
  iintro ⟨H5, HO⟩
  iapply (send_ag m ρ c (2 : Fin 3) (l) (Fin.ext (k0_dev36_eq c)) (k0_off9_eq c) (k0_off9_eq c) rfl rfl) $$ [H6 H7 HO H8 H9]
  · iclose
  iintro ⟨H10, HO⟩
  iapply (WP_ret c _)
  iapply Hk
  iclose

theorem part57_ok (c : Dev nD) (l : List (Dev nD × Option CK)) {v2 : BitVec 32} (hl0 : (((l) : List (Dev nD × Option CK)).map Prod.snd).all (fun o => decide (CK.lev (agr (0 : Fin 3)) < dLev o)) = true) (hl1 : (((l) : List (Dev nD × Option CK)).map Prod.snd).all (fun o => decide (CK.lev (agr (1 : Fin 3)) < dLev o)) = true) (hl2 : (((l) : List (Dev nD × Option CK)).map Prod.snd).all (fun o => decide (CK.lev (agr (2 : Fin 3)) < dLev o)) = true) {Φ : (PUnit) → sProp 𝕄} :
    iprop(recs m ρ ∗ levAts L lv ∗ debt c (l) ∗ crd c (agr (0 : Fin 3)) ∗ atp c (agr (0 : Fin 3)) ∗ crd c (agr (1 : Fin 3)) ∗ atp c (agr (1 : Fin 3)) ∗ crd c (agr (2 : Fin 3)) ∗ atp c (agr (2 : Fin 3)))
      ⊢ iprop(((debt c l ∗ sv c (agr (0 : Fin 3)) ∗ outP m ρ c (pv c (0 : Fin 3).val) fullShare ∗ sv c (agr (1 : Fin 3)) ∗ outP m ρ c (pv c (1 : Fin 3).val) fullShare ∗ sv c (agr (2 : Fin 3)) ∗ outP m ρ c (pv c (2 : Fin 3).val) fullShare) -∗ Φ (⟨⟩))
          -∗ WP c (call k0_part57 c v2) Φ) := by
  rw [k0_part57_eq_skeleton]
  unfold k0_part57_skel
  simp only [Prog.lift, Prog.bind_op, Prog.bind_ret, Prog.pure_eq_ret]
  iintro ⟨#HR, #HL, HO, H1, H2, H5, H6, H9, H10⟩ Hk
  iapply (wait_w m ρ c (agr (0 : Fin 3)) (l) (outP m ρ c (pv c (0 : Fin 3).val) fullShare) rfl rfl rfl (fun _ => rfl) hl0) $$ [H1 HO H2]
  · iclose
  iintro ⟨HO, H3, H4⟩
  iapply (wait_w m ρ c (agr (1 : Fin 3)) (l) (outP m ρ c (pv c (1 : Fin 3).val) fullShare) rfl rfl rfl (fun _ => rfl) hl1) $$ [H5 HO H6]
  · iclose
  iintro ⟨HO, H7, H8⟩
  iapply (wait_w m ρ c (agr (2 : Fin 3)) (l) (outP m ρ c (pv c (2 : Fin 3).val) fullShare) rfl rfl rfl (fun _ => rfl) hl2) $$ [H9 HO H10]
  · iclose
  iintro ⟨HO, H11, H12⟩
  iapply (WP_ret c _)
  iapply Hk
  iclose

theorem part58_ok (c : Dev nD) (l : List (Dev nD × Option CK))  (hl0 : (((l) : List (Dev nD × Option CK)).map Prod.snd).all (fun o => decide (CK.lev (qs (0 : Fin 3)) < dLev o)) = true) (hl1 : (((l) : List (Dev nD × Option CK)).map Prod.snd).all (fun o => decide (CK.lev (qs (1 : Fin 3)) < dLev o)) = true) (hl2 : (((l) : List (Dev nD × Option CK)).map Prod.snd).all (fun o => decide (CK.lev (qs (2 : Fin 3)) < dLev o)) = true) (hl3 : (((l) : List (Dev nD × Option CK)).map Prod.snd).all (fun o => decide (CK.lev (pas (0 : Fin 3)) < dLev o)) = true) {Φ : (PUnit) → sProp 𝕄} :
    iprop(recs m ρ ∗ levAts L lv ∗ debt c (l) ∗ crd c (qs (0 : Fin 3)) ∗ atp c (qs (0 : Fin 3)) ∗ crd c (qs (1 : Fin 3)) ∗ atp c (qs (1 : Fin 3)) ∗ crd c (qs (2 : Fin 3)) ∗ atp c (qs (2 : Fin 3)) ∗ crd c (pas (0 : Fin 3)) ∗ atp c (pas (0 : Fin 3)))
      ⊢ iprop(((debt c l ∗ sv c (qs (0 : Fin 3)) ∗ q32P m ρ c c (shareR (0 : Fin 3)) ∗ sv c (qs (1 : Fin 3)) ∗ q32P m ρ c c (shareR (1 : Fin 3)) ∗ sv c (qs (2 : Fin 3)) ∗ q32P m ρ c c (shareR (2 : Fin 3)) ∗ sv c (pas (0 : Fin 3)) ∗ paP m ρ c (nx c (0 : Fin 3).val).val fullShare.right) -∗ Φ (⟨⟩))
          -∗ WP c (call k0_part58 c) Φ) := by
  rw [k0_part58_eq_skeleton]
  unfold k0_part58_skel
  simp only [Prog.lift, Prog.bind_op, Prog.bind_ret, Prog.pure_eq_ret]
  iintro ⟨#HR, #HL, HO, H1, H2, H5, H6, H9, H10, H13, H14⟩ Hk
  iapply (wait_w m ρ c (qs (0 : Fin 3)) (l) (q32P m ρ c c (shareR (0 : Fin 3))) rfl rfl rfl (fun _ => rfl) hl0) $$ [H1 HO H2]
  · iclose
  iintro ⟨HO, H3, H4⟩
  iapply (wait_w m ρ c (qs (1 : Fin 3)) (l) (q32P m ρ c c (shareR (1 : Fin 3))) rfl rfl rfl (fun _ => rfl) hl1) $$ [H5 HO H6]
  · iclose
  iintro ⟨HO, H7, H8⟩
  iapply (wait_w m ρ c (qs (2 : Fin 3)) (l) (q32P m ρ c c (shareR (2 : Fin 3))) rfl rfl rfl (fun _ => rfl) hl2) $$ [H9 HO H10]
  · iclose
  iintro ⟨HO, H11, H12⟩
  iapply (wait_w m ρ c (pas (0 : Fin 3)) (l) (paP m ρ c (nx c (0 : Fin 3).val).val fullShare.right) rfl rfl rfl (fun _ => rfl) hl3) $$ [H13 HO H14]
  · iclose
  iintro ⟨HO, H15, H16⟩
  iapply (WP_ret c _)
  iapply Hk
  iclose

theorem part59_ok (c : Dev nD) (l : List (Dev nD × Option CK))  (hl0 : (((l) : List (Dev nD × Option CK)).map Prod.snd).all (fun o => decide (CK.lev (pls (0 : Fin 3)) < dLev o)) = true) (hl1 : (((l) : List (Dev nD × Option CK)).map Prod.snd).all (fun o => decide (CK.lev (pas (1 : Fin 3)) < dLev o)) = true) (hl2 : (((l) : List (Dev nD × Option CK)).map Prod.snd).all (fun o => decide (CK.lev (pls (1 : Fin 3)) < dLev o)) = true) (hl3 : (((l) : List (Dev nD × Option CK)).map Prod.snd).all (fun o => decide (CK.lev (pas (2 : Fin 3)) < dLev o)) = true) {Φ : (PUnit) → sProp 𝕄} :
    iprop(recs m ρ ∗ levAts L lv ∗ debt c (l) ∗ crd c (pls (0 : Fin 3)) ∗ atp c (pls (0 : Fin 3)) ∗ crd c (pas (1 : Fin 3)) ∗ atp c (pas (1 : Fin 3)) ∗ crd c (pls (1 : Fin 3)) ∗ atp c (pls (1 : Fin 3)) ∗ crd c (pas (2 : Fin 3)) ∗ atp c (pas (2 : Fin 3)))
      ⊢ iprop(((debt c l ∗ sv c (pls (0 : Fin 3)) ∗ plP m ρ c (nx c (0 : Fin 3).val).val fullShare.right ∗ sv c (pas (1 : Fin 3)) ∗ paP m ρ c (nx c (1 : Fin 3).val).val fullShare.right ∗ sv c (pls (1 : Fin 3)) ∗ plP m ρ c (nx c (1 : Fin 3).val).val fullShare.right ∗ sv c (pas (2 : Fin 3)) ∗ paP m ρ c (nx c (2 : Fin 3).val).val fullShare.right) -∗ Φ (⟨⟩))
          -∗ WP c (call k0_part59 c) Φ) := by
  rw [k0_part59_eq_skeleton]
  unfold k0_part59_skel
  simp only [Prog.lift, Prog.bind_op, Prog.bind_ret, Prog.pure_eq_ret]
  iintro ⟨#HR, #HL, HO, H1, H2, H5, H6, H9, H10, H13, H14⟩ Hk
  iapply (wait_w m ρ c (pls (0 : Fin 3)) (l) (plP m ρ c (nx c (0 : Fin 3).val).val fullShare.right) rfl rfl rfl (fun _ => rfl) hl0) $$ [H1 HO H2]
  · iclose
  iintro ⟨HO, H3, H4⟩
  iapply (wait_w m ρ c (pas (1 : Fin 3)) (l) (paP m ρ c (nx c (1 : Fin 3).val).val fullShare.right) rfl rfl rfl (fun _ => rfl) hl1) $$ [H5 HO H6]
  · iclose
  iintro ⟨HO, H7, H8⟩
  iapply (wait_w m ρ c (pls (1 : Fin 3)) (l) (plP m ρ c (nx c (1 : Fin 3).val).val fullShare.right) rfl rfl rfl (fun _ => rfl) hl2) $$ [H9 HO H10]
  · iclose
  iintro ⟨HO, H11, H12⟩
  iapply (wait_w m ρ c (pas (2 : Fin 3)) (l) (paP m ρ c (nx c (2 : Fin 3).val).val fullShare.right) rfl rfl rfl (fun _ => rfl) hl3) $$ [H13 HO H14]
  · iclose
  iintro ⟨HO, H15, H16⟩
  iapply (WP_ret c _)
  iapply Hk
  iclose

theorem part60_ok (c : Dev nD) (l : List (Dev nD × Option CK))  (hl0 : (((l) : List (Dev nD × Option CK)).map Prod.snd).all (fun o => decide (CK.lev (pls (2 : Fin 3)) < dLev o)) = true) (hl1 : (((l) : List (Dev nD × Option CK)).map Prod.snd).all (fun o => decide (CK.lev (os (0 : Fin 3)) < dLev o)) = true) (hl2 : (((l) : List (Dev nD × Option CK)).map Prod.snd).all (fun o => decide (CK.lev (os (1 : Fin 3)) < dLev o)) = true) (hl3 : (((l) : List (Dev nD × Option CK)).map Prod.snd).all (fun o => decide (CK.lev (os (2 : Fin 3)) < dLev o)) = true) {Φ : (PUnit) → sProp 𝕄} :
    iprop(recs m ρ ∗ levAts L lv ∗ debt c (l) ∗ crd c (pls (2 : Fin 3)) ∗ atp c (pls (2 : Fin 3)) ∗ crd c (os (0 : Fin 3)) ∗ atp c (os (0 : Fin 3)) ∗ crd c (os (1 : Fin 3)) ∗ atp c (os (1 : Fin 3)) ∗ crd c (os (2 : Fin 3)) ∗ atp c (os (2 : Fin 3)))
      ⊢ iprop(((debt c l ∗ sv c (pls (2 : Fin 3)) ∗ plP m ρ c (nx c (2 : Fin 3).val).val fullShare.right ∗ sv c (os (0 : Fin 3)) ∗ osP m ρ c (nx c (0 : Fin 3).val) fullShare.right ∗ sv c (os (1 : Fin 3)) ∗ osP m ρ c (nx c (1 : Fin 3).val) fullShare.right ∗ sv c (os (2 : Fin 3)) ∗ osP m ρ c (nx c (2 : Fin 3).val) fullShare.right) -∗ Φ (⟨⟩))
          -∗ WP c (call k0_part60 c) Φ) := by
  rw [k0_part60_eq_skeleton]
  unfold k0_part60_skel
  simp only [Prog.lift, Prog.bind_op, Prog.bind_ret, Prog.pure_eq_ret]
  iintro ⟨#HR, #HL, HO, H1, H2, H5, H6, H9, H10, H13, H14⟩ Hk
  iapply (wait_w m ρ c (pls (2 : Fin 3)) (l) (plP m ρ c (nx c (2 : Fin 3).val).val fullShare.right) rfl rfl rfl (fun _ => rfl) hl0) $$ [H1 HO H2]
  · iclose
  iintro ⟨HO, H3, H4⟩
  iapply (wait_w m ρ c (os (0 : Fin 3)) (l) (osP m ρ c (nx c (0 : Fin 3).val) fullShare.right) rfl rfl rfl (fun _ => rfl) hl1) $$ [H5 HO H6]
  · iclose
  iintro ⟨HO, H7, H8⟩
  iapply (wait_w m ρ c (os (1 : Fin 3)) (l) (osP m ρ c (nx c (1 : Fin 3).val) fullShare.right) rfl rfl rfl (fun _ => rfl) hl2) $$ [H9 HO H10]
  · iclose
  iintro ⟨HO, H11, H12⟩
  iapply (wait_w m ρ c (os (2 : Fin 3)) (l) (osP m ρ c (nx c (2 : Fin 3).val) fullShare.right) rfl rfl rfl (fun _ => rfl) hl3) $$ [H13 HO H14]
  · iclose
  iintro ⟨HO, H15, H16⟩
  iapply (WP_ret c _)
  iapply Hk
  iclose

end Cert.KernelIdeal.Pf
-- ==== Proof.Chain.lean ====
/-
# The parts of the body, one after another
-/
module

public import proofs.«01_k».proof.Proof.StartPart
public import proofs.«01_k».proof.Proof.QueryParts
public import proofs.«01_k».proof.Proof.GroupParts
public import proofs.«01_k».proof.Proof.MeetParts
public import proofs.«01_k».proof.Proof.HeadParts
public import proofs.«01_k».proof.Proof.TailParts

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The chain of the parts of the body. -/

theorem part61_ok (c : Dev nD) {Φ : (Σ' (d0 : Dev nD), BitVec 32) → sProp 𝕄} :
    iprop(recs m ρ ∗ levAts L lv ∗ debt c (D0 c) ∗ cred (tallyAt (bar c) () 3) ∗ atPos ER (bar c) 0 ∅ 0 ∗ tokB (nx c (0 : Fin 3).val) c ∗ tokB (nx c (1 : Fin 3).val) c ∗ tokB (nx c (2 : Fin 3).val) c ∗ Hand c (nx c (0 : Fin 3).val) ∗ Hand c (nx c (1 : Fin 3).val) ∗ Hand c (nx c (2 : Fin 3).val) ∗ TA c ∗ TB c ∗ hK m c ∗ hV m c ∗ pt c cc0_stg0_0 Finset.univ fullShare (xst m ρ c) ∗ pt c cc0_stg1_0 Finset.univ fullShare (wqst m ρ c) ∗ q32A c c ∗ tok c (qs (0 : Fin 3)) ∗ tok (nx c (0 : Fin 3).val) (qr (0 : Fin 3)) ∗ tok c (qs (1 : Fin 3)) ∗ tok (nx c (1 : Fin 3).val) (qr (1 : Fin 3)) ∗ tok c (qs (2 : Fin 3)) ∗ tok (nx c (2 : Fin 3).val) (qr (2 : Fin 3)) ∗ ksA c (0 : Fin 4) ∗ tok c (kg (0 : Fin 4)) ∗ vsA c (0 : Fin 4) ∗ tok c (vg (0 : Fin 4)) ∗ ksA c (1 : Fin 4) ∗ tok c (kg (1 : Fin 4)) ∗ vsA c (1 : Fin 4) ∗ tok c (vg (1 : Fin 4)) ∗ crd c (qr (0 : Fin 3)) ∗ atp c (qr (0 : Fin 3)) ∗ crd c (qr (1 : Fin 3)) ∗ atp c (qr (1 : Fin 3)) ∗ crd c (qr (2 : Fin 3)) ∗ atp c (qr (2 : Fin 3)) ∗ atp c (kg (0 : Fin 4)) ∗ atp c (vg (0 : Fin 4)) ∗ tok c (kg (2 : Fin 4)) ∗ tok c (vg (2 : Fin 4)) ∗ paA c (0 : Fin 4).val ∗ plA c (0 : Fin 4).val ∗ atp c (kg (1 : Fin 4)) ∗ atp c (vg (1 : Fin 4)) ∗ tok c (kg (3 : Fin 4)) ∗ tok c (vg (3 : Fin 4)) ∗ paA c (1 : Fin 4).val ∗ plA c (1 : Fin 4).val ∗ atp c (kg (2 : Fin 4)) ∗ atp c (vg (2 : Fin 4)) ∗ paA c (2 : Fin 4).val ∗ plA c (2 : Fin 4).val ∗ atp c (kg (3 : Fin 4)) ∗ atp c (vg (3 : Fin 4)) ∗ paA c (3 : Fin 4).val ∗ plA c (3 : Fin 4).val ∗ tok c (pas (0 : Fin 3)) ∗ tok (nx c (0 : Fin 3).val) (par (0 : Fin 3)) ∗ tok c (pls (0 : Fin 3)) ∗ tok (nx c (0 : Fin 3).val) (plr (0 : Fin 3)) ∗ tok c (pas (1 : Fin 3)) ∗ tok (nx c (1 : Fin 3).val) (par (1 : Fin 3)) ∗ tok c (pls (1 : Fin 3)) ∗ tok (nx c (1 : Fin 3).val) (plr (1 : Fin 3)) ∗ tok c (pas (2 : Fin 3)) ∗ tok (nx c (2 : Fin 3).val) (par (2 : Fin 3)) ∗ tok c (pls (2 : Fin 3)) ∗ tok (nx c (2 : Fin 3).val) (plr (2 : Fin 3)) ∗ RA0 c ∗ atp c (cp (0 : Fin 4)) ∗ atp c (cp (1 : Fin 4)) ∗ atp c (kr (0 : Fin 2)) ∗ atp c (vr (0 : Fin 2)) ∗ atp c (kr (1 : Fin 2)) ∗ atp c (vr (1 : Fin 2)) ∗ RB1 c ∗ atp c (cp (2 : Fin 4)) ∗ atp c (cp (3 : Fin 4)) ∗ atp c bkr ∗ atp c bvr ∗ crd c (par (0 : Fin 3)) ∗ atp c (par (0 : Fin 3)) ∗ crd c (plr (0 : Fin 3)) ∗ atp c (plr (0 : Fin 3)) ∗ crd c (par (1 : Fin 3)) ∗ atp c (par (1 : Fin 3)) ∗ crd c (plr (1 : Fin 3)) ∗ atp c (plr (1 : Fin 3)) ∗ crd c (par (2 : Fin 3)) ∗ atp c (par (2 : Fin 3)) ∗ crd c (plr (2 : Fin 3)) ∗ atp c (plr (2 : Fin 3)) ∗ pt c cc0_stg2_0 Finset.univ fullShare (wost m ρ c) ∗ osA c ∗ tok c (os (0 : Fin 3)) ∗ tok (nx c (0 : Fin 3).val) (orv (0 : Fin 3)) ∗ tok c (os (1 : Fin 3)) ∗ tok (nx c (1 : Fin 3).val) (orv (1 : Fin 3)) ∗ tok c (os (2 : Fin 3)) ∗ tok (nx c (2 : Fin 3).val) (orv (2 : Fin 3)) ∗ crd c (orv (0 : Fin 3)) ∗ atp c (orv (0 : Fin 3)) ∗ crd c (orv (1 : Fin 3)) ∗ atp c (orv (1 : Fin 3)) ∗ crd c (orv (2 : Fin 3)) ∗ atp c (orv (2 : Fin 3)) ∗ outA c c ∗ tok c (ags (0 : Fin 3)) ∗ tok (nx c (0 : Fin 3).val) (agr (0 : Fin 3)) ∗ tok c (ags (1 : Fin 3)) ∗ tok (nx c (1 : Fin 3).val) (agr (1 : Fin 3)) ∗ tok c (ags (2 : Fin 3)) ∗ tok (nx c (2 : Fin 3).val) (agr (2 : Fin 3)) ∗ crd c (agr (0 : Fin 3)) ∗ atp c (agr (0 : Fin 3)) ∗ crd c (agr (1 : Fin 3)) ∗ atp c (agr (1 : Fin 3)) ∗ crd c (agr (2 : Fin 3)) ∗ atp c (agr (2 : Fin 3)) ∗ atp c (qs (0 : Fin 3)) ∗ atp c (qs (1 : Fin 3)) ∗ atp c (qs (2 : Fin 3)) ∗ atp c (pas (0 : Fin 3)) ∗ atp c (pls (0 : Fin 3)) ∗ atp c (pas (1 : Fin 3)) ∗ atp c (pls (1 : Fin 3)) ∗ atp c (pas (2 : Fin 3)) ∗ atp c (pls (2 : Fin 3)) ∗ atp c (os (0 : Fin 3)) ∗ atp c (os (1 : Fin 3)) ∗ atp c (os (2 : Fin 3)) ∗ atp c (ags (0 : Fin 3)))
      ⊢ iprop(((debt c [] ∗ semVal (bar c) 0 ∗ BC c ∗ BD c ∗ pt c cc0_stg0_0 Finset.univ fullShare (xst m ρ c) ∗ pt c cc0_stg1_0 Finset.univ fullShare (wqst m ρ c) ∗ sv c (qr (0 : Fin 3)) ∗ sv c (qr (1 : Fin 3)) ∗ sv c (qr (2 : Fin 3)) ∗ sv c (kg (0 : Fin 4)) ∗ q32P m ρ c (pv c (0 : Fin 3).val) fullShare.right ∗ q32P m ρ c (pv c (1 : Fin 3).val) fullShare.right ∗ q32P m ρ c (pv c (2 : Fin 3).val) fullShare.right ∗ sv c (vg (0 : Fin 4)) ∗ sv c (kg (1 : Fin 4)) ∗ sv c (vg (1 : Fin 4)) ∗ hK m c ∗ hV m c ∗ sv c (kg (2 : Fin 4)) ∗ sv c (vg (2 : Fin 4)) ∗ ksP m c (2 : Fin 4) ∗ vsP m c (2 : Fin 4) ∗ sv c (kg (3 : Fin 4)) ∗ sv c (vg (3 : Fin 4)) ∗ q32W m ρ c fullShare.left ∗ ksP m c (3 : Fin 4) ∗ vsP m c (3 : Fin 4) ∗ paP m ρ c c.val fullShare.right ∗ plP m ρ c c.val fullShare.right ∗ sv c (cp (0 : Fin 4)) ∗ sv c (cp (1 : Fin 4)) ∗ sv c (kr (0 : Fin 2)) ∗ sv c (vr (0 : Fin 2)) ∗ sv c (kr (1 : Fin 2)) ∗ sv c (vr (1 : Fin 2)) ∗ sv c (cp (2 : Fin 4)) ∗ sv c (cp (3 : Fin 4)) ∗ sv c bkr ∗ sv c bvr ∗ k0W m c ∗ v0W m c ∗ kbW m c ∗ vbW m c ∗ sv c (par (0 : Fin 3)) ∗ sv c (plr (0 : Fin 3)) ∗ sv c (par (1 : Fin 3)) ∗ sv c (plr (1 : Fin 3)) ∗ sv c (par (2 : Fin 3)) ∗ sv c (plr (2 : Fin 3)) ∗ rlW m ρ c ∗ raW m ρ c ∗ paW m ρ c fullShare.left ∗ plW m ρ c fullShare.left ∗ pt c cc0_stg2_0 Finset.univ fullShare (wost m ρ c) ∗ osP m ρ c c fullShare.right ∗ sv c (orv (0 : Fin 3)) ∗ sv c (orv (1 : Fin 3)) ∗ sv c (orv (2 : Fin 3)) ∗ osW m ρ c fullShare.left ∗ obW m ρ c ∗ outP m ρ c c fullShare.left ∗ crd c (ags (1 : Fin 3)) ∗ crd c (ags (2 : Fin 3)) ∗ sv c (agr (0 : Fin 3)) ∗ outP m ρ c (pv c (0 : Fin 3).val) fullShare ∗ sv c (agr (1 : Fin 3)) ∗ outP m ρ c (pv c (1 : Fin 3).val) fullShare ∗ sv c (agr (2 : Fin 3)) ∗ outP m ρ c (pv c (2 : Fin 3).val) fullShare ∗ sv c (qs (0 : Fin 3)) ∗ q32P m ρ c c (shareR (0 : Fin 3)) ∗ sv c (qs (1 : Fin 3)) ∗ q32P m ρ c c (shareR (1 : Fin 3)) ∗ sv c (qs (2 : Fin 3)) ∗ q32P m ρ c c (shareR (2 : Fin 3)) ∗ sv c (pas (0 : Fin 3)) ∗ paP m ρ c (nx c (0 : Fin 3).val).val fullShare.right ∗ sv c (pls (0 : Fin 3)) ∗ plP m ρ c (nx c (0 : Fin 3).val).val fullShare.right ∗ sv c (pas (1 : Fin 3)) ∗ paP m ρ c (nx c (1 : Fin 3).val).val fullShare.right ∗ sv c (pls (1 : Fin 3)) ∗ plP m ρ c (nx c (1 : Fin 3).val).val fullShare.right ∗ sv c (pas (2 : Fin 3)) ∗ paP m ρ c (nx c (2 : Fin 3).val).val fullShare.right ∗ sv c (pls (2 : Fin 3)) ∗ plP m ρ c (nx c (2 : Fin 3).val).val fullShare.right ∗ sv c (os (0 : Fin 3)) ∗ osP m ρ c (nx c (0 : Fin 3).val) fullShare.right ∗ sv c (os (1 : Fin 3)) ∗ osP m ρ c (nx c (1 : Fin 3).val) fullShare.right ∗ sv c (os (2 : Fin 3)) ∗ osP m ρ c (nx c (2 : Fin 3).val) fullShare.right ∗ sv c (ags (0 : Fin 3)) ∗ outP m ρ c c (shareR (0 : Fin 3))) -∗ Φ ⟨c, wv c⟩)
          -∗ WP c (call k0_part61) Φ) := by
  rw [k0_part61_eq_skeleton]
  unfold k0_part61_skel
  simp only [Prog.lift, Prog.bind_op, Prog.bind_ret, Prog.pure_eq_ret]
  iintro ⟨#HR, #HL, HO, H1, H2, H3, H4, H5, H6, H7, H8, H9, H10, H11, H12, H13, H14, H39, H40, H41, H46, H47, H48, H49, H50, H51, H52, H53, H60, H61, H62, H63, H64, H65, H72, H73, H74, H75, H76, H88, H97, H98, H99, H100, H107, H108, H119, H123, H124, H125, H126, H133, H142, H143, H144, H150, H159, H160, H161, H162, H174, H175, H176, H177, H178, H179, H183, H184, H185, H186, H187, H188, H189, H190, H191, H192, H193, H204, H205, H206, H207, H208, H235, H236, H237, H238, H244, H245, H246, H247, H248, H249, H255, H256, H265, H266, H267, H268, H275, H276, H277, H278, H281, H282, H283, H284, H285, H286, H292, H293, H294, H300, H301, H302, H303, H306, H307, H308, H309, H310, H311, H318, H319, H320, H321, H330, H331, H332, H333, H342, H343, H344, H345, H354⟩ Hk
  iapply (WP_bind c _ _)
  iapply (part12_ok m ρ c) $$ [HO H1 H2 H3 H4 H5 H6 H7 H8 H9 H10 H11 H12 H13 H14]
  · iclose
  iintro ⟨HO, H15, H16, H17, H18, H19, H20, H21, H22, H23, H24, H25, H26, H27, H28, H29, H30, H31, H32, H33, H34, H35, H36, H37, H38⟩
  try dsimp only
  iapply (WP_bind c _ _)
  iapply (part13_ok m ρ c ([(nx c (1 : Fin 3).val, some (qr (1 : Fin 3))), (nx c (2 : Fin 3).val, some (qr (2 : Fin 3))), (nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])   rfl) $$ [HO H39 H16 H40 H41]
  · iclose
  iintro ⟨HO, H42, H43, H44, H45⟩
  try dsimp only
  iapply (WP_bind c _ _)
  iapply (part14_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])   ) $$ [HO H43 H21 H46 H47 H44 H26 H48 H49 H50 H35 H51 H52 H36 H53]
  · iclose
  iintro ⟨HO, H54, H55, H56, H57, H58, H59⟩
  try dsimp only
  iapply (WP_bind c _ _)
  iapply (part15_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl ) $$ [HO H60 H57 H61 H62 H59 H63 H64 H65]
  · iclose
  iintro ⟨HO, H66, H67, H68, H69, H70, H71⟩
  try dsimp only
  iapply (WP_bind c _ _)
  iapply (part16_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl rfl rfl ) $$ [HO H72 H73 H74 H75 H56 H76]
  · iclose
  iintro ⟨HO, H77, H78, H79, H80, H81, H82⟩
  try dsimp only
  ihave H83 := (join_q32 m ρ c) $$ [H42 H71 H78 H80]
  · iclose
  icases H83 with ⟨H84, H85, H86, H87⟩
  iapply (WP_bind c _ _)
  iapply (part17_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl ) $$ [HO H58 H88 H84 H82]
  · iclose
  iintro ⟨HO, H89, H90, H91, H92⟩
  try dsimp only
  iapply (WP_bind c _ _)
  iapply (part18_ok m ρ c    ) $$ [H92 H90]
  · iclose
  iintro ⟨H93, H94⟩
  try dsimp only
  iapply (WP_bind c _ _)
  iapply (part19_ok m ρ c    ) $$ [H93 H94]
  · iclose
  iintro ⟨H95, H96⟩
  try dsimp only
  iapply (WP_bind c _ _)
  iapply (part20_ok m ρ c    rfl) $$ [H96 H95 H67 H97 H69 H98 H99 H100]
  · iclose
  iintro ⟨H101, H102, H103, H104, H105, H106⟩
  try dsimp only
  iapply (WP_bind c _ _)
  iapply (part21_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl rfl rfl) $$ [HO H106 H66 H107 H68 H108 H91]
  · iclose
  iintro ⟨HO, H109, H110, H111, H112, H113, H114⟩
  try dsimp only
  iapply (WP_bind c _ _)
  iapply (part22_ok m ρ c    ) $$ [H111 H113]
  · iclose
  iintro ⟨H115, H116⟩
  try dsimp only
  iapply (WP_bind c _ _)
  iapply (part23_ok m ρ c    ) $$ [H116 H115]
  · iclose
  iintro ⟨H117, H118⟩
  try dsimp only
  iapply (WP_bind c _ _)
  iapply (part24_ok m ρ c    ) $$ [H118 H117 H102 H119]
  · iclose
  iintro ⟨H120, H121, H122⟩
  try dsimp only
  iapply (WP_bind c _ _)
  iapply (part25_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl rfl rfl) $$ [HO H120 H104 H123 H124 H125 H101 H126]
  · iclose
  iintro ⟨HO, H127, H128, H129, H130, H131, H132⟩
  try dsimp only
  iapply (WP_bind c _ _)
  iapply (part26_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl ) $$ [HO H103 H133 H114 H132]
  · iclose
  iintro ⟨HO, H134, H135, H136, H137⟩
  try dsimp only
  iapply (WP_bind c _ _)
  iapply (part27_ok m ρ c    ) $$ [H137 H135]
  · iclose
  iintro ⟨H138, H139⟩
  try dsimp only
  iapply (WP_bind c _ _)
  iapply (part28_ok m ρ c    ) $$ [H138 H139]
  · iclose
  iintro ⟨H140, H141⟩
  try dsimp only
  iapply (WP_bind c _ _)
  iapply (part29_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl rfl rfl) $$ [HO H141 H142 H143 H121 H144]
  · iclose
  iintro ⟨HO, H145, H146, H147, H148, H149⟩
  try dsimp only
  iapply (WP_bind c _ _)
  iapply (part30_ok m ρ c ([(nx c (0 : Fin 3).val, some (par (0 : Fin 3))), (nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl ) $$ [HO H127 H150 H136 H149]
  · iclose
  iintro ⟨HO, H151, H152, H153, H154⟩
  try dsimp only
  iapply (WP_bind c _ _)
  iapply (part31_ok m ρ c    ) $$ [H152 H154]
  · iclose
  iintro ⟨H155, H156⟩
  try dsimp only
  iapply (WP_bind c _ _)
  iapply (part32_ok m ρ c    ) $$ [H156 H155]
  · iclose
  iintro ⟨H157, H158⟩
  try dsimp only
  iapply (WP_bind c _ _)
  iapply (part33_ok m ρ c ([(nx c (0 : Fin 3).val, some (plr (0 : Fin 3))), (nx c (1 : Fin 3).val, some (par (1 : Fin 3))), (nx c (1 : Fin 3).val, some (plr (1 : Fin 3))), (nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])   rfl rfl) $$ [HO H158 H159 H160 H105 H129 H146 H109 H130 H147 H17 H161 H162]
  · iclose
  iintro ⟨HO, H163, H164, H165, H166, H167, H168, H169, H170, H171, H172, H173⟩
  try dsimp only
  iapply (WP_bind c _ _)
  iapply (part34_ok m ρ c ([(nx c (2 : Fin 3).val, some (par (2 : Fin 3))), (nx c (2 : Fin 3).val, some (plr (2 : Fin 3))), (nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])   ) $$ [HO H170 H18 H174 H175 H166 H22 H176 H177 H171 H23 H178 H179]
  · iclose
  iintro ⟨HO, H180, H181, H182⟩
  try dsimp only
  iapply (WP_bind c _ _)
  iapply (part35_ok m ρ c ([(nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) rfl rfl rfl ) $$ [HO H167 H27 H183 H184 H172 H28 H185 H186 H31 H187 H188 H189 H190 H191 H192 H193]
  · iclose
  iintro ⟨HO, H194, H195, H196, H197, H198, H199, H200, H201, H202, H203⟩
  try dsimp only
  iapply (WP_bind c _ _)
  iapply (part36_ok m ρ c ([(nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))]) rfl rfl rfl rfl ) $$ [HO H32 H204 H205 H206 H207 H208]
  · iclose
  iintro ⟨HO, H209, H210, H211, H212, H213, H214⟩
  try dsimp only
  iapply (WP_bind c _ _)
  iapply (part37_ok m ρ c    ) $$ [H196 H197]
  · iclose
  iintro ⟨H215, H216⟩
  try dsimp only
  iapply (WP_bind c _ _)
  iapply (part38_ok m ρ c    ) $$ [H216 H215]
  · iclose
  iintro ⟨H217, H218⟩
  try dsimp only
  iapply (WP_bind c _ _)
  iapply (part39_ok m ρ c    ) $$ [H217 H218]
  · iclose
  iintro ⟨H219, H220⟩
  try dsimp only
  iapply (WP_bind c _ _)
  iapply (part40_ok m ρ c    ) $$ [H220 H219]
  · iclose
  iintro ⟨H221, H222⟩
  try dsimp only
  iapply (WP_bind c _ _)
  iapply (part41_ok m ρ c    ) $$ [H222 H221]
  · iclose
  iintro ⟨H223, H224⟩
  try dsimp only
  iapply (WP_bind c _ _)
  iapply (part42_ok m ρ c    ) $$ [H223 H224]
  · iclose
  iintro ⟨H225, H226⟩
  try dsimp only
  iapply (WP_bind c _ _)
  iapply (part43_ok m ρ c    ) $$ [H226 H225 H209 H210]
  · iclose
  iintro ⟨H227, H228, H229, H230⟩
  try dsimp only
  iapply (WP_bind c _ _)
  iapply (part44_ok m ρ c    ) $$ [H230 H229]
  · iclose
  iintro ⟨H231, H232⟩
  try dsimp only
  iapply (WP_bind c _ _)
  iapply (part45_ok m ρ c    ) $$ [H231 H232]
  · iclose
  iintro ⟨H233, H234⟩
  try dsimp only
  iapply (WP_bind c _ _)
  iapply (part46_ok m ρ c ([(nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl rfl ) $$ [HO H233 H235 H236 H237 H238]
  · iclose
  iintro ⟨HO, H239, H240, H241, H242, H243⟩
  try dsimp only
  iapply (WP_bind c _ _)
  iapply (part47_ok m ρ c ([(nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl rfl rfl ) $$ [HO H244 H245 H246 H247 H248 H249 H241]
  · iclose
  iintro ⟨HO, H250, H251, H252, H253, H254⟩
  try dsimp only
  iapply (WP_bind c _ _)
  iapply (part48_ok m ρ c ([(nx c (0 : Fin 3).val, some (orv (0 : Fin 3))), (nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])  rfl ) $$ [HO H255 H256 H243 H252 H254 H164]
  · iclose
  iintro ⟨HO, H257, H258, H259, H260⟩
  try dsimp only
  iapply (WP_bind c _ _)
  iapply (part49_ok m ρ c    ) $$ [H168 H260]
  · iclose
  iintro ⟨H261, H262⟩
  try dsimp only
  iapply (WP_bind c _ _)
  iapply (part50_ok m ρ c    ) $$ [H262 H261]
  · iclose
  iintro ⟨H263, H264⟩
  try dsimp only
  iapply (WP_bind c _ _)
  iapply (part51_ok m ρ c    ) $$ []
  · iclose
  iintro _
  try dsimp only
  iapply (WP_bind c _ _)
  iapply (part52_ok m ρ c ([(nx c (1 : Fin 3).val, some (orv (1 : Fin 3))), (nx c (2 : Fin 3).val, some (orv (2 : Fin 3))), (nx c (0 : Fin 3).val, some (agr (0 : Fin 3))), (nx c (1 : Fin 3).val, some (agr (1 : Fin 3))), (nx c (2 : Fin 3).val, some (agr (2 : Fin 3)))])   rfl) $$ [HO H265 H266 H19 H267 H268]
  · iclose
  iintro ⟨HO, H269, H270, H271, H272, H273, H274⟩
  try dsimp only
  iapply (WP_bind c _ _)
  iapply (part53_ok m ρ c ([(nx c (0 : Fin 3).val, some (agr (0 : Fin 3))), (nx c (1 : Fin 3).val, some (agr (1 : Fin 3))), (nx c (2 : Fin 3).val, some (agr (2 : Fin 3)))])   ) $$ [HO H272 H24 H275 H276 H273 H29 H277 H278]
  · iclose
  iintro ⟨HO, H279, H280⟩
  try dsimp only
  iapply (WP_bind c _ _)
  iapply (part54_ok m ρ c ([(nx c (0 : Fin 3).val, some (agr (0 : Fin 3))), (nx c (1 : Fin 3).val, some (agr (1 : Fin 3))), (nx c (2 : Fin 3).val, some (agr (2 : Fin 3)))])  rfl rfl rfl ) $$ [HO H281 H282 H283 H284 H285 H286 H270]
  · iclose
  iintro ⟨HO, H287, H288, H289, H290, H291⟩
  try dsimp only
  iapply (WP_bind c _ _)
  iapply (part55_ok m ρ c ([(nx c (1 : Fin 3).val, some (agr (1 : Fin 3))), (nx c (2 : Fin 3).val, some (agr (2 : Fin 3)))])   rfl) $$ [HO H290 H292 H20 H293 H294]
  · iclose
  iintro ⟨HO, H295, H296, H297, H298, H299⟩
  try dsimp only
  iapply (WP_bind c _ _)
  iapply (part56_ok m ρ c ([])   ) $$ [HO H297 H25 H300 H301 H298 H30 H302 H303]
  · iclose
  iintro ⟨HO, H304, H305⟩
  try dsimp only
  iapply (WP_bind c _ _)
  iapply (part57_ok m ρ c ([])  rfl rfl rfl ) $$ [HO H306 H307 H308 H309 H310 H311]
  · iclose
  iintro ⟨HO, H312, H313, H314, H315, H316, H317⟩
  try dsimp only
  iapply (WP_bind c _ _)
  iapply (part58_ok m ρ c ([])  rfl rfl rfl rfl ) $$ [HO H45 H318 H54 H319 H55 H320 H173 H321]
  · iclose
  iintro ⟨HO, H322, H323, H324, H325, H326, H327, H328, H329⟩
  try dsimp only
  iapply (WP_bind c _ _)
  iapply (part59_ok m ρ c ([])  rfl rfl rfl rfl ) $$ [HO H180 H330 H181 H331 H182 H332 H194 H333]
  · iclose
  iintro ⟨HO, H334, H335, H336, H337, H338, H339, H340, H341⟩
  try dsimp only
  iapply (WP_bind c _ _)
  iapply (part60_ok m ρ c ([])  rfl rfl rfl rfl ) $$ [HO H195 H342 H274 H343 H279 H344 H280 H345]
  · iclose
  iintro ⟨HO, H346, H347, H348, H349, H350, H351, H352, H353⟩
  try dsimp only
  iapply (wait_w m ρ c (ags (0 : Fin 3)) ([]) (outP m ρ c c (shareR (0 : Fin 3))) rfl rfl rfl (fun _ => rfl) rfl) $$ [H299 HO H354]
  · iclose
  iintro ⟨HO, H355, H356⟩
  iapply (WP_ret c _)
  iapply Hk
  iclose

end Cert.KernelIdeal.Pf
-- ==== Proof.Body.lean ====
/-
# The body
-/
module

public import proofs.«01_k».proof.Proof.Chain

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The whole body on device `c`: what it takes and what it leaves. -/

theorem body_ok (c : Dev nD) {Φ : PUnit → sProp 𝕄} :
    iprop(recs m ρ ∗ levAts L lv ∗ debt c (D0 c) ∗ cred (tallyAt (bar c) () 3) ∗ atPos ER (bar c) 0 ∅ 0 ∗ tokB (nx c (0 : Fin 3).val) c ∗ tokB (nx c (1 : Fin 3).val) c ∗ tokB (nx c (2 : Fin 3).val) c ∗ Hand c (nx c (0 : Fin 3).val) ∗ Hand c (nx c (1 : Fin 3).val) ∗ Hand c (nx c (2 : Fin 3).val) ∗ TA c ∗ TB c ∗ hK m c ∗ hV m c ∗ pt c cc0_stg0_0 Finset.univ fullShare (xst m ρ c) ∗ pt c cc0_stg1_0 Finset.univ fullShare (wqst m ρ c) ∗ q32A c c ∗ tok c (qs (0 : Fin 3)) ∗ tok (nx c (0 : Fin 3).val) (qr (0 : Fin 3)) ∗ tok c (qs (1 : Fin 3)) ∗ tok (nx c (1 : Fin 3).val) (qr (1 : Fin 3)) ∗ tok c (qs (2 : Fin 3)) ∗ tok (nx c (2 : Fin 3).val) (qr (2 : Fin 3)) ∗ ksA c (0 : Fin 4) ∗ tok c (kg (0 : Fin 4)) ∗ vsA c (0 : Fin 4) ∗ tok c (vg (0 : Fin 4)) ∗ ksA c (1 : Fin 4) ∗ tok c (kg (1 : Fin 4)) ∗ vsA c (1 : Fin 4) ∗ tok c (vg (1 : Fin 4)) ∗ crd c (qr (0 : Fin 3)) ∗ atp c (qr (0 : Fin 3)) ∗ crd c (qr (1 : Fin 3)) ∗ atp c (qr (1 : Fin 3)) ∗ crd c (qr (2 : Fin 3)) ∗ atp c (qr (2 : Fin 3)) ∗ atp c (kg (0 : Fin 4)) ∗ atp c (vg (0 : Fin 4)) ∗ tok c (kg (2 : Fin 4)) ∗ tok c (vg (2 : Fin 4)) ∗ paA c (0 : Fin 4).val ∗ plA c (0 : Fin 4).val ∗ atp c (kg (1 : Fin 4)) ∗ atp c (vg (1 : Fin 4)) ∗ tok c (kg (3 : Fin 4)) ∗ tok c (vg (3 : Fin 4)) ∗ paA c (1 : Fin 4).val ∗ plA c (1 : Fin 4).val ∗ atp c (kg (2 : Fin 4)) ∗ atp c (vg (2 : Fin 4)) ∗ paA c (2 : Fin 4).val ∗ plA c (2 : Fin 4).val ∗ atp c (kg (3 : Fin 4)) ∗ atp c (vg (3 : Fin 4)) ∗ paA c (3 : Fin 4).val ∗ plA c (3 : Fin 4).val ∗ tok c (pas (0 : Fin 3)) ∗ tok (nx c (0 : Fin 3).val) (par (0 : Fin 3)) ∗ tok c (pls (0 : Fin 3)) ∗ tok (nx c (0 : Fin 3).val) (plr (0 : Fin 3)) ∗ tok c (pas (1 : Fin 3)) ∗ tok (nx c (1 : Fin 3).val) (par (1 : Fin 3)) ∗ tok c (pls (1 : Fin 3)) ∗ tok (nx c (1 : Fin 3).val) (plr (1 : Fin 3)) ∗ tok c (pas (2 : Fin 3)) ∗ tok (nx c (2 : Fin 3).val) (par (2 : Fin 3)) ∗ tok c (pls (2 : Fin 3)) ∗ tok (nx c (2 : Fin 3).val) (plr (2 : Fin 3)) ∗ RA0 c ∗ atp c (cp (0 : Fin 4)) ∗ atp c (cp (1 : Fin 4)) ∗ atp c (kr (0 : Fin 2)) ∗ atp c (vr (0 : Fin 2)) ∗ atp c (kr (1 : Fin 2)) ∗ atp c (vr (1 : Fin 2)) ∗ RB1 c ∗ atp c (cp (2 : Fin 4)) ∗ atp c (cp (3 : Fin 4)) ∗ atp c bkr ∗ atp c bvr ∗ crd c (par (0 : Fin 3)) ∗ atp c (par (0 : Fin 3)) ∗ crd c (plr (0 : Fin 3)) ∗ atp c (plr (0 : Fin 3)) ∗ crd c (par (1 : Fin 3)) ∗ atp c (par (1 : Fin 3)) ∗ crd c (plr (1 : Fin 3)) ∗ atp c (plr (1 : Fin 3)) ∗ crd c (par (2 : Fin 3)) ∗ atp c (par (2 : Fin 3)) ∗ crd c (plr (2 : Fin 3)) ∗ atp c (plr (2 : Fin 3)) ∗ pt c cc0_stg2_0 Finset.univ fullShare (wost m ρ c) ∗ osA c ∗ tok c (os (0 : Fin 3)) ∗ tok (nx c (0 : Fin 3).val) (orv (0 : Fin 3)) ∗ tok c (os (1 : Fin 3)) ∗ tok (nx c (1 : Fin 3).val) (orv (1 : Fin 3)) ∗ tok c (os (2 : Fin 3)) ∗ tok (nx c (2 : Fin 3).val) (orv (2 : Fin 3)) ∗ crd c (orv (0 : Fin 3)) ∗ atp c (orv (0 : Fin 3)) ∗ crd c (orv (1 : Fin 3)) ∗ atp c (orv (1 : Fin 3)) ∗ crd c (orv (2 : Fin 3)) ∗ atp c (orv (2 : Fin 3)) ∗ outA c c ∗ tok c (ags (0 : Fin 3)) ∗ tok (nx c (0 : Fin 3).val) (agr (0 : Fin 3)) ∗ tok c (ags (1 : Fin 3)) ∗ tok (nx c (1 : Fin 3).val) (agr (1 : Fin 3)) ∗ tok c (ags (2 : Fin 3)) ∗ tok (nx c (2 : Fin 3).val) (agr (2 : Fin 3)) ∗ crd c (agr (0 : Fin 3)) ∗ atp c (agr (0 : Fin 3)) ∗ crd c (agr (1 : Fin 3)) ∗ atp c (agr (1 : Fin 3)) ∗ crd c (agr (2 : Fin 3)) ∗ atp c (agr (2 : Fin 3)) ∗ atp c (qs (0 : Fin 3)) ∗ atp c (qs (1 : Fin 3)) ∗ atp c (qs (2 : Fin 3)) ∗ atp c (pas (0 : Fin 3)) ∗ atp c (pls (0 : Fin 3)) ∗ atp c (pas (1 : Fin 3)) ∗ atp c (pls (1 : Fin 3)) ∗ atp c (pas (2 : Fin 3)) ∗ atp c (pls (2 : Fin 3)) ∗ atp c (os (0 : Fin 3)) ∗ atp c (os (1 : Fin 3)) ∗ atp c (os (2 : Fin 3)) ∗ atp c (ags (0 : Fin 3)) ∗ atp c (ags (1 : Fin 3)) ∗ atp c (ags (2 : Fin 3)) ∗ atp c (ks (0 : Fin 6)) ∗ atp c (vs (0 : Fin 6)) ∗ atp c (ks (1 : Fin 6)) ∗ atp c (vs (1 : Fin 6)) ∗ atp c (ks (2 : Fin 6)) ∗ atp c (vs (2 : Fin 6)) ∗ atp c (ks (3 : Fin 6)) ∗ atp c (vs (3 : Fin 6)) ∗ atp c (ks (4 : Fin 6)) ∗ atp c (vs (4 : Fin 6)) ∗ atp c (ks (5 : Fin 6)) ∗ atp c (vs (5 : Fin 6)) ∗ atp c (bks (0 : Fin 3)) ∗ atp c (bvs (0 : Fin 3)) ∗ atp c (bks (1 : Fin 3)) ∗ atp c (bvs (1 : Fin 3)) ∗ atp c (bks (2 : Fin 3)) ∗ atp c (bvs (2 : Fin 3)))
      ⊢ iprop(((debt c [] ∗ semVal (bar c) 0 ∗ pt c cc0_stg0_0 Finset.univ fullShare (xst m ρ c) ∗ pt c cc0_stg1_0 Finset.univ fullShare (wqst m ρ c) ∗ sv c (qr (0 : Fin 3)) ∗ sv c (qr (1 : Fin 3)) ∗ sv c (qr (2 : Fin 3)) ∗ sv c (kg (0 : Fin 4)) ∗ q32P m ρ c (pv c (0 : Fin 3).val) fullShare.right ∗ q32P m ρ c (pv c (1 : Fin 3).val) fullShare.right ∗ q32P m ρ c (pv c (2 : Fin 3).val) fullShare.right ∗ sv c (vg (0 : Fin 4)) ∗ sv c (kg (1 : Fin 4)) ∗ sv c (vg (1 : Fin 4)) ∗ hK m c ∗ hV m c ∗ sv c (kg (2 : Fin 4)) ∗ sv c (vg (2 : Fin 4)) ∗ ksP m c (2 : Fin 4) ∗ vsP m c (2 : Fin 4) ∗ sv c (kg (3 : Fin 4)) ∗ sv c (vg (3 : Fin 4)) ∗ q32W m ρ c fullShare.left ∗ ksP m c (3 : Fin 4) ∗ vsP m c (3 : Fin 4) ∗ paP m ρ c c.val fullShare.right ∗ plP m ρ c c.val fullShare.right ∗ sv c (cp (0 : Fin 4)) ∗ sv c (cp (1 : Fin 4)) ∗ sv c (kr (0 : Fin 2)) ∗ sv c (vr (0 : Fin 2)) ∗ sv c (kr (1 : Fin 2)) ∗ sv c (vr (1 : Fin 2)) ∗ sv c (cp (2 : Fin 4)) ∗ sv c (cp (3 : Fin 4)) ∗ sv c bkr ∗ sv c bvr ∗ k0W m c ∗ v0W m c ∗ kbW m c ∗ vbW m c ∗ sv c (par (0 : Fin 3)) ∗ sv c (plr (0 : Fin 3)) ∗ sv c (par (1 : Fin 3)) ∗ sv c (plr (1 : Fin 3)) ∗ sv c (par (2 : Fin 3)) ∗ sv c (plr (2 : Fin 3)) ∗ rlW m ρ c ∗ raW m ρ c ∗ paW m ρ c fullShare.left ∗ plW m ρ c fullShare.left ∗ pt c cc0_stg2_0 Finset.univ fullShare (wost m ρ c) ∗ osP m ρ c c fullShare.right ∗ sv c (orv (0 : Fin 3)) ∗ sv c (orv (1 : Fin 3)) ∗ sv c (orv (2 : Fin 3)) ∗ osW m ρ c fullShare.left ∗ obW m ρ c ∗ outP m ρ c c fullShare.left ∗ sv c (agr (0 : Fin 3)) ∗ outP m ρ c (pv c (0 : Fin 3).val) fullShare ∗ sv c (agr (1 : Fin 3)) ∗ outP m ρ c (pv c (1 : Fin 3).val) fullShare ∗ sv c (agr (2 : Fin 3)) ∗ outP m ρ c (pv c (2 : Fin 3).val) fullShare ∗ sv c (qs (0 : Fin 3)) ∗ q32P m ρ c c (shareR (0 : Fin 3)) ∗ sv c (qs (1 : Fin 3)) ∗ q32P m ρ c c (shareR (1 : Fin 3)) ∗ sv c (qs (2 : Fin 3)) ∗ q32P m ρ c c (shareR (2 : Fin 3)) ∗ sv c (pas (0 : Fin 3)) ∗ paP m ρ c (nx c (0 : Fin 3).val).val fullShare.right ∗ sv c (pls (0 : Fin 3)) ∗ plP m ρ c (nx c (0 : Fin 3).val).val fullShare.right ∗ sv c (pas (1 : Fin 3)) ∗ paP m ρ c (nx c (1 : Fin 3).val).val fullShare.right ∗ sv c (pls (1 : Fin 3)) ∗ plP m ρ c (nx c (1 : Fin 3).val).val fullShare.right ∗ sv c (pas (2 : Fin 3)) ∗ paP m ρ c (nx c (2 : Fin 3).val).val fullShare.right ∗ sv c (pls (2 : Fin 3)) ∗ plP m ρ c (nx c (2 : Fin 3).val).val fullShare.right ∗ sv c (os (0 : Fin 3)) ∗ osP m ρ c (nx c (0 : Fin 3).val) fullShare.right ∗ sv c (os (1 : Fin 3)) ∗ osP m ρ c (nx c (1 : Fin 3).val) fullShare.right ∗ sv c (os (2 : Fin 3)) ∗ osP m ρ c (nx c (2 : Fin 3).val) fullShare.right ∗ sv c (ags (0 : Fin 3)) ∗ outP m ρ c c (shareR (0 : Fin 3)) ∗ sv c (ags (1 : Fin 3)) ∗ outP m ρ c c (shareR (1 : Fin 3)) ∗ sv c (ags (2 : Fin 3)) ∗ outP m ρ c c (shareR (2 : Fin 3)) ∗ sv c (ks (0 : Fin 6)) ∗ sv c (vs (0 : Fin 6)) ∗ sv c (ks (1 : Fin 6)) ∗ sv c (vs (1 : Fin 6)) ∗ sv c (ks (2 : Fin 6)) ∗ sv c (vs (2 : Fin 6)) ∗ sv c (ks (3 : Fin 6)) ∗ sv c (vs (3 : Fin 6)) ∗ sv c (ks (4 : Fin 6)) ∗ sv c (vs (4 : Fin 6)) ∗ sv c (ks (5 : Fin 6)) ∗ sv c (vs (5 : Fin 6)) ∗ sv c (bks (0 : Fin 3)) ∗ sv c (bvs (0 : Fin 3)) ∗ sv c (bks (1 : Fin 3)) ∗ sv c (bvs (1 : Fin 3)) ∗ sv c (bks (2 : Fin 3)) ∗ sv c (bvs (2 : Fin 3))) -∗ Φ ⟨⟩)
          -∗ WP c (call cc0__body) Φ) := by
  rw [cc0__body_eq_skeleton]
  unfold cc0__body_skel
  simp only [Prog.lift, Prog.bind_op, Prog.bind_ret, Prog.pure_eq_ret]
  iintro ⟨#HR, #HL, HO, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91, H92, H93, H94, H95, H96, H97, H98, H99, H100, H101, H102, H103, H104, H105, H106, H107, H108, H109, H110, H111, H112, H113, H114, H115, H116, H117, H118, H119, H120, H121, H122, H123, H124, H125, H126, H127, H128, H129, H130, H131, H226, H229, H232, H233, H234, H235, H236, H237, H238, H239, H240, H241, H242, H243, H244, H245, H246, H247, H248, H249⟩ Hk
  iapply (WP_bind c _ _)
  iapply (part61_ok m ρ c) $$ [HO H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50 H51 H52 H53 H54 H55 H56 H57 H58 H59 H60 H61 H62 H63 H64 H65 H66 H67 H68 H69 H70 H71 H72 H73 H74 H75 H76 H77 H78 H79 H80 H81 H82 H83 H84 H85 H86 H87 H88 H89 H90 H91 H92 H93 H94 H95 H96 H97 H98 H99 H100 H101 H102 H103 H104 H105 H106 H107 H108 H109 H110 H111 H112 H113 H114 H115 H116 H117 H118 H119 H120 H121 H122 H123 H124 H125 H126 H127 H128 H129 H130 H131]
  · iclose
  iintro ⟨HO, H132, H133, H134, H135, H136, H137, H138, H139, H140, H141, H142, H143, H144, H145, H146, H147, H148, H149, H150, H151, H152, H153, H154, H155, H156, H157, H158, H159, H160, H161, H162, H163, H164, H165, H166, H167, H168, H169, H170, H171, H172, H173, H174, H175, H176, H177, H178, H179, H180, H181, H182, H183, H184, H185, H186, H187, H188, H189, H190, H191, H192, H193, H194, H195, H196, H197, H198, H199, H200, H201, H202, H203, H204, H205, H206, H207, H208, H209, H210, H211, H212, H213, H214, H215, H216, H217, H218, H219, H220, H221, H222, H223, H224, H225⟩
  try dsimp only
  iapply (wait_w m ρ c (ags (1 : Fin 3)) ([]) (outP m ρ c c (shareR (1 : Fin 3))) rfl rfl rfl (fun _ => rfl) rfl) $$ [H192 HO H226]
  · iclose
  iintro ⟨HO, H227, H228⟩
  iapply (wait_w m ρ c (ags (2 : Fin 3)) ([]) (outP m ρ c c (shareR (2 : Fin 3))) rfl rfl rfl (fun _ => rfl) rfl) $$ [H193 HO H229]
  · iclose
  iintro ⟨HO, H230, H231⟩
  by_cases hc : c = 0
  · have h1 : c ≠ 1 := by rw [hc]; decide
    simp only [BC, BD, if_pos (is0 hc), if_neg (val1 h1), dif_pos (eq0_pos hc), dif_neg (eq1_neg h1), Prog.bind_op, Prog.bind_ret, bind_assoc]
    icases H133 with ⟨H250, H251, H252, H253, H254, H255, H256, H257, H258, H259, H260, H261⟩
    iapply (WP_bind c _ _)
    iapply (part8_ok m ρ c ([]) hc rfl rfl rfl ) $$ [HO H250 H232 H251 H233 H252 H234]
    · iclose
    iintro ⟨HO, H262, H263, H264⟩
    try dsimp only
    iapply (WP_bind c _ _)
    iapply (part9_ok m ρ c ([]) hc rfl rfl rfl rfl ) $$ [HO H253 H235 H254 H236 H255 H237 H256 H238]
    · iclose
    iintro ⟨HO, H265, H266, H267, H268⟩
    try dsimp only
    iapply (WP_bind c _ _)
    iapply (part10_ok m ρ c ([]) hc rfl rfl rfl ) $$ [HO H257 H239 H258 H240 H259 H241]
    · iclose
    iintro ⟨HO, H269, H270, H271⟩
    try dsimp only
    iapply (wait_w m ρ c (ks (5 : Fin 6)) ([]) (iprop(emp)) rfl rfl (by subst hc; rfl) (fun _ => rfl) rfl) $$ [H260 HO H242]
    · iclose
    iintro ⟨HO, H272, -⟩
    iapply (wait_w m ρ c (vs (5 : Fin 6)) ([]) (iprop(emp)) rfl rfl (by subst hc; rfl) (fun _ => rfl) rfl) $$ [H261 HO H243]
    · iclose
    iintro ⟨HO, H273, -⟩
    iapply (close_w m ρ c (bks (0 : Fin 3)) (by decide) ((act_1 h1).2.2.2.2.1 _)) $$ [H244]
    · iclose
    iintro H274
    iapply (close_w m ρ c (bvs (0 : Fin 3)) (by decide) ((act_1 h1).2.2.2.2.2 _)) $$ [H245]
    · iclose
    iintro H275
    iapply (close_w m ρ c (bks (1 : Fin 3)) (by decide) ((act_1 h1).2.2.2.2.1 _)) $$ [H246]
    · iclose
    iintro H276
    iapply (close_w m ρ c (bvs (1 : Fin 3)) (by decide) ((act_1 h1).2.2.2.2.2 _)) $$ [H247]
    · iclose
    iintro H277
    iapply (close_w m ρ c (bks (2 : Fin 3)) (by decide) ((act_1 h1).2.2.2.2.1 _)) $$ [H248]
    · iclose
    iintro H278
    iapply (close_w m ρ c (bvs (2 : Fin 3)) (by decide) ((act_1 h1).2.2.2.2.2 _)) $$ [H249]
    · iclose
    iintro H279
    iapply (WP_ret c _)
    iapply Hk
    iclose
  by_cases h : c = 1
  · have hc := h
    have h0 : c ≠ 0 := by rw [hc]; decide
    simp only [BC, BD, if_neg (val0 h0), if_pos (is1 hc), dif_neg (eq0_neg h0), dif_pos (eq1_pos hc), Prog.bind_op, Prog.bind_ret, bind_assoc]
    iapply (close_w m ρ c (ks (0 : Fin 6)) (by decide) ((act_0 h0).2.2.2.2.1 _)) $$ [H232]
    · iclose
    iintro H250
    iapply (close_w m ρ c (vs (0 : Fin 6)) (by decide) ((act_0 h0).2.2.2.2.2 _)) $$ [H233]
    · iclose
    iintro H251
    iapply (close_w m ρ c (ks (1 : Fin 6)) (by decide) ((act_0 h0).2.2.2.2.1 _)) $$ [H234]
    · iclose
    iintro H252
    iapply (close_w m ρ c (vs (1 : Fin 6)) (by decide) ((act_0 h0).2.2.2.2.2 _)) $$ [H235]
    · iclose
    iintro H253
    iapply (close_w m ρ c (ks (2 : Fin 6)) (by decide) ((act_0 h0).2.2.2.2.1 _)) $$ [H236]
    · iclose
    iintro H254
    iapply (close_w m ρ c (vs (2 : Fin 6)) (by decide) ((act_0 h0).2.2.2.2.2 _)) $$ [H237]
    · iclose
    iintro H255
    iapply (close_w m ρ c (ks (3 : Fin 6)) (by decide) ((act_0 h0).2.2.2.2.1 _)) $$ [H238]
    · iclose
    iintro H256
    iapply (close_w m ρ c (vs (3 : Fin 6)) (by decide) ((act_0 h0).2.2.2.2.2 _)) $$ [H239]
    · iclose
    iintro H257
    iapply (close_w m ρ c (ks (4 : Fin 6)) (by decide) ((act_0 h0).2.2.2.2.1 _)) $$ [H240]
    · iclose
    iintro H258
    iapply (close_w m ρ c (vs (4 : Fin 6)) (by decide) ((act_0 h0).2.2.2.2.2 _)) $$ [H241]
    · iclose
    iintro H259
    iapply (close_w m ρ c (ks (5 : Fin 6)) (by decide) ((act_0 h0).2.2.2.2.1 _)) $$ [H242]
    · iclose
    iintro H260
    iapply (close_w m ρ c (vs (5 : Fin 6)) (by decide) ((act_0 h0).2.2.2.2.2 _)) $$ [H243]
    · iclose
    iintro H261
    icases H134 with ⟨H262, H263, H264, H265, H266, H267⟩
    iapply (WP_bind c _ _)
    iapply (part11_ok m ρ c ([]) hc rfl rfl rfl rfl ) $$ [HO H262 H244 H263 H245 H264 H246 H265 H247]
    · iclose
    iintro ⟨HO, H268, H269, H270, H271⟩
    try dsimp only
    iapply (wait_w m ρ c (bks (2 : Fin 3)) ([]) (iprop(emp)) rfl rfl (by subst hc; rfl) (fun _ => rfl) rfl) $$ [H266 HO H248]
    · iclose
    iintro ⟨HO, H272, -⟩
    iapply (wait_w m ρ c (bvs (2 : Fin 3)) ([]) (iprop(emp)) rfl rfl (by subst hc; rfl) (fun _ => rfl) rfl) $$ [H267 HO H249]
    · iclose
    iintro ⟨HO, H273, -⟩
    iapply (WP_ret c _)
    iapply Hk
    iclose
  · have h0 := hc
    have h1 := h
    simp only [BC, BD, if_neg (val0 h0), if_neg (val1 h1), dif_neg (eq0_neg h0), dif_neg (eq1_neg h1), Prog.bind_op, Prog.bind_ret, bind_assoc]
    iapply (close_w m ρ c (ks (0 : Fin 6)) (by decide) ((act_0 h0).2.2.2.2.1 _)) $$ [H232]
    · iclose
    iintro H250
    iapply (close_w m ρ c (vs (0 : Fin 6)) (by decide) ((act_0 h0).2.2.2.2.2 _)) $$ [H233]
    · iclose
    iintro H251
    iapply (close_w m ρ c (ks (1 : Fin 6)) (by decide) ((act_0 h0).2.2.2.2.1 _)) $$ [H234]
    · iclose
    iintro H252
    iapply (close_w m ρ c (vs (1 : Fin 6)) (by decide) ((act_0 h0).2.2.2.2.2 _)) $$ [H235]
    · iclose
    iintro H253
    iapply (close_w m ρ c (ks (2 : Fin 6)) (by decide) ((act_0 h0).2.2.2.2.1 _)) $$ [H236]
    · iclose
    iintro H254
    iapply (close_w m ρ c (vs (2 : Fin 6)) (by decide) ((act_0 h0).2.2.2.2.2 _)) $$ [H237]
    · iclose
    iintro H255
    iapply (close_w m ρ c (ks (3 : Fin 6)) (by decide) ((act_0 h0).2.2.2.2.1 _)) $$ [H238]
    · iclose
    iintro H256
    iapply (close_w m ρ c (vs (3 : Fin 6)) (by decide) ((act_0 h0).2.2.2.2.2 _)) $$ [H239]
    · iclose
    iintro H257
    iapply (close_w m ρ c (ks (4 : Fin 6)) (by decide) ((act_0 h0).2.2.2.2.1 _)) $$ [H240]
    · iclose
    iintro H258
    iapply (close_w m ρ c (vs (4 : Fin 6)) (by decide) ((act_0 h0).2.2.2.2.2 _)) $$ [H241]
    · iclose
    iintro H259
    iapply (close_w m ρ c (ks (5 : Fin 6)) (by decide) ((act_0 h0).2.2.2.2.1 _)) $$ [H242]
    · iclose
    iintro H260
    iapply (close_w m ρ c (vs (5 : Fin 6)) (by decide) ((act_0 h0).2.2.2.2.2 _)) $$ [H243]
    · iclose
    iintro H261
    iapply (close_w m ρ c (bks (0 : Fin 3)) (by decide) ((act_1 h1).2.2.2.2.1 _)) $$ [H244]
    · iclose
    iintro H262
    iapply (close_w m ρ c (bvs (0 : Fin 3)) (by decide) ((act_1 h1).2.2.2.2.2 _)) $$ [H245]
    · iclose
    iintro H263
    iapply (close_w m ρ c (bks (1 : Fin 3)) (by decide) ((act_1 h1).2.2.2.2.1 _)) $$ [H246]
    · iclose
    iintro H264
    iapply (close_w m ρ c (bvs (1 : Fin 3)) (by decide) ((act_1 h1).2.2.2.2.2 _)) $$ [H247]
    · iclose
    iintro H265
    iapply (close_w m ρ c (bks (2 : Fin 3)) (by decide) ((act_1 h1).2.2.2.2.1 _)) $$ [H248]
    · iclose
    iintro H266
    iapply (close_w m ρ c (bvs (2 : Fin 3)) (by decide) ((act_1 h1).2.2.2.2.2 _)) $$ [H249]
    · iclose
    iintro H267
    iapply (WP_ret c _)
    iapply Hk
    iclose

end Cert.KernelIdeal.Pf
-- ==== Proof.Pieces.lean ====
/-
# What a device starts with and ends with
-/
module

public import proofs.«01_k».proof.Proof.Cases

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! What the body is given, cut into the places it uses; and what it leaves, made whole. -/

theorem any_nx (c : Dev nD) (b : Ref sig .tc) (a : Fin b.ty.shape.rank) (k : ℕ) (hN : ∀ i : b.ty.Idx, (i a).val / k < 4) :
    (anyPt c b Finset.univ : sProp 𝕄) ⊢ iprop(anyPt c b (slotSet b a k c.val) ∗ anyPt c b (slotSet b a k (nx c (0 : Fin 3).val).val) ∗ anyPt c b (slotSet b a k (nx c (1 : Fin 3).val).val) ∗ anyPt c b (slotSet b a k (nx c (2 : Fin 3).val).val)) := by
  iintro ⟨%f, H⟩
  ihave H := (cut_nx c b a k hN fullShare f).mp $$ H
  icases H with ⟨H, H0, H1, H2⟩
  isplitl [H]; · iexists f; iexact H
  isplitl [H0]; · iexists f; iexact H0
  isplitl [H1]; · iexists f; iexact H1
  iexists f; iexact H2

theorem any_two (c : Dev nD) (b : Ref sig .tc) (a : Fin b.ty.shape.rank) (k : ℕ) (hN : ∀ i : b.ty.Idx, (i a).val / k < 2) :
    (anyPt c b Finset.univ : sProp 𝕄) ⊢ iprop(anyPt c b (slotSet b a k (0 : Fin 2).val) ∗ anyPt c b (slotSet b a k (1 : Fin 2).val)) := by
  iintro ⟨%f, H⟩
  ihave H := (cut_two c b a k hN fullShare f).mp $$ H
  icases H with ⟨H, H0⟩
  isplitl [H]; · iexists f; iexact H
  iexists f; iexact H0

theorem any_three (c : Dev nD) (b : Ref sig .tc) (a : Fin b.ty.shape.rank) (k : ℕ) (hN : ∀ i : b.ty.Idx, (i a).val / k < 3) :
    (anyPt c b Finset.univ : sProp 𝕄) ⊢ iprop(anyPt c b (slotSet b a k (0 : Fin 3).val) ∗ anyPt c b (slotSet b a k (1 : Fin 3).val) ∗ anyPt c b (slotSet b a k (2 : Fin 3).val)) := by
  iintro ⟨%f, H⟩
  ihave H := (cut_three c b a k hN fullShare f).mp $$ H
  icases H with ⟨H, H0, H1⟩
  isplitl [H]; · iexists f; iexact H
  isplitl [H0]; · iexists f; iexact H0
  iexists f; iexact H1

theorem any_four (c : Dev nD) (b : Ref sig .tc) (a : Fin b.ty.shape.rank) (k : ℕ) (hN : ∀ i : b.ty.Idx, (i a).val / k < 4) :
    (anyPt c b Finset.univ : sProp 𝕄) ⊢ iprop(anyPt c b (slotSet b a k (0 : Fin 4).val) ∗ anyPt c b (slotSet b a k (1 : Fin 4).val) ∗ anyPt c b (slotSet b a k (2 : Fin 4).val) ∗ anyPt c b (slotSet b a k (3 : Fin 4).val)) := by
  iintro ⟨%f, H⟩
  ihave H := (cut_four c b a k hN fullShare f).mp $$ H
  icases H with ⟨H, H0, H1, H2⟩
  isplitl [H]; · iexists f; iexact H
  isplitl [H0]; · iexists f; iexact H0
  isplitl [H1]; · iexists f; iexact H1
  iexists f; iexact H2

/-- A resource at device `n` alone, seen from device `c`. -/
theorem at_one (c : Dev nD) (n : Fin 4) (P : sProp 𝕄) :
    P ⊢ iprop((if c.val = n.val then P else iprop(emp)) ∗ (if (nx c (0 : Fin 3).val).val = n.val then P else iprop(emp)) ∗ (if (nx c (1 : Fin 3).val).val = n.val then P else iprop(emp)) ∗ (if (nx c (2 : Fin 3).val).val = n.val then P else iprop(emp))) := by
  refine BIBase.Entails.trans ?_ (bigSep_nx c (fun t : Dev nD => (if t.val = n.val then P else iprop(emp) : sProp 𝕄))).mp
  rw [bigSep_univ_at (fun t : Dev nD => (if t.val = n.val then P else iprop(emp) : sProp 𝕄)) n, if_pos rfl,
    bigSep_congr (Ψ := fun _ => (iprop(emp) : sProp 𝕄)) (fun t ht => if_neg (fun e => (Finset.mem_erase.mp ht).1 (Fin.ext e)))]
  iintro H
  isplitl [H]
  · iexact H
  iapply (BI.bigSep_of_persistent (Finset.univ.erase n) (iprop(emp) : sProp 𝕄))
  iempintro

theorem dist_self (c : Dev nD) (j : Fin 3) : dist c (nx c j.val) = (⟨2 - j.val, by omega⟩ : Fin 3).val := by revert c j; decide

/-- The chunk-0 buffers a device keeps for itself (device 0), the boundary buffers (device 1). -/
def KX (c : Dev nD) : sProp 𝕄 := if c.val = 0 then iprop(k0U c ∗ v0U c) else iprop(emp)
def BX (c : Dev nD) : sProp 𝕄 := if c.val = 1 then iprop(kbU c ∗ vbU c) else iprop(emp)

/-- The scratch buffers of a device, each with some contents. -/
abbrev scr (c : Dev nD) : sProp 𝕄 := iprop(k0U c ∗ v0U c ∗ kbU c ∗ vbU c ∗ anyPt c cc0_scratch4 Finset.univ ∗ anyPt c cc0_scratch5 Finset.univ ∗ anyPt c cc0_scratch6 Finset.univ
  ∗ anyPt c cc0_scratch7 Finset.univ ∗ anyPt c cc0_scratch8 Finset.univ ∗ anyPt c cc0_scratch9 Finset.univ ∗ anyPt c cc0_scratch10 Finset.univ ∗ anyPt c cc0_scratch11 Finset.univ ∗ anyPt c cc0_scratch12 Finset.univ)

/-- A device's scratch buffers and result buffer: what its three signals hand over, and what it keeps. -/
theorem hands (c : Dev nD) : iprop(scr c ∗ anyPt c cc0_stg3_0 Finset.univ)
    ⊢ (iprop((Hand c (nx c (0 : Fin 3).val) ∗ Hand c (nx c (1 : Fin 3).val) ∗ Hand c (nx c (2 : Fin 3).val)) ∗ q32A c c ∗ outA c c ∗ osA c
        ∗ (ksA c (0 : Fin 4) ∗ ksA c (1 : Fin 4)) ∗ (vsA c (0 : Fin 4) ∗ vsA c (1 : Fin 4))
        ∗ (paA c (0 : Fin 4).val ∗ paA c (1 : Fin 4).val ∗ paA c (2 : Fin 4).val ∗ paA c (3 : Fin 4).val)
        ∗ (plA c (0 : Fin 4).val ∗ plA c (1 : Fin 4).val ∗ plA c (2 : Fin 4).val ∗ plA c (3 : Fin 4).val) ∗ KX c ∗ BX c) : sProp 𝕄) := by
  iintro ⟨⟨HK0, HV0, HKB, HVB, HKS, HVS, HQ, HPA, HPL, HRA, HRL, HOS, HOB⟩, HOU⟩
  ihave HK := (at_one c (0 : Fin 4) iprop(k0U c ∗ v0U c)) $$ [HK0 HV0]
  · iclose
  ihave HB := (at_one c (1 : Fin 4) iprop(kbU c ∗ vbU c)) $$ [HKB HVB]
  · iclose
  ihave HKS := (any_two c cc0_scratch4 (0 : Fin 4) 1 lt_ks) $$ HKS
  ihave HVS := (any_two c cc0_scratch5 (0 : Fin 4) 1 lt_vs) $$ HVS
  ihave HQ := (any_nx c cc0_scratch6 (0 : Fin 3) 1 lt_q32) $$ HQ
  ihave HPA := (any_four c cc0_scratch7 (0 : Fin 4) 1 lt_pa) $$ HPA
  ihave HPL := (any_four c cc0_scratch8 (0 : Fin 3) 1 lt_pl) $$ HPL
  ihave HRA := (any_three c cc0_scratch9 (0 : Fin 4) 1 lt_ra) $$ HRA
  ihave HRL := (any_three c cc0_scratch10 (0 : Fin 3) 1 lt_rl) $$ HRL
  ihave HOB := (any_three c cc0_scratch12 (0 : Fin 3) 1 lt_ob) $$ HOB
  ihave HOU := (any_nx c cc0_stg3_0 (1 : Fin 3) 256 lt_out) $$ HOU
  icases HK with ⟨K, K0, K1, K2⟩
  icases HB with ⟨B, B0, B1, B2⟩
  icases HQ with ⟨Q, Q0, Q1, Q2⟩
  icases HRA with ⟨A2, A1, A0⟩
  icases HRL with ⟨L2, L1, L0⟩
  icases HOB with ⟨O2, O1, O0⟩
  icases HOU with ⟨U, U0, U1, U2⟩
  unfold Hand KX BX
  rw [dist_self c 0, dist_self c 1, dist_self c 2]
  isplitl [Q0 A0 L0 O0 U0 K0 B0 Q1 A1 L1 O1 U1 K1 B1 Q2 A2 L2 O2 U2 K2 B2]
  · isplitl [Q0 A0 L0 O0 U0 K0 B0]
    · isplitl [Q0]; · iexact Q0
      isplitl [A0]; · iexact A0
      isplitl [L0]; · iexact L0
      isplitl [O0]; · iexact O0
      isplitl [U0]; · iexact U0
      isplitl [K0]; · iexact K0
      iexact B0
    isplitl [Q1 A1 L1 O1 U1 K1 B1]
    · isplitl [Q1]; · iexact Q1
      isplitl [A1]; · iexact A1
      isplitl [L1]; · iexact L1
      isplitl [O1]; · iexact O1
      isplitl [U1]; · iexact U1
      isplitl [K1]; · iexact K1
      iexact B1
    isplitl [Q2]; · iexact Q2
    isplitl [A2]; · iexact A2
    isplitl [L2]; · iexact L2
    isplitl [O2]; · iexact O2
    isplitl [U2]; · iexact U2
    isplitl [K2]; · iexact K2
    iexact B2
  isplitl [Q]; · iexact Q
  isplitl [U]; · iexact U
  isplitl [HOS]; · iexact HOS
  isplitl [HKS]; · iexact HKS
  isplitl [HVS]; · iexact HVS
  isplitl [HPA]; · iexact HPA
  isplitl [HPL]; · iexact HPL
  isplitl [K]; · iexact K
  iexact B

/-- A buffer kept half whole and half by the devices' places is whole again. -/
theorem whole_nx (c : Dev nD) (b : Ref sig .tc) (a : Fin b.ty.shape.rank) (k : ℕ) (hN : ∀ i : b.ty.Idx, (i a).val / k < 4) (f : b.ty.Contents (Elt F)) :
    (iprop(pt c b Finset.univ fullShare.left f ∗ pt c b (slotSet b a k c.val) fullShare.right f ∗ pt c b (slotSet b a k (nx c (0 : Fin 3).val).val) fullShare.right f
      ∗ pt c b (slotSet b a k (nx c (1 : Fin 3).val).val) fullShare.right f ∗ pt c b (slotSet b a k (nx c (2 : Fin 3).val).val) fullShare.right f) : sProp 𝕄)
      ⊢ anyPt c b Finset.univ := by
  iintro ⟨H, HR⟩
  ihave HR := (cut_nx c b a k hN fullShare.right f).mpr $$ HR
  iexists f
  iapply (share2 c b Finset.univ f).mpr
  isplitl [H]; · iexact H
  iexact HR

theorem whole_q32 (c : Dev nD) :
    iprop(q32W m ρ c fullShare.left ∗ (q32P m ρ c c (shareR (0 : Fin 3)) ∗ q32P m ρ c c (shareR (1 : Fin 3)) ∗ q32P m ρ c c (shareR (2 : Fin 3)))
      ∗ q32P m ρ c (pv c (0 : Fin 3).val) fullShare.right ∗ q32P m ρ c (pv c (1 : Fin 3).val) fullShare.right ∗ q32P m ρ c (pv c (2 : Fin 3).val) fullShare.right)
      ⊢ anyPt c cc0_scratch6 Finset.univ := by
  iintro ⟨H, HS, R0, R1, R2⟩
  ihave H := (cut_pv c cc0_scratch6 (0 : Fin 3) 1 lt_q32 fullShare.left (Q32 m ρ)).mp $$ H
  icases H with ⟨L, L0, L1, L2⟩
  iexists (Q32 m ρ)
  iapply (cut_pv c cc0_scratch6 (0 : Fin 3) 1 lt_q32 fullShare (Q32 m ρ)).mpr
  isplitl [L HS]
  · iapply (share4 c cc0_scratch6 _ _).mpr
    isplitl [L]; · iexact L
    iexact HS
  isplitl [L0 R0]
  · iapply (share2 c cc0_scratch6 _ _).mpr
    isplitl [L0]; · iexact L0
    iexact R0
  isplitl [L1 R1]
  · iapply (share2 c cc0_scratch6 _ _).mpr
    isplitl [L1]; · iexact L1
    iexact R1
  iapply (share2 c cc0_scratch6 _ _).mpr
  isplitl [L2]; · iexact L2
  iexact R2

/-- The result, its quarters in. -/
theorem whole_out (c : Dev nD) :
    iprop((outP m ρ c c fullShare.left ∗ outP m ρ c c (shareR (0 : Fin 3)) ∗ outP m ρ c c (shareR (1 : Fin 3)) ∗ outP m ρ c c (shareR (2 : Fin 3)))
      ∗ outP m ρ c (pv c (0 : Fin 3).val) fullShare ∗ outP m ρ c (pv c (1 : Fin 3).val) fullShare ∗ outP m ρ c (pv c (2 : Fin 3).val) fullShare)
      ⊢ outW m ρ c := by
  iintro ⟨HS, R⟩
  iapply (cut_pv c cc0_stg3_0 (1 : Fin 3) 256 lt_out fullShare (OUT m ρ)).mpr
  isplitl [HS]
  · iapply (share4 c cc0_stg3_0 _ _).mpr
    iexact HS
  iexact R

/-- Two halves of a buffer, whatever each holds. -/
theorem whole_two (c : Dev nD) (b : Ref sig .tc) (a : Fin b.ty.shape.rank) (k : ℕ) (hN : ∀ i : b.ty.Idx, (i a).val / k < 2) (f g : b.ty.Contents (Elt F)) :
    (iprop(pt c b (slotSet b a k (0 : Fin 2).val) fullShare f ∗ pt c b (slotSet b a k (1 : Fin 2).val) fullShare g) : sProp 𝕄) ⊢ anyPt c b Finset.univ := by
  let h : b.ty.Contents (Elt F) := fun i => if (i a).val / k = 0 then f i else g i
  have e0 : (pt c b (slotSet b a k (0 : Fin 2).val) fullShare f : sProp 𝕄) = pt c b (slotSet b a k (0 : Fin 2).val) fullShare h :=
    pointsTo_congr fun i hi => (if_pos (show (i a).val / k = 0 from (Finset.mem_filter.mp hi).2)).symm
  have e1 : (pt c b (slotSet b a k (1 : Fin 2).val) fullShare g : sProp 𝕄) = pt c b (slotSet b a k (1 : Fin 2).val) fullShare h :=
    pointsTo_congr fun i hi => (if_neg (show ¬ (i a).val / k = 0 from fun e => by
      have := (Finset.mem_filter.mp hi).2; rw [e] at this; exact absurd this (by decide))).symm
  rw [e0, e1]
  iintro H
  iexists h
  iapply (cut_two c b a k hN fullShare h).mpr
  iexact H

end Cert.KernelIdeal.Pf
-- ==== Proof.Deal.lean ====
/-
# Tokens and credits, dealt to the devices
-/
module

public import proofs.«01_k».proof.Proof.Cases

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The semaphores' cells one by one; the tokens dealt to the devices that pay; the credits of the launch. -/

/-- A device's cells of the protocol, one by one. -/
theorem cells67 (Φ : GSem nD τ sig → sProp 𝕄) (c : Dev nD) : bigSep Finset.univ (fun k : Fin 67 => Φ (gcell (c, k)))
    = iprop(Φ (bar c) ∗ Φ (cell c (cp (0 : Fin 4))) ∗ Φ (cell c (cp (1 : Fin 4))) ∗ Φ (cell c (cp (2 : Fin 4))) ∗ Φ (cell c (cp (3 : Fin 4))) ∗ Φ (cell c (kg (0 : Fin 4))) ∗ Φ (cell c (kg (1 : Fin 4)))
    ∗ Φ (cell c (kg (2 : Fin 4))) ∗ Φ (cell c (kg (3 : Fin 4))) ∗ Φ (cell c (vg (0 : Fin 4))) ∗ Φ (cell c (vg (1 : Fin 4))) ∗ Φ (cell c (vg (2 : Fin 4))) ∗ Φ (cell c (vg (3 : Fin 4)))
    ∗ Φ (cell c (qs (0 : Fin 3))) ∗ Φ (cell c (qs (1 : Fin 3))) ∗ Φ (cell c (qs (2 : Fin 3))) ∗ Φ (cell c (qr (0 : Fin 3))) ∗ Φ (cell c (qr (1 : Fin 3))) ∗ Φ (cell c (qr (2 : Fin 3)))
    ∗ Φ (cell c (ks (0 : Fin 6))) ∗ Φ (cell c (ks (1 : Fin 6))) ∗ Φ (cell c (ks (2 : Fin 6))) ∗ Φ (cell c (ks (3 : Fin 6))) ∗ Φ (cell c (ks (4 : Fin 6))) ∗ Φ (cell c (ks (5 : Fin 6)))
    ∗ Φ (cell c (vs (0 : Fin 6))) ∗ Φ (cell c (vs (1 : Fin 6))) ∗ Φ (cell c (vs (2 : Fin 6))) ∗ Φ (cell c (vs (3 : Fin 6))) ∗ Φ (cell c (vs (4 : Fin 6))) ∗ Φ (cell c (vs (5 : Fin 6)))
    ∗ Φ (cell c (kr (0 : Fin 2))) ∗ Φ (cell c (kr (1 : Fin 2))) ∗ Φ (cell c (vr (0 : Fin 2))) ∗ Φ (cell c (vr (1 : Fin 2))) ∗ Φ (cell c (bks (0 : Fin 3))) ∗ Φ (cell c (bks (1 : Fin 3)))
    ∗ Φ (cell c (bks (2 : Fin 3))) ∗ Φ (cell c (bvs (0 : Fin 3))) ∗ Φ (cell c (bvs (1 : Fin 3))) ∗ Φ (cell c (bvs (2 : Fin 3))) ∗ Φ (cell c bkr) ∗ Φ (cell c bvr)
    ∗ Φ (cell c (pas (0 : Fin 3))) ∗ Φ (cell c (pas (1 : Fin 3))) ∗ Φ (cell c (pas (2 : Fin 3))) ∗ Φ (cell c (par (0 : Fin 3))) ∗ Φ (cell c (par (1 : Fin 3))) ∗ Φ (cell c (par (2 : Fin 3)))
    ∗ Φ (cell c (pls (0 : Fin 3))) ∗ Φ (cell c (pls (1 : Fin 3))) ∗ Φ (cell c (pls (2 : Fin 3))) ∗ Φ (cell c (plr (0 : Fin 3))) ∗ Φ (cell c (plr (1 : Fin 3))) ∗ Φ (cell c (plr (2 : Fin 3)))
    ∗ Φ (cell c (os (0 : Fin 3))) ∗ Φ (cell c (os (1 : Fin 3))) ∗ Φ (cell c (os (2 : Fin 3))) ∗ Φ (cell c (orv (0 : Fin 3))) ∗ Φ (cell c (orv (1 : Fin 3))) ∗ Φ (cell c (orv (2 : Fin 3)))
    ∗ Φ (cell c (ags (0 : Fin 3))) ∗ Φ (cell c (ags (1 : Fin 3))) ∗ Φ (cell c (ags (2 : Fin 3))) ∗ Φ (cell c (agr (0 : Fin 3))) ∗ Φ (cell c (agr (1 : Fin 3))) ∗ Φ (cell c (agr (2 : Fin 3)))) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66] (by decide) (by decide)]
  rfl

/-- The tokens a device keeps: those of its own copies' and transfers' completions. -/
def OWN (c : Dev nD) : sProp 𝕄 := iprop(tok c (cp (0 : Fin 4)) ∗ tok c (cp (1 : Fin 4)) ∗ tok c (cp (2 : Fin 4)) ∗ tok c (cp (3 : Fin 4)) ∗ tok c (kg (0 : Fin 4)) ∗ tok c (kg (1 : Fin 4))
    ∗ tok c (kg (2 : Fin 4)) ∗ tok c (kg (3 : Fin 4)) ∗ tok c (vg (0 : Fin 4)) ∗ tok c (vg (1 : Fin 4)) ∗ tok c (vg (2 : Fin 4)) ∗ tok c (vg (3 : Fin 4))
    ∗ tok c (qs (0 : Fin 3)) ∗ tok c (qs (1 : Fin 3)) ∗ tok c (qs (2 : Fin 3)) ∗ tok c (ks (0 : Fin 6)) ∗ tok c (ks (1 : Fin 6)) ∗ tok c (ks (2 : Fin 6))
    ∗ tok c (ks (3 : Fin 6)) ∗ tok c (ks (4 : Fin 6)) ∗ tok c (ks (5 : Fin 6)) ∗ tok c (vs (0 : Fin 6)) ∗ tok c (vs (1 : Fin 6)) ∗ tok c (vs (2 : Fin 6))
    ∗ tok c (vs (3 : Fin 6)) ∗ tok c (vs (4 : Fin 6)) ∗ tok c (vs (5 : Fin 6)) ∗ tok c (bks (0 : Fin 3)) ∗ tok c (bks (1 : Fin 3)) ∗ tok c (bks (2 : Fin 3))
    ∗ tok c (bvs (0 : Fin 3)) ∗ tok c (bvs (1 : Fin 3)) ∗ tok c (bvs (2 : Fin 3)) ∗ tok c (pas (0 : Fin 3)) ∗ tok c (pas (1 : Fin 3)) ∗ tok c (pas (2 : Fin 3))
    ∗ tok c (pls (0 : Fin 3)) ∗ tok c (pls (1 : Fin 3)) ∗ tok c (pls (2 : Fin 3)) ∗ tok c (os (0 : Fin 3)) ∗ tok c (os (1 : Fin 3)) ∗ tok c (os (2 : Fin 3))
    ∗ tok c (ags (0 : Fin 3)) ∗ tok c (ags (1 : Fin 3)) ∗ tok c (ags (2 : Fin 3)))

/-- The tokens that go to the device that pays them: of the barrier and of what lands from the device `j` places back. -/
def FOR (c d : Dev nD) (j : Fin 3) : sProp 𝕄 := iprop(tokB c d ∗ tok c (qr j) ∗ tok c (par j) ∗ tok c (plr j) ∗ tok c (orv j) ∗ tok c (agr j))
/-- And those that go to devices 0 and 1. -/
def FK (c : Dev nD) : sProp 𝕄 := iprop(tok c (kr (0 : Fin 2)) ∗ tok c (kr (1 : Fin 2)) ∗ tok c (vr (0 : Fin 2)) ∗ tok c (vr (1 : Fin 2)))
def FB (c : Dev nD) : sProp 𝕄 := iprop(tok c bkr ∗ tok c bvr)

theorem tok_zero (g : GSem nD τ sig) : (bigSep Finset.univ fun d : Dev nD => (dutyTok ER g 0 d : sProp 𝕄)) ⊢ dutyTok ER g 0 (0 : Dev nD) :=
  bigSep_elim (Finset.mem_univ _)

theorem tok_bar (c : Dev nD) : (bigSep Finset.univ fun d : Dev nD => (dutyTok ER (bar c) 0 d : sProp 𝕄))
    ⊢ iprop(tokB c (pv c (0 : Fin 3).val) ∗ tokB c (pv c (1 : Fin 3).val) ∗ tokB c (pv c (2 : Fin 3).val)) := by
  iintro H
  ihave H := (bigSep_pv c (fun d : Dev nD => (dutyTok ER (bar c) 0 d : sProp 𝕄))).mp $$ H
  icases H with ⟨-, H⟩
  iexact H

/-- A device's tokens, sorted. -/
theorem sort_toks (c : Dev nD) : (bigSep Finset.univ fun k : Fin 67 => bigSep Finset.univ fun d : Dev nD => (dutyTok ER (gcell (c, k)) 0 d : sProp 𝕄))
    ⊢ iprop(OWN c ∗ FOR c (pv c (0 : Fin 3).val) (0 : Fin 3) ∗ FOR c (pv c (1 : Fin 3).val) (1 : Fin 3) ∗ FOR c (pv c (2 : Fin 3).val) (2 : Fin 3) ∗ FK c ∗ FB c) := by
  rw [cells67 (fun g => bigSep Finset.univ fun d : Dev nD => (dutyTok ER g 0 d : sProp 𝕄)) c]
  iintro ⟨TB, Tcp0_4, Tcp1_4, Tcp2_4, Tcp3_4, Tkg0_4, Tkg1_4, Tkg2_4, Tkg3_4, Tvg0_4, Tvg1_4, Tvg2_4, Tvg3_4, Tqs0_3, Tqs1_3, Tqs2_3, Tqr0_3, Tqr1_3, Tqr2_3, Tks0_6, Tks1_6, Tks2_6, Tks3_6, Tks4_6, Tks5_6, Tvs0_6, Tvs1_6, Tvs2_6, Tvs3_6, Tvs4_6, Tvs5_6, Tkr0_2, Tkr1_2, Tvr0_2, Tvr1_2, Tbks0_3, Tbks1_3, Tbks2_3, Tbvs0_3, Tbvs1_3, Tbvs2_3, Tbkr, Tbvr, Tpas0_3, Tpas1_3, Tpas2_3, Tpar0_3, Tpar1_3, Tpar2_3, Tpls0_3, Tpls1_3, Tpls2_3, Tplr0_3, Tplr1_3, Tplr2_3, Tos0_3, Tos1_3, Tos2_3, Torv0_3, Torv1_3, Torv2_3, Tags0_3, Tags1_3, Tags2_3, Tagr0_3, Tagr1_3, Tagr2_3⟩
  ihave TB := (tok_bar c) $$ TB
  icases TB with ⟨TB0, TB1, TB2⟩
  ihave Tcp0_4 := (tok_zero (cell c (cp (0 : Fin 4)))) $$ Tcp0_4
  ihave Tcp1_4 := (tok_zero (cell c (cp (1 : Fin 4)))) $$ Tcp1_4
  ihave Tcp2_4 := (tok_zero (cell c (cp (2 : Fin 4)))) $$ Tcp2_4
  ihave Tcp3_4 := (tok_zero (cell c (cp (3 : Fin 4)))) $$ Tcp3_4
  ihave Tkg0_4 := (tok_zero (cell c (kg (0 : Fin 4)))) $$ Tkg0_4
  ihave Tkg1_4 := (tok_zero (cell c (kg (1 : Fin 4)))) $$ Tkg1_4
  ihave Tkg2_4 := (tok_zero (cell c (kg (2 : Fin 4)))) $$ Tkg2_4
  ihave Tkg3_4 := (tok_zero (cell c (kg (3 : Fin 4)))) $$ Tkg3_4
  ihave Tvg0_4 := (tok_zero (cell c (vg (0 : Fin 4)))) $$ Tvg0_4
  ihave Tvg1_4 := (tok_zero (cell c (vg (1 : Fin 4)))) $$ Tvg1_4
  ihave Tvg2_4 := (tok_zero (cell c (vg (2 : Fin 4)))) $$ Tvg2_4
  ihave Tvg3_4 := (tok_zero (cell c (vg (3 : Fin 4)))) $$ Tvg3_4
  ihave Tqs0_3 := (tok_zero (cell c (qs (0 : Fin 3)))) $$ Tqs0_3
  ihave Tqs1_3 := (tok_zero (cell c (qs (1 : Fin 3)))) $$ Tqs1_3
  ihave Tqs2_3 := (tok_zero (cell c (qs (2 : Fin 3)))) $$ Tqs2_3
  ihave Tqr0_3 := (tok_zero (cell c (qr (0 : Fin 3)))) $$ Tqr0_3
  ihave Tqr1_3 := (tok_zero (cell c (qr (1 : Fin 3)))) $$ Tqr1_3
  ihave Tqr2_3 := (tok_zero (cell c (qr (2 : Fin 3)))) $$ Tqr2_3
  ihave Tks0_6 := (tok_zero (cell c (ks (0 : Fin 6)))) $$ Tks0_6
  ihave Tks1_6 := (tok_zero (cell c (ks (1 : Fin 6)))) $$ Tks1_6
  ihave Tks2_6 := (tok_zero (cell c (ks (2 : Fin 6)))) $$ Tks2_6
  ihave Tks3_6 := (tok_zero (cell c (ks (3 : Fin 6)))) $$ Tks3_6
  ihave Tks4_6 := (tok_zero (cell c (ks (4 : Fin 6)))) $$ Tks4_6
  ihave Tks5_6 := (tok_zero (cell c (ks (5 : Fin 6)))) $$ Tks5_6
  ihave Tvs0_6 := (tok_zero (cell c (vs (0 : Fin 6)))) $$ Tvs0_6
  ihave Tvs1_6 := (tok_zero (cell c (vs (1 : Fin 6)))) $$ Tvs1_6
  ihave Tvs2_6 := (tok_zero (cell c (vs (2 : Fin 6)))) $$ Tvs2_6
  ihave Tvs3_6 := (tok_zero (cell c (vs (3 : Fin 6)))) $$ Tvs3_6
  ihave Tvs4_6 := (tok_zero (cell c (vs (4 : Fin 6)))) $$ Tvs4_6
  ihave Tvs5_6 := (tok_zero (cell c (vs (5 : Fin 6)))) $$ Tvs5_6
  ihave Tkr0_2 := (tok_zero (cell c (kr (0 : Fin 2)))) $$ Tkr0_2
  ihave Tkr1_2 := (tok_zero (cell c (kr (1 : Fin 2)))) $$ Tkr1_2
  ihave Tvr0_2 := (tok_zero (cell c (vr (0 : Fin 2)))) $$ Tvr0_2
  ihave Tvr1_2 := (tok_zero (cell c (vr (1 : Fin 2)))) $$ Tvr1_2
  ihave Tbks0_3 := (tok_zero (cell c (bks (0 : Fin 3)))) $$ Tbks0_3
  ihave Tbks1_3 := (tok_zero (cell c (bks (1 : Fin 3)))) $$ Tbks1_3
  ihave Tbks2_3 := (tok_zero (cell c (bks (2 : Fin 3)))) $$ Tbks2_3
  ihave Tbvs0_3 := (tok_zero (cell c (bvs (0 : Fin 3)))) $$ Tbvs0_3
  ihave Tbvs1_3 := (tok_zero (cell c (bvs (1 : Fin 3)))) $$ Tbvs1_3
  ihave Tbvs2_3 := (tok_zero (cell c (bvs (2 : Fin 3)))) $$ Tbvs2_3
  ihave Tbkr := (tok_zero (cell c bkr)) $$ Tbkr
  ihave Tbvr := (tok_zero (cell c bvr)) $$ Tbvr
  ihave Tpas0_3 := (tok_zero (cell c (pas (0 : Fin 3)))) $$ Tpas0_3
  ihave Tpas1_3 := (tok_zero (cell c (pas (1 : Fin 3)))) $$ Tpas1_3
  ihave Tpas2_3 := (tok_zero (cell c (pas (2 : Fin 3)))) $$ Tpas2_3
  ihave Tpar0_3 := (tok_zero (cell c (par (0 : Fin 3)))) $$ Tpar0_3
  ihave Tpar1_3 := (tok_zero (cell c (par (1 : Fin 3)))) $$ Tpar1_3
  ihave Tpar2_3 := (tok_zero (cell c (par (2 : Fin 3)))) $$ Tpar2_3
  ihave Tpls0_3 := (tok_zero (cell c (pls (0 : Fin 3)))) $$ Tpls0_3
  ihave Tpls1_3 := (tok_zero (cell c (pls (1 : Fin 3)))) $$ Tpls1_3
  ihave Tpls2_3 := (tok_zero (cell c (pls (2 : Fin 3)))) $$ Tpls2_3
  ihave Tplr0_3 := (tok_zero (cell c (plr (0 : Fin 3)))) $$ Tplr0_3
  ihave Tplr1_3 := (tok_zero (cell c (plr (1 : Fin 3)))) $$ Tplr1_3
  ihave Tplr2_3 := (tok_zero (cell c (plr (2 : Fin 3)))) $$ Tplr2_3
  ihave Tos0_3 := (tok_zero (cell c (os (0 : Fin 3)))) $$ Tos0_3
  ihave Tos1_3 := (tok_zero (cell c (os (1 : Fin 3)))) $$ Tos1_3
  ihave Tos2_3 := (tok_zero (cell c (os (2 : Fin 3)))) $$ Tos2_3
  ihave Torv0_3 := (tok_zero (cell c (orv (0 : Fin 3)))) $$ Torv0_3
  ihave Torv1_3 := (tok_zero (cell c (orv (1 : Fin 3)))) $$ Torv1_3
  ihave Torv2_3 := (tok_zero (cell c (orv (2 : Fin 3)))) $$ Torv2_3
  ihave Tags0_3 := (tok_zero (cell c (ags (0 : Fin 3)))) $$ Tags0_3
  ihave Tags1_3 := (tok_zero (cell c (ags (1 : Fin 3)))) $$ Tags1_3
  ihave Tags2_3 := (tok_zero (cell c (ags (2 : Fin 3)))) $$ Tags2_3
  ihave Tagr0_3 := (tok_zero (cell c (agr (0 : Fin 3)))) $$ Tagr0_3
  ihave Tagr1_3 := (tok_zero (cell c (agr (1 : Fin 3)))) $$ Tagr1_3
  ihave Tagr2_3 := (tok_zero (cell c (agr (2 : Fin 3)))) $$ Tagr2_3
  unfold OWN FOR FK FB
  iclose

/-- The devices, each moved `j + 1` places on. -/
def rot (j : Fin 3) : Dev nD ≃ Dev nD := ⟨fun c => nx c j.val, fun c => pv c j.val, fun c => by revert c j; decide, fun c => by revert c j; decide⟩

theorem rotate (j : Fin 3) : (bigSep Finset.univ fun c : Dev nD => (FOR c (pv c j.val) j : sProp 𝕄)) = bigSep Finset.univ fun c : Dev nD => FOR (nx c j.val) c j := by
  rw [bigSep_univ_equiv (rot j) (fun c : Dev nD => (FOR c (pv c j.val) j : sProp 𝕄))]
  exact bigSep_congr fun c _ => by
    show FOR (nx c j.val) (pv (nx c j.val) j.val) j = FOR (nx c j.val) c j
    rw [show pv (nx c j.val) j.val = c from (rot j).left_inv c]

/-- All of one kind go to device `n`. -/
theorem gather (n : Dev nD) (P Q : Dev nD → sProp 𝕄) (h : iprop(P 0 ∗ P 1 ∗ P 2 ∗ P 3) ⊢ Q n) :
    bigSep Finset.univ P ⊢ bigSep Finset.univ fun c : Dev nD => (if c.val = n.val then Q c else iprop(emp) : sProp 𝕄) := by
  refine ((bigSep_four P).mp.trans h).trans ?_
  rw [bigSep_univ_at (fun t : Dev nD => (if t.val = n.val then Q t else iprop(emp) : sProp 𝕄)) n, if_pos rfl,
    bigSep_congr (Ψ := fun _ => (iprop(emp) : sProp 𝕄)) (fun t ht => if_neg (fun e => (Finset.mem_erase.mp ht).1 (Fin.ext e)))]
  iintro H
  isplitl [H]
  · iexact H
  iapply (BI.bigSep_of_persistent (Finset.univ.erase n) (iprop(emp) : sProp 𝕄))
  iempintro

/-- What device 0, and what device 1, pays the other three. -/
def GK : sProp 𝕄 := iprop(FK (1 : Dev nD) ∗ FK (2 : Dev nD) ∗ FK (3 : Dev nD))
def GB : sProp 𝕄 := iprop(FB (2 : Dev nD) ∗ FB (3 : Dev nD) ∗ FB (0 : Dev nD))

/-- The tokens a device pays with. -/
def PAY (c : Dev nD) : sProp 𝕄 := iprop(OWN c ∗ FOR (nx c (0 : Fin 3).val) c (0 : Fin 3) ∗ FOR (nx c (1 : Fin 3).val) c (1 : Fin 3) ∗ FOR (nx c (2 : Fin 3).val) c (2 : Fin 3)
    ∗ (if c.val = (0 : Dev nD).val then GK else iprop(emp)) ∗ (if c.val = (1 : Dev nD).val then GB else iprop(emp)))

/-- The tokens dealt around. -/
theorem deal : (bigSep Finset.univ fun c : Dev nD => bigSep Finset.univ fun k : Fin 67 => bigSep Finset.univ fun d : Dev nD => (dutyTok ER (gcell (c, k)) 0 d : sProp 𝕄))
    ⊢ bigSep Finset.univ fun c : Dev nD => (PAY c : sProp 𝕄) := by
  refine BIBase.Entails.trans (bigSep_mono fun c _ => sort_toks c) ?_
  unfold PAY
  simp only [bigSep_sep', rotate]
  iintro ⟨HO, H0, H1, H2, HK, HB⟩
  ihave HK := (gather (0 : Dev nD) FK (fun _ => GK) (by unfold GK; iintro ⟨-, H⟩; iexact H)) $$ HK
  ihave HB := (gather (1 : Dev nD) FB (fun _ => GB) (by unfold GB; iintro ⟨H0, -, H2, H3⟩; iclose)) $$ HB
  isplitl [HO]; · iexact HO
  isplitl [H0]; · iexact H0
  isplitl [H1]; · iexact H1
  isplitl [H2]; · iexact H2
  isplitl [HK]; · iexact HK
  iexact HB

/-! ## The launch credit -/

/-- What a device owes at the start. -/
abbrev O₀ (c : Dev nD) : CellTallies nD τ sig Unit := tly (D0 c)

theorem dCell_inj {p q : Dev nD × Option CK} (h : dCell p.1 p.2 = dCell q.1 q.2) : p = q := by
  obtain ⟨c, o⟩ := p
  obtain ⟨d, o'⟩ := q
  have hc : c = d := by
    have := congrArg (fun g : GSem nD τ sig => g.1.1) h
    cases o <;> cases o' <;> exact this
  subst hc
  have hs := congrArg Prod.snd h
  cases o with
  | none => cases o' with
    | none => rfl
    | some k' => exact absurd hs (fun e => by cases e)
  | some k => cases o' with
    | none => exact absurd hs (fun e => by cases e)
    | some k' => rw [ix_inj (SemLoc.dma.inj hs)]

theorem tly_apply (l : List (Dev nD × Option CK)) (p : Dev nD × Option CK) : tly l (dCell p.1 p.2) () = l.count p * dAmt p.2 := by
  induction l with
  | nil => exact (Nat.zero_mul _).symm
  | cons q l ih =>
    show (tly l + tallyAt (dCell q.1 q.2) () (dAmt q.2)) (dCell p.1 p.2) () = _
    rw [Pi.add_apply, Finsupp.add_apply, ih, tallyAt_apply]
    by_cases h : p = q
    · subst h
      rw [if_pos ⟨rfl, rfl⟩, List.count_cons_self, Nat.add_mul, Nat.one_mul]
    · rw [if_neg (fun e => h (dCell_inj e.1)), List.count_cons_of_ne (fun e => h e.symm), Nat.add_zero]

/-- The credit of a cell at the launch: one amount for each time it is owed. -/
theorem launch_at (p : Dev nD × Option CK) (n : ℕ) (h : ∑ d : Dev nD, (D0 d).count p = n) :
    tallyOn (dCell p.1 p.2) (launchCredit (Pipeline.owing O₀) 0 (dCell p.1 p.2)) = (tallyAt (dCell p.1 p.2) () (n * dAmt p.2) : CellTallies nD τ sig Unit) := by
  unfold tallyAt; refine congrArg _ (Finsupp.ext fun u => ?_); cases u
  rw [Pipeline.launchCredit_owing, Finset.sum_congr rfl fun d _ => tly_apply (D0 d) p, ← Finset.sum_mul, h, Finsupp.single_eq_same]

theorem osem_inj : Function.Injective osem := by
  intro k k' h
  unfold osem at h
  split_ifs at h with h1 h2 h2
  · exact Fin.ext (h1.trans h2.symm)
  · have := congrArg Fin.val (SemLoc.dma.inj h)
    exact Fin.ext (Nat.add_right_cancel this)

/-- The credits a device starts with. -/
def CR (c : Dev nD) : sProp 𝕄 := iprop(cred (tallyAt (bar c) () 3)
    ∗ crd c (qr (0 : Fin 3)) ∗ crd c (qr (1 : Fin 3)) ∗ crd c (qr (2 : Fin 3)) ∗ crd c (par (0 : Fin 3)) ∗ crd c (par (1 : Fin 3)) ∗ crd c (par (2 : Fin 3))
    ∗ crd c (plr (0 : Fin 3)) ∗ crd c (plr (1 : Fin 3)) ∗ crd c (plr (2 : Fin 3)) ∗ crd c (orv (0 : Fin 3)) ∗ crd c (orv (1 : Fin 3)) ∗ crd c (orv (2 : Fin 3))
    ∗ crd c (agr (0 : Fin 3)) ∗ crd c (agr (1 : Fin 3)) ∗ crd c (agr (2 : Fin 3))
    ∗ RA0 c ∗ RB1 c)

/-- The credit of what is paid once. -/
theorem crd_of (c : Dev nD) (k : CK) (h : ∑ d : Dev nD, (D0 d).count (c, some k) = 1) :
    (cred (tallyOn (cell c k) (launchCredit (Pipeline.owing O₀) 0 (cell c k))) : sProp 𝕄) ⊢ crd c k := by
  have e := launch_at (c, some k) 1 h
  rw [show dCell (c, some k).1 (c, some k).2 = cell c k from rfl, Nat.one_mul] at e
  rw [e]
  exact BIBase.Entails.rfl

theorem cnt_qr (c : Dev nD) (j : Fin 3) : ∑ d : Dev nD, (D0 d).count (c, some (qr j)) = 1 := by revert c j; decide +kernel
theorem cnt_par (c : Dev nD) (j : Fin 3) : ∑ d : Dev nD, (D0 d).count (c, some (par j)) = 1 := by revert c j; decide +kernel
theorem cnt_plr (c : Dev nD) (j : Fin 3) : ∑ d : Dev nD, (D0 d).count (c, some (plr j)) = 1 := by revert c j; decide +kernel
theorem cnt_orv (c : Dev nD) (j : Fin 3) : ∑ d : Dev nD, (D0 d).count (c, some (orv j)) = 1 := by revert c j; decide +kernel
theorem cnt_agr (c : Dev nD) (j : Fin 3) : ∑ d : Dev nD, (D0 d).count (c, some (agr j)) = 1 := by revert c j; decide +kernel
theorem cnt_kr (c : Dev nD) (h : ¬ c.val = 0) (j : Fin 2) : ∑ d : Dev nD, (D0 d).count (c, some (kr j)) = 1 := by revert c j; decide +kernel
theorem cnt_vr (c : Dev nD) (h : ¬ c.val = 0) (j : Fin 2) : ∑ d : Dev nD, (D0 d).count (c, some (vr j)) = 1 := by revert c j; decide +kernel
theorem cnt_bkr (c : Dev nD) (h : ¬ c.val = 1) : ∑ d : Dev nD, (D0 d).count (c, some bkr) = 1 := by revert c; decide +kernel
theorem cnt_bvr (c : Dev nD) (h : ¬ c.val = 1) : ∑ d : Dev nD, (D0 d).count (c, some bvr) = 1 := by revert c; decide +kernel
theorem cnt_bar (c : Dev nD) : ∑ d : Dev nD, (D0 d).count (c, none) = 3 := by revert c; decide +kernel

theorem cred_bar (c : Dev nD) :
    (cred (tallyOn (bar c) (launchCredit (Pipeline.owing O₀) 0 (bar c))) : sProp 𝕄) ⊢ cred (tallyAt (bar c) () 3) := by
  have e := launch_at (c, none) 3 (cnt_bar c)
  rw [show dCell (c, none).1 (c, none).2 = bar c from rfl] at e
  rw [e]
  exact BIBase.Entails.rfl

/-- The launch's credits on the protocol's cells. -/
theorem launch_cells (c : Dev nD) : (Pipeline.launchCred O₀ c : sProp 𝕄)
    ⊢ bigSep Finset.univ fun k : Fin 67 => cred (tallyOn (gcell (c, k)) (launchCredit (Pipeline.owing O₀) 0 (gcell (c, k)))) := by
  unfold Pipeline.launchCred
  exact BIBase.Entails.trans (bigSep_subset (Finset.subset_univ (Finset.univ.map ⟨osem, osem_inj⟩)))
    (Entails.of_eq (bigSep_map ⟨osem, osem_inj⟩ (Φ := fun sm : SemLoc sig => (cred (tallyOn ((c : Thread nD τ), sm) (launchCredit (Pipeline.owing O₀) 0 ((c : Thread nD τ), sm))) : sProp 𝕄))))

theorem credits (c : Dev nD) : (Pipeline.launchCred O₀ c : sProp 𝕄) ⊢ CR c := by
  refine BIBase.Entails.trans (launch_cells c) ?_
  rw [cells67 (fun g => (cred (tallyOn g (launchCredit (Pipeline.owing O₀) 0 g)) : sProp 𝕄)) c]
  iintro ⟨TB, Tcp0_4, Tcp1_4, Tcp2_4, Tcp3_4, Tkg0_4, Tkg1_4, Tkg2_4, Tkg3_4, Tvg0_4, Tvg1_4, Tvg2_4, Tvg3_4, Tqs0_3, Tqs1_3, Tqs2_3, Tqr0_3, Tqr1_3, Tqr2_3, Tks0_6, Tks1_6, Tks2_6, Tks3_6, Tks4_6, Tks5_6, Tvs0_6, Tvs1_6, Tvs2_6, Tvs3_6, Tvs4_6, Tvs5_6, Tkr0_2, Tkr1_2, Tvr0_2, Tvr1_2, Tbks0_3, Tbks1_3, Tbks2_3, Tbvs0_3, Tbvs1_3, Tbvs2_3, Tbkr, Tbvr, Tpas0_3, Tpas1_3, Tpas2_3, Tpar0_3, Tpar1_3, Tpar2_3, Tpls0_3, Tpls1_3, Tpls2_3, Tplr0_3, Tplr1_3, Tplr2_3, Tos0_3, Tos1_3, Tos2_3, Torv0_3, Torv1_3, Torv2_3, Tags0_3, Tags1_3, Tags2_3, Tagr0_3, Tagr1_3, Tagr2_3⟩
  ihave TB := (cred_bar c) $$ TB
  ihave Tqr0_3 := (crd_of c (qr (0 : Fin 3)) (cnt_qr c _)) $$ Tqr0_3
  ihave Tqr1_3 := (crd_of c (qr (1 : Fin 3)) (cnt_qr c _)) $$ Tqr1_3
  ihave Tqr2_3 := (crd_of c (qr (2 : Fin 3)) (cnt_qr c _)) $$ Tqr2_3
  ihave Tpar0_3 := (crd_of c (par (0 : Fin 3)) (cnt_par c _)) $$ Tpar0_3
  ihave Tpar1_3 := (crd_of c (par (1 : Fin 3)) (cnt_par c _)) $$ Tpar1_3
  ihave Tpar2_3 := (crd_of c (par (2 : Fin 3)) (cnt_par c _)) $$ Tpar2_3
  ihave Tplr0_3 := (crd_of c (plr (0 : Fin 3)) (cnt_plr c _)) $$ Tplr0_3
  ihave Tplr1_3 := (crd_of c (plr (1 : Fin 3)) (cnt_plr c _)) $$ Tplr1_3
  ihave Tplr2_3 := (crd_of c (plr (2 : Fin 3)) (cnt_plr c _)) $$ Tplr2_3
  ihave Torv0_3 := (crd_of c (orv (0 : Fin 3)) (cnt_orv c _)) $$ Torv0_3
  ihave Torv1_3 := (crd_of c (orv (1 : Fin 3)) (cnt_orv c _)) $$ Torv1_3
  ihave Torv2_3 := (crd_of c (orv (2 : Fin 3)) (cnt_orv c _)) $$ Torv2_3
  ihave Tagr0_3 := (crd_of c (agr (0 : Fin 3)) (cnt_agr c _)) $$ Tagr0_3
  ihave Tagr1_3 := (crd_of c (agr (1 : Fin 3)) (cnt_agr c _)) $$ Tagr1_3
  ihave Tagr2_3 := (crd_of c (agr (2 : Fin 3)) (cnt_agr c _)) $$ Tagr2_3
  ihave HA : (RA0 c) $$ [Tkr0_2 Tkr1_2 Tvr0_2 Tvr1_2]
  · unfold RA0
    by_cases h : c.val = 0
    · rw [if_pos h]
      iempintro
    · rw [if_neg h]
      ihave Tkr0_2 := (crd_of c (kr (0 : Fin 2)) (cnt_kr c h _)) $$ Tkr0_2
      ihave Tkr1_2 := (crd_of c (kr (1 : Fin 2)) (cnt_kr c h _)) $$ Tkr1_2
      ihave Tvr0_2 := (crd_of c (vr (0 : Fin 2)) (cnt_vr c h _)) $$ Tvr0_2
      ihave Tvr1_2 := (crd_of c (vr (1 : Fin 2)) (cnt_vr c h _)) $$ Tvr1_2
      iclose
  ihave HB : (RB1 c) $$ [Tbkr Tbvr]
  · unfold RB1
    by_cases h : c.val = 1
    · rw [if_pos h]
      iempintro
    · rw [if_neg h]
      ihave Tbkr := (crd_of c bkr (cnt_bkr c h)) $$ Tbkr
      ihave Tbvr := (crd_of c bvr (cnt_bvr c h)) $$ Tbvr
      iclose
  unfold CR
  iclose

end Cert.KernelIdeal.Pf
-- ==== Proof.Entry.lean ====
/-
# What the body takes and leaves
-/
module

public import proofs.«01_k».proof.Proof.Body
public import proofs.«01_k».proof.Proof.Pieces
public import proofs.«01_k».proof.Proof.Deal

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

/-! The body as the pipeline calls it; the launch; the run of the whole program. -/

/-- What a device starts from: the protocol's record, its positions, the tokens it pays with, its credits, the levels, and a half of its keys and values. -/
def start (c : Dev nD) : sProp 𝕄 :=
  iprop(recs m ρ ∗ (bigSep Finset.univ fun k : Fin 67 => atPos ER (gcell (c, k)) 0 ∅ 0) ∗ PAY c ∗ CR c ∗ levAts L lv ∗ hK m c ∗ hV m c)

/-- Every semaphore of the protocol back at zero. -/
def zeros (c : Dev nD) : sProp 𝕄 := bigSep Finset.univ fun k : Fin 67 => semVal (gcell (c, k)) 0

def Φ₀ (c : Dev nD) : sProp 𝕄 := iprop(start m ρ c ∗ scr c)
def Φ₁ (c : Dev nD) : sProp 𝕄 := iprop(zeros c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wqst m ρ c
    | ⟨2, _⟩ => wost m ρ c
    | ⟨3, _⟩ => OUT m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The body's triple, as one entailment. -/
def pre (c : Dev nD) : sProp 𝕄 := iprop(recs m ρ ∗ levAts L lv ∗ debt c (D0 c) ∗ cred (tallyAt (bar c) () 3) ∗ atPos ER (bar c) 0 ∅ 0 ∗ tokB (nx c (0 : Fin 3).val) c ∗ tokB (nx c (1 : Fin 3).val) c ∗ tokB (nx c (2 : Fin 3).val) c ∗ Hand c (nx c (0 : Fin 3).val)
    ∗ Hand c (nx c (1 : Fin 3).val) ∗ Hand c (nx c (2 : Fin 3).val) ∗ TA c ∗ TB c ∗ hK m c ∗ hV m c
    ∗ pt c cc0_stg0_0 Finset.univ fullShare (xst m ρ c) ∗ pt c cc0_stg1_0 Finset.univ fullShare (wqst m ρ c) ∗ q32A c c ∗ tok c (qs (0 : Fin 3)) ∗ tok (nx c (0 : Fin 3).val) (qr (0 : Fin 3)) ∗ tok c (qs (1 : Fin 3))
    ∗ tok (nx c (1 : Fin 3).val) (qr (1 : Fin 3)) ∗ tok c (qs (2 : Fin 3)) ∗ tok (nx c (2 : Fin 3).val) (qr (2 : Fin 3)) ∗ ksA c (0 : Fin 4) ∗ tok c (kg (0 : Fin 4)) ∗ vsA c (0 : Fin 4)
    ∗ tok c (vg (0 : Fin 4)) ∗ ksA c (1 : Fin 4) ∗ tok c (kg (1 : Fin 4)) ∗ vsA c (1 : Fin 4) ∗ tok c (vg (1 : Fin 4)) ∗ crd c (qr (0 : Fin 3))
    ∗ atp c (qr (0 : Fin 3)) ∗ crd c (qr (1 : Fin 3)) ∗ atp c (qr (1 : Fin 3)) ∗ crd c (qr (2 : Fin 3)) ∗ atp c (qr (2 : Fin 3)) ∗ atp c (kg (0 : Fin 4))
    ∗ atp c (vg (0 : Fin 4)) ∗ tok c (kg (2 : Fin 4)) ∗ tok c (vg (2 : Fin 4)) ∗ paA c (0 : Fin 4).val ∗ plA c (0 : Fin 4).val ∗ atp c (kg (1 : Fin 4))
    ∗ atp c (vg (1 : Fin 4)) ∗ tok c (kg (3 : Fin 4)) ∗ tok c (vg (3 : Fin 4)) ∗ paA c (1 : Fin 4).val ∗ plA c (1 : Fin 4).val ∗ atp c (kg (2 : Fin 4))
    ∗ atp c (vg (2 : Fin 4)) ∗ paA c (2 : Fin 4).val ∗ plA c (2 : Fin 4).val ∗ atp c (kg (3 : Fin 4)) ∗ atp c (vg (3 : Fin 4)) ∗ paA c (3 : Fin 4).val
    ∗ plA c (3 : Fin 4).val ∗ tok c (pas (0 : Fin 3)) ∗ tok (nx c (0 : Fin 3).val) (par (0 : Fin 3)) ∗ tok c (pls (0 : Fin 3)) ∗ tok (nx c (0 : Fin 3).val) (plr (0 : Fin 3)) ∗ tok c (pas (1 : Fin 3))
    ∗ tok (nx c (1 : Fin 3).val) (par (1 : Fin 3)) ∗ tok c (pls (1 : Fin 3)) ∗ tok (nx c (1 : Fin 3).val) (plr (1 : Fin 3)) ∗ tok c (pas (2 : Fin 3)) ∗ tok (nx c (2 : Fin 3).val) (par (2 : Fin 3)) ∗ tok c (pls (2 : Fin 3))
    ∗ tok (nx c (2 : Fin 3).val) (plr (2 : Fin 3)) ∗ RA0 c ∗ atp c (cp (0 : Fin 4)) ∗ atp c (cp (1 : Fin 4)) ∗ atp c (kr (0 : Fin 2)) ∗ atp c (vr (0 : Fin 2))
    ∗ atp c (kr (1 : Fin 2)) ∗ atp c (vr (1 : Fin 2)) ∗ RB1 c ∗ atp c (cp (2 : Fin 4)) ∗ atp c (cp (3 : Fin 4)) ∗ atp c bkr
    ∗ atp c bvr ∗ crd c (par (0 : Fin 3)) ∗ atp c (par (0 : Fin 3)) ∗ crd c (plr (0 : Fin 3)) ∗ atp c (plr (0 : Fin 3)) ∗ crd c (par (1 : Fin 3))
    ∗ atp c (par (1 : Fin 3)) ∗ crd c (plr (1 : Fin 3)) ∗ atp c (plr (1 : Fin 3)) ∗ crd c (par (2 : Fin 3)) ∗ atp c (par (2 : Fin 3)) ∗ crd c (plr (2 : Fin 3))
    ∗ atp c (plr (2 : Fin 3)) ∗ pt c cc0_stg2_0 Finset.univ fullShare (wost m ρ c) ∗ osA c ∗ tok c (os (0 : Fin 3)) ∗ tok (nx c (0 : Fin 3).val) (orv (0 : Fin 3)) ∗ tok c (os (1 : Fin 3))
    ∗ tok (nx c (1 : Fin 3).val) (orv (1 : Fin 3)) ∗ tok c (os (2 : Fin 3)) ∗ tok (nx c (2 : Fin 3).val) (orv (2 : Fin 3)) ∗ crd c (orv (0 : Fin 3)) ∗ atp c (orv (0 : Fin 3)) ∗ crd c (orv (1 : Fin 3))
    ∗ atp c (orv (1 : Fin 3)) ∗ crd c (orv (2 : Fin 3)) ∗ atp c (orv (2 : Fin 3)) ∗ outA c c ∗ tok c (ags (0 : Fin 3)) ∗ tok (nx c (0 : Fin 3).val) (agr (0 : Fin 3))
    ∗ tok c (ags (1 : Fin 3)) ∗ tok (nx c (1 : Fin 3).val) (agr (1 : Fin 3)) ∗ tok c (ags (2 : Fin 3)) ∗ tok (nx c (2 : Fin 3).val) (agr (2 : Fin 3)) ∗ crd c (agr (0 : Fin 3)) ∗ atp c (agr (0 : Fin 3))
    ∗ crd c (agr (1 : Fin 3)) ∗ atp c (agr (1 : Fin 3)) ∗ crd c (agr (2 : Fin 3)) ∗ atp c (agr (2 : Fin 3)) ∗ atp c (qs (0 : Fin 3)) ∗ atp c (qs (1 : Fin 3))
    ∗ atp c (qs (2 : Fin 3)) ∗ atp c (pas (0 : Fin 3)) ∗ atp c (pls (0 : Fin 3)) ∗ atp c (pas (1 : Fin 3)) ∗ atp c (pls (1 : Fin 3)) ∗ atp c (pas (2 : Fin 3))
    ∗ atp c (pls (2 : Fin 3)) ∗ atp c (os (0 : Fin 3)) ∗ atp c (os (1 : Fin 3)) ∗ atp c (os (2 : Fin 3)) ∗ atp c (ags (0 : Fin 3)) ∗ atp c (ags (1 : Fin 3))
    ∗ atp c (ags (2 : Fin 3)) ∗ atp c (ks (0 : Fin 6)) ∗ atp c (vs (0 : Fin 6)) ∗ atp c (ks (1 : Fin 6)) ∗ atp c (vs (1 : Fin 6)) ∗ atp c (ks (2 : Fin 6))
    ∗ atp c (vs (2 : Fin 6)) ∗ atp c (ks (3 : Fin 6)) ∗ atp c (vs (3 : Fin 6)) ∗ atp c (ks (4 : Fin 6)) ∗ atp c (vs (4 : Fin 6)) ∗ atp c (ks (5 : Fin 6))
    ∗ atp c (vs (5 : Fin 6)) ∗ atp c (bks (0 : Fin 3)) ∗ atp c (bvs (0 : Fin 3)) ∗ atp c (bks (1 : Fin 3)) ∗ atp c (bvs (1 : Fin 3)) ∗ atp c (bks (2 : Fin 3))
    ∗ atp c (bvs (2 : Fin 3)))
def post (c : Dev nD) : sProp 𝕄 := iprop(debt c [] ∗ semVal (bar c) 0 ∗ pt c cc0_stg0_0 Finset.univ fullShare (xst m ρ c) ∗ pt c cc0_stg1_0 Finset.univ fullShare (wqst m ρ c) ∗ sv c (qr (0 : Fin 3)) ∗ sv c (qr (1 : Fin 3)) ∗ sv c (qr (2 : Fin 3))
    ∗ sv c (kg (0 : Fin 4)) ∗ q32P m ρ c (pv c (0 : Fin 3).val) fullShare.right ∗ q32P m ρ c (pv c (1 : Fin 3).val) fullShare.right ∗ q32P m ρ c (pv c (2 : Fin 3).val) fullShare.right ∗ sv c (vg (0 : Fin 4)) ∗ sv c (kg (1 : Fin 4))
    ∗ sv c (vg (1 : Fin 4)) ∗ hK m c ∗ hV m c ∗ sv c (kg (2 : Fin 4)) ∗ sv c (vg (2 : Fin 4)) ∗ ksP m c (2 : Fin 4)
    ∗ vsP m c (2 : Fin 4) ∗ sv c (kg (3 : Fin 4)) ∗ sv c (vg (3 : Fin 4)) ∗ q32W m ρ c fullShare.left ∗ ksP m c (3 : Fin 4) ∗ vsP m c (3 : Fin 4)
    ∗ paP m ρ c c.val fullShare.right ∗ plP m ρ c c.val fullShare.right ∗ sv c (cp (0 : Fin 4)) ∗ sv c (cp (1 : Fin 4)) ∗ sv c (kr (0 : Fin 2)) ∗ sv c (vr (0 : Fin 2))
    ∗ sv c (kr (1 : Fin 2)) ∗ sv c (vr (1 : Fin 2)) ∗ sv c (cp (2 : Fin 4)) ∗ sv c (cp (3 : Fin 4)) ∗ sv c bkr ∗ sv c bvr
    ∗ k0W m c ∗ v0W m c ∗ kbW m c ∗ vbW m c ∗ sv c (par (0 : Fin 3)) ∗ sv c (plr (0 : Fin 3))
    ∗ sv c (par (1 : Fin 3)) ∗ sv c (plr (1 : Fin 3)) ∗ sv c (par (2 : Fin 3)) ∗ sv c (plr (2 : Fin 3)) ∗ rlW m ρ c ∗ raW m ρ c
    ∗ paW m ρ c fullShare.left ∗ plW m ρ c fullShare.left ∗ pt c cc0_stg2_0 Finset.univ fullShare (wost m ρ c) ∗ osP m ρ c c fullShare.right ∗ sv c (orv (0 : Fin 3)) ∗ sv c (orv (1 : Fin 3))
    ∗ sv c (orv (2 : Fin 3)) ∗ osW m ρ c fullShare.left ∗ obW m ρ c ∗ outP m ρ c c fullShare.left ∗ sv c (agr (0 : Fin 3)) ∗ outP m ρ c (pv c (0 : Fin 3).val) fullShare
    ∗ sv c (agr (1 : Fin 3)) ∗ outP m ρ c (pv c (1 : Fin 3).val) fullShare ∗ sv c (agr (2 : Fin 3)) ∗ outP m ρ c (pv c (2 : Fin 3).val) fullShare ∗ sv c (qs (0 : Fin 3)) ∗ q32P m ρ c c (shareR (0 : Fin 3))
    ∗ sv c (qs (1 : Fin 3)) ∗ q32P m ρ c c (shareR (1 : Fin 3)) ∗ sv c (qs (2 : Fin 3)) ∗ q32P m ρ c c (shareR (2 : Fin 3)) ∗ sv c (pas (0 : Fin 3)) ∗ paP m ρ c (nx c (0 : Fin 3).val).val fullShare.right
    ∗ sv c (pls (0 : Fin 3)) ∗ plP m ρ c (nx c (0 : Fin 3).val).val fullShare.right ∗ sv c (pas (1 : Fin 3)) ∗ paP m ρ c (nx c (1 : Fin 3).val).val fullShare.right ∗ sv c (pls (1 : Fin 3)) ∗ plP m ρ c (nx c (1 : Fin 3).val).val fullShare.right
    ∗ sv c (pas (2 : Fin 3)) ∗ paP m ρ c (nx c (2 : Fin 3).val).val fullShare.right ∗ sv c (pls (2 : Fin 3)) ∗ plP m ρ c (nx c (2 : Fin 3).val).val fullShare.right ∗ sv c (os (0 : Fin 3)) ∗ osP m ρ c (nx c (0 : Fin 3).val) fullShare.right
    ∗ sv c (os (1 : Fin 3)) ∗ osP m ρ c (nx c (1 : Fin 3).val) fullShare.right ∗ sv c (os (2 : Fin 3)) ∗ osP m ρ c (nx c (2 : Fin 3).val) fullShare.right ∗ sv c (ags (0 : Fin 3)) ∗ outP m ρ c c (shareR (0 : Fin 3))
    ∗ sv c (ags (1 : Fin 3)) ∗ outP m ρ c c (shareR (1 : Fin 3)) ∗ sv c (ags (2 : Fin 3)) ∗ outP m ρ c c (shareR (2 : Fin 3)) ∗ sv c (ks (0 : Fin 6)) ∗ sv c (vs (0 : Fin 6))
    ∗ sv c (ks (1 : Fin 6)) ∗ sv c (vs (1 : Fin 6)) ∗ sv c (ks (2 : Fin 6)) ∗ sv c (vs (2 : Fin 6)) ∗ sv c (ks (3 : Fin 6)) ∗ sv c (vs (3 : Fin 6))
    ∗ sv c (ks (4 : Fin 6)) ∗ sv c (vs (4 : Fin 6)) ∗ sv c (ks (5 : Fin 6)) ∗ sv c (vs (5 : Fin 6)) ∗ sv c (bks (0 : Fin 3)) ∗ sv c (bvs (0 : Fin 3))
    ∗ sv c (bks (1 : Fin 3)) ∗ sv c (bvs (1 : Fin 3)) ∗ sv c (bks (2 : Fin 3)) ∗ sv c (bvs (2 : Fin 3)))

theorem body_run (c : Dev nD) {Φ : PUnit → sProp 𝕄} : pre m ρ c ⊢ iprop((post m ρ c -∗ Φ ⟨⟩) -∗ WP c (call cc0__body) Φ) := body_ok m ρ c

/-- What device 0 pays with, and device 1, with the buffers it keeps. -/
theorem TA_of (c : Dev nD) : iprop(KX c ∗ (if c.val = (0 : Dev nD).val then GK else iprop(emp)) ∗ (tok c (cp (0 : Fin 4)) ∗ tok c (cp (1 : Fin 4)))
    ∗ tok c (ks (0 : Fin 6)) ∗ tok c (ks (1 : Fin 6)) ∗ tok c (ks (2 : Fin 6)) ∗ tok c (ks (3 : Fin 6)) ∗ tok c (ks (4 : Fin 6)) ∗ tok c (ks (5 : Fin 6))
    ∗ tok c (vs (0 : Fin 6)) ∗ tok c (vs (1 : Fin 6)) ∗ tok c (vs (2 : Fin 6)) ∗ tok c (vs (3 : Fin 6)) ∗ tok c (vs (4 : Fin 6)) ∗ tok c (vs (5 : Fin 6))) ⊢ (TA c : sProp 𝕄) := by
  unfold KX TA
  by_cases h : c.val = 0
  · rw [if_pos h, if_pos h, if_pos (show c.val = (0 : Dev nD).val from h)]
    unfold GK FK
    iintro ⟨⟨HK, HV⟩, ⟨⟨A0, A1, A2, A3⟩, ⟨B0, B1, B2, B3⟩, C0, C1, C2, C3⟩, ⟨P0, P1⟩, Tks0_6, Tks1_6, Tks2_6, Tks3_6, Tks4_6, Tks5_6, Tvs0_6, Tvs1_6, Tvs2_6, Tvs3_6, Tvs4_6, Tvs5_6⟩
    iclose
  · rw [if_neg h, if_neg h]
    iintro -
    iempintro

theorem TB_of (c : Dev nD) : iprop(BX c ∗ (if c.val = (1 : Dev nD).val then GB else iprop(emp)) ∗ (tok c (cp (2 : Fin 4)) ∗ tok c (cp (3 : Fin 4)))
    ∗ tok c (bks (0 : Fin 3)) ∗ tok c (bks (1 : Fin 3)) ∗ tok c (bks (2 : Fin 3)) ∗ tok c (bvs (0 : Fin 3)) ∗ tok c (bvs (1 : Fin 3)) ∗ tok c (bvs (2 : Fin 3))) ⊢ (TB c : sProp 𝕄) := by
  unfold BX TB
  by_cases h : c.val = 1
  · rw [if_pos h, if_pos h, if_pos (show c.val = (1 : Dev nD).val from h)]
    unfold GB FB
    iintro ⟨⟨HK, HV⟩, ⟨⟨A0, A1⟩, ⟨B0, B1⟩, C0, C1⟩, ⟨P0, P1⟩, Tbks0_3, Tbks1_3, Tbks2_3, Tbvs0_3, Tbvs1_3, Tbvs2_3⟩
    iclose
  · rw [if_neg h, if_neg h]
    iintro -
    iempintro

/-- The start, the scratch buffers and the windows' buffers, laid out as the body takes them. -/
theorem enter (c : Dev nD) : iprop(start m ρ c ∗ scr c ∗ debt c (D0 c) ∗ pt c cc0_stg0_0 Finset.univ fullShare (xst m ρ c)
    ∗ pt c cc0_stg1_0 Finset.univ fullShare (wqst m ρ c) ∗ pt c cc0_stg2_0 Finset.univ fullShare (wost m ρ c) ∗ anyPt c cc0_stg3_0 Finset.univ) ⊢ pre m ρ c := by
  unfold start PAY OWN FOR CR
  rw [cells67 (fun g => (atPos ER g 0 ∅ 0 : sProp 𝕄)) c]
  iintro ⟨⟨#HR, ⟨AB, ATcp0_4, ATcp1_4, ATcp2_4, ATcp3_4, ATkg0_4, ATkg1_4, ATkg2_4, ATkg3_4, ATvg0_4, ATvg1_4, ATvg2_4, ATvg3_4, ATqs0_3, ATqs1_3, ATqs2_3, ATqr0_3, ATqr1_3, ATqr2_3, ATks0_6, ATks1_6, ATks2_6, ATks3_6, ATks4_6, ATks5_6, ATvs0_6, ATvs1_6, ATvs2_6, ATvs3_6, ATvs4_6, ATvs5_6, ATkr0_2, ATkr1_2, ATvr0_2, ATvr1_2, ATbks0_3, ATbks1_3, ATbks2_3, ATbvs0_3, ATbvs1_3, ATbvs2_3, ATbkr, ATbvr, ATpas0_3, ATpas1_3, ATpas2_3, ATpar0_3, ATpar1_3, ATpar2_3, ATpls0_3, ATpls1_3, ATpls2_3, ATplr0_3, ATplr1_3, ATplr2_3, ATos0_3, ATos1_3, ATos2_3, ATorv0_3, ATorv1_3, ATorv2_3, ATags0_3, ATags1_3, ATags2_3, ATagr0_3, ATagr1_3, ATagr2_3⟩, ⟨⟨Tcp0_4, Tcp1_4, Tcp2_4, Tcp3_4, Tkg0_4, Tkg1_4, Tkg2_4, Tkg3_4, Tvg0_4, Tvg1_4, Tvg2_4, Tvg3_4, Tqs0_3, Tqs1_3, Tqs2_3, Tks0_6, Tks1_6, Tks2_6, Tks3_6, Tks4_6, Tks5_6, Tvs0_6, Tvs1_6, Tvs2_6, Tvs3_6, Tvs4_6, Tvs5_6, Tbks0_3, Tbks1_3, Tbks2_3, Tbvs0_3, Tbvs1_3, Tbvs2_3, Tpas0_3, Tpas1_3, Tpas2_3, Tpls0_3, Tpls1_3, Tpls2_3, Tos0_3, Tos1_3, Tos2_3, Tags0_3, Tags1_3, Tags2_3⟩, ⟨B0, Q0, P0, L0, O0, G0⟩, ⟨B1, Q1, P1, L1, O1, G1⟩, ⟨B2, Q2, P2, L2, O2, G2⟩, YK, YB⟩, ⟨CB, CTqr0_3, CTqr1_3, CTqr2_3, CTpar0_3, CTpar1_3, CTpar2_3, CTplr0_3, CTplr1_3, CTplr2_3, CTorv0_3, CTorv1_3, CTorv2_3, CTagr0_3, CTagr1_3, CTagr2_3, R0, R1⟩, #HL, HKK, HVV⟩, HS, HO, S0, S1, S2, S3⟩
  ihave H := (hands c) $$ [HS S3]
  · isplitl [HS] <;> iassumption
  icases H with ⟨⟨H0, H1, H2⟩, HQ, HOU, HOS, ⟨K0, K1⟩, ⟨V0, V1⟩, ⟨PA0, PA1, PA2, PA3⟩, ⟨PL0, PL1, PL2, PL3⟩, KX, BX⟩
  ihave HTA := (TA_of c) $$ [KX YK Tcp0_4 Tcp1_4 Tks0_6 Tks1_6 Tks2_6 Tks3_6 Tks4_6 Tks5_6 Tvs0_6 Tvs1_6 Tvs2_6 Tvs3_6 Tvs4_6 Tvs5_6]
  · iclose
  ihave HTB := (TB_of c) $$ [BX YB Tcp2_4 Tcp3_4 Tbks0_3 Tbks1_3 Tbks2_3 Tbvs0_3 Tbvs1_3 Tbvs2_3]
  · iclose
  unfold pre
  iclose

/-- And what the body leaves, made whole again. -/
theorem leave (c : Dev nD) : post m ρ c ⊢ iprop(debt c [] ∗ zeros c ∗ scr c ∗ pt c cc0_stg0_0 Finset.univ fullShare (xst m ρ c)
    ∗ pt c cc0_stg1_0 Finset.univ fullShare (wqst m ρ c) ∗ pt c cc0_stg2_0 Finset.univ fullShare (wost m ρ c) ∗ outW m ρ c) := by
  unfold post zeros
  rw [cells67 (fun g => (semVal g 0 : sProp 𝕄)) c]
  iintro ⟨HO, H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91, H92, H93, H94, H95, H96, H97, H98, H99, H100, H101, H102, H103, H104, H105, H106, H107, H108, H109, H110, H111⟩
  ihave XQ := (whole_q32 m ρ c) $$ [H21 H65 H67 H69 H7 H8 H9]
  · iclose
  ihave XA := (whole_nx c cc0_scratch7 (0 : Fin 4) 1 lt_pa (PA m ρ c)) $$ [H48 H24 H71 H75 H79]
  · iclose
  ihave XL := (whole_nx c cc0_scratch8 (0 : Fin 3) 1 lt_pl (PL m ρ c)) $$ [H49 H25 H73 H77 H81]
  · iclose
  ihave XO := (whole_nx c cc0_scratch11 (0 : Fin 2) 256 lt_os (OS m ρ c)) $$ [H55 H51 H83 H85 H87]
  · iclose
  ihave XU := (whole_out m ρ c) $$ [H57 H89 H91 H93 H59 H61 H63]
  · iclose
  ihave XK := (whole_two c cc0_scratch4 (0 : Fin 4) 1 lt_ks _ _) $$ [H17 H22]
  · iclose
  ihave XV := (whole_two c cc0_scratch5 (0 : Fin 4) 1 lt_vs _ _) $$ [H18 H23]
  · iclose
  ihave HS : (scr c) $$ [XQ XA XL XO XK XV H36 H37 H38 H39 H47 H46 H56]
  · unfold scr
    isplitl [H36]; · iexists _; iexact H36
    isplitl [H37]; · iexists _; iexact H37
    isplitl [H38]; · iexists _; iexact H38
    isplitl [H39]; · iexists _; iexact H39
    isplitl [XK]; · iexact XK
    isplitl [XV]; · iexact XV
    isplitl [XQ]; · iexact XQ
    isplitl [XA]; · iexact XA
    isplitl [XL]; · iexact XL
    isplitl [H47]; · iexists _; iexact H47
    isplitl [H46]; · iexists _; iexact H46
    isplitl [XO]; · iexact XO
    iexists _; iexact H56
  iclose

end Cert.KernelIdeal.Pf
-- ==== Proof.Run.lean ====
/-
# The launch and the run
-/
module

public import proofs.«01_k».proof.Proof.Entry
public import Idealize.ShloMosaic.Lib.Pipeline.CollectiveSegs

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F] [Named F]

local notation "𝕄" => MT nD τ sig Unit (Elt F) ℕ UU ℕ

variable (m : (ℓ : Loc nD τ sig) → Buf (Elt F) ℓ) (ρ : Dev nD → PrngReg)

theorem before_x (c : Dev nD) (t : Fin cfg0.N) (d) : (dats m ρ 0 c).before (0 : Fin 4) t d = xst m ρ c := by
  rw [fin_N0 t]
  exact (dats m ρ 0 c).before_in_eq_fetched (0 : Fin 4) rfl (fun _ => rfl) (fun _ _ _ => rfl) (fun t => by rw [fin_N0 t]; rfl) t0_0 d
theorem before_wq (c : Dev nD) (t : Fin cfg0.N) (d) : (dats m ρ 0 c).before (1 : Fin 4) t d = wqst m ρ c := by
  rw [fin_N0 t]
  exact (dats m ρ 0 c).before_in_eq_fetched (1 : Fin 4) rfl (fun _ => rfl) (fun _ _ _ => rfl) (fun t => by rw [fin_N0 t]; rfl) t0_0 d
theorem before_wo (c : Dev nD) (t : Fin cfg0.N) (d) : (dats m ρ 0 c).before (2 : Fin 4) t d = wost m ρ c := by
  rw [fin_N0 t]
  exact (dats m ρ 0 c).before_in_eq_fetched (2 : Fin 4) rfl (fun _ => rfl) (fun _ _ _ => rfl) (fun t => by rw [fin_N0 t]; rfl) t0_0 d

theorem owns_pt (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b Finset.univ fullShare f) := by
  unfold owns; simp only [Memref.view_whole, View.read_whole, View.set_whole]

abbrev stgP (c : Dev nD) (b : Ref sig .tc) (X : b.ty.Contents (Elt F)) : sProp 𝕄 :=
  iprop(∃ f : Buf (Elt F) (((c : Dev nD) : Thread nD τ).loc b), ⌜f = X⌝ ∗ pt c b Finset.univ fullShare f)

set_option maxRecDepth 8000 in
def bodyPre (c : Dev nD) : sProp 𝕄 :=
  iprop(Φ₀ m ρ c ∗ (dats m ρ 0 c).owesAt () t0_0.castSucc
    ∗ (∃ d, stgP c cc0_stg0_0 ((dats m ρ 0 c).before (0 : Fin 4) t0_0 d))
    ∗ (∃ d, stgP c cc0_stg1_0 ((dats m ρ 0 c).before (1 : Fin 4) t0_0 d))
    ∗ (∃ d, stgP c cc0_stg2_0 ((dats m ρ 0 c).before (2 : Fin 4) t0_0 d))
    ∗ (∃ d, stgP c cc0_stg3_0 ((dats m ρ 0 c).before (3 : Fin 4) t0_0 d)))
def bodyPost (c : Dev nD) : sProp 𝕄 :=
  iprop(Φ₁ c ∗ (dats m ρ 0 c).owesAt () t0_0.succ ∗ stgP c cc0_stg0_0 (xst m ρ c) ∗ stgP c cc0_stg1_0 (wqst m ρ c) ∗ stgP c cc0_stg2_0 (wost m ρ c) ∗ stgP c cc0_stg3_0 (OUT m ρ))

theorem body_from (c : Dev nD) : bodyPre m ρ c ⊢ WP c (call cc0__body) (fun _ => bodyPost m ρ c) := by
  unfold bodyPre Φ₀
  iintro ⟨⟨HS, HC⟩, HO, ⟨%d0, %f0, %e0, S0⟩, ⟨%d1, %f1, %e1, S1⟩, ⟨%d2, %f2, %e2, S2⟩, ⟨%d3, %f3, -, S3⟩⟩
  rw [before_x] at e0
  rw [before_wq] at e1
  rw [before_wo] at e2
  subst e0; subst e1; subst e2
  unfold Dat.owesAt Pipeline.owesWithin
  icases HO with ⟨%W, -, HO⟩
  ihave HP := (enter m ρ c) $$ [HS HC HO S0 S1 S2 S3]
  · isplitl [HS]; · iexact HS
    isplitl [HC]; · iexact HC
    isplitl [HO]
    · unfold debt
      iexists W
      iexact HO
    isplitl [S0]; · iexact S0
    isplitl [S1]; · iexact S1
    isplitl [S2]; · iexact S2
    iexists f3; iexact S3
  iapply (body_run m ρ c) $$ HP
  iintro HP
  ihave H := (leave m ρ c) $$ HP
  icases H with ⟨HO, HZ, HC, S0, S1, S2, S3⟩
  unfold bodyPost Φ₁ Dat.owesAt Pipeline.owesWithin debt
  icases HO with ⟨%W', HO⟩
  isplitl [HZ HC]
  · isplitl [HZ] <;> iassumption
  isplitl [HO]
  · iexists W'
    isplitr
    · ipureintro
      exact fun _ _ => Or.inl trivial
    iexact HO
  isplitl [S0]; · iexists _; isplitr; · (ipureintro; rfl)
                  iexact S0
  isplitl [S1]; · iexists _; isplitr; · (ipureintro; rfl)
                  iexact S1
  isplitl [S2]; · iexists _; isplitr; · (ipureintro; rfl)
                  iexact S2
  iexists _; isplitr; · (ipureintro; rfl)
  iexact S3

set_option maxRecDepth 8000 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_pt]
  exact body_from m ρ c

/-! ## The launch -/

/-- The kernel's own semaphores. -/
def osd (k : Fin 66) : SemLoc sig := osem k.succ

theorem ownSemFacts : Pipeline.OwnSemFacts cfg0.spec osd := by decide

theorem share_eq (c : Dev nD) (w : Fin cfg0.W) : (dats m ρ 0 c).share w = fullShare := by unfold Dat.share; split <;> rfl

theorem gcell_inj : Function.Injective (gcell : Dev nD × Fin 67 → GSem nD τ sig) := by
  rintro ⟨c, k⟩ ⟨d, k'⟩ h
  have hc : c = d := congrArg (fun g : GSem nD τ sig => g.1.1) h
  have hk : k = k' := osem_inj (congrArg Prod.snd h)
  rw [hc, hk]
def ringCells : Finset (GSem nD τ sig) := Finset.univ.map ⟨gcell, gcell_inj⟩

abbrev tokOf (p : (Dev nD × Fin 67) × Dev nD) : GSem nD τ sig × ℕ × Dev nD := (gcell p.1, 0, p.2)
theorem tokOf_inj : Function.Injective tokOf := by
  rintro ⟨p, d⟩ ⟨p', d'⟩ h
  have hp : p = p' := gcell_inj (congrArg Prod.fst h)
  have hd : d = d' := congrArg (fun x : GSem nD τ sig × ℕ × Dev nD => x.2.2) h
  rw [hp, hd]
def ringToks : Finset (GSem nD τ sig × ℕ × Dev nD) := Finset.univ.map ⟨tokOf, tokOf_inj⟩

def u₀ : UU :=
  (initOf (Pipeline.cells cfgs cellOf_inj) (Pipeline.launchToks cfgs cellOf_inj), initOf ringCells ringToks)

/-- The tokens of device `c`'s own cells, as minted. -/
def toks (c : Dev nD) : sProp 𝕄 := bigSep Finset.univ fun k : Fin 67 => bigSep Finset.univ fun d : Dev nD => dutyTok ER (gcell (c, k)) 0 d

/-- What the launch element deals device `c`. -/
def G (c : Dev nD) : sProp 𝕄 :=
  iprop((bigSep Finset.univ fun k : Fin 67 => roundState ER (Rd m ρ) (gcell (c, k)) 0)
    ∗ (bigSep Finset.univ fun k : Fin 67 => iprop(atPos ER (gcell (c, k)) 0 ∅ 0 ∗ reached ER (gcell (c, k)) 0)) ∗ toks c)

/-- What the global step makes of it. -/
def G' (c : Dev nD) : sProp 𝕄 := iprop(recs m ρ ∗ (bigSep Finset.univ fun k : Fin 67 => atPos ER (gcell (c, k)) 0 ∅ 0) ∗ PAY c)

theorem by_cell (Φ : GSem nD τ sig → sProp 𝕄) : bigSep ringCells Φ = bigSep Finset.univ fun c : Dev nD => bigSep Finset.univ fun k : Fin 67 => Φ (gcell (c, k)) := by
  unfold ringCells; rw [bigSep_map, bigSep_univ_prod]; rfl

theorem by_tok : bigSep ringToks (fun x => (dutyTok ER x.1 x.2.1 x.2.2 : sProp 𝕄)) = bigSep Finset.univ fun c : Dev nD => toks c := by
  unfold ringToks toks
  rw [bigSep_map, bigSep_univ_prod, bigSep_univ_prod]; rfl

theorem fund_ring : BI.own (ER (initOf ringCells ringToks)) ⊢ (|==> bigSep Finset.univ (G m ρ) : sProp 𝕄) := by
  iintro HX
  imod (Rounds.fund ER (Rd m ρ) ringCells ringToks) $$ HX with ⟨Hst, Hr, Hat, Htok⟩
  imodintro
  ihave Hst := (Entails.of_eq (by_cell fun g => roundState ER (Rd m ρ) g 0)) $$ Hst
  ihave Hat := (Entails.of_eq (by_cell fun g => atPos ER g 0 ∅ 0)) $$ Hat
  ihave Hr := (Entails.of_eq (by_cell fun g => reached ER g 0)) $$ Hr
  ihave Htok := (Entails.of_eq by_tok) $$ Htok
  unfold G; simp only [bigSep_sep']
  isplitl [Hst]; · iexact Hst
  isplitl [Hat Hr]
  · isplitl [Hat] <;> iassumption
  iexact Htok

/-- The launch's one unscoped semaphore is the barrier's. -/
theorem unscopedSems0_eq (c : Dev nD) : (unscopedSems0 c : sProp 𝕄) = semVal (bar c) 0 := by
  unfold unscopedSems0; rw [bigSep_eq_bigSepL_of_eq [SemLoc.reg (sig.barrier 0 rfl)] (by decide) (by decide)]; rfl

theorem fin67 (Φ : Fin 67 → sProp 𝕄) : bigSep Finset.univ Φ = iprop(Φ 0 ∗ bigSep Finset.univ fun k : Fin 66 => Φ k.succ) := by
  rw [bigSep_univ_at Φ 0, show (Finset.univ.erase (0 : Fin 67)) = Finset.univ.map ⟨Fin.succ, Fin.succ_injective 66⟩ by decide, bigSep_map]
  rfl

/-- The semaphores at zero, all of them. -/
theorem zeros_eq (c : Dev nD) : (zeros c : sProp 𝕄)
    = iprop(unscopedSems0 c ∗ Pipeline.ownSems0 (Ix := Unit) (Name := ℕ) (U := UU) (Lvl := ℕ) (Val := Elt F) (τ := τ) osd c) := by
  unfold zeros Pipeline.ownSems0
  rw [fin67, unscopedSems0_eq]
  rfl

theorem core_alloc (c : Dev nD) :
    iprop(Pipeline.ownSems0 (Ix := Unit) (Name := ℕ) (U := UU) (Lvl := ℕ) (Val := Elt F) (τ := τ) osd c ∗ unscopedSems0 c ∗ G m ρ c)
      ⊢ |={Set.univ}=> iprop((bigSep Finset.univ fun k => iprop(∃ κ : ℕ, cellInv ER (Rd m ρ) κ (gcell (c, k))))
          ∗ (bigSep Finset.univ fun k => iprop(atPos ER (gcell (c, k)) 0 ∅ 0 ∗ reached ER (gcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : Fin 67 => semVal (gcell (c, k)) 0) ∗ bigSep Finset.univ fun k : Fin 67 => roundState ER (Rd m ρ) (gcell (c, k)) 0)
      ⊢ (|={Set.univ}=> bigSep Finset.univ fun k => iprop(∃ κ : ℕ, cellInv ER (Rd m ρ) κ (gcell (c, k))) : sProp 𝕄) from by
        rw [← bigSep_sep']
        exact (bigSep_mono fun k _ => (Rounds.body_intro ER (Rd m ρ) (gcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem give_all {R : sProp 𝕄} [BI.Persistent R] (Φ : Dev nD → sProp 𝕄) : iprop(R ∗ bigSep Finset.univ Φ) ⊢ bigSep Finset.univ fun c : Dev nD => iprop(R ∗ Φ c) :=
  (sep_mono_left (BI.bigSep_of_persistent Finset.univ R)).trans (by rw [← bigSep_sep'])

theorem regroup :
    (bigSep Finset.univ fun c : Dev nD => iprop((bigSep Finset.univ fun k => iprop(∃ κ : ℕ, cellInv ER (Rd m ρ) κ (gcell (c, k))))
          ∗ (bigSep Finset.univ fun k => iprop(atPos ER (gcell (c, k)) 0 ∅ 0 ∗ reached ER (gcell (c, k)) 0)) ∗ toks c) : sProp 𝕄)
      ⊢ bigSep Finset.univ (G' m ρ) := by
  rw [bigSep_sep', bigSep_sep', ← bigSep_univ_prod (fun ck : Dev nD × Fin 67 => iprop(∃ κ : ℕ, cellInv ER (Rd m ρ) κ (gcell ck))),
    bigSep_congr (s := Finset.univ) (fun (c : Dev nD) _ => bigSep_sep' Finset.univ (fun k : Fin 67 => (atPos ER (gcell (c, k)) 0 ∅ 0 : sProp 𝕄)) (fun k => reached ER (gcell (c, k)) 0)),
    bigSep_sep', ← bigSep_univ_prod (fun ck : Dev nD × Fin 67 => (reached ER (gcell ck) 0 : sProp 𝕄))]
  iintro ⟨HI, ⟨Hat, #HR⟩, Htok⟩
  ihave HK := (BI.bigSep_exists_pi Finset.univ (fun (ck : Dev nD × Fin 67) (κ : ℕ) => (cellInv ER (Rd m ρ) κ (gcell ck) : sProp 𝕄))) $$ HI
  icases HK with ⟨%K, #HI⟩
  ihave Htk := (show (bigSep Finset.univ fun c : Dev nD => (toks c : sProp 𝕄)) ⊢ bigSep Finset.univ fun c : Dev nD => (PAY c : sProp 𝕄) from deal (F := F)) $$ Htok
  iapply (give_all (R := recs m ρ) (fun c : Dev nD => iprop((bigSep Finset.univ fun k : Fin 67 => atPos ER (gcell (c, k)) 0 ∅ 0) ∗ PAY c)))
  isplitr
  · unfold recs
    iexists K
    rw [bigSep_sep']
    isplitl; · iexact HI
    iexact HR
  · rw [bigSep_sep']
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osd c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- What stays outside the kernel: the other half of a device's keys and values. -/
def rest (c : Dev nD) : sProp 𝕄 := iprop(pt c main_arg2 Finset.univ fullShare.right (Kc m c) ∗ pt c main_arg3 Finset.univ fullShare.right (Vc m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ rest m c) := by
  rw [Pipeline.unscopedRestP_none, unscopedRest0_eq]
  iintro ⟨⟨HK, HV⟩, Hlev, Hcr, -, HG⟩
  ihave Hc := (credits (F := F) c) $$ Hcr
  ihave HK := (share2 c main_arg2 Finset.univ (Kc m c)).mp $$ HK
  ihave HV := (share2 c main_arg3 Finset.univ (Vc m c)).mp $$ HV
  icases HK with ⟨HK, HK'⟩
  icases HV with ⟨HV, HV'⟩
  imodintro
  unfold start G' rest
  icases HG with ⟨HR, HA, HP⟩
  isplitr [HK' HV']
  · isplitl [HR]; · iexact HR
    isplitl [HA]; · iexact HA
    isplitl [HP]; · iexact HP
    isplitl [Hc]; · iexact Hc
    isplitl [Hlev]; · iexact Hlev
    isplitl [HK]
    · iexists _; iexact HK
    iexists _; iexact HV
  isplitl [HK'] <;> iassumption

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osd c ∗ Pipeline.scopedRest cfg0.spec c) := by
  rw [show (dats m ρ 0 c).Φ (Fin.last cfg0.N) = Φ₁ c from rfl, scopedRest0_eq]
  unfold Φ₁
  rw [zeros_eq]
  iintro ⟨⟨HB, HZ⟩, Hr⟩
  isplitl [HB]; · iexact HB
  isplitl [HZ]; · iexact HZ
  iexact Hr

theorem D0_lev (c : Dev nD) : ((D0 c).map Prod.snd).all (fun o => decide (0 < dLev o)) = true := by revert c; decide

set_option maxRecDepth 8000 in
theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), SemLoc.dma (((cfgs 0).win w).sem s)) () = 0 := by
      fin_cases w <;> fin_cases s <;> rfl
    rcases t with ⟨_ | _, ht⟩
    · exact mayWait_of c _ 0 h0 (D0 c) (D0_lev c)
    · exact mayWait_of c _ 0 h0 [] rfl

def finalA (c : Dev nD) (w : Fin cfg0.W) : Buf (Elt F) ((cfg0.win w).arr.view.loc (c : Thread nD τ)) := (dats m ρ 0 c).arrAt w cfg0.N

/-- The run's post: the windows' arrays as computed, keys and values as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = Kc m c ∧ r.2.mem ((c : Thread nD τ).loc main_arg3) = Vc m c

theorem rest_read (c : Dev nD) (s' : Phys nD τ sig (Elt F)) : iprop(unscopedSems0 c ∗ rest m c ∗ SI s')
    ⊢ |={Set.univ}=> iprop(⌜(s'.mem.mem ((c : Thread nD τ).loc main_arg2) = Kc m c ∧ s'.mem.mem ((c : Thread nD τ).loc main_arg3) = Vc m c)
        ∧ ∀ sm : SemLoc sig, sm.isScoped .tc = false → s'.mem.sem ((c.tc : Thread nD τ), sm) = 0⌝ ∗ SI s' : sProp 𝕄) := by
  unfold rest
  iintro ⟨Hu, ⟨HK, HV⟩, HSI⟩
  icombine HSI HK gives %hk
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hk, Buf.eq_of_forall_mem_univ hv⟩, hs⟩
  iexact HSI

set_option maxRecDepth 8000 in
/-- On the four devices, for any float values, from any memory with zero counters: every weakly fair execution of the
    program ends, and every final state has the result on each device, the arguments as they were, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := rest m)
    (hX := start_intro m ρ) (hin := phi0_intro m ρ) (hout := phi1_exit m ρ)
    (QY := fun c s => (s.mem ((c : Thread nD τ).loc main_arg2) = Kc m c ∧ s.mem ((c : Thread nD τ).loc main_arg3) = Vc m c)
      ∧ ∀ sm : SemLoc sig, sm.isScoped .tc = false → s.sem ((c.tc : Thread nD τ), sm) = 0)
    (hY := rest_read m)
    (hQ := fun _ h hs => ⟨fun c => ⟨fun w => (h c).1 w, (h c).2.2.1⟩, sem_eq_zero hs fun c => (h c).2.2.2⟩)

end Cert.KernelIdeal.Pf
-- ==== Proof.Frames.lean ====
/-
# The frames

Each program runs to the end from any memory, its arguments end unchanged, every semaphore counter ends at zero.
-/
module

public import proofs.«01_k».proof.Proof.Run
public import proofs.«01_k».proof.Proof.Gen.Kernel
public import proofs.«01_k».proof.Defs

@[expose] public section

noncomputable section

namespace Cert

open Idealize.ShloMosaic Idealize.ShloMosaic.TcCoe
open Idealize.SL Idealize.SL.Sem

/-- The idealized program, from any memory. -/
theorem frame_ideal [Cert.KernelIdeal.Facts] : quiescent_KernelIdeal := by
  intro m ρ _
  exact (θ_run KernelIdeal.defs _ _).mono
    (fun r h => ⟨fun c => ⟨((h.1 c).1 (0 : Fin 4)).trans ((KernelIdeal.Pf.dats m ρ 0 c).arrAt_in (0 : Fin 4) rfl _),
      ((h.1 c).1 (1 : Fin 4)).trans ((KernelIdeal.Pf.dats m ρ 0 c).arrAt_in (1 : Fin 4) rfl _), (h.1 c).2.1, (h.1 c).2.2,
      ((h.1 c).1 (2 : Fin 4)).trans ((KernelIdeal.Pf.dats m ρ 0 c).arrAt_in (2 : Fin 4) rfl _)⟩, h.2⟩)
    (KernelIdeal.Pf.run_main (F := Ideal) m ρ)

/-- On the machine's floats every named constant is the float its bits spell. -/
@[reducible] def plainNamed : Named Bits where
  named _ _ {φ} bits := FloatOps.ofBits φ bits

attribute [local instance] plainNamed

section plain

variable [Cert.KernelIdeal.Facts] [Cert.Kernel.Facts]

set_option maxRecDepth 100000 in
/-- On the machine's floats the two programs have the same kernel body. -/
theorem kernels_same : Kernel.defs₀ (F := Bits) = (KernelIdeal.defs₀ (F := Bits)) := by
  unfold Kernel.defs₀ KernelIdeal.defs₀
  refine congrArg Defs.onTc (funext fun l => ?_)
  match l with
  | 0 => exact funext fun x => rfl

set_option maxRecDepth 100000 in
/-- So they have the same body table. -/
theorem tables_same : Kernel.defs (F := Bits) = (KernelIdeal.defs (F := Bits)) :=
  congrArg (Pipeline.defs Kernel.pcfgs) kernels_same

set_option maxRecDepth 100000 in
/-- The program itself, on the machine's floats, from any memory. -/
theorem frame_kernel : quiescent_Kernel := by
  intro m ρ _
  have h := KernelIdeal.Pf.run_main (F := Bits) m ρ
  rw [tables_same]
  exact (θ_run (KernelIdeal.defs (F := Bits)) _ _).mono
    (fun r h => ⟨fun c => ⟨((h.1 c).1 (0 : Fin 4)).trans ((KernelIdeal.Pf.dats (F := Bits) m ρ 0 c).arrAt_in (0 : Fin 4) rfl _),
      ((h.1 c).1 (1 : Fin 4)).trans ((KernelIdeal.Pf.dats (F := Bits) m ρ 0 c).arrAt_in (1 : Fin 4) rfl _), (h.1 c).2.1, (h.1 c).2.2,
      ((h.1 c).1 (2 : Fin 4)).trans ((KernelIdeal.Pf.dats (F := Bits) m ρ 0 c).arrAt_in (2 : Fin 4) rfl _)⟩, h.2⟩) h

end plain

end Cert

end
-- ==== Proof.Finite.lean ====
/-
# What the precondition gives

Where the test "every magnitude is below infinity" holds of `x`, `Wq` and `K_ext` on a device, each of their entries
is a real number.
-/
module

public import proofs.«01_k».proof.Pre_scores_finite_KernelIdeal
public import proofs.«01_k».proof.Pre_scores_finite_ReferenceIdeal
public import Idealize.ShloMosaic.Lib.ReduceAll
public import Idealize.ShloMosaic.Lib.Pointwise
public import Idealize.ShloMosaic.Lib.Layout

@[expose] public section

set_option maxRecDepth 16384

noncomputable section

namespace Cert.Finite

open Idealize.ShloMosaic

/-- The side conditions of the test as it is read on a device. -/
theorem device_facts : Cert.Pre_scores_finite_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide
  bcast_S_S1x1024x32x128 := by decide
  reducesTo_S1x1024x32x128_S_d0_1_2_3 := by decide

/-- The side conditions of the test as it is read on the whole arrays. -/
theorem whole_facts : Cert.Pre_scores_finite_ReferenceIdeal.Facts where
  bitsLt_bf16_f32 := by decide
  bcast_S_S1x1024x1024 := by decide
  reducesTo_S1x1024x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

/-- The bits of the infinity the magnitudes are compared with. -/
theorem inf_eq : Ideal.ofBits .f32 0x7F800000#32 = ⊤ := by simp [Ideal.ofBits, Ideal.ieee]

/-- A value whose magnitude is below infinity is a real number. -/
theorem real_of_lt (a : EReal) (h : max a (-a) < ⊤) : a = (a.toReal : EReal) := by
  refine (EReal.coe_toReal ?_ ?_).symm
  · rintro rfl; simp at h
  · rintro rfl; simp at h

/-- The comparison, of one entry. -/
theorem real_of_cmp (a : EReal) (h : FloatOps.cmpf (F := Ideal) (φ := .f32) .olt (max a (-a)) (Ideal.ofBits .f32 0x7F800000#32) = 1#1) :
    a = (a.toReal : EReal) := by
  rw [inf_eq] at h
  rw [Ideal.cmpf_def, Ideal.cmp_olt] at h
  refine real_of_lt a ?_
  by_contra hn
  simp [hn] at h

section device

variable [Cert.Pre_scores_finite_KernelIdeal.Facts]
open Cert.Pre_scores_finite_KernelIdeal

/-- Every entry of the three arrays on a device is a real number. -/
theorem entries (x : FVec Ideal S1x1024x1024 .bf16) (w : FVec Ideal S1024x1024 .bf16) (k v : FVec Ideal S1x1024x32x128 .bf16)
    (o : FVec Ideal S1024x1024 .bf16) (h : fn (F := Ideal) x w k v o = fun _ => 1#1) :
    (∀ i, x i = ((x i : EReal).toReal : EReal)) ∧ (∀ i, w i = ((w i : EReal).toReal : EReal)) ∧ ∀ i, k i = ((k i : EReal).toReal : EReal) := by
  have e := congrFun h ix0
  unfold fn at e
  obtain ⟨e12, e3⟩ := IntOp.andi_eq_one.1 e
  obtain ⟨e1, e2⟩ := IntOp.andi_eq_one.1 e12
  refine ⟨fun i => ?_, fun i => ?_, fun i => ?_⟩
  · exact real_of_cmp _ (Host.reduce_andi_all _ _ _ _ _ e1 i)
  · exact real_of_cmp _ (Host.reduce_andi_all _ _ _ _ _ e2 i)
  · exact real_of_cmp _ (Host.reduce_andi_all _ _ _ _ _ e3 i)

end device

end Cert.Finite

end
-- ==== Proof.Spec.lean ====
/-
# Sparse attention as plain formulas

The mathematics both programs are compared with: row `i` of head `h` attends the keys near it and the first 32, the
first 32 rows attend every key. Queries and keys are reals; values and output weights are any extended reals.
-/
module

public import Idealize.ShloMosaic.PureOps.Ideal
public import Idealize.ShloMosaic.PureOps.Ideal.Laws

@[expose] public section

noncomputable section

namespace Cert.Spec

open Idealize.ShloMosaic

/-! ## Sums of extended reals -/

/-- A sum of reals, read as extended reals. -/
theorem coe_sum {α : Type*} (s : Finset α) (f : α → ℝ) : ((∑ a ∈ s, f a : ℝ) : EReal) = ∑ a ∈ s, (f a : EReal) := by
  classical
  induction s using Finset.induction_on with
  | empty => simp
  | insert a s h ih => rw [Finset.sum_insert h, Finset.sum_insert h, EReal.coe_add, ih]

/-- A real factor that is not negative goes into a sum. -/
theorem sum_mul_nonneg {α : Type*} (s : Finset α) (f : α → EReal) {r : ℝ} (h : 0 ≤ r) : (∑ a ∈ s, f a) * (r : EReal) = ∑ a ∈ s, f a * (r : EReal) := by
  classical
  induction s using Finset.induction_on with
  | empty => simp
  | insert a s ha ih =>
    rw [Finset.sum_insert ha, Finset.sum_insert ha, ← ih,
      EReal.right_distrib_of_nonneg_of_ne_top (EReal.coe_nonneg.2 h) (EReal.coe_ne_top r)]

theorem block_lt {a b : ℕ} (c : Fin a) (j : Fin b) : b * c.val + j.val < a * b := by
  have h1 := c.isLt
  have h2 := j.isLt
  calc b * c.val + j.val < b * c.val + b := by omega
    _ = b * (c.val + 1) := by ring
    _ ≤ b * a := Nat.mul_le_mul_left b h1
    _ = a * b := Nat.mul_comm b a

/-- A sum over `a` blocks of `b`. -/
theorem sum_blocks {M : Type*} [AddCommMonoid M] (a b : ℕ) (f : Fin (a * b) → M) :
    ∑ k, f k = ∑ c : Fin a, ∑ j : Fin b, f ⟨b * c.val + j.val, block_lt c j⟩ := by
  rw [← finProdFinEquiv.sum_comp, Fintype.sum_prod_type]
  refine Finset.sum_congr rfl fun c _ => Finset.sum_congr rfl fun j _ => congrArg f (Fin.ext ?_)
  simp [finProdFinEquiv, Nat.add_comm]

/-- A sum whose terms vanish from `a` on. -/
theorem sum_cut {M : Type*} [AddCommMonoid M] (a b : ℕ) (f : Fin (a + b) → M) (h : ∀ k, a ≤ k.val → f k = 0) :
    ∑ k, f k = ∑ j : Fin a, f ⟨j.val, by omega⟩ := by
  rw [Fin.sum_univ_add, Finset.sum_eq_zero (s := Finset.univ) (f := fun i : Fin b => f (Fin.natAdd a i)) fun i _ => h _ (by simp), add_zero]
  rfl

/-- A sum cut in two. -/
theorem sum_two {M : Type*} [AddCommMonoid M] (a b : ℕ) (f : Fin (a + b) → M) :
    ∑ k, f k = ∑ j : Fin a, f ⟨j.val, by omega⟩ + ∑ j : Fin b, f ⟨a + j.val, by omega⟩ := by
  rw [Fin.sum_univ_add]
  rfl

/-! ## The scale -/

/-- The real that the scale's 32-bit pattern stands for (close to 1/√128). -/
def scale : ℝ := 11863283 / 134217728

theorem scale_eq : Ideal.ofBits .f32 0x3DB504F3#32 = (scale : EReal) := by
  unfold scale
  simp [Ideal.ofBits, Ideal.ieee, -EReal.coe_mul]; norm_num

/-- The pattern of minus infinity. -/
theorem bot_eq : Ideal.ofBits .f32 0xFF800000#32 = ⊥ := by
  simp [Ideal.ofBits, Ideal.ieee]

/-! ## The attention -/

theorem col_lt (h : Fin 32) (d : Fin 128) : 128 * h.val + d.val < 4096 := by omega

/-- Whether row `i` attends key `j`. -/
def sees (i j : ℕ) : Prop := (i ≤ j + 128 ∧ j ≤ i + 128) ∨ j < 32 ∨ i < 32

instance (i j : ℕ) : Decidable (sees i j) := by unfold sees; infer_instance

variable (X : Fin 1024 → Fin 1024 → ℝ) (W : Fin 1024 → Fin 4096 → ℝ) (K : Fin 4096 → Fin 32 → Fin 128 → ℝ)
  (V : Fin 4096 → Fin 32 → Fin 128 → EReal) (O : Fin 4096 → Fin 1024 → EReal) (s : ℝ)

/-- The scaled score of row `i` and key `j` at head `h`. -/
def score (i : Fin 1024) (h : Fin 32) (j : Fin 4096) : ℝ :=
  (∑ d : Fin 128, (∑ k, X i k * W k ⟨128 * h.val + d.val, col_lt h d⟩) * K j h d) * s

/-- Its exponential where the row attends the key, zero elsewhere. -/
def wt (i : Fin 1024) (h : Fin 32) (j : Fin 4096) : ℝ := if sees i.val j.val then Real.exp (score X W K s i h j) else 0

/-- The row's sum of them, and its sum of values weighted by them. -/
def den (i : Fin 1024) (h : Fin 32) : ℝ := ∑ j, wt X W K s i h j
def num (i : Fin 1024) (h : Fin 32) (d : Fin 128) : EReal := ∑ j, (wt X W K s i h j : EReal) * V j h d

/-- The attention's result, and the result of the whole: the heads side by side times the output weights. -/
def att (i : Fin 1024) (h : Fin 32) (d : Fin 128) : EReal := Ideal.div (num X W K V s i h d) (den X W K s i h : EReal)
def out (i n : Fin 1024) : EReal :=
  ∑ k : Fin 4096, att X W K V s i ⟨k.val / 128, by omega⟩ ⟨k.val % 128, Nat.mod_lt _ (by decide)⟩ * O k n

theorem wt_nonneg (i h j) : 0 ≤ wt X W K s i h j := by
  unfold wt
  split
  · exact (Real.exp_pos _).le
  · exact le_rfl

theorem den_pos (i h) : 0 < den X W K s i h := by
  refine lt_of_lt_of_le ?_ (Finset.single_le_sum (f := fun j => wt X W K s i h j) (fun j _ => wt_nonneg X W K s i h j) (Finset.mem_univ (0 : Fin 4096)))
  have : sees i.val ((0 : Fin 4096).val) := Or.inr (Or.inl (by decide))
  simp only [wt, if_pos this]
  exact Real.exp_pos _

/-- The score with the queries scaled first. -/
theorem score_eq (i : Fin 1024) (h : Fin 32) (j : Fin 4096) :
    ∑ d : Fin 128, ((∑ k, (X i k : EReal) * (W k ⟨128 * h.val + d.val, col_lt h d⟩ : EReal)) * (s : EReal)) * (K j h d : EReal)
      = (score X W K s i h j : EReal) := by
  simp only [← EReal.coe_mul, ← coe_sum]
  refine congrArg _ ?_
  rw [score, Finset.sum_mul]
  exact Finset.sum_congr rfl fun d _ => by ring

/-- The score scaled last. -/
theorem score_eq' (i : Fin 1024) (h : Fin 32) (j : Fin 4096) :
    (∑ d : Fin 128, (∑ k, (X i k : EReal) * (W k ⟨128 * h.val + d.val, col_lt h d⟩ : EReal)) * (K j h d : EReal)) * (s : EReal)
      = (score X W K s i h j : EReal) := by
  simp only [← EReal.coe_mul, ← coe_sum]
  rfl

/-- The weights divided by their sum, shifted by any real, weigh the values the same. -/
theorem att_shift (i : Fin 1024) (h : Fin 32) (d : Fin 128) (t : ℝ) :
    ∑ j, V j h d * Ideal.div ((wt X W K s i h j * Real.exp (-t) : ℝ) : EReal) ((den X W K s i h * Real.exp (-t) : ℝ) : EReal)
      = att X W K V s i h d := by
  have hd := den_pos X W K s i h
  have he := Real.exp_pos (-t)
  rw [att, Ideal.div_coe hd.ne', num, sum_mul_nonneg _ _ (by positivity)]
  refine Finset.sum_congr rfl fun j _ => ?_
  rw [Ideal.div_coe (by positivity), ← EReal.coe_mul, mul_comm (wt X W K s i h j : EReal), mul_assoc (V j h d), ← EReal.coe_mul]
  congr 2
  field_simp

end Cert.Spec

end
-- ==== Proof.Words.lean ====
/-
# The masks' words

The comparisons of row and key numbers that the programs make on 32-bit words, as comparisons of numbers.
-/
module

public import Idealize.ShloMosaic.Lib.WordCmp
public import Idealize.ShloMosaic.PureOps

@[expose] public section

namespace Cert.Spec

open Idealize.ShloMosaic

/-- A word that says yes or no. -/
def word (p : Prop) [Decidable p] : BitVec 1 := BitVec.ofBool (decide p)

theorem word_or (p q : Prop) [Decidable p] [Decidable q] : IntOp.ori (word p) (word q) = word (p ∨ q) := by
  unfold word
  by_cases hp : p <;> by_cases hq : q <;> simp [hp, hq, IntOp.ori]

theorem word_and (p q : Prop) [Decidable p] [Decidable q] : IntOp.andi (word p) (word q) = word (p ∧ q) := by
  unfold word
  by_cases hp : p <;> by_cases hq : q <;> simp [hp, hq, IntOp.andi]

theorem word_congr {p q : Prop} [Decidable p] [Decidable q] (h : p ↔ q) : word p = word q := by
  unfold word
  exact congrArg _ (decide_eq_decide.mpr h)

theorem select_word {α : Type} (p : Prop) [Decidable p] (a b : α) : Scalar.select (word p) a b = if p then a else b := by
  unfold word
  by_cases hp : p <;> simp [hp, Scalar.select]

theorem lt_word {a b : ℕ} (ha : a < 65536) (hb : b < 65536) : IntOp.cmpi .slt (BitVec.ofNat 32 a) (BitVec.ofNat 32 b) = word (a < b) :=
  WordCmp.cmpi_slt_ofNat (by omega) (by omega)

theorem ge_word {a b : ℕ} (ha : a < 65536) (hb : b < 65536) : IntOp.cmpi .sge (BitVec.ofNat 32 a) (BitVec.ofNat 32 b) = word (b ≤ a) :=
  WordCmp.cmpi_sge_ofNat (by omega) (by omega)

theorem add_word (a b : ℕ) : IntOp.addi (BitVec.ofNat 32 a) (BitVec.ofNat 32 b) = BitVec.ofNat 32 (a + b) :=
  (BitVec.ofNat_add a b).symm

/-- The distance of two numbers. -/
theorem dist_word {a b : ℕ} (ha : a < 65536) (hb : b < 65536) :
    IntOp.absi (IntOp.subi (BitVec.ofNat 32 a) (BitVec.ofNat 32 b)) = BitVec.ofNat 32 (if b ≤ a then a - b else b - a) := by
  apply BitVec.eq_of_toNat_eq
  unfold IntOp.absi IntOp.subi
  rw [BitVec.msb_eq_decide]
  split <;> split <;> simp_all [BitVec.toNat_sub, BitVec.toNat_neg] <;> omega

/-- Whether the distance is at most 128. -/
theorem near_word {a b : ℕ} (ha : a < 65536) (hb : b < 65536) :
    IntOp.cmpi .sle (IntOp.absi (IntOp.subi (BitVec.ofNat 32 a) (BitVec.ofNat 32 b))) 128#32 = word (a ≤ b + 128 ∧ b ≤ a + 128) := by
  rw [dist_word ha hb, WordCmp.cmpi_sle_ofNat (by split <;> omega) (by decide)]
  exact congrArg _ (decide_eq_decide.mpr (by split <;> omega))

end Cert.Spec
-- ==== Proof.RefValue.lean ====
/-
# The value of the reference

The reference's result, stage by stage, is the plain formula of sparse attention.
-/
module

public import proofs.«01_k».proof.Proof.Spec
public import proofs.«01_k».proof.Proof.Words
public import proofs.«01_k».proof.Proof.Gen.ReferenceIdeal.Run
public import Idealize.ShloMosaic.Lib.Pointwise

@[expose] public section

set_option maxRecDepth 16384

noncomputable section

namespace Cert.ReferenceIdeal.Pf

open Cert.ReferenceIdeal Cert.ReferenceIdeal.Gen
open Idealize.ShloMosaic Idealize.ShloMosaic.TcCoe
open Cert.Spec

/-- Which row attends which key, as the reference writes it. -/
def keep : IVec S1024x4096 1 :=
  ori (cmpi .sle (absi (subi (broadcastInDim S1024x4096 ![0, 1] bcast_S1024x1_S1024x4096_0_1 (broadcastInDim S1024x1 ![0] bcast_S1024_S1024x1_0 (iotaInDim S1024 32 0)))
      (broadcastInDim S1024x4096 ![0, 1] bcast_S1x4096_S1024x4096_0_1 (broadcastInDim S1x4096 ![1] bcast_S4096_S1x4096_1 (iotaInDim S4096 32 0)))))
      (broadcastInDim S1024x4096 ![] bcast_S_S1024x4096 (constantI S_ 32 128#32)))
    (ori (broadcastInDim S1024x4096 ![0, 1] bcast_S1x4096_S1024x4096_0_1 (cmpi .slt (broadcastInDim S1x4096 ![1] bcast_S4096_S1x4096_1 (iotaInDim S4096 32 0))
        (broadcastInDim S1x4096 ![] bcast_S_S1x4096 (constantI S_ 32 32#32))))
      (broadcastInDim S1024x4096 ![0, 1] bcast_S1024x1_S1024x4096_0_1 (cmpi .slt (broadcastInDim S1024x1 ![0] bcast_S1024_S1024x1_0 (iotaInDim S1024 32 0))
        (broadcastInDim S1024x1 ![] bcast_S_S1024x1 (constantI S_ 32 32#32)))))

/-- Whether a row attends any key. -/
def some_key : IVec S1024 1 := Host.reduce IntOp.ori keep (constantI S_ 1 0#1) reducesTo_S1024x4096_S1024_d1 h_S_

/-- The scaled scores. -/
def scores (x : FVec Ideal S1x1024x1024 .bf16) (wq : FVec Ideal S1024x4096 .bf16) (k : FVec Ideal S1x4096x32x128 .bf16) : FVec Ideal S1x32x1024x4096 .f32 :=
  mulf (extf .f32 (truncf .bf16 (Host.dotGeneral dot_S1x1024x32x128_S1x4096x32x128_S1x32x1024x4096_3_3_1_1_02_02 none
      (shapeCast S1x1024x32x128 (truncf .bf16 (Host.dotGeneral dot_S1x1024x1024_S1024x4096_S1x1024x4096_2_0_01_1_n_n none x wq) bitsLt_bf16_f32) shapeCasts_S1x1024x4096_S1x1024x32x128) k)
      bitsLt_bf16_f32) bitsLt_bf16_f32)
    (broadcastInDim S1x32x1024x4096 ![] bcast_S_S1x32x1024x4096 (constant S_ .f32 0x3DB504F3#32))

/-- Minus infinity where the row does not attend the key. -/
def masked (z : FVec Ideal S1x32x1024x4096 .f32) : FVec Ideal S1x32x1024x4096 .f32 :=
  select (broadcastInDim S1x32x1024x4096 ![0, 1, 2, 3] bcast_S1x1x1024x4096_S1x32x1024x4096_0_1_2_3 (broadcastInDim S1x1x1024x4096 ![2, 3] bcast_S1024x4096_S1x1x1024x4096_2_3 keep))
    z (broadcastInDim S1x32x1024x4096 ![] bcast_S_S1x32x1024x4096 (id (constant S_ .f32 0xFF800000#32)))

/-- The rows' maxima. -/
def top (z : FVec Ideal S1x32x1024x4096 .f32) : FVec Ideal S1x32x1024 .f32 :=
  Host.reduce FloatOps.maximumf z (constant S_ .f32 0xFF800000#32) reducesTo_S1x32x1024x4096_S1x32x1024_d3 h_S_

/-- The exponentials, shifted by the maxima. -/
def expo (z : FVec Ideal S1x32x1024x4096 .f32) : FVec Ideal S1x32x1024x4096 .f32 :=
  Host.exp (subf z (broadcastInDim S1x32x1024x4096 ![0, 1, 2, 3] bcast_S1x32x1024x1_S1x32x1024x4096_0_1_2_3
    (broadcastInDim S1x32x1024x1 ![0, 1, 2] bcast_S1x32x1024_S1x32x1024x1_0_1_2 (top z))))

/-- The rows' sums of exponentials. -/
def sums (e : FVec Ideal S1x32x1024x4096 .f32) : FVec Ideal S1x32x1024 .f32 :=
  Host.reduceAdd e (constant S_ .f32 0x00000000#32) reducesTo_S1x32x1024x4096_S1x32x1024_d3 h_S_

/-- The weights. -/
def weights (a : IVec S1024 1) (e : FVec Ideal S1x32x1024x4096 .f32) : FVec Ideal S1x32x1024x4096 .f32 :=
  select (broadcastInDim S1x32x1024x4096 ![0, 1, 2, 3] bcast_S1x1x1024x1_S1x32x1024x4096_0_1_2_3 (broadcastInDim S1x1x1024x1 ![2] bcast_S1024_S1x1x1024x1_2 a))
    (Host.divf e (broadcastInDim S1x32x1024x4096 ![0, 1, 2, 3] bcast_S1x32x1024x1_S1x32x1024x4096_0_1_2_3
      (select (broadcastInDim S1x32x1024x1 ![0, 1, 2, 3] bcast_S1x1x1024x1_S1x32x1024x1_0_1_2_3 (broadcastInDim S1x1x1024x1 ![2] bcast_S1024_S1x1x1024x1_2 a))
        (broadcastInDim S1x32x1024x1 ![0, 1, 2] bcast_S1x32x1024_S1x32x1024x1_0_1_2 (sums e))
        (broadcastInDim S1x32x1024x1 ![] bcast_S_S1x32x1024x1 (id (constant S_ .f32 0x3F800000#32))))))
    (broadcastInDim S1x32x1024x4096 ![] bcast_S_S1x32x1024x4096 (id (constant S_ .f32 0x00000000#32)))

/-- The weighted values, then the output weights. -/
def result (w : FVec Ideal S1x32x1024x4096 .f32) (v : FVec Ideal S1x4096x32x128 .bf16) (wo : FVec Ideal S4096x1024 .bf16) : FVec Ideal S1x1024x1024 .f32 :=
  Host.dotGeneral dot_S1x1024x4096_S4096x1024_S1x1024x1024_2_0_01_1_n_n none
    (shapeCast S1x1024x4096 (transpose S1x1024x32x128 [0, 3, 1, 2]
      (Host.dotGeneral dot_S1x4096x32x128_S1x32x1024x4096_S1x32x128x1024_1_3_3_2_02_01 none (extf .f32 v bitsLt_bf16_f32) w)
      transposes_S1x32x128x1024_S1x1024x32x128_0_3_1_2) shapeCasts_S1x1024x32x128_S1x1024x4096) (extf .f32 wo bitsLt_bf16_f32)

/-- The reference's result is these stages composed. -/
theorem result_eq (m : (ℓ : Loc nD τ sig) → Buf (Elt Ideal) ℓ) (c : Dev nD) :
    Value.res_main_v47 (F := Ideal) m c
      = result (weights some_key (expo (masked (scores (m ((c.tc : Thread nD τ).loc main_arg0)) (m ((c.tc : Thread nD τ).loc main_arg1)) (m ((c.tc : Thread nD τ).loc main_arg2))))))
          (m ((c.tc : Thread nD τ).loc main_arg3)) (m ((c.tc : Thread nD τ).loc main_arg4)) := rfl

/-! ## Each stage, entry by entry -/

theorem keep_at (i : Fin 1024) (j : Fin 4096) : keep (ix2 i j) = word (sees i j) := by
  pointwise [keep]
  rw [near_word (by omega) (by omega), lt_word (by omega) (by omega), lt_word (by omega) (by omega), word_or, word_or]
  rfl

/-- Every row attends key 0. -/
theorem some_key_at (i : Fin 1024) : some_key (ix1 i) = 1#1 := by
  pointwise [some_key]
  have h0 : keep (ix2 i (0 : Fin 4096)) = 1#1 := by
    have : sees i.val ((0 : Fin 4096).val) := Or.inr (Or.inl (by decide))
    rw [keep_at, word, decide_eq_true this]
    rfl
  rw [← Finset.insert_erase (Finset.mem_univ (0 : Fin 4096)), Finset.fold_insert (Finset.notMem_erase _ _), h0]
  generalize Finset.fold IntOp.ori 0#1 (fun x : Fin 4096 => keep (ix2 i x)) _ = b
  revert b
  decide

theorem scores_at (x : FVec Ideal S1x1024x1024 .bf16) (wq : FVec Ideal S1024x4096 .bf16) (k : FVec Ideal S1x4096x32x128 .bf16)
    (X : Fin 1024 → Fin 1024 → ℝ) (W : Fin 1024 → Fin 4096 → ℝ) (K : Fin 4096 → Fin 32 → Fin 128 → ℝ)
    (hx : ∀ i t, x (ix3 0 i t) = (X i t : EReal)) (hw : ∀ t n, wq (ix2 t n) = (W t n : EReal)) (hk : ∀ j h d, k (ix4 0 j h d) = (K j h d : EReal))
    (h : Fin 32) (i : Fin 1024) (j : Fin 4096) : scores x wq k (ix4 0 h i j) = (score X W K scale i h j : EReal) := by
  pointwise [scores]
  simp only [hx, hw, hk, scale_eq, Nat.mul_comm h.val 128]
  exact score_eq' X W K scale i h j

theorem masked_at (z : FVec Ideal S1x32x1024x4096 .f32) (h : Fin 32) (i : Fin 1024) (j : Fin 4096) :
    masked z (ix4 0 h i j) = if sees i j then z (ix4 0 h i j) else (⊥ : EReal) := by
  pointwise [masked, id_eq]
  rw [keep_at, select_word, bot_eq]

theorem top_at (z : FVec Ideal S1x32x1024x4096 .f32) (h : Fin 32) (i : Fin 1024) : top z (ix3 0 h i) = Finset.univ.sup fun x : Fin 4096 => (z (ix4 0 h i x) : EReal) := by
  pointwise [top]
  rw [bot_eq]
  rfl

theorem expo_at (z : FVec Ideal S1x32x1024x4096 .f32) (h : Fin 32) (i : Fin 1024) (j : Fin 4096) :
    expo z (ix4 0 h i j) = Ideal.exp (z (ix4 0 h i j) - top z (ix3 0 h i)) := by
  pointwise [expo]

theorem sums_at (z : FVec Ideal S1x32x1024x4096 .f32) (h : Fin 32) (i : Fin 1024) : sums z (ix3 0 h i) = ∑ j : Fin 4096, z (ix4 0 h i j) := by
  pointwise [sums]

theorem weights_at (a : IVec S1024 1) (ha : ∀ i, a (ix1 i) = 1#1) (z : FVec Ideal S1x32x1024x4096 .f32) (h : Fin 32) (i : Fin 1024) (j : Fin 4096) :
    weights a z (ix4 0 h i j) = Ideal.div (z (ix4 0 h i j)) (sums z (ix3 0 h i)) := by
  pointwise [weights, ha]

theorem result_at (w : FVec Ideal S1x32x1024x4096 .f32) (v : FVec Ideal S1x4096x32x128 .bf16) (wo : FVec Ideal S4096x1024 .bf16) (i n : Fin 1024) :
    result w v wo (ix3 0 i n) = ∑ k : Fin 4096, (∑ j : Fin 4096, v (ix4 0 j ⟨k.val / 128, by omega⟩ ⟨k.val % 128, Nat.mod_lt _ (by decide)⟩)
      * w (ix4 0 ⟨k.val / 128, by omega⟩ i j)) * wo (ix2 k n) := by
  pointwise [result]

/-! ## The result -/

section

variable (x : FVec Ideal S1x1024x1024 .bf16) (wq : FVec Ideal S1024x4096 .bf16) (k v : FVec Ideal S1x4096x32x128 .bf16) (wo : FVec Ideal S4096x1024 .bf16)
  (X : Fin 1024 → Fin 1024 → ℝ) (W : Fin 1024 → Fin 4096 → ℝ) (K : Fin 4096 → Fin 32 → Fin 128 → ℝ)
  (hx : ∀ i t, x (ix3 0 i t) = (X i t : EReal)) (hw : ∀ t n, wq (ix2 t n) = (W t n : EReal)) (hk : ∀ j h d, k (ix4 0 j h d) = (K j h d : EReal))

include hx hw hk

/-- The rows' maxima are reals. -/
theorem top_real (h : Fin 32) (i : Fin 1024) : ∃ t : ℝ, top (masked (scores x wq k)) (ix3 0 h i) = (t : EReal) := by
  have e : ∀ j : Fin 4096, masked (scores x wq k) (ix4 0 h i j) = if sees i j then (score X W K scale i h j : EReal) else ⊥ := fun j => by
    rw [masked_at, scores_at x wq k X W K hx hw hk]
  rw [top_at]
  simp only [e]
  set f : Fin 4096 → EReal := fun j => if sees i j then (score X W K scale i h j : EReal) else ⊥ with hf
  have h1 : Finset.univ.sup f ≠ ⊤ := ne_of_lt ((Finset.sup_lt_iff bot_lt_top).2 fun j _ => by
    simp only [hf]
    split
    · exact EReal.coe_lt_top _
    · exact bot_lt_top)
  have h2 : Finset.univ.sup f ≠ ⊥ := by
    have h0 : f 0 ≤ Finset.univ.sup f := Finset.le_sup (Finset.mem_univ (0 : Fin 4096))
    have : sees i.val ((0 : Fin 4096).val) := Or.inr (Or.inl (by decide))
    simp only [hf, if_pos this] at h0
    exact ne_of_gt (lt_of_lt_of_le (EReal.bot_lt_coe _) h0)
  exact ⟨_, (EReal.coe_toReal h1 h2).symm⟩

/-- The result is the plain formula. -/
theorem result_out (i n : Fin 1024) :
    result (weights some_key (expo (masked (scores x wq k)))) v wo (ix3 0 i n)
      = out X W K (fun j h d => v (ix4 0 j h d)) (fun r n => wo (ix2 r n)) scale i n := by
  rw [result_at, out]
  refine Finset.sum_congr rfl fun r _ => ?_
  congr 1
  generalize (⟨r.val / 128, _⟩ : Fin 32) = h
  generalize (⟨r.val % 128, _⟩ : Fin 128) = d
  obtain ⟨t, ht⟩ := top_real x wq k X W K hx hw hk h i
  have e : ∀ j : Fin 4096, expo (masked (scores x wq k)) (ix4 0 h i j) = ((wt X W K scale i h j * Real.exp (-t) : ℝ) : EReal) := fun j => by
    rw [expo_at, ht, masked_at, scores_at x wq k X W K hx hw hk, wt]
    split
    · rw [← EReal.coe_sub, Ideal.exp_coe, ← Real.exp_add, sub_eq_add_neg]
    · rw [EReal.bot_sub, Ideal.exp_bot, zero_mul, EReal.coe_zero]
  rw [← att_shift X W K _ scale i h d t]
  refine Finset.sum_congr rfl fun j _ => ?_
  rw [weights_at _ some_key_at, e, sums_at]
  simp only [e]
  rw [← coe_sum, ← Finset.sum_mul]
  rfl

end

end Cert.ReferenceIdeal.Pf

end
-- ==== Proof.KerAt.lean ====
/-
# The kernel's arithmetic, entry by entry

Each vector the kernel computes, read at an index over the extended reals.
-/
module

public import proofs.«01_k».proof.Proof.Common
public import proofs.«01_k».proof.Proof.Spec
public import proofs.«01_k».proof.Proof.Words
public import Idealize.ShloMosaic.Lib.Pointwise
public import Idealize.ShloMosaic.PureOps.IdealRules
public import Idealize.ShloMosaic.Lib.IdealHost

@[expose] public section

set_option maxRecDepth 16384

noncomputable section

namespace Cert.KernelIdeal.Pf

open Cert.KernelIdeal Cert.KernelIdeal.Gen
open Idealize.ShloMosaic
open Cert.Spec

theorem at_lt (h : Fin 8) (d : Fin 128) : 128 * h.val + d.val < 1024 := by omega

/-- The named constant is minus infinity. -/
theorem mask_bot : Named.named (F := Ideal) (φ := .f32) κ "mask" 3463342888#32 = ⊥ :=
  IdealRules.named_const.ideal_named_scalar (φ := .f32) κ "mask" _ ⊥ rfl

/-! ## The queries -/

theorem q_at (x : Vec Ideal S1x1024x1024 .bf16) (wq : Vec Ideal S1024x1024 .bf16) (i j : Fin 1024) :
    k0_pay2 (F := Ideal) (k0_pay1 x) wq (ix2 i j) = (∑ t : Fin 1024, x (ix3 0 i t) * wq (ix2 t j)) * (scale : EReal) := by
  pointwise [k0_pay2, k0_pay1]
  rw [scale_eq]

theorem q32_at (x : Vec Ideal S1x1024x1024 .bf16) (wq : Vec Ideal S1024x1024 .bf16) (i : Fin 32) (j : Fin 1024) :
    k0_pay3 (F := Ideal) (k0_pay1 x) wq (ix3 0 i j) = (∑ t : Fin 1024, x (ix3 0 ⟨i.val, by omega⟩ t) * wq (ix2 t j)) * (scale : EReal) := by
  pointwise [k0_pay3]
  exact q_at x wq _ j

/-! ## The global rows -/

theorem gP_at (q : Vec Ideal S1x32x1024 .bf16) (h : Fin 8) (k : Vec Ideal S1x1024x1x128 .bf16) (i : Fin 32) (j : Fin 1024) :
    gP (F := Ideal) q h k (ix2 i j) = Ideal.exp (∑ d : Fin 128, q (ix3 0 i ⟨128 * h.val + d.val, at_lt h d⟩) * k (ix4 0 j 0 d)) := by
  pointwise [gP]

theorem gL_at (q : Vec Ideal S1x32x1024 .bf16) (h : Fin 8) (k : Vec Ideal S1x1024x1x128 .bf16) (i : Fin 32) :
    gL (F := Ideal) q h k (ix2 i 0) = ∑ j : Fin 1024, gP (F := Ideal) q h k (ix2 i j) := by
  pointwise [gL]

theorem gA_at (q : Vec Ideal S1x32x1024 .bf16) (h : Fin 8) (k v : Vec Ideal S1x1024x1x128 .bf16) (i : Fin 32) (d : Fin 128) :
    gA (F := Ideal) q h k v (ix3 i 0 d) = ∑ j : Fin 1024, gP (F := Ideal) q h k (ix2 i j) * v (ix4 0 j 0 d) := by
  pointwise [gA]

theorem grpA_at (q : Vec Ideal S1x32x1024 .bf16) (k v : Fin 8 → Vec Ideal S1x1024x1x128 .bf16) (i : Fin 32) (h : Fin 8) (d : Fin 128) :
    grpA (F := Ideal) q k v (ix4 0 i h d) = gA (F := Ideal) q h (k h) (v h) (ix3 i 0 d) := by
  pointwise [grpA]
  fin_vals h with hk
  all_goals
    simp only [hk, Nat.reduceSub, Nat.reduceLT, ↓reduceDIte]
    exact congrArg (fun h => gA (F := Ideal) q h (k h) (v h) (ix3 i 0 d)) (Fin.ext hk.symm)

theorem grpL_at (q : Vec Ideal S1x32x1024 .bf16) (k : Fin 8 → Vec Ideal S1x1024x1x128 .bf16) (i : Fin 32) (h : Fin 8) :
    grpL (F := Ideal) q k (ix3 0 i h) = gL (F := Ideal) q h (k h) (ix2 i 0) := by
  pointwise [grpL]
  fin_vals h with hk
  all_goals
    simp only [hk, Nat.reduceSub, Nat.reduceLT, ↓reduceDIte]
    exact congrArg (fun h => gL (F := Ideal) q h (k h) (ix2 i 0)) (Fin.ext hk.symm)

/-! ## The window -/

theorem wP_at (q : FVec Ideal S1024x1024 .bf16) (mask : FVec Ideal S1024x512 .f32) (h : Fin 8) (k : Vec Ideal S512x1x128 .bf16) (i : Fin 1024) (j : Fin 512) :
    wP (F := Ideal) q mask h k (ix2 i j)
      = Ideal.exp ((∑ d : Fin 128, q (ix2 i ⟨128 * h.val + d.val, at_lt h d⟩) * k (ix3 j 0 d)) + mask (ix2 i j)) := by
  pointwise [wP]

theorem wL_at (q : FVec Ideal S1024x1024 .bf16) (mask : FVec Ideal S1024x512 .f32) (h : Fin 8) (k : Vec Ideal S512x1x128 .bf16) (l : FVec Ideal S1024 .f32) (i : Fin 1024) :
    wL (F := Ideal) q mask h k l (ix1 i) = l (ix1 i) + ∑ j : Fin 512, wP (F := Ideal) q mask h k (ix2 i j) := by
  pointwise [wL]

theorem wA_at (q : FVec Ideal S1024x1024 .bf16) (mask : FVec Ideal S1024x512 .f32) (h : Fin 8) (k v : Vec Ideal S512x1x128 .bf16) (a : FVec Ideal S1024x128 .f32)
    (i : Fin 1024) (d : Fin 128) :
    wA (F := Ideal) q mask h k v a (ix2 i d) = a (ix2 i d) + ∑ j : Fin 512, wP (F := Ideal) q mask h k (ix2 i j) * v (ix3 j 0 d) := by
  pointwise [wA]

theorem mask0_at (i : Fin 1024) (j : Fin 512) :
    mask0 (F := Ideal) (ix2 i j) = if 32 ≤ i.val ∧ ((i.val ≤ j.val + 128 ∧ j.val ≤ i.val + 128) ∨ j.val < 32) then (0 : EReal) else ⊥ := by
  pointwise [mask0, k0_pay137, k0_pay136]
  rw [add_word, near_word (by omega) (by omega), lt_word (by omega) (by omega), ge_word (by omega) (by omega), word_or, word_and, select_word, mask_bot]
  rfl

theorem mask1_at (i : Fin 1024) (j : Fin 512) :
    mask1 (F := Ideal) (ix2 i j) = if 32 ≤ i.val ∧ ((i.val ≤ (j.val + 512) + 128 ∧ (j.val + 512) ≤ i.val + 128) ∨ (j.val + 512) < 32) then (0 : EReal) else ⊥ := by
  pointwise [mask1, k0_pay164]
  rw [add_word, near_word (by omega) (by omega), lt_word (by omega) (by omega), ge_word (by omega) (by omega), word_or, word_and, select_word, mask_bot]
  exact if_congr (by omega) rfl rfl

theorem winL_at (q : FVec Ideal S1024x1024 .bf16) (k : Fin 2 → Fin 8 → Vec Ideal S512x1x128 .bf16) (h : Fin 8) (i : Fin 1024) :
    winL (F := Ideal) q k h (ix1 i)
      = ∑ j : Fin 512, wP (F := Ideal) q mask0 h (k 0 h) (ix2 i j) + ∑ j : Fin 512, wP (F := Ideal) q mask1 h (k 1 h) (ix2 i j) := by
  rw [winL, wL_at, wL_at]
  pointwise []

theorem winA_at (q : FVec Ideal S1024x1024 .bf16) (k v : Fin 2 → Fin 8 → Vec Ideal S512x1x128 .bf16) (h : Fin 8) (i : Fin 1024) (d : Fin 128) :
    winA (F := Ideal) q k v h (ix2 i d)
      = ∑ j : Fin 512, wP (F := Ideal) q mask0 h (k 0 h) (ix2 i j) * v 0 h (ix3 j 0 d)
        + ∑ j : Fin 512, wP (F := Ideal) q mask1 h (k 1 h) (ix2 i j) * v 1 h (ix3 j 0 d) := by
  rw [winA, wA_at, wA_at]
  pointwise []

/-! ## The rows that reach the second device's keys -/

theorem maskB_at (i j : Fin 128) : k0_pay192 (F := Ideal) (ix2 i j) = if j.val ≤ i.val then (0 : EReal) else ⊥ := by
  pointwise [k0_pay192]
  rw [ge_word (by omega) (by omega), select_word, mask_bot]

theorem bP_at (q : FVec Ideal S1024x1024 .bf16) (h : Fin 8) (k : Vec Ideal S128x1x128 .bf16) (i j : Fin 128) :
    bP (F := Ideal) q h k (ix2 i j)
      = Ideal.exp ((∑ d : Fin 128, q (ix2 ⟨896 + i.val, by omega⟩ ⟨128 * h.val + d.val, at_lt h d⟩) * k (ix3 j 0 d)) + (if j.val ≤ i.val then (0 : EReal) else ⊥)) := by
  rw [← maskB_at]
  pointwise [bP]

theorem bL_at (q : FVec Ideal S1024x1024 .bf16) (h : Fin 8) (k : Vec Ideal S128x1x128 .bf16) (i : Fin 128) :
    bL (F := Ideal) q h k (ix1 i) = ∑ j : Fin 128, bP (F := Ideal) q h k (ix2 i j) := by
  pointwise [bL]

theorem bA_at (q : FVec Ideal S1024x1024 .bf16) (h : Fin 8) (k v : Vec Ideal S128x1x128 .bf16) (i d : Fin 128) :
    bA (F := Ideal) q h k v (ix2 i d) = ∑ j : Fin 128, bP (F := Ideal) q h k (ix2 i j) * v (ix3 j 0 d) := by
  pointwise [bA]

/-! ## The totals over the devices -/

/-- A device adds its own block and zero for each other one. -/
theorem own_pick (c : Dev nD) (a : EReal) (f : Fin 4 → EReal) :
    a + Scalar.select (Scalar.cmpi .eq (wv c) 0#32) (f 0) 0 + Scalar.select (Scalar.cmpi .eq (wv c) 1#32) (f 1) 0
      + Scalar.select (Scalar.cmpi .eq (wv c) 2#32) (f 2) 0 + Scalar.select (Scalar.cmpi .eq (wv c) 3#32) (f 3) 0 = a + f c := by
  match c with
  | 0 => show a + f 0 + 0 + 0 + 0 = a + f 0; simp only [add_zero]
  | 1 => show a + 0 + f 1 + 0 + 0 = a + f 1; simp only [add_zero]
  | 2 => show a + 0 + 0 + f 2 + 0 = a + f 2; simp only [add_zero]
  | 3 => show a + 0 + 0 + 0 + f 3 = a + f 3; simp only [add_zero]

theorem totA_at (c : Dev nD) (r : Fin 3 → Vec Ideal S1x32x8x128 .f32) (p : Fin 4 → Vec Ideal S1x32x8x128 .f32) (i : Fin 32) (h : Fin 8) (d : Fin 128) :
    totA (F := Ideal) (wv c) r p (ix3 i h d) = r 0 (ix4 0 i h d) + r 1 (ix4 0 i h d) + r 2 (ix4 0 i h d) + p c (ix4 0 i h d) := by
  pointwise [totA, k0_pay225, k0_pay222, k0_pay219, k0_pay224, k0_pay217, k0_pay218, k0_pay220, k0_pay221]
  exact own_pick c _ fun g => p g (ix4 0 i h d)

theorem totL_at (c : Dev nD) (r : Fin 3 → Vec Ideal S1x32x8 .f32) (p : Fin 4 → Vec Ideal S1x32x8 .f32) (i : Fin 32) (h : Fin 8) :
    totL (F := Ideal) (wv c) r p (ix2 i h) = r 0 (ix3 0 i h) + r 1 (ix3 0 i h) + r 2 (ix3 0 i h) + p c (ix3 0 i h) := by
  pointwise [totL, k0_pay226, k0_pay223, k0_pay217, k0_pay218, k0_pay224, k0_pay220, k0_pay221]
  exact own_pick c _ fun g => p g (ix3 0 i h)

/-! ## The context and the projection -/

theorem ctxL_at (tL : FVec Ideal S32x8 .f32) (l : FVec Ideal S1024 .f32) (b : FVec Ideal S128 .f32) (h : Fin 8) (i : Fin 1024) :
    ctxL (F := Ideal) tL l b h (ix1 i) = if hi : i.val < 32 then tL (ix2 ⟨i.val, hi⟩ h)
      else if hj : i.val < 896 then l (ix1 i) else l (ix1 i) + b (ix1 ⟨i.val - 896, by omega⟩) := by
  pointwise [ctxL]
  by_cases hi : i.val < 32
  · rw [dif_pos hi, dif_pos hi]
  · have e2 : i.val - 32 - 864 = i.val - 896 := by omega
    rw [dif_neg hi, dif_neg hi]
    by_cases hj : i.val < 896
    · have e1 : 32 + (i.val - 32) = i.val := by omega
      rw [dif_pos (show i.val - 32 < 864 by omega), dif_pos hj]
      simp only [e1, Fin.eta]
    · have e1 : 896 + (i.val - 896) = i.val := by omega
      rw [dif_neg (show ¬ i.val - 32 < 864 by omega), dif_neg hj]
      simp only [e2, e1, Fin.eta]

theorem ctxA_at (tA : FVec Ideal S32x8x128 .f32) (a : FVec Ideal S1024x128 .f32) (b : FVec Ideal S128x128 .f32) (h : Fin 8) (i : Fin 1024) (d : Fin 128) :
    ctxA (F := Ideal) tA a b h (ix2 i d) = if hi : i.val < 32 then tA (ix3 ⟨i.val, hi⟩ h d)
      else if hj : i.val < 896 then a (ix2 i d) else a (ix2 i d) + b (ix2 ⟨i.val - 896, by omega⟩ d) := by
  pointwise [ctxA]
  by_cases hi : i.val < 32
  · rw [dif_pos hi, dif_pos hi]
  · have e2 : i.val - 32 - 864 = i.val - 896 := by omega
    rw [dif_neg hi, dif_neg hi]
    by_cases hj : i.val < 896
    · have e1 : 32 + (i.val - 32) = i.val := by omega
      rw [dif_pos (show i.val - 32 < 864 by omega), dif_pos hj]
      simp only [e1, Fin.eta]
    · have e1 : 896 + (i.val - 896) = i.val := by omega
      rw [dif_neg (show ¬ i.val - 32 < 864 by omega), dif_neg hj]
      simp only [e2, e1, Fin.eta]

theorem ctx_at (l : FVec Ideal S1024 .f32) (a : FVec Ideal S1024x128 .f32) (i : Fin 1024) (d : Fin 128) :
    ctx (F := Ideal) l a (ix2 i d) = Ideal.div (a (ix2 i d)) (l (ix1 i)) := by
  pointwise [ctx]

/-- The heads' contexts side by side. -/
def side (c : Fin 8 → FVec Ideal S1024x128 .bf16) : FVec Ideal S1024x1024 .bf16 :=
  concatenate S1024x1024 1 [⟨S1024x128, c 0⟩, ⟨S1024x128, c 1⟩, ⟨S1024x128, c 2⟩, ⟨S1024x128, c 3⟩, ⟨S1024x128, c 4⟩, ⟨S1024x128, c 5⟩, ⟨S1024x128, c 6⟩, ⟨S1024x128, c 7⟩]
    concatenates_S1024x128_S1024x128_S1024x128_S1024x128_S1024x128_S1024x128_S1024x128_S1024x128_S1024x1024_d1

theorem proj_side (c : Fin 8 → FVec Ideal S1024x128 .bf16) (wo : Vec Ideal S1024x1024 .bf16) :
    proj (F := Ideal) c wo = shapeCast S1024x1024 (truncf .bf16 (matmul (φ₂ := .bf16) dot_S1024x1024_S1024x1024_S1024x1024_1_0_0_1_n_n none
      (side c) (shapeCast S1024x1024 wo shapeCasts_S1024x1024_S1024x1024) (constant S1024x1024 .f32 0x00000000#32)) bitsLt_bf16_f32) shapeCasts_S1024x1024_S1024x1024 := rfl

theorem side_pick (c : Fin 8 → FVec Ideal S1024x128 .bf16) (i : Fin 1024) {h k : Fin 8} {d : Fin 128} {y : ℕ} (hy : y < 128) (hk : k.val = h.val) (e : y = d.val) :
    c k (ix2 i ⟨y, hy⟩) = c h (ix2 i d) := by
  subst e
  rw [Fin.ext hk]

theorem side_at (c : Fin 8 → FVec Ideal S1024x128 .bf16) (i : Fin 1024) (h : Fin 8) (d : Fin 128) :
    side c (ix2 i ⟨128 * h.val + d.val, at_lt h d⟩) = c h (ix2 i d) := by
  pointwise [side]
  have hd := d.isLt
  have hh := h.isLt
  split
  · exact side_pick c i _ (show 0 = h.val by omega) (by omega)
  split
  · exact side_pick c i _ (show 1 = h.val by omega) (by omega)
  split
  · exact side_pick c i _ (show 2 = h.val by omega) (by omega)
  split
  · exact side_pick c i _ (show 3 = h.val by omega) (by omega)
  split
  · exact side_pick c i _ (show 4 = h.val by omega) (by omega)
  split
  · exact side_pick c i _ (show 5 = h.val by omega) (by omega)
  split
  · exact side_pick c i _ (show 6 = h.val by omega) (by omega)
  · exact side_pick c i _ (show 7 = h.val by omega) (by omega)

theorem proj_at (c : Fin 8 → FVec Ideal S1024x128 .bf16) (wo : Vec Ideal S1024x1024 .bf16) (i n : Fin 1024) :
    proj (F := Ideal) c wo (ix2 i n) = ∑ x : Fin 1024, side c (ix2 i x) * wo (ix2 x n) := by
  rw [proj_side]
  pointwise []

theorem outQ_at (s : Vec Ideal S256x1024 .bf16) (a b c : Vec Ideal S1x256x1024 .bf16) (i : Fin 256) (n : Fin 1024) :
    k0_pay240 (F := Ideal) (k0_pay239 s a) b c (ix3 0 i n) = s (ix2 i n) + a (ix3 0 i n) + b (ix3 0 i n) + c (ix3 0 i n) := by
  pointwise [k0_pay240, k0_pay239]

end Cert.KernelIdeal.Pf

end
-- ==== Proof.LoadAt.lean ====
/-
# The loads, entry by entry

What each load of the kernel reads, as an entry of an argument or of what a device computed before.
-/
module

public import proofs.«01_k».proof.Proof.Common
public import Idealize.ShloMosaic.Lib.Pointwise
public import Idealize.ShloMosaic.Lib.Pipeline.ValueKit

@[expose] public section

set_option maxRecDepth 16384

noncomputable section

namespace Cert.KernelIdeal.Pf

open Cert.KernelIdeal Cert.KernelIdeal.Gen
open Idealize.ShloMosaic Idealize.ShloMosaic.TcCoe

variable {F : FTy → Type} [FloatOps F] [Named F] (m : (ℓ : Loc nD τ sig) → Buf (Elt F) ℓ) (ρ : Dev nD → PrngReg)

/-! ## The staged blocks are the whole arguments -/

theorem xst_eq (c : Dev nD) : xst m ρ c = m ((c : Thread nD τ).loc main_arg0) := by
  show (win0_0.blk t0_0).view.read (Elt F) (m ((c : Thread nD τ).loc main_arg0)) = _
  funext j
  blk_simp
  refine congrArg (m ((c : Thread nD τ).loc main_arg0)) (funext fun (a : Fin 3) => Fin.ext ?_)
  match a with
  | 0 => show 0 * 1 + 1 * (j 0).val = (j 0).val; omega
  | 1 => show 0 * 1024 + 1 * (j 1).val = (j 1).val; omega
  | 2 => show 0 * 1024 + 1 * (j 2).val = (j 2).val; omega

theorem wqst_eq (c : Dev nD) : wqst m ρ c = m ((c : Thread nD τ).loc main_arg1) := by
  show (win0_1.blk t0_0).view.read (Elt F) (m ((c : Thread nD τ).loc main_arg1)) = _
  funext j
  blk_simp
  refine congrArg (m ((c : Thread nD τ).loc main_arg1)) (funext fun (a : Fin 2) => Fin.ext ?_)
  match a with
  | 0 => show 0 * 1024 + 1 * (j 0).val = (j 0).val; omega
  | 1 => show 0 * 1024 + 1 * (j 1).val = (j 1).val; omega

theorem wost_eq (c : Dev nD) : wost m ρ c = m ((c : Thread nD τ).loc main_arg4) := by
  show (win0_2.blk t0_0).view.read (Elt F) (m ((c : Thread nD τ).loc main_arg4)) = _
  funext j
  blk_simp
  refine congrArg (m ((c : Thread nD τ).loc main_arg4)) (funext fun (a : Fin 2) => Fin.ext ?_)
  match a with
  | 0 => show 0 * 1024 + 1 * (j 0).val = (j 0).val; omega
  | 1 => show 0 * 1024 + 1 * (j 1).val = (j 1).val; omega

/-! ## The kernel's own loads -/

/-- One device's 32 global query rows. -/
theorem ldQ_at (g : Fin 4) (i : Fin 32) (j : Fin 1024) :
    ldQ m ρ g (ix3 0 i j) = k0_pay3 (k0_pay1 (xst m ρ g)) (wqst m ρ g) (ix3 0 i j : S1x32x1024.Idx) := by
  refine (congrArg (Q32 m ρ) (funext fun (a : Fin 3) => Fin.ext ?_)).trans (show Q32 m ρ (ix3 g i j : S4x32x1024.Idx) = _ from rfl)
  match a with
  | 0 => show g.val + 1 * 0 = g.val; omega
  | 1 => show 0 + 1 * i.val = i.val; omega
  | 2 => show 0 + 1 * j.val = j.val; omega

/-- A head of a staged group of keys, and of values. -/
theorem ldKS_at (c : Dev nD) (g : Fin 4) (h : Fin 8) (j : Fin 1024) (d : Fin 128) :
    ldKS m c g h (ix4 0 j 0 d) = Kc m c (ix4 0 j ⟨8 * g.val + h.val, hd_lt g h⟩ d : S1x1024x32x128.Idx) := by
  refine (congrArg (KS m c g) (funext fun (a : Fin 4) => Fin.ext ?_)).trans
    (show KS m c g (ix4 ⟨g.val % 2, Nat.mod_lt _ (by decide)⟩ j h d : S2x1024x8x128.Idx) = _ from rfl)
  match a with
  | 0 => show g.val % 2 + 1 * 0 = g.val % 2; omega
  | 1 => show 0 + 1 * j.val = j.val; omega
  | 2 => show h.val + 1 * 0 = h.val; omega
  | 3 => show 0 + 1 * d.val = d.val; omega

theorem ldVS_at (c : Dev nD) (g : Fin 4) (h : Fin 8) (j : Fin 1024) (d : Fin 128) :
    ldVS m c g h (ix4 0 j 0 d) = Vc m c (ix4 0 j ⟨8 * g.val + h.val, hd_lt g h⟩ d : S1x1024x32x128.Idx) := by
  refine (congrArg (VS m c g) (funext fun (a : Fin 4) => Fin.ext ?_)).trans
    (show VS m c g (ix4 ⟨g.val % 2, Nat.mod_lt _ (by decide)⟩ j h d : S2x1024x8x128.Idx) = _ from rfl)
  match a with
  | 0 => show g.val % 2 + 1 * 0 = g.val % 2; omega
  | 1 => show 0 + 1 * j.val = j.val; omega
  | 2 => show h.val + 1 * 0 = h.val; omega
  | 3 => show 0 + 1 * d.val = d.val; omega

theorem half_lt (s : Fin 2) (j : Fin 512) : 512 * s.val + j.val < 1024 := by omega

/-- A head of a half of the first device's keys, and of its values. -/
theorem ldK0_at (c : Dev nD) (s : Fin 2) (h : Fin 8) (j : Fin 512) (d : Fin 128) :
    ldK0 m c s h (ix3 j 0 d) = Kc m (0 : Dev nD) (ix4 0 ⟨512 * s.val + j.val, half_lt s j⟩ ⟨8 * c.val + h.val, hd_lt c h⟩ d : S1x1024x32x128.Idx) := by
  refine (congrArg (K0 m c) (funext fun (a : Fin 3) => Fin.ext ?_)).trans
    (show K0 m c (ix3 ⟨512 * s.val + j.val, half_lt s j⟩ h d : S1024x8x128.Idx) = _ from rfl)
  match a with
  | 0 => show 512 * s.val + 1 * j.val = 512 * s.val + j.val; omega
  | 1 => show h.val + 1 * 0 = h.val; omega
  | 2 => show 0 + 1 * d.val = d.val; omega

theorem ldV0_at (c : Dev nD) (s : Fin 2) (h : Fin 8) (j : Fin 512) (d : Fin 128) :
    ldV0 m c s h (ix3 j 0 d) = Vc m (0 : Dev nD) (ix4 0 ⟨512 * s.val + j.val, half_lt s j⟩ ⟨8 * c.val + h.val, hd_lt c h⟩ d : S1x1024x32x128.Idx) := by
  refine (congrArg (V0 m c) (funext fun (a : Fin 3) => Fin.ext ?_)).trans
    (show V0 m c (ix3 ⟨512 * s.val + j.val, half_lt s j⟩ h d : S1024x8x128.Idx) = _ from rfl)
  match a with
  | 0 => show 512 * s.val + 1 * j.val = 512 * s.val + j.val; omega
  | 1 => show h.val + 1 * 0 = h.val; omega
  | 2 => show 0 + 1 * d.val = d.val; omega

/-- A head of the second device's first 128 keys, and of its values. -/
theorem ldKB_at (c : Dev nD) (h : Fin 8) (j : Fin 128) (d : Fin 128) :
    ldKB m c h (ix3 j 0 d) = Kc m (1 : Dev nD) (ix4 0 ⟨j.val, row_lt j⟩ ⟨8 * c.val + h.val, hd_lt c h⟩ d : S1x1024x32x128.Idx) := by
  refine (congrArg (KB m c) (funext fun (a : Fin 3) => Fin.ext ?_)).trans
    (show KB m c (ix3 j h d : S128x8x128.Idx) = _ from rfl)
  match a with
  | 0 => show 0 + 1 * j.val = j.val; omega
  | 1 => show h.val + 1 * 0 = h.val; omega
  | 2 => show 0 + 1 * d.val = d.val; omega

theorem ldVB_at (c : Dev nD) (h : Fin 8) (j : Fin 128) (d : Fin 128) :
    ldVB m c h (ix3 j 0 d) = Vc m (1 : Dev nD) (ix4 0 ⟨j.val, row_lt j⟩ ⟨8 * c.val + h.val, hd_lt c h⟩ d : S1x1024x32x128.Idx) := by
  refine (congrArg (VB m c) (funext fun (a : Fin 3) => Fin.ext ?_)).trans
    (show VB m c (ix3 j h d : S128x8x128.Idx) = _ from rfl)
  match a with
  | 0 => show 0 + 1 * j.val = j.val; omega
  | 1 => show h.val + 1 * 0 = h.val; omega
  | 2 => show 0 + 1 * d.val = d.val; omega

/-- What another device sent of its weighted values and row sums. -/
theorem ldRA_at (c : Dev nD) (j : Fin 3) (i : Fin 32) (h : Fin 8) (d : Fin 128) :
    ldRA m ρ c j (ix4 0 i h d) = PAblk m ρ (pv c j.val) c (ix4 0 i h d : S1x32x8x128.Idx) := by
  refine (congrArg (PRA m ρ c) (funext fun (a : Fin 4) => Fin.ext ?_)).trans
    (show PRA m ρ c (ix4 j i h d : S3x32x8x128.Idx) = _ from rfl)
  match a with
  | 0 => show j.val + 1 * 0 = j.val; omega
  | 1 => show 0 + 1 * i.val = i.val; omega
  | 2 => show 0 + 1 * h.val = h.val; omega
  | 3 => show 0 + 1 * d.val = d.val; omega

theorem ldRL_at (c : Dev nD) (j : Fin 3) (i : Fin 32) (h : Fin 8) :
    ldRL m ρ c j (ix3 0 i h) = PLblk m ρ (pv c j.val) c (ix3 0 i h : S1x32x8.Idx) := by
  refine (congrArg (PRL m ρ c) (funext fun (a : Fin 3) => Fin.ext ?_)).trans
    (show PRL m ρ c (ix3 j i h : S3x32x8.Idx) = _ from rfl)
  match a with
  | 0 => show j.val + 1 * 0 = j.val; omega
  | 1 => show 0 + 1 * i.val = i.val; omega
  | 2 => show 0 + 1 * h.val = h.val; omega

/-- The device's own. -/
theorem ldPA_at (c : Dev nD) (g : Fin 4) (i : Fin 32) (h : Fin 8) (d : Fin 128) :
    ldPA m ρ c g (ix4 0 i h d) = PAblk m ρ c g (ix4 0 i h d : S1x32x8x128.Idx) := by
  refine (congrArg (PA m ρ c) (funext fun (a : Fin 4) => Fin.ext ?_)).trans
    (show PA m ρ c (ix4 g i h d : S4x32x8x128.Idx) = _ from rfl)
  match a with
  | 0 => show g.val + 1 * 0 = g.val; omega
  | 1 => show 0 + 1 * i.val = i.val; omega
  | 2 => show 0 + 1 * h.val = h.val; omega
  | 3 => show 0 + 1 * d.val = d.val; omega

theorem ldPL_at (c : Dev nD) (g : Fin 4) (i : Fin 32) (h : Fin 8) :
    ldPL m ρ c g (ix3 0 i h) = PLblk m ρ c g (ix3 0 i h : S1x32x8.Idx) := by
  refine (congrArg (PL m ρ c) (funext fun (a : Fin 3) => Fin.ext ?_)).trans
    (show PL m ρ c (ix3 g i h : S4x32x8.Idx) = _ from rfl)
  match a with
  | 0 => show g.val + 1 * 0 = g.val; omega
  | 1 => show 0 + 1 * i.val = i.val; omega
  | 2 => show 0 + 1 * h.val = h.val; omega

/-- The others' shares of the device's quarter of the result, and its own. -/
theorem ldOB_at (c : Dev nD) (j : Fin 3) (i : Fin 256) (n : Fin 1024) :
    ldOB m ρ c j (ix3 0 i n) = OS m ρ (pv c j.val) (ix2 ⟨256 * c.val + i.val, quarter_lt c i⟩ n : S1024x1024.Idx) := by
  refine (congrArg (OB m ρ c) (funext fun (a : Fin 3) => Fin.ext ?_)).trans
    (show OB m ρ c (ix3 j i n : S3x256x1024.Idx) = _ from rfl)
  match a with
  | 0 => show j.val + 1 * 0 = j.val; omega
  | 1 => show 0 + 1 * i.val = i.val; omega
  | 2 => show 0 + 1 * n.val = n.val; omega

theorem ldOS_at (c : Dev nD) (i : Fin 256) (n : Fin 1024) :
    ldOS m ρ c (ix2 i n) = OS m ρ c (ix2 ⟨256 * c.val + i.val, quarter_lt c i⟩ n : S1024x1024.Idx) := by
  have e : k0_off7 c = ![256 * c.val, 0] := by revert c; decide
  refine congrArg (OS m ρ c) (funext fun (a : Fin 2) => Fin.ext ?_)
  match a with
  | 0 => show k0_off7 c 0 + 1 * i.val = 256 * c.val + i.val; rw [e]; show 256 * c.val + 1 * i.val = _; omega
  | 1 => show k0_off7 c 1 + 1 * n.val = n.val; rw [e]; show 0 + 1 * n.val = _; omega

end Cert.KernelIdeal.Pf

end
-- ==== Proof.KerValue.lean ====
/-
# The value of the kernel

From arguments that hold the blocks of `X`, `W`, `K`, `V`, `O`, every device computes the plain formula.
-/
module

public import proofs.«01_k».proof.Proof.KerAt
public import proofs.«01_k».proof.Proof.LoadAt

@[expose] public section

set_option maxRecDepth 16384

noncomputable section

namespace Cert.KernelIdeal.Pf

open Cert.KernelIdeal Cert.KernelIdeal.Gen
open Idealize.ShloMosaic Idealize.ShloMosaic.TcCoe
open Cert.Spec

theorem dev_lt (c : Fin 4) (j : Fin 1024) : 1024 * c.val + j.val < 4096 := by omega

/-- A sum over the four devices, in the order a device adds them: what it received, then its own. -/
theorem sum_devs (c : Dev nD) (f : Dev nD → EReal) : f (pv c 0) + f (pv c 1) + f (pv c 2) + f c = ∑ e : Fin 4, f e := by
  rw [Fin.sum_univ_four]
  match c with
  | 0 => show f 3 + f 2 + f 1 + f 0 = f 0 + f 1 + f 2 + f 3; abel
  | 1 => show f 0 + f 3 + f 2 + f 1 = f 0 + f 1 + f 2 + f 3; abel
  | 2 => show f 1 + f 0 + f 3 + f 2 = f 0 + f 1 + f 2 + f 3; abel
  | 3 => show f 2 + f 1 + f 0 + f 3 = f 0 + f 1 + f 2 + f 3; abel

/-- The same sum with the device's own term first. -/
theorem sum_devs' (c : Dev nD) (f : Dev nD → EReal) : f c + f (pv c 0) + f (pv c 1) + f (pv c 2) = ∑ e : Fin 4, f e := by
  rw [← sum_devs c f]
  abel

/-- A masked exponential is the weight. -/
theorem exp_mask (a : ℝ) (p q : Prop) [Decidable p] [Decidable q] (e : p ↔ q) :
    Ideal.exp ((a : EReal) + (if p then (0 : EReal) else ⊥)) = ((if q then Real.exp a else 0 : ℝ) : EReal) := by
  by_cases hp : p
  · rw [if_pos hp, if_pos (e.1 hp), add_zero, Ideal.exp_coe]
  · rw [if_neg hp, if_neg (fun hq => hp (e.2 hq)), EReal.add_bot, Ideal.exp_bot, EReal.coe_zero]

section

variable (X : Fin 1024 → Fin 1024 → ℝ) (W : Fin 1024 → Fin 4096 → ℝ) (K : Fin 4096 → Fin 32 → Fin 128 → ℝ)
  (V : Fin 4096 → Fin 32 → Fin 128 → EReal) (O : Fin 4096 → Fin 1024 → EReal)
  (m : (ℓ : Loc nD τ sig) → Buf (Elt Ideal) ℓ) (ρ : Dev nD → PrngReg)

/-- The arguments hold the devices' blocks. -/
structure Holds : Prop where
  x : ∀ (c : Dev nD) (i t : Fin 1024), (m ((c : Thread nD τ).loc main_arg0) : FVec Ideal S1x1024x1024 .bf16) (ix3 0 i t) = (X i t : EReal)
  wq : ∀ (c : Dev nD) (t n : Fin 1024), (m ((c : Thread nD τ).loc main_arg1) : FVec Ideal S1024x1024 .bf16) (ix2 t n) = (W t ⟨1024 * c.val + n.val, dev_lt c n⟩ : EReal)
  k : ∀ (c : Dev nD) (j : Fin 1024) (h : Fin 32) (d : Fin 128), Kc m c (ix4 0 j h d : S1x1024x32x128.Idx) = (K ⟨1024 * c.val + j.val, dev_lt c j⟩ h d : EReal)
  v : ∀ (c : Dev nD) (j : Fin 1024) (h : Fin 32) (d : Fin 128), Vc m c (ix4 0 j h d : S1x1024x32x128.Idx) = V ⟨1024 * c.val + j.val, dev_lt c j⟩ h d
  wo : ∀ (c : Dev nD) (r n : Fin 1024), (m ((c : Thread nD τ).loc main_arg4) : FVec Ideal S1024x1024 .bf16) (ix2 r n) = O ⟨1024 * c.val + r.val, dev_lt c r⟩ n

variable (H : Holds X W K V O m)
include H

/-- A scaled query times the keys: the score. -/
theorem q_score (c : Dev nD) (i : Fin 1024) (h : Fin 8) (j : Fin 4096) :
    ∑ d : Fin 128, Q m ρ c (ix2 i ⟨128 * h.val + d.val, at_lt h d⟩) * (K j ⟨8 * c.val + h.val, hd_lt c h⟩ d : EReal)
      = (score X W K scale i ⟨8 * c.val + h.val, hd_lt c h⟩ j : EReal) := by
  rw [← score_eq]
  refine Finset.sum_congr rfl fun d _ => ?_
  congr 1
  rw [Q, q_at, xst_eq, wqst_eq]
  congr 1
  refine Finset.sum_congr rfl fun t _ => ?_
  rw [H.x, H.wq]
  congr 3
  exact Fin.ext (by show 1024 * c.val + (128 * h.val + d.val) = 128 * (8 * c.val + h.val) + d.val; omega)

theorem q32_score (g : Fin 4) (i : Fin 32) (h : Fin 8) (j : Fin 4096) :
    ∑ d : Fin 128, ldQ m ρ g (ix3 0 i ⟨128 * h.val + d.val, at_lt h d⟩) * (K j ⟨8 * g.val + h.val, hd_lt g h⟩ d : EReal)
      = (score X W K scale ⟨i.val, by omega⟩ ⟨8 * g.val + h.val, hd_lt g h⟩ j : EReal) := by
  rw [← q_score X W K V O m ρ H g]
  refine Finset.sum_congr rfl fun d _ => ?_
  rw [ldQ_at, q32_at, Q, q_at]

/-! ## The global rows -/

/-- A global row attends every key. -/
theorem gP_wt (c : Dev nD) (g : Fin 4) (i : Fin 32) (h : Fin 8) (j : Fin 1024) :
    gP (F := Ideal) (ldQ m ρ g) h (ldKS m c g h) (ix2 i j)
      = (wt X W K scale ⟨i.val, by omega⟩ ⟨8 * g.val + h.val, hd_lt g h⟩ ⟨1024 * c.val + j.val, dev_lt c j⟩ : EReal) := by
  rw [gP_at]
  simp only [ldKS_at, H.k]
  rw [q32_score X W K V O m ρ H g i h ⟨1024 * c.val + j.val, dev_lt c j⟩, Ideal.exp_coe]
  have hs : sees i.val (1024 * c.val + j.val) := Or.inr (Or.inr i.isLt)
  exact congrArg _ (if_pos hs).symm

theorem PL_wt (c : Dev nD) (g : Fin 4) (i : Fin 32) (h : Fin 8) :
    PLblk m ρ c g (ix3 0 i h)
      = ∑ j : Fin 1024, (wt X W K scale ⟨i.val, by omega⟩ ⟨8 * g.val + h.val, hd_lt g h⟩ ⟨1024 * c.val + j.val, dev_lt c j⟩ : EReal) := by
  rw [PLblk, grpL_at, gL_at]
  exact Finset.sum_congr rfl fun j _ => gP_wt X W K V O m ρ H c g i h j

theorem PA_wt (c : Dev nD) (g : Fin 4) (i : Fin 32) (h : Fin 8) (d : Fin 128) :
    PAblk m ρ c g (ix4 0 i h d)
      = ∑ j : Fin 1024, (wt X W K scale ⟨i.val, by omega⟩ ⟨8 * g.val + h.val, hd_lt g h⟩ ⟨1024 * c.val + j.val, dev_lt c j⟩ : EReal)
          * V ⟨1024 * c.val + j.val, dev_lt c j⟩ ⟨8 * g.val + h.val, hd_lt g h⟩ d := by
  rw [PAblk, grpA_at, gA_at]
  exact Finset.sum_congr rfl fun j _ => by rw [gP_wt X W K V O m ρ H c g i h j, ldVS_at, H.v]

/-- The totals over the devices. -/
theorem totL_den (c : Dev nD) (i : Fin 32) (h : Fin 8) :
    totL (F := Ideal) (wv c) (ldRL m ρ c) (ldPL m ρ c) (ix2 i h) = (den X W K scale ⟨i.val, by omega⟩ ⟨8 * c.val + h.val, hd_lt c h⟩ : EReal) := by
  rw [totL_at, ldRL_at, ldRL_at, ldRL_at, ldPL_at]
  refine (sum_devs c fun e => PLblk m ρ e c (ix3 0 i h)).trans ?_
  rw [den, coe_sum]
  refine Eq.trans ?_ (sum_blocks 4 1024 _).symm
  exact Finset.sum_congr rfl fun e _ => PL_wt X W K V O m ρ H e c i h

theorem totA_num (c : Dev nD) (i : Fin 32) (h : Fin 8) (d : Fin 128) :
    totA (F := Ideal) (wv c) (ldRA m ρ c) (ldPA m ρ c) (ix3 i h d) = num X W K V scale ⟨i.val, by omega⟩ ⟨8 * c.val + h.val, hd_lt c h⟩ d := by
  rw [totA_at, ldRA_at, ldRA_at, ldRA_at, ldPA_at]
  refine (sum_devs c fun e => PAblk m ρ e c (ix4 0 i h d)).trans ?_
  rw [num]
  refine Eq.trans ?_ (sum_blocks 4 1024 _).symm
  exact Finset.sum_congr rfl fun e _ => PA_wt X W K V O m ρ H e c i h d

/-! ## The window -/

theorem wP0_wt (c : Dev nD) (i : Fin 1024) (hi : 32 ≤ i.val) (h : Fin 8) (j : Fin 512) :
    wP (F := Ideal) (Q m ρ c) mask0 h (ldK0 m c 0 h) (ix2 i j)
      = (wt X W K scale i ⟨8 * c.val + h.val, hd_lt c h⟩ ⟨j.val, by omega⟩ : EReal) := by
  rw [wP_at, mask0_at]
  simp only [ldK0_at, H.k]
  have e : (⟨1024 * (0 : Dev nD).val + (512 * (0 : Fin 2).val + j.val), dev_lt 0 ⟨512 * (0 : Fin 2).val + j.val, half_lt 0 j⟩⟩ : Fin 4096) = ⟨j.val, by omega⟩ :=
    Fin.ext (by show 1024 * 0 + (512 * 0 + j.val) = j.val; omega)
  rw [e, q_score X W K V O m ρ H c i h]
  exact exp_mask _ _ (sees i.val j.val) (by unfold sees; show _ ↔ (i.val ≤ j.val + 128 ∧ j.val ≤ i.val + 128) ∨ j.val < 32 ∨ i.val < 32; omega)

theorem wP1_wt (c : Dev nD) (i : Fin 1024) (hi : 32 ≤ i.val) (h : Fin 8) (j : Fin 512) :
    wP (F := Ideal) (Q m ρ c) mask1 h (ldK0 m c 1 h) (ix2 i j)
      = (wt X W K scale i ⟨8 * c.val + h.val, hd_lt c h⟩ ⟨512 + j.val, by omega⟩ : EReal) := by
  rw [wP_at, mask1_at]
  simp only [ldK0_at, H.k]
  have e : (⟨1024 * (0 : Dev nD).val + (512 * (1 : Fin 2).val + j.val), dev_lt 0 ⟨512 * (1 : Fin 2).val + j.val, half_lt 1 j⟩⟩ : Fin 4096) = ⟨512 + j.val, by omega⟩ :=
    Fin.ext (by show 1024 * 0 + (512 * 1 + j.val) = 512 + j.val; omega)
  rw [e, q_score X W K V O m ρ H c i h]
  exact exp_mask _ _ (sees i.val (512 + j.val)) (by unfold sees; show _ ↔ (i.val ≤ (512 + j.val) + 128 ∧ 512 + j.val ≤ i.val + 128) ∨ 512 + j.val < 32 ∨ i.val < 32; omega)

theorem bP_wt (c : Dev nD) (i j : Fin 128) (h : Fin 8) :
    bP (F := Ideal) (Q m ρ c) h (ldKB m c h) (ix2 i j)
      = (wt X W K scale ⟨896 + i.val, by omega⟩ ⟨8 * c.val + h.val, hd_lt c h⟩ ⟨1024 + j.val, by omega⟩ : EReal) := by
  rw [bP_at]
  simp only [ldKB_at, H.k]
  have e : (⟨1024 * (1 : Dev nD).val + j.val, dev_lt 1 ⟨j.val, row_lt j⟩⟩ : Fin 4096) = ⟨1024 + j.val, by omega⟩ :=
    Fin.ext (by show 1024 * 1 + j.val = 1024 + j.val; omega)
  rw [e, q_score X W K V O m ρ H c ⟨896 + i.val, by omega⟩ h]
  exact exp_mask _ _ (sees (896 + i.val) (1024 + j.val)) (by unfold sees; show _ ↔ (896 + i.val ≤ (1024 + j.val) + 128 ∧ 1024 + j.val ≤ (896 + i.val) + 128) ∨ 1024 + j.val < 32 ∨ 896 + i.val < 32; omega)

/-- The sums over the first device's keys. -/
theorem winL_wt (c : Dev nD) (i : Fin 1024) (hi : 32 ≤ i.val) (h : Fin 8) :
    winL (F := Ideal) (Q m ρ c) (ldK0 m c) h (ix1 i) = ∑ j : Fin 1024, (wt X W K scale i ⟨8 * c.val + h.val, hd_lt c h⟩ ⟨j.val, by omega⟩ : EReal) := by
  rw [winL_at]
  refine Eq.trans ?_ (sum_two 512 512 _).symm
  exact congr (congrArg _ (Finset.sum_congr rfl fun j _ => wP0_wt X W K V O m ρ H c i hi h j)) (Finset.sum_congr rfl fun j _ => wP1_wt X W K V O m ρ H c i hi h j)

theorem winA_wt (c : Dev nD) (i : Fin 1024) (hi : 32 ≤ i.val) (h : Fin 8) (d : Fin 128) :
    winA (F := Ideal) (Q m ρ c) (ldK0 m c) (ldV0 m c) h (ix2 i d)
      = ∑ j : Fin 1024, (wt X W K scale i ⟨8 * c.val + h.val, hd_lt c h⟩ ⟨j.val, by omega⟩ : EReal) * V ⟨j.val, by omega⟩ ⟨8 * c.val + h.val, hd_lt c h⟩ d := by
  rw [winA_at]
  refine Eq.trans ?_ (sum_two 512 512 _).symm
  refine congr (congrArg _ (Finset.sum_congr rfl fun j _ => ?_)) (Finset.sum_congr rfl fun j _ => ?_)
  · rw [wP0_wt X W K V O m ρ H c i hi h j, ldV0_at, H.v]
    congr 2
    exact Fin.ext (by show 1024 * 0 + (512 * 0 + j.val) = j.val; omega)
  · rw [wP1_wt X W K V O m ρ H c i hi h j, ldV0_at, H.v]
    congr 2
    exact Fin.ext (by show 1024 * 0 + (512 * 1 + j.val) = 512 + j.val; omega)

theorem bL_wt (c : Dev nD) (i : Fin 128) (h : Fin 8) :
    bL (F := Ideal) (Q m ρ c) h (ldKB m c h) (ix1 i)
      = ∑ j : Fin 128, (wt X W K scale ⟨896 + i.val, by omega⟩ ⟨8 * c.val + h.val, hd_lt c h⟩ ⟨1024 + j.val, by omega⟩ : EReal) := by
  rw [bL_at]
  exact Finset.sum_congr rfl fun j _ => bP_wt X W K V O m ρ H c i j h

theorem bA_wt (c : Dev nD) (i : Fin 128) (h : Fin 8) (d : Fin 128) :
    bA (F := Ideal) (Q m ρ c) h (ldKB m c h) (ldVB m c h) (ix2 i d)
      = ∑ j : Fin 128, (wt X W K scale ⟨896 + i.val, by omega⟩ ⟨8 * c.val + h.val, hd_lt c h⟩ ⟨1024 + j.val, by omega⟩ : EReal)
          * V ⟨1024 + j.val, by omega⟩ ⟨8 * c.val + h.val, hd_lt c h⟩ d := by
  rw [bA_at]
  refine Finset.sum_congr rfl fun j _ => ?_
  rw [bP_wt X W K V O m ρ H c i j h, ldVB_at, H.v]
  congr 2

end

/-! ## Rows from 32 on attend few keys -/

section

variable (X : Fin 1024 → Fin 1024 → ℝ) (W : Fin 1024 → Fin 4096 → ℝ) (K : Fin 4096 → Fin 32 → Fin 128 → ℝ)

/-- A row below 896 attends no key from 1024 on. -/
theorem wt_mid (i : Fin 1024) (h1 : 32 ≤ i.val) (h2 : i.val < 896) (h : Fin 32) (j : Fin 4096) (hj : 1024 ≤ j.val) : wt X W K scale i h j = 0 :=
  if_neg (by unfold sees; omega)

/-- No row from 32 on attends a key from 1152 on. -/
theorem wt_far (i : Fin 1024) (h1 : 32 ≤ i.val) (h : Fin 32) (j : Fin 4096) (hj : 1152 ≤ j.val) : wt X W K scale i h j = 0 :=
  if_neg (by have := i.isLt; unfold sees; omega)

/-- A sum of weighted terms over the keys a middle row attends. -/
theorem sum_mid (i : Fin 1024) (h1 : 32 ≤ i.val) (h2 : i.val < 896) (h : Fin 32) (f : Fin 4096 → EReal) :
    ∑ j : Fin 4096, (wt X W K scale i h j : EReal) * f j
      = ∑ j : Fin 1024, (wt X W K scale i h ⟨j.val, by omega⟩ : EReal) * f ⟨j.val, by omega⟩ :=
  sum_cut 1024 3072 (fun j : Fin 4096 => (wt X W K scale i h j : EReal) * f j)
    fun j hj => by rw [wt_mid X W K i h1 h2 h j hj, EReal.coe_zero, zero_mul]

/-- A sum of weighted terms over the keys any row from 32 on attends. -/
theorem sum_far (i : Fin 1024) (h1 : 32 ≤ i.val) (h : Fin 32) (f : Fin 4096 → EReal) :
    ∑ j : Fin 4096, (wt X W K scale i h j : EReal) * f j
      = ∑ j : Fin 1024, (wt X W K scale i h ⟨j.val, by omega⟩ : EReal) * f ⟨j.val, by omega⟩
        + ∑ j : Fin 128, (wt X W K scale i h ⟨1024 + j.val, by omega⟩ : EReal) * f ⟨1024 + j.val, by omega⟩ := by
  refine (sum_two 1024 3072 (fun j : Fin 4096 => (wt X W K scale i h j : EReal) * f j)).trans (congrArg _ ?_)
  refine sum_cut 128 2944 (fun j : Fin 3072 => (wt X W K scale i h ⟨1024 + j.val, by omega⟩ : EReal) * f ⟨1024 + j.val, by omega⟩) fun j hj => ?_
  rw [wt_far X W K i h1 h _ (by show 1152 ≤ 1024 + j.val; omega), EReal.coe_zero, zero_mul]

theorem den_one (i : Fin 1024) (h : Fin 32) : (den X W K scale i h : EReal) = ∑ j : Fin 4096, (wt X W K scale i h j : EReal) * 1 := by
  rw [den, coe_sum]
  exact Finset.sum_congr rfl fun j _ => (mul_one _).symm

end

/-! ## The context, the projection and the result -/

section

variable (X : Fin 1024 → Fin 1024 → ℝ) (W : Fin 1024 → Fin 4096 → ℝ) (K : Fin 4096 → Fin 32 → Fin 128 → ℝ)
  (V : Fin 4096 → Fin 32 → Fin 128 → EReal) (O : Fin 4096 → Fin 1024 → EReal)
  (m : (ℓ : Loc nD τ sig) → Buf (Elt Ideal) ℓ) (ρ : Dev nD → PrngReg) (H : Holds X W K V O m)
include H

/-- Device `c`'s row sums at its head `h`. -/
theorem ctxL_den (c : Dev nD) (h : Fin 8) (i : Fin 1024) :
    ctxL (F := Ideal) (totL (wv c) (ldRL m ρ c) (ldPL m ρ c)) (winL (Q m ρ c) (ldK0 m c) h) (bL (Q m ρ c) h (ldKB m c h)) h (ix1 i)
      = (den X W K scale i ⟨8 * c.val + h.val, hd_lt c h⟩ : EReal) := by
  rw [ctxL_at]
  split
  · rename_i hi
    exact totL_den X W K V O m ρ H c ⟨i.val, hi⟩ h
  rename_i hi
  rw [winL_wt X W K V O m ρ H c i (by omega) h, den_one]
  split
  · rename_i hj
    rw [sum_mid X W K i (by omega) hj]
    exact Finset.sum_congr rfl fun j _ => (mul_one _).symm
  · rename_i hj
    rw [sum_far X W K i (by omega), bL_wt X W K V O m ρ H c ⟨i.val - 896, by omega⟩ h]
    have e : (⟨896 + (i.val - 896), by omega⟩ : Fin 1024) = i := Fin.ext (by show 896 + (i.val - 896) = i.val; omega)
    simp only [e, mul_one]

/-- Its weighted values. -/
theorem ctxA_num (c : Dev nD) (h : Fin 8) (i : Fin 1024) (d : Fin 128) :
    ctxA (F := Ideal) (totA (wv c) (ldRA m ρ c) (ldPA m ρ c)) (winA (Q m ρ c) (ldK0 m c) (ldV0 m c) h) (bA (Q m ρ c) h (ldKB m c h) (ldVB m c h)) h (ix2 i d)
      = num X W K V scale i ⟨8 * c.val + h.val, hd_lt c h⟩ d := by
  rw [ctxA_at]
  split
  · rename_i hi
    exact totA_num X W K V O m ρ H c ⟨i.val, hi⟩ h d
  rename_i hi
  rw [winA_wt X W K V O m ρ H c i (by omega) h d, num]
  split
  · rename_i hj
    exact (sum_mid X W K i (by omega) hj _ fun j => V j ⟨8 * c.val + h.val, hd_lt c h⟩ d).symm
  · rename_i hj
    rw [sum_far X W K i (by omega) _ fun j => V j ⟨8 * c.val + h.val, hd_lt c h⟩ d, bA_wt X W K V O m ρ H c ⟨i.val - 896, by omega⟩ h d]
    have e : (⟨896 + (i.val - 896), by omega⟩ : Fin 1024) = i := Fin.ext (by show 896 + (i.val - 896) = i.val; omega)
    simp only [e]

/-- One device's share of the result: its heads' part of the plain formula. -/
theorem OS_out (c : Dev nD) (i n : Fin 1024) :
    OS m ρ c (ix2 i n : S1024x1024.Idx) = ∑ r : Fin 1024, att X W K V scale i ⟨(1024 * c.val + r.val) / 128, by have := dev_lt c r; omega⟩ ⟨(1024 * c.val + r.val) % 128, Nat.mod_lt _ (by decide)⟩
      * O ⟨1024 * c.val + r.val, dev_lt c r⟩ n := by
  rw [OS, osBlk, proj_at]
  refine @Eq.trans EReal _ _ _ (sum_blocks (M := EReal) 8 128 _) (@Eq.trans EReal _ _ _ ?_ (sum_blocks (M := EReal) 8 128 _).symm)
  refine Finset.sum_congr rfl fun h _ => Finset.sum_congr rfl fun d _ => ?_
  rw [side_at, ctx_at, ctxL_den X W K V O m ρ H c h i, ctxA_num X W K V O m ρ H c h i d, wost_eq, H.wo, att]
  have e1 : (⟨(1024 * c.val + (128 * h.val + d.val)) / 128, by have := hd_lt c h; omega⟩ : Fin 32) = ⟨8 * c.val + h.val, hd_lt c h⟩ :=
    Fin.ext (by show (1024 * c.val + (128 * h.val + d.val)) / 128 = 8 * c.val + h.val; omega)
  have e2 : (⟨(1024 * c.val + (128 * h.val + d.val)) % 128, Nat.mod_lt _ (by decide)⟩ : Fin 128) = d :=
    Fin.ext (by show (1024 * c.val + (128 * h.val + d.val)) % 128 = d.val; omega)
  simp only [e1, e2]

/-- The result on every device is the plain formula. -/
theorem OUT_out (i n : Fin 1024) : OUT m ρ (ix3 0 i n : S1x1024x1024.Idx) = out X W K V O scale i n := by
  show outQ m ρ (⟨i.val / 256, q_lt i⟩ : Fin 4) (ix3 0 ⟨i.val % 256, r_lt i⟩ n : S1x256x1024.Idx) = _
  generalize hq : (⟨i.val / 256, q_lt i⟩ : Fin 4) = q
  have hv : q.val = i.val / 256 := by rw [← hq]
  rw [outQ, outQ_at, ldOS_at, ldOB_at, ldOB_at, ldOB_at]
  have e : (⟨256 * q.val + i.val % 256, quarter_lt q ⟨i.val % 256, r_lt i⟩⟩ : Fin 1024) = i := Fin.ext (by show 256 * q.val + i.val % 256 = i.val; omega)
  simp only [e]
  refine (sum_devs' q fun c => OS m ρ c (ix2 i n : S1024x1024.Idx)).trans ?_
  rw [out]
  refine @Eq.trans EReal _ _ _ ?_ (sum_blocks (M := EReal) 4 1024 _).symm
  exact Finset.sum_congr rfl fun c _ => OS_out X W K V O m ρ H c i n

end

end Cert.KernelIdeal.Pf

end
-- ==== Proof.OutAt.lean ====
/-
# The result the run leaves
-/
module

public import proofs.«01_k».proof.Proof.Run
public import Idealize.ShloMosaic.Lib.Pointwise
public import Idealize.ShloMosaic.Lib.Pipeline.ValueKit

@[expose] public section

set_option maxRecDepth 16384

noncomputable section

namespace Cert.KernelIdeal.Pf

open Cert.KernelIdeal Cert.KernelIdeal.Gen
open Idealize.ShloMosaic Idealize.ShloMosaic.TcCoe

variable {F : FTy → Type} [FloatOps F] [Named F] (m : (ℓ : Loc nD τ sig) → Buf (Elt F) ℓ) (ρ : Dev nD → PrngReg)

/-- The launch leaves every device the result `OUT`. -/
theorem finalA_out (c : Dev nD) : finalA m ρ c 3 = OUT m ρ := by
  refine (dats m ρ 0 c).arrAt_eq_of_after_last 3 t0_0 (by decide +kernel) _ fun j => ?_
  rfl

end Cert.KernelIdeal.Pf
end
-- ==== Proof.Algebraic.lean ====
/-
# The kernel computes the reference

From memories where each device holds its block of the whole arrays, and where `x`, `Wq` and `K_ext` hold no infinity,
every device's result is the reference's.
-/
module

public import proofs.«01_k».proof.Defs
public import proofs.«01_k».proof.Proof.Finite
public import proofs.«01_k».proof.Proof.RefValue
public import proofs.«01_k».proof.Proof.KerValue
public import proofs.«01_k».proof.Proof.OutAt
public import proofs.«01_k».proof.Proof.Frames

@[expose] public section

set_option maxRecDepth 16384

noncomputable section

namespace Cert.Algebraic

open Idealize.ShloMosaic Idealize.ShloMosaic.TcCoe
open Idealize.SL Idealize.SL.Sem
open Cert.KernelIdeal.Pf (dev_lt Holds)

/-! ## Which device holds an entry, and where -/

/-- An index below 4096 is an index below 1024 on one of the four devices. -/
theorem split (n : Fin 4096) : ∃ (c : Fin 4) (j : Fin 1024), n = ⟨1024 * c.val + j.val, dev_lt c j⟩ :=
  ⟨⟨n.val / 1024, by omega⟩, ⟨n.val % 1024, by omega⟩, Fin.ext (by show n.val = 1024 * (n.val / 1024) + n.val % 1024; omega)⟩

variable {α : Type}

/-- An entry of a device's block of columns. -/
theorem cols_at (c : Fin 4) (v : (⟨2, ![1024, 4096]⟩ : Shape).Idx → α) (t n : Fin 1024) :
    Layout.block ⟨2, ![1024, 1024]⟩ ⟨2, ![1024, 4096]⟩ 1 4 c v (by decide) (ix2 t n) = v (ix2 t ⟨1024 * c.val + n.val, dev_lt c n⟩) := by
  rw [Layout.block_apply]
  refine congrArg v (funext fun b => Fin.ext ?_)
  match b with
  | 0 => rfl
  | 1 => show c.val * 1024 + n.val = 1024 * c.val + n.val; omega

/-- An entry of a device's block of rows. -/
theorem rows_at (c : Fin 4) (v : (⟨2, ![4096, 1024]⟩ : Shape).Idx → α) (r n : Fin 1024) :
    Layout.block ⟨2, ![1024, 1024]⟩ ⟨2, ![4096, 1024]⟩ 0 4 c v (by decide) (ix2 r n) = v (ix2 ⟨1024 * c.val + r.val, dev_lt c r⟩ n) := by
  rw [Layout.block_apply]
  refine congrArg v (funext fun b => Fin.ext ?_)
  match b with
  | 0 => show c.val * 1024 + r.val = 1024 * c.val + r.val; omega
  | 1 => rfl

/-- An entry of a device's block of keys. -/
theorem keys_at (c : Fin 4) (v : (⟨4, ![1, 4096, 32, 128]⟩ : Shape).Idx → α) (j : Fin 1024) (h : Fin 32) (d : Fin 128) :
    Layout.block ⟨4, ![1, 1024, 32, 128]⟩ ⟨4, ![1, 4096, 32, 128]⟩ 1 4 c v (by decide) (ix4 0 j h d) = v (ix4 0 ⟨1024 * c.val + j.val, dev_lt c j⟩ h d) := by
  rw [Layout.block_apply]
  refine congrArg v (funext fun b => Fin.ext ?_)
  match b with
  | 0 => rfl
  | 1 => show c.val * 1024 + j.val = 1024 * c.val + j.val; omega
  | 2 => rfl
  | 3 => rfl

/-- The result's entries are indexed by a row and a column. -/
theorem out_idx (j : (⟨3, ![1, 1024, 1024]⟩ : Shape).Idx) : ∃ i n : Fin 1024, j = ix3 0 i n := by
  refine ⟨j 1, j 2, funext fun b => Fin.ext ?_⟩
  match b with
  | 0 => have h : (j 0).val < 1 := (j 0).isLt; show (j 0).val = 0; omega
  | 1 => rfl
  | 2 => rfl

/-! ## The arrays the two memories hold -/

section memories

variable [Cert.Pre_scores_finite_KernelIdeal.Facts]
variable (m : (ℓ : Loc Cert.KernelIdeal.nD Cert.KernelIdeal.τ Cert.KernelIdeal.sig) → Buf (Elt Ideal) ℓ)
variable (x : FVec Ideal ⟨3, ![1, 1024, 1024]⟩ .bf16) (wq : FVec Ideal ⟨2, ![1024, 4096]⟩ .bf16)
  (k v : FVec Ideal ⟨4, ![1, 4096, 32, 128]⟩ .bf16) (wo : FVec Ideal ⟨2, ![4096, 1024]⟩ .bf16)

/-- The real numbers `x` holds. -/
def Xr (i t : Fin 1024) : ℝ := (x (ix3 0 i t) : EReal).toReal
/-- The real numbers `Wq` holds. -/
def Wr (t : Fin 1024) (n : Fin 4096) : ℝ := (wq (ix2 t n) : EReal).toReal
/-- The real numbers `K_ext` holds. -/
def Kr (j : Fin 4096) (h : Fin 32) (d : Fin 128) : ℝ := (k (ix4 0 j h d) : EReal).toReal

/-- What is required of the kernel's memory: the devices hold the blocks of the whole arrays. -/
structure Blocks : Prop where
  x : ∀ c : Dev Cert.KernelIdeal.nD, m ((c.tc : Thread Cert.KernelIdeal.nD Cert.KernelIdeal.τ).loc Cert.KernelIdeal.main_arg0) = x
  wq : ∀ c : Dev Cert.KernelIdeal.nD, m ((c.tc : Thread Cert.KernelIdeal.nD Cert.KernelIdeal.τ).loc Cert.KernelIdeal.main_arg1) = Layout.block ⟨2, ![1024, 1024]⟩ ⟨2, ![1024, 4096]⟩ 1 4 c wq (by decide)
  k : ∀ c : Dev Cert.KernelIdeal.nD, m ((c.tc : Thread Cert.KernelIdeal.nD Cert.KernelIdeal.τ).loc Cert.KernelIdeal.main_arg2) = Layout.block ⟨4, ![1, 1024, 32, 128]⟩ ⟨4, ![1, 4096, 32, 128]⟩ 1 4 c k (by decide)
  v : ∀ c : Dev Cert.KernelIdeal.nD, m ((c.tc : Thread Cert.KernelIdeal.nD Cert.KernelIdeal.τ).loc Cert.KernelIdeal.main_arg3) = Layout.block ⟨4, ![1, 1024, 32, 128]⟩ ⟨4, ![1, 4096, 32, 128]⟩ 1 4 c v (by decide)
  wo : ∀ c : Dev Cert.KernelIdeal.nD, m ((c.tc : Thread Cert.KernelIdeal.nD Cert.KernelIdeal.τ).loc Cert.KernelIdeal.main_arg4) = Layout.block ⟨2, ![1024, 1024]⟩ ⟨2, ![4096, 1024]⟩ 0 4 c wo (by decide)

variable (B : Blocks m x wq k v wo) (hp : Cert.Pre_KernelIdeal_scores_finite_KernelIdeal m)
include B hp

/-- No entry of `x` is infinite. -/
theorem x_real (i t : Fin 1024) : x (ix3 0 i t) = (Xr x i t : EReal) := by
  have h := (Finite.entries _ _ _ _ _ (hp (0 : Fin 4))).1 (ix3 0 i t)
  have e := congrFun (B.x (0 : Fin 4)) (ix3 0 i t)
  exact e.symm.trans (h.trans (congrArg (fun a : EReal => ((a.toReal : ℝ) : EReal)) e))

/-- No entry of `Wq` is infinite. -/
theorem wq_real (t : Fin 1024) (n : Fin 4096) : wq (ix2 t n) = (Wr wq t n : EReal) := by
  obtain ⟨c, j, rfl⟩ := split n
  have h := (Finite.entries _ _ _ _ _ (hp c)).2.1 (ix2 t j)
  have e := (congrFun (B.wq c) (ix2 t j)).trans (cols_at c wq t j)
  exact e.symm.trans (h.trans (congrArg (fun a : EReal => ((a.toReal : ℝ) : EReal)) e))

/-- No entry of `K_ext` is infinite. -/
theorem k_real (j : Fin 4096) (h : Fin 32) (d : Fin 128) : k (ix4 0 j h d) = (Kr k j h d : EReal) := by
  obtain ⟨c, j, rfl⟩ := split j
  have f := (Finite.entries _ _ _ _ _ (hp c)).2.2 (ix4 0 j h d)
  have e := (congrFun (B.k c) (ix4 0 j h d)).trans (keys_at c k j h d)
  exact e.symm.trans (f.trans (congrArg (fun a : EReal => ((a.toReal : ℝ) : EReal)) e))

/-- So the kernel's memory holds the blocks of real arrays. -/
theorem holds : Holds (Xr x) (Wr wq) (Kr k) (fun j h d => v (ix4 0 j h d)) (fun r n => wo (ix2 r n)) m where
  x c i t := (congrFun (B.x c) (ix3 0 i t)).trans (x_real m x wq k v wo B hp i t)
  wq c t n := ((congrFun (B.wq c) (ix2 t n)).trans (cols_at c wq t n)).trans (wq_real m x wq k v wo B hp t _)
  k c j h d := ((congrFun (B.k c) (ix4 0 j h d)).trans (keys_at c k j h d)).trans (k_real m x wq k v wo B hp _ h d)
  v c j h d := (congrFun (B.v c) (ix4 0 j h d)).trans (keys_at c v j h d)
  wo c r n := (congrFun (B.wo c) (ix2 r n)).trans (rows_at c wo r n)

/-- The kernel's result is the reference's formula of the whole arrays. -/
theorem same (ρ : Dev Cert.KernelIdeal.nD → PrngReg) :
    Cert.KernelIdeal.Pf.OUT m ρ
      = ReferenceIdeal.Pf.result (ReferenceIdeal.Pf.weights ReferenceIdeal.Pf.some_key (ReferenceIdeal.Pf.expo (ReferenceIdeal.Pf.masked (ReferenceIdeal.Pf.scores x wq k)))) v wo := by
  funext j
  obtain ⟨i, n, rfl⟩ := out_idx j
  exact (Cert.KernelIdeal.Pf.OUT_out _ _ _ _ _ m ρ (holds m x wq k v wo B hp) i n).trans
    (ReferenceIdeal.Pf.result_out x wq k v wo _ _ _ (x_real m x wq k v wo B hp) (wq_real m x wq k v wo B hp) (k_real m x wq k v wo B hp) i n).symm

end memories

/-- From the same whole arrays the kernel on four devices and the reference on one end with the same result, each with
    its arguments unchanged. -/
theorem kernel_reference [Cert.KernelIdeal.Facts] [Cert.ReferenceIdeal.Facts] [Cert.Pre_scores_finite_KernelIdeal.Facts] :
    Cert.algebraic_KernelIdeal_ReferenceIdeal_pre_scores_finite_KernelIdeal := by
  intro m g m' g' hp hm
  have B : Blocks m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hm c).1, fun c => (hm c).2.1, fun c => (hm c).2.2.1, fun c => (hm c).2.2.2.1, fun c => (hm c).2.2.2.2⟩
  refine ⟨Cert.ReferenceIdeal.Value.res_main_v47 (F := Ideal) m' (0 : Dev Cert.ReferenceIdeal.nD), ?_, ?_⟩
  · refine (θ_run Cert.KernelIdeal.defs _ _).mono (fun r h c => ⟨?_, ?_⟩) (Cert.KernelIdeal.Pf.run_main (F := Ideal) m g)
    · exact (((h.1 c).1 (3 : Fin 4)).trans (Cert.KernelIdeal.Pf.finalA_out m g c)).trans
        ((same m _ _ _ _ _ B hp g).trans (ReferenceIdeal.Pf.result_eq m' 0).symm)
    · exact ⟨((h.1 c).1 (0 : Fin 4)).trans ((Cert.KernelIdeal.Pf.dats m g 0 c).arrAt_in (0 : Fin 4) rfl _),
        ((h.1 c).1 (1 : Fin 4)).trans ((Cert.KernelIdeal.Pf.dats m g 0 c).arrAt_in (1 : Fin 4) rfl _), (h.1 c).2.1, (h.1 c).2.2,
        ((h.1 c).1 (2 : Fin 4)).trans ((Cert.KernelIdeal.Pf.dats m g 0 c).arrAt_in (2 : Fin 4) rfl _)⟩
  · exact (θ_run Cert.ReferenceIdeal.defs _ _).mono (fun r h => h 0) (Cert.ReferenceIdeal.Value.run (F := Ideal) m' g')

end Cert.Algebraic

end
-- ==== Proof.lean ====
/-
# The claims

The frames of the program, of its idealization and of the reference, the named mask, and the value: the idealized
kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Algebraic

@[expose] public section

noncomputable section

namespace Cert.Proof

open Idealize.ShloMosaic Idealize.SL.Sem

/-- The reference runs to the end and changes no argument; it has no semaphore. -/
theorem frame_reference [Cert.ReferenceIdeal.Facts] : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask that is named stands for the infinite one. -/
theorem mask_named : Cert.preserves_Kernel_KernelIdeal :=
  IdealRules.named_const.statement Cert.KernelIdeal.κ "mask" .f32 0xCE6E6B28#32 ⊥ rfl

/-- All the claims; a frame that holds from any memory holds from those the precondition admits. -/
theorem claim : Cert.Claim :=
  ⟨Cert.Kernel.Gen.facts, Cert.KernelIdeal.Gen.facts, Cert.ReferenceIdeal.Gen.facts, Cert.Finite.device_facts, Cert.Finite.whole_facts,
    @Cert.frame_kernel Cert.KernelIdeal.Gen.facts Cert.Kernel.Gen.facts,
    @Cert.frame_ideal Cert.KernelIdeal.Gen.facts,
    fun m g _ => @Cert.frame_ideal Cert.KernelIdeal.Gen.facts m g trivial,
    @frame_reference Cert.ReferenceIdeal.Gen.facts,
    fun m g _ => @frame_reference Cert.ReferenceIdeal.Gen.facts m g trivial,
    mask_named,
    @Cert.Algebraic.kernel_reference Cert.KernelIdeal.Gen.facts Cert.ReferenceIdeal.Gen.facts Cert.Finite.device_facts⟩

end Cert.Proof

end
